-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0))) = (fun _ => 1#1)

def Pre_ReferenceIdeal [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0))) = (fun _ => 1#1)

def Pre_Reference [hPre_in_vocabulary : Cert.Pre_in_vocabulary.Facts] (m : (ℓ : Loc Cert.Reference.nD Cert.Reference.τ Cert.Reference.sig) → Buf (Elt Bits) ℓ) : Prop :=
  ∀ c : Dev Cert.Reference.nD,
    (Cert.Pre_in_vocabulary.fn (F := Bits) (m ((c.tc : Thread Cert.Reference.nD Cert.Reference.τ).loc Cert.Reference.main_arg0))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] [hPre_in_vocabulary : Cert.Pre_in_vocabulary.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v26) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal) (hPre_in_vocabulary := hPre_in_vocabulary)
    ∧ quiescent_Reference (hReference := hReference) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
    ∧ bitexact_Kernel_Reference (hKernel := hKernel) (hReference := hReference) (hPre_in_vocabulary := hPre_in_vocabulary)
-- ==== Pre_in_vocabulary.lean ====
abbrev S4096x200 : Shape := ⟨2, ![4096, 200]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : IVec S4096x200 32) : IVec S4096x200 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 30522#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  main_v4
-- ==== Kernel.lean ====
abbrev S4096x200 : Shape := ⟨2, ![4096, 200]⟩
abbrev S_ : Shape := ⟨0, ![]⟩
abbrev S4096x256 : Shape := ⟨2, ![4096, 256]⟩
abbrev S3816x32x8x128 : Shape := ⟨4, ![3816, 32, 8, 128]⟩
abbrev S2x8x128 : Shape := ⟨3, ![2, 8, 128]⟩
abbrev S27648 : Shape := ⟨1, ![27648]⟩
abbrev S64x8x128 : Shape := ⟨3, ![64, 8, 128]⟩
abbrev S80 : Shape := ⟨1, ![80]⟩
abbrev S16 : Shape := ⟨1, ![16]⟩
abbrev S1x1x16 : Shape := ⟨3, ![1, 1, 16]⟩
abbrev S1x8x128 : Shape := ⟨3, ![1, 8, 128]⟩
abbrev S8x128 : Shape := ⟨2, ![8, 128]⟩
abbrev S1 : Shape := ⟨1, ![1]⟩
abbrev S64x1x8x128 : Shape := ⟨4, ![64, 1, 8, 128]⟩
abbrev S40x8x128 : Shape := ⟨3, ![40, 8, 128]⟩
abbrev S40x1x8x128 : Shape := ⟨4, ![40, 1, 8, 128]⟩
abbrev S32x128x3816x8 : Shape := ⟨4, ![32, 128, 3816, 8]⟩
abbrev S4096x30528 : Shape := ⟨2, ![4096, 30528]⟩
abbrev S4096x30522 : Shape := ⟨2, ![4096, 30522]⟩

abbrev nBuf : Table → Nat
  | .hbm => 8
  | .local .scVector .vmem => 6
  | _ => 0

abbrev bufTy : (tb : Table) → Fin (nBuf tb) → BufTy
  | .hbm, ⟨0, _⟩ => ⟨S4096x200, .i32⟩
  | .hbm, ⟨1, _⟩ => ⟨S_, .i32⟩
  | .hbm, ⟨2, _⟩ => ⟨S_, .i32⟩
  | .hbm, ⟨3, _⟩ => ⟨S4096x256, .i32⟩
  | .hbm, ⟨4, _⟩ => ⟨S3816x32x8x128, .f32⟩
  | .hbm, ⟨5, _⟩ => ⟨S32x128x3816x8, .f32⟩
  | .hbm, ⟨6, _⟩ => ⟨S4096x30528, .f32⟩
  | .hbm, ⟨7, _⟩ => ⟨S4096x30522, .f32⟩
  | .local .scVector .vmem, ⟨0, _⟩ => ⟨S2x8x128, .i32⟩
  | .local .scVector .vmem, ⟨1, _⟩ => ⟨S27648, .i32⟩
  | .local .scVector .vmem, ⟨2, _⟩ => ⟨S64x8x128, .f32⟩
  | .local .scVector .vmem, ⟨3, _⟩ => ⟨S80, .i32⟩
  | .local .scVector .vmem, ⟨4, _⟩ => ⟨S80, .i32⟩
  | .local .scVector .vmem, ⟨5, _⟩ => ⟨S80, .i32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c64_i32 : BitVec 32 := 64#32
  let v7 : BitVec 32 := Scalar.addi c0_i32_2 c64_i32
  let c1_i32 : BitVec 32 := 1#32
  ⟨c0_i32_2, v7, c1_i32⟩
def k0_off1 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v133 : Index := Scalar.indexCast arg10
  let c0_i32_73 : BitVec 32 := 0#32
  let v134 : Index := Scalar.indexCast c0_i32_73
  let c0_74 : Index := 0#32
  ![v133.toNat, 0, 0]
def k0_off2 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v136 : Index := Scalar.indexCast arg10
  let c0_i32_75 : BitVec 32 := 0#32
  let v137 : Index := Scalar.indexCast c0_i32_75
  let c16_76 : Index := 16#32
  ![v136.toNat, 0, 16]
def k0_off3 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v139 : Index := Scalar.indexCast arg10
  let c0_i32_77 : BitVec 32 := 0#32
  let v140 : Index := Scalar.indexCast c0_i32_77
  let c32_78 : Index := 32#32
  ![v139.toNat, 0, 32]
def k0_off4 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v142 : Index := Scalar.indexCast arg10
  let c0_i32_79 : BitVec 32 := 0#32
  let v143 : Index := Scalar.indexCast c0_i32_79
  let c48_80 : Index := 48#32
  ![v142.toNat, 0, 48]
def k0_off5 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v145 : Index := Scalar.indexCast arg10
  let c0_i32_81 : BitVec 32 := 0#32
  let v146 : Index := Scalar.indexCast c0_i32_81
  let c64 : Index := 64#32
  ![v145.toNat, 0, 64]
def k0_off6 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v148 : Index := Scalar.indexCast arg10
  let c0_i32_82 : BitVec 32 := 0#32
  let v149 : Index := Scalar.indexCast c0_i32_82
  let c80 : Index := 80#32
  ![v148.toNat, 0, 80]
def k0_off7 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v151 : Index := Scalar.indexCast arg10
  let c0_i32_83 : BitVec 32 := 0#32
  let v152 : Index := Scalar.indexCast c0_i32_83
  let c96 : Index := 96#32
  ![v151.toNat, 0, 96]
def k0_off8 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v154 : Index := Scalar.indexCast arg10
  let c0_i32_84 : BitVec 32 := 0#32
  let v155 : Index := Scalar.indexCast c0_i32_84
  let c112 : Index := 112#32
  ![v154.toNat, 0, 112]
def k0_off9 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v157 : Index := Scalar.indexCast arg10
  let c1_i32_85 : BitVec 32 := 1#32
  let v158 : Index := Scalar.indexCast c1_i32_85
  let c0_86 : Index := 0#32
  ![v157.toNat, 1, 0]
def k0_off10 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v160 : Index := Scalar.indexCast arg10
  let c1_i32_87 : BitVec 32 := 1#32
  let v161 : Index := Scalar.indexCast c1_i32_87
  let c16_88 : Index := 16#32
  ![v160.toNat, 1, 16]
def k0_off11 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v163 : Index := Scalar.indexCast arg10
  let c1_i32_89 : BitVec 32 := 1#32
  let v164 : Index := Scalar.indexCast c1_i32_89
  let c32_90 : Index := 32#32
  ![v163.toNat, 1, 32]
def k0_off12 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v166 : Index := Scalar.indexCast arg10
  let c1_i32_91 : BitVec 32 := 1#32
  let v167 : Index := Scalar.indexCast c1_i32_91
  let c48_92 : Index := 48#32
  ![v166.toNat, 1, 48]
def k0_off13 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v169 : Index := Scalar.indexCast arg10
  let c1_i32_93 : BitVec 32 := 1#32
  let v170 : Index := Scalar.indexCast c1_i32_93
  let c64_94 : Index := 64#32
  ![v169.toNat, 1, 64]
def k0_off14 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v172 : Index := Scalar.indexCast arg10
  let c1_i32_95 : BitVec 32 := 1#32
  let v173 : Index := Scalar.indexCast c1_i32_95
  let c80_96 : Index := 80#32
  ![v172.toNat, 1, 80]
def k0_off15 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v175 : Index := Scalar.indexCast arg10
  let c1_i32_97 : BitVec 32 := 1#32
  let v176 : Index := Scalar.indexCast c1_i32_97
  let c96_98 : Index := 96#32
  ![v175.toNat, 1, 96]
def k0_off16 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v178 : Index := Scalar.indexCast arg10
  let c1_i32_99 : BitVec 32 := 1#32
  let v179 : Index := Scalar.indexCast c1_i32_99
  let c112_100 : Index := 112#32
  ![v178.toNat, 1, 112]
def k0_off17 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v181 : Index := Scalar.indexCast arg10
  let c2_i32_101 : BitVec 32 := 2#32
  let v182 : Index := Scalar.indexCast c2_i32_101
  let c0_102 : Index := 0#32
  ![v181.toNat, 2, 0]
def k0_off18 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v184 : Index := Scalar.indexCast arg10
  let c2_i32_103 : BitVec 32 := 2#32
  let v185 : Index := Scalar.indexCast c2_i32_103
  let c16_104 : Index := 16#32
  ![v184.toNat, 2, 16]
def k0_off19 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v187 : Index := Scalar.indexCast arg10
  let c2_i32_105 : BitVec 32 := 2#32
  let v188 : Index := Scalar.indexCast c2_i32_105
  let c32_106 : Index := 32#32
  ![v187.toNat, 2, 32]
def k0_off20 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v190 : Index := Scalar.indexCast arg10
  let c2_i32_107 : BitVec 32 := 2#32
  let v191 : Index := Scalar.indexCast c2_i32_107
  let c48_108 : Index := 48#32
  ![v190.toNat, 2, 48]
def k0_off21 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v193 : Index := Scalar.indexCast arg10
  let c2_i32_109 : BitVec 32 := 2#32
  let v194 : Index := Scalar.indexCast c2_i32_109
  let c64_110 : Index := 64#32
  ![v193.toNat, 2, 64]
def k0_off22 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v196 : Index := Scalar.indexCast arg10
  let c2_i32_111 : BitVec 32 := 2#32
  let v197 : Index := Scalar.indexCast c2_i32_111
  let c80_112 : Index := 80#32
  ![v196.toNat, 2, 80]
def k0_off23 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v199 : Index := Scalar.indexCast arg10
  let c2_i32_113 : BitVec 32 := 2#32
  let v200 : Index := Scalar.indexCast c2_i32_113
  let c96_114 : Index := 96#32
  ![v199.toNat, 2, 96]
def k0_off24 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v202 : Index := Scalar.indexCast arg10
  let c2_i32_115 : BitVec 32 := 2#32
  let v203 : Index := Scalar.indexCast c2_i32_115
  let c112_116 : Index := 112#32
  ![v202.toNat, 2, 112]
def k0_off25 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v205 : Index := Scalar.indexCast arg10
  let c3_i32 : BitVec 32 := 3#32
  let v206 : Index := Scalar.indexCast c3_i32
  let c0_117 : Index := 0#32
  ![v205.toNat, 3, 0]
def k0_off26 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v208 : Index := Scalar.indexCast arg10
  let c3_i32_118 : BitVec 32 := 3#32
  let v209 : Index := Scalar.indexCast c3_i32_118
  let c16_119 : Index := 16#32
  ![v208.toNat, 3, 16]
def k0_off27 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v211 : Index := Scalar.indexCast arg10
  let c3_i32_120 : BitVec 32 := 3#32
  let v212 : Index := Scalar.indexCast c3_i32_120
  let c32_121 : Index := 32#32
  ![v211.toNat, 3, 32]
def k0_off28 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v214 : Index := Scalar.indexCast arg10
  let c3_i32_122 : BitVec 32 := 3#32
  let v215 : Index := Scalar.indexCast c3_i32_122
  let c48_123 : Index := 48#32
  ![v214.toNat, 3, 48]
def k0_off29 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v217 : Index := Scalar.indexCast arg10
  let c3_i32_124 : BitVec 32 := 3#32
  let v218 : Index := Scalar.indexCast c3_i32_124
  let c64_125 : Index := 64#32
  ![v217.toNat, 3, 64]
def k0_off30 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v220 : Index := Scalar.indexCast arg10
  let c3_i32_126 : BitVec 32 := 3#32
  let v221 : Index := Scalar.indexCast c3_i32_126
  let c80_127 : Index := 80#32
  ![v220.toNat, 3, 80]
def k0_off31 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v223 : Index := Scalar.indexCast arg10
  let c3_i32_128 : BitVec 32 := 3#32
  let v224 : Index := Scalar.indexCast c3_i32_128
  let c96_129 : Index := 96#32
  ![v223.toNat, 3, 96]
def k0_off32 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v226 : Index := Scalar.indexCast arg10
  let c3_i32_130 : BitVec 32 := 3#32
  let v227 : Index := Scalar.indexCast c3_i32_130
  let c112_131 : Index := 112#32
  ![v226.toNat, 3, 112]
def k0_off33 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v229 : Index := Scalar.indexCast arg10
  let c4_i32 : BitVec 32 := 4#32
  let v230 : Index := Scalar.indexCast c4_i32
  let c0_132 : Index := 0#32
  ![v229.toNat, 4, 0]
def k0_off34 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v232 : Index := Scalar.indexCast arg10
  let c4_i32_133 : BitVec 32 := 4#32
  let v233 : Index := Scalar.indexCast c4_i32_133
  let c16_134 : Index := 16#32
  ![v232.toNat, 4, 16]
def k0_off35 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v235 : Index := Scalar.indexCast arg10
  let c4_i32_135 : BitVec 32 := 4#32
  let v236 : Index := Scalar.indexCast c4_i32_135
  let c32_136 : Index := 32#32
  ![v235.toNat, 4, 32]
def k0_off36 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v238 : Index := Scalar.indexCast arg10
  let c4_i32_137 : BitVec 32 := 4#32
  let v239 : Index := Scalar.indexCast c4_i32_137
  let c48_138 : Index := 48#32
  ![v238.toNat, 4, 48]
def k0_off37 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v241 : Index := Scalar.indexCast arg10
  let c4_i32_139 : BitVec 32 := 4#32
  let v242 : Index := Scalar.indexCast c4_i32_139
  let c64_140 : Index := 64#32
  ![v241.toNat, 4, 64]
def k0_off38 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v244 : Index := Scalar.indexCast arg10
  let c4_i32_141 : BitVec 32 := 4#32
  let v245 : Index := Scalar.indexCast c4_i32_141
  let c80_142 : Index := 80#32
  ![v244.toNat, 4, 80]
def k0_off39 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v247 : Index := Scalar.indexCast arg10
  let c4_i32_143 : BitVec 32 := 4#32
  let v248 : Index := Scalar.indexCast c4_i32_143
  let c96_144 : Index := 96#32
  ![v247.toNat, 4, 96]
def k0_off40 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v250 : Index := Scalar.indexCast arg10
  let c4_i32_145 : BitVec 32 := 4#32
  let v251 : Index := Scalar.indexCast c4_i32_145
  let c112_146 : Index := 112#32
  ![v250.toNat, 4, 112]
def k0_off41 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v253 : Index := Scalar.indexCast arg10
  let c5_i32 : BitVec 32 := 5#32
  let v254 : Index := Scalar.indexCast c5_i32
  let c0_147 : Index := 0#32
  ![v253.toNat, 5, 0]
def k0_off42 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v256 : Index := Scalar.indexCast arg10
  let c5_i32_148 : BitVec 32 := 5#32
  let v257 : Index := Scalar.indexCast c5_i32_148
  let c16_149 : Index := 16#32
  ![v256.toNat, 5, 16]
def k0_off43 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v259 : Index := Scalar.indexCast arg10
  let c5_i32_150 : BitVec 32 := 5#32
  let v260 : Index := Scalar.indexCast c5_i32_150
  let c32_151 : Index := 32#32
  ![v259.toNat, 5, 32]
def k0_off44 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v262 : Index := Scalar.indexCast arg10
  let c5_i32_152 : BitVec 32 := 5#32
  let v263 : Index := Scalar.indexCast c5_i32_152
  let c48_153 : Index := 48#32
  ![v262.toNat, 5, 48]
def k0_off45 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v265 : Index := Scalar.indexCast arg10
  let c5_i32_154 : BitVec 32 := 5#32
  let v266 : Index := Scalar.indexCast c5_i32_154
  let c64_155 : Index := 64#32
  ![v265.toNat, 5, 64]
def k0_off46 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v268 : Index := Scalar.indexCast arg10
  let c5_i32_156 : BitVec 32 := 5#32
  let v269 : Index := Scalar.indexCast c5_i32_156
  let c80_157 : Index := 80#32
  ![v268.toNat, 5, 80]
def k0_off47 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v271 : Index := Scalar.indexCast arg10
  let c5_i32_158 : BitVec 32 := 5#32
  let v272 : Index := Scalar.indexCast c5_i32_158
  let c96_159 : Index := 96#32
  ![v271.toNat, 5, 96]
def k0_off48 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v274 : Index := Scalar.indexCast arg10
  let c5_i32_160 : BitVec 32 := 5#32
  let v275 : Index := Scalar.indexCast c5_i32_160
  let c112_161 : Index := 112#32
  ![v274.toNat, 5, 112]
def k0_off49 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v277 : Index := Scalar.indexCast arg10
  let c6_i32 : BitVec 32 := 6#32
  let v278 : Index := Scalar.indexCast c6_i32
  let c0_162 : Index := 0#32
  ![v277.toNat, 6, 0]
def k0_off50 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v280 : Index := Scalar.indexCast arg10
  let c6_i32_163 : BitVec 32 := 6#32
  let v281 : Index := Scalar.indexCast c6_i32_163
  let c16_164 : Index := 16#32
  ![v280.toNat, 6, 16]
def k0_off51 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v283 : Index := Scalar.indexCast arg10
  let c6_i32_165 : BitVec 32 := 6#32
  let v284 : Index := Scalar.indexCast c6_i32_165
  let c32_166 : Index := 32#32
  ![v283.toNat, 6, 32]
def k0_off52 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v286 : Index := Scalar.indexCast arg10
  let c6_i32_167 : BitVec 32 := 6#32
  let v287 : Index := Scalar.indexCast c6_i32_167
  let c48_168 : Index := 48#32
  ![v286.toNat, 6, 48]
def k0_off53 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v289 : Index := Scalar.indexCast arg10
  let c6_i32_169 : BitVec 32 := 6#32
  let v290 : Index := Scalar.indexCast c6_i32_169
  let c64_170 : Index := 64#32
  ![v289.toNat, 6, 64]
def k0_off54 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v292 : Index := Scalar.indexCast arg10
  let c6_i32_171 : BitVec 32 := 6#32
  let v293 : Index := Scalar.indexCast c6_i32_171
  let c80_172 : Index := 80#32
  ![v292.toNat, 6, 80]
def k0_off55 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v295 : Index := Scalar.indexCast arg10
  let c6_i32_173 : BitVec 32 := 6#32
  let v296 : Index := Scalar.indexCast c6_i32_173
  let c96_174 : Index := 96#32
  ![v295.toNat, 6, 96]
def k0_off56 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v298 : Index := Scalar.indexCast arg10
  let c6_i32_175 : BitVec 32 := 6#32
  let v299 : Index := Scalar.indexCast c6_i32_175
  let c112_176 : Index := 112#32
  ![v298.toNat, 6, 112]
def k0_off57 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v301 : Index := Scalar.indexCast arg10
  let c7_i32 : BitVec 32 := 7#32
  let v302 : Index := Scalar.indexCast c7_i32
  let c0_177 : Index := 0#32
  ![v301.toNat, 7, 0]
def k0_off58 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v304 : Index := Scalar.indexCast arg10
  let c7_i32_178 : BitVec 32 := 7#32
  let v305 : Index := Scalar.indexCast c7_i32_178
  let c16_179 : Index := 16#32
  ![v304.toNat, 7, 16]
def k0_off59 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v307 : Index := Scalar.indexCast arg10
  let c7_i32_180 : BitVec 32 := 7#32
  let v308 : Index := Scalar.indexCast c7_i32_180
  let c32_181 : Index := 32#32
  ![v307.toNat, 7, 32]
def k0_off60 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v310 : Index := Scalar.indexCast arg10
  let c7_i32_182 : BitVec 32 := 7#32
  let v311 : Index := Scalar.indexCast c7_i32_182
  let c48_183 : Index := 48#32
  ![v310.toNat, 7, 48]
def k0_off61 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v313 : Index := Scalar.indexCast arg10
  let c7_i32_184 : BitVec 32 := 7#32
  let v314 : Index := Scalar.indexCast c7_i32_184
  let c64_185 : Index := 64#32
  ![v313.toNat, 7, 64]
def k0_off62 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v316 : Index := Scalar.indexCast arg10
  let c7_i32_186 : BitVec 32 := 7#32
  let v317 : Index := Scalar.indexCast c7_i32_186
  let c80_187 : Index := 80#32
  ![v316.toNat, 7, 80]
def k0_off63 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v319 : Index := Scalar.indexCast arg10
  let c7_i32_188 : BitVec 32 := 7#32
  let v320 : Index := Scalar.indexCast c7_i32_188
  let c96_189 : Index := 96#32
  ![v319.toNat, 7, 96]
def k0_off64 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let v322 : Index := Scalar.indexCast arg10
  let c7_i32_190 : BitVec 32 := 7#32
  let v323 : Index := Scalar.indexCast c7_i32_190
  let c112_191 : Index := 112#32
  ![v322.toNat, 7, 112]
@[reducible] def k0_t2_loop : Scf.Loop 32 :=
  let c0_i32_5 : BitVec 32 := 0#32
  let c16_i32 : BitVec 32 := 16#32
  let v12 : BitVec 32 := Scalar.addi c0_i32_5 c16_i32
  let c1_i32_6 : BitVec 32 := 1#32
  ⟨c0_i32_5, v12, c1_i32_6⟩
def k0_off65 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let c0_i32_5 : BitVec 32 := 0#32
  let c1_i32_6 : BitVec 32 := 1#32
  let arg10 : BitVec 32 := Scf.iv c0_i32_5 c1_i32_6 k0_t2
  let c8_i32 : BitVec 32 := 8#32
  let v133 : BitVec 32 := Scalar.muli arg10 c8_i32
  let v134 : BitVec 32 := Scalar.addi v6 v133
  let c0_i32_2038_r0 : BitVec 32 := 0#32
  ![v134.toNat, 0]
def k0_off66 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let c0_i32_5 : BitVec 32 := 0#32
  let c1_i32_6 : BitVec 32 := 1#32
  let arg10 : BitVec 32 := Scf.iv c0_i32_5 c1_i32_6 k0_t2
  let c8_i32_74 : BitVec 32 := 8#32
  let v135 : BitVec 32 := Scalar.muli arg10 c8_i32_74
  let v136 : BitVec 32 := Scalar.addi v6 v135
  let c128_i32_2038_r1 : BitVec 32 := 128#32
  ![v136.toNat, 128]

def k0_chk1 (v2117 : IVec S16 32) : Prop :=
  (∀ a x, ((![v2117] : Fin 1 → IVec S16 32) a x).toNat < S80.size a)
theorem k0_idx1_inb : ∀ (v2117 : IVec S16 32) (k0_hw1 : k0_chk1 v2117), ∀ a x, ((![v2117] : Fin 1 → IVec S16 32) a x).toNat < S80.size a := fun v2117 k0_hw1 => k0_hw1

def k0_chk2 (v2125 : IVec S16 32) : Prop :=
  (∀ a x, ((![v2125] : Fin 1 → IVec S16 32) a x).toNat < S80.size a)
theorem k0_idx2_inb : ∀ (v2125 : IVec S16 32) (k0_hw2 : k0_chk2 v2125), ∀ a x, ((![v2125] : Fin 1 → IVec S16 32) a x).toNat < S80.size a := fun v2125 k0_hw2 => k0_hw2

def k0_chk3 (v2133 : IVec S16 32) : Prop :=
  (∀ a x, ((![v2133] : Fin 1 → IVec S16 32) a x).toNat < S80.size a)
theorem k0_idx3_inb : ∀ (v2133 : IVec S16 32) (k0_hw3 : k0_chk3 v2133), ∀ a x, ((![v2133] : Fin 1 → IVec S16 32) a x).toNat < S80.size a := fun v2133 k0_hw3 => k0_hw3

def k0_chk4 (v2141 : IVec S16 32) : Prop :=
  (∀ a x, ((![v2141] : Fin 1 → IVec S16 32) a x).toNat < S80.size a)
theorem k0_idx4_inb : ∀ (v2141 : IVec S16 32) (k0_hw4 : k0_chk4 v2141), ∀ a x, ((![v2141] : Fin 1 → IVec S16 32) a x).toNat < S80.size a := fun v2141 k0_hw4 => k0_hw4

def k0_chk5 (v2149 : IVec S16 32) : Prop :=
  (∀ a x, ((![v2149] : Fin 1 → IVec S16 32) a x).toNat < S80.size a)
theorem k0_idx5_inb : ∀ (v2149 : IVec S16 32) (k0_hw5 : k0_chk5 v2149), ∀ a x, ((![v2149] : Fin 1 → IVec S16 32) a x).toNat < S80.size a := fun v2149 k0_hw5 => k0_hw5

def k0_chk6 (v2157 : IVec S16 32) : Prop :=
  (∀ a x, ((![v2157] : Fin 1 → IVec S16 32) a x).toNat < S80.size a)
theorem k0_idx6_inb : ∀ (v2157 : IVec S16 32) (k0_hw6 : k0_chk6 v2157), ∀ a x, ((![v2157] : Fin 1 → IVec S16 32) a x).toNat < S80.size a := fun v2157 k0_hw6 => k0_hw6

def k0_chk7 (v2165 : IVec S16 32) : Prop :=
  (∀ a x, ((![v2165] : Fin 1 → IVec S16 32) a x).toNat < S80.size a)
theorem k0_idx7_inb : ∀ (v2165 : IVec S16 32) (k0_hw7 : k0_chk7 v2165), ∀ a x, ((![v2165] : Fin 1 → IVec S16 32) a x).toNat < S80.size a := fun v2165 k0_hw7 => k0_hw7

def k0_chk8 (v2173 : IVec S16 32) : Prop :=
  (∀ a x, ((![v2173] : Fin 1 → IVec S16 32) a x).toNat < S80.size a)
theorem k0_idx8_inb : ∀ (v2173 : IVec S16 32) (k0_hw8 : k0_chk8 v2173), ∀ a x, ((![v2173] : Fin 1 → IVec S16 32) a x).toNat < S80.size a := fun v2173 k0_hw8 => k0_hw8

def k0_chk9 (v2181 : IVec S16 32) : Prop :=
  (∀ a x, ((![v2181] : Fin 1 → IVec S16 32) a x).toNat < S80.size a)
theorem k0_idx9_inb : ∀ (v2181 : IVec S16 32) (k0_hw9 : k0_chk9 v2181), ∀ a x, ((![v2181] : Fin 1 → IVec S16 32) a x).toNat < S80.size a := fun v2181 k0_hw9 => k0_hw9

def k0_chk10 (v2189 : IVec S16 32) : Prop :=
  (∀ a x, ((![v2189] : Fin 1 → IVec S16 32) a x).toNat < S80.size a)
theorem k0_idx10_inb : ∀ (v2189 : IVec S16 32) (k0_hw10 : k0_chk10 v2189), ∀ a x, ((![v2189] : Fin 1 → IVec S16 32) a x).toNat < S80.size a := fun v2189 k0_hw10 => k0_hw10

def k0_chk11 (v2197 : IVec S16 32) : Prop :=
  (∀ a x, ((![v2197] : Fin 1 → IVec S16 32) a x).toNat < S80.size a)
theorem k0_idx11_inb : ∀ (v2197 : IVec S16 32) (k0_hw11 : k0_chk11 v2197), ∀ a x, ((![v2197] : Fin 1 → IVec S16 32) a x).toNat < S80.size a := fun v2197 k0_hw11 => k0_hw11

def k0_chk12 (v2205 : IVec S16 32) : Prop :=
  (∀ a x, ((![v2205] : Fin 1 → IVec S16 32) a x).toNat < S80.size a)
theorem k0_idx12_inb : ∀ (v2205 : IVec S16 32) (k0_hw12 : k0_chk12 v2205), ∀ a x, ((![v2205] : Fin 1 → IVec S16 32) a x).toNat < S80.size a := fun v2205 k0_hw12 => k0_hw12

def k0_chk13 (v2215 : IVec S16 32) : Prop :=
  (∀ a x, ((![v2215] : Fin 1 → IVec S16 32) a x).toNat < S80.size a)
theorem k0_idx13_inb : ∀ (v2215 : IVec S16 32) (k0_hw13 : k0_chk13 v2215), ∀ a x, ((![v2215] : Fin 1 → IVec S16 32) a x).toNat < S80.size a := fun v2215 k0_hw13 => k0_hw13

def k0_chk14 (v2222 : IVec S16 32) : Prop :=
  (∀ a x, ((![v2222] : Fin 1 → IVec S16 32) a x).toNat < S80.size a)
theorem k0_idx14_inb : ∀ (v2222 : IVec S16 32) (k0_hw14 : k0_chk14 v2222), ∀ a x, ((![v2222] : Fin 1 → IVec S16 32) a x).toNat < S80.size a := fun v2222 k0_hw14 => k0_hw14

def k0_chk15 (v2230 : IVec S16 32) : Prop :=
  (∀ a x, ((![v2230] : Fin 1 → IVec S16 32) a x).toNat < S80.size a)
theorem k0_idx15_inb : ∀ (v2230 : IVec S16 32) (k0_hw15 : k0_chk15 v2230), ∀ a x, ((![v2230] : Fin 1 → IVec S16 32) a x).toNat < S80.size a := fun v2230 k0_hw15 => k0_hw15

def k0_chk16 (v2238 : IVec S16 32) : Prop :=
  (∀ a x, ((![v2238] : Fin 1 → IVec S16 32) a x).toNat < S80.size a)
theorem k0_idx16_inb : ∀ (v2238 : IVec S16 32) (k0_hw16 : k0_chk16 v2238), ∀ a x, ((![v2238] : Fin 1 → IVec S16 32) a x).toNat < S80.size a := fun v2238 k0_hw16 => k0_hw16

def k0_chk17 (v2246 : IVec S16 32) : Prop :=
  (∀ a x, ((![v2246] : Fin 1 → IVec S16 32) a x).toNat < S80.size a)
theorem k0_idx17_inb : ∀ (v2246 : IVec S16 32) (k0_hw17 : k0_chk17 v2246), ∀ a x, ((![v2246] : Fin 1 → IVec S16 32) a x).toNat < S80.size a := fun v2246 k0_hw17 => k0_hw17

def k0_chk18 (v2254 : IVec S16 32) : Prop :=
  (∀ a x, ((![v2254] : Fin 1 → IVec S16 32) a x).toNat < S80.size a)
theorem k0_idx18_inb : ∀ (v2254 : IVec S16 32) (k0_hw18 : k0_chk18 v2254), ∀ a x, ((![v2254] : Fin 1 → IVec S16 32) a x).toNat < S80.size a := fun v2254 k0_hw18 => k0_hw18

def k0_chk19 (v2262 : IVec S16 32) : Prop :=
  (∀ a x, ((![v2262] : Fin 1 → IVec S16 32) a x).toNat < S80.size a)
theorem k0_idx19_inb : ∀ (v2262 : IVec S16 32) (k0_hw19 : k0_chk19 v2262), ∀ a x, ((![v2262] : Fin 1 → IVec S16 32) a x).toNat < S80.size a := fun v2262 k0_hw19 => k0_hw19

def k0_chk20 (v2270 : IVec S16 32) : Prop :=
  (∀ a x, ((![v2270] : Fin 1 → IVec S16 32) a x).toNat < S80.size a)
theorem k0_idx20_inb : ∀ (v2270 : IVec S16 32) (k0_hw20 : k0_chk20 v2270), ∀ a x, ((![v2270] : Fin 1 → IVec S16 32) a x).toNat < S80.size a := fun v2270 k0_hw20 => k0_hw20

def k0_chk21 (v2278 : IVec S16 32) : Prop :=
  (∀ a x, ((![v2278] : Fin 1 → IVec S16 32) a x).toNat < S80.size a)
theorem k0_idx21_inb : ∀ (v2278 : IVec S16 32) (k0_hw21 : k0_chk21 v2278), ∀ a x, ((![v2278] : Fin 1 → IVec S16 32) a x).toNat < S80.size a := fun v2278 k0_hw21 => k0_hw21

def k0_chk22 (v2286 : IVec S16 32) : Prop :=
  (∀ a x, ((![v2286] : Fin 1 → IVec S16 32) a x).toNat < S80.size a)
theorem k0_idx22_inb : ∀ (v2286 : IVec S16 32) (k0_hw22 : k0_chk22 v2286), ∀ a x, ((![v2286] : Fin 1 → IVec S16 32) a x).toNat < S80.size a := fun v2286 k0_hw22 => k0_hw22

def k0_chk23 (v2294 : IVec S16 32) : Prop :=
  (∀ a x, ((![v2294] : Fin 1 → IVec S16 32) a x).toNat < S80.size a)
theorem k0_idx23_inb : ∀ (v2294 : IVec S16 32) (k0_hw23 : k0_chk23 v2294), ∀ a x, ((![v2294] : Fin 1 → IVec S16 32) a x).toNat < S80.size a := fun v2294 k0_hw23 => k0_hw23

def k0_chk24 (v2302 : IVec S16 32) : Prop :=
  (∀ a x, ((![v2302] : Fin 1 → IVec S16 32) a x).toNat < S80.size a)
theorem k0_idx24_inb : ∀ (v2302 : IVec S16 32) (k0_hw24 : k0_chk24 v2302), ∀ a x, ((![v2302] : Fin 1 → IVec S16 32) a x).toNat < S80.size a := fun v2302 k0_hw24 => k0_hw24

def k0_chk25 (v2310 : IVec S16 32) : Prop :=
  (∀ a x, ((![v2310] : Fin 1 → IVec S16 32) a x).toNat < S80.size a)
theorem k0_idx25_inb : ∀ (v2310 : IVec S16 32) (k0_hw25 : k0_chk25 v2310), ∀ a x, ((![v2310] : Fin 1 → IVec S16 32) a x).toNat < S80.size a := fun v2310 k0_hw25 => k0_hw25

def k0_chk26 (v2320 : IVec S16 32) : Prop :=
  (∀ a x, ((![v2320] : Fin 1 → IVec S16 32) a x).toNat < S80.size a)
theorem k0_idx26_inb : ∀ (v2320 : IVec S16 32) (k0_hw26 : k0_chk26 v2320), ∀ a x, ((![v2320] : Fin 1 → IVec S16 32) a x).toNat < S80.size a := fun v2320 k0_hw26 => k0_hw26

def k0_chk27 (v2327 : IVec S16 32) : Prop :=
  (∀ a x, ((![v2327] : Fin 1 → IVec S16 32) a x).toNat < S80.size a)
theorem k0_idx27_inb : ∀ (v2327 : IVec S16 32) (k0_hw27 : k0_chk27 v2327), ∀ a x, ((![v2327] : Fin 1 → IVec S16 32) a x).toNat < S80.size a := fun v2327 k0_hw27 => k0_hw27

def k0_chk28 (v2335 : IVec S16 32) : Prop :=
  (∀ a x, ((![v2335] : Fin 1 → IVec S16 32) a x).toNat < S80.size a)
theorem k0_idx28_inb : ∀ (v2335 : IVec S16 32) (k0_hw28 : k0_chk28 v2335), ∀ a x, ((![v2335] : Fin 1 → IVec S16 32) a x).toNat < S80.size a := fun v2335 k0_hw28 => k0_hw28

def k0_chk29 (v2343 : IVec S16 32) : Prop :=
  (∀ a x, ((![v2343] : Fin 1 → IVec S16 32) a x).toNat < S80.size a)
theorem k0_idx29_inb : ∀ (v2343 : IVec S16 32) (k0_hw29 : k0_chk29 v2343), ∀ a x, ((![v2343] : Fin 1 → IVec S16 32) a x).toNat < S80.size a := fun v2343 k0_hw29 => k0_hw29

def k0_chk30 (v2351 : IVec S16 32) : Prop :=
  (∀ a x, ((![v2351] : Fin 1 → IVec S16 32) a x).toNat < S80.size a)
theorem k0_idx30_inb : ∀ (v2351 : IVec S16 32) (k0_hw30 : k0_chk30 v2351), ∀ a x, ((![v2351] : Fin 1 → IVec S16 32) a x).toNat < S80.size a := fun v2351 k0_hw30 => k0_hw30

def k0_chk31 (v2359 : IVec S16 32) : Prop :=
  (∀ a x, ((![v2359] : Fin 1 → IVec S16 32) a x).toNat < S80.size a)
theorem k0_idx31_inb : ∀ (v2359 : IVec S16 32) (k0_hw31 : k0_chk31 v2359), ∀ a x, ((![v2359] : Fin 1 → IVec S16 32) a x).toNat < S80.size a := fun v2359 k0_hw31 => k0_hw31

def k0_chk32 (v2367 : IVec S16 32) : Prop :=
  (∀ a x, ((![v2367] : Fin 1 → IVec S16 32) a x).toNat < S80.size a)
theorem k0_idx32_inb : ∀ (v2367 : IVec S16 32) (k0_hw32 : k0_chk32 v2367), ∀ a x, ((![v2367] : Fin 1 → IVec S16 32) a x).toNat < S80.size a := fun v2367 k0_hw32 => k0_hw32

def k0_chk33 (v2375 : IVec S16 32) : Prop :=
  (∀ a x, ((![v2375] : Fin 1 → IVec S16 32) a x).toNat < S80.size a)
theorem k0_idx33_inb : ∀ (v2375 : IVec S16 32) (k0_hw33 : k0_chk33 v2375), ∀ a x, ((![v2375] : Fin 1 → IVec S16 32) a x).toNat < S80.size a := fun v2375 k0_hw33 => k0_hw33

def k0_chk34 (v2383 : IVec S16 32) : Prop :=
  (∀ a x, ((![v2383] : Fin 1 → IVec S16 32) a x).toNat < S80.size a)
theorem k0_idx34_inb : ∀ (v2383 : IVec S16 32) (k0_hw34 : k0_chk34 v2383), ∀ a x, ((![v2383] : Fin 1 → IVec S16 32) a x).toNat < S80.size a := fun v2383 k0_hw34 => k0_hw34

def k0_chk35 (v2391 : IVec S16 32) : Prop :=
  (∀ a x, ((![v2391] : Fin 1 → IVec S16 32) a x).toNat < S80.size a)
theorem k0_idx35_inb : ∀ (v2391 : IVec S16 32) (k0_hw35 : k0_chk35 v2391), ∀ a x, ((![v2391] : Fin 1 → IVec S16 32) a x).toNat < S80.size a := fun v2391 k0_hw35 => k0_hw35

def k0_chk36 (v2399 : IVec S16 32) : Prop :=
  (∀ a x, ((![v2399] : Fin 1 → IVec S16 32) a x).toNat < S80.size a)
theorem k0_idx36_inb : ∀ (v2399 : IVec S16 32) (k0_hw36 : k0_chk36 v2399), ∀ a x, ((![v2399] : Fin 1 → IVec S16 32) a x).toNat < S80.size a := fun v2399 k0_hw36 => k0_hw36

def k0_chk37 (v2407 : IVec S16 32) : Prop :=
  (∀ a x, ((![v2407] : Fin 1 → IVec S16 32) a x).toNat < S80.size a)
theorem k0_idx37_inb : ∀ (v2407 : IVec S16 32) (k0_hw37 : k0_chk37 v2407), ∀ a x, ((![v2407] : Fin 1 → IVec S16 32) a x).toNat < S80.size a := fun v2407 k0_hw37 => k0_hw37

def k0_chk38 (v2415 : IVec S16 32) : Prop :=
  (∀ a x, ((![v2415] : Fin 1 → IVec S16 32) a x).toNat < S80.size a)
theorem k0_idx38_inb : ∀ (v2415 : IVec S16 32) (k0_hw38 : k0_chk38 v2415), ∀ a x, ((![v2415] : Fin 1 → IVec S16 32) a x).toNat < S80.size a := fun v2415 k0_hw38 => k0_hw38

def k0_chk39 (v2425 : IVec S16 32) : Prop :=
  (∀ a x, ((![v2425] : Fin 1 → IVec S16 32) a x).toNat < S80.size a)
theorem k0_idx39_inb : ∀ (v2425 : IVec S16 32) (k0_hw39 : k0_chk39 v2425), ∀ a x, ((![v2425] : Fin 1 → IVec S16 32) a x).toNat < S80.size a := fun v2425 k0_hw39 => k0_hw39

def k0_chk40 (v2432 : IVec S16 32) : Prop :=
  (∀ a x, ((![v2432] : Fin 1 → IVec S16 32) a x).toNat < S80.size a)
theorem k0_idx40_inb : ∀ (v2432 : IVec S16 32) (k0_hw40 : k0_chk40 v2432), ∀ a x, ((![v2432] : Fin 1 → IVec S16 32) a x).toNat < S80.size a := fun v2432 k0_hw40 => k0_hw40

def k0_chk41 (v2440 : IVec S16 32) : Prop :=
  (∀ a x, ((![v2440] : Fin 1 → IVec S16 32) a x).toNat < S80.size a)
theorem k0_idx41_inb : ∀ (v2440 : IVec S16 32) (k0_hw41 : k0_chk41 v2440), ∀ a x, ((![v2440] : Fin 1 → IVec S16 32) a x).toNat < S80.size a := fun v2440 k0_hw41 => k0_hw41

def k0_chk42 (v2448 : IVec S16 32) : Prop :=
  (∀ a x, ((![v2448] : Fin 1 → IVec S16 32) a x).toNat < S80.size a)
theorem k0_idx42_inb : ∀ (v2448 : IVec S16 32) (k0_hw42 : k0_chk42 v2448), ∀ a x, ((![v2448] : Fin 1 → IVec S16 32) a x).toNat < S80.size a := fun v2448 k0_hw42 => k0_hw42

def k0_chk43 (v2456 : IVec S16 32) : Prop :=
  (∀ a x, ((![v2456] : Fin 1 → IVec S16 32) a x).toNat < S80.size a)
theorem k0_idx43_inb : ∀ (v2456 : IVec S16 32) (k0_hw43 : k0_chk43 v2456), ∀ a x, ((![v2456] : Fin 1 → IVec S16 32) a x).toNat < S80.size a := fun v2456 k0_hw43 => k0_hw43

def k0_chk44 (v2464 : IVec S16 32) : Prop :=
  (∀ a x, ((![v2464] : Fin 1 → IVec S16 32) a x).toNat < S80.size a)
theorem k0_idx44_inb : ∀ (v2464 : IVec S16 32) (k0_hw44 : k0_chk44 v2464), ∀ a x, ((![v2464] : Fin 1 → IVec S16 32) a x).toNat < S80.size a := fun v2464 k0_hw44 => k0_hw44

def k0_chk45 (v2472 : IVec S16 32) : Prop :=
  (∀ a x, ((![v2472] : Fin 1 → IVec S16 32) a x).toNat < S80.size a)
theorem k0_idx45_inb : ∀ (v2472 : IVec S16 32) (k0_hw45 : k0_chk45 v2472), ∀ a x, ((![v2472] : Fin 1 → IVec S16 32) a x).toNat < S80.size a := fun v2472 k0_hw45 => k0_hw45

def k0_chk46 (v2480 : IVec S16 32) : Prop :=
  (∀ a x, ((![v2480] : Fin 1 → IVec S16 32) a x).toNat < S80.size a)
theorem k0_idx46_inb : ∀ (v2480 : IVec S16 32) (k0_hw46 : k0_chk46 v2480), ∀ a x, ((![v2480] : Fin 1 → IVec S16 32) a x).toNat < S80.size a := fun v2480 k0_hw46 => k0_hw46

def k0_chk47 (v2488 : IVec S16 32) : Prop :=
  (∀ a x, ((![v2488] : Fin 1 → IVec S16 32) a x).toNat < S80.size a)
theorem k0_idx47_inb : ∀ (v2488 : IVec S16 32) (k0_hw47 : k0_chk47 v2488), ∀ a x, ((![v2488] : Fin 1 → IVec S16 32) a x).toNat < S80.size a := fun v2488 k0_hw47 => k0_hw47

def k0_chk48 (v2496 : IVec S16 32) : Prop :=
  (∀ a x, ((![v2496] : Fin 1 → IVec S16 32) a x).toNat < S80.size a)
theorem k0_idx48_inb : ∀ (v2496 : IVec S16 32) (k0_hw48 : k0_chk48 v2496), ∀ a x, ((![v2496] : Fin 1 → IVec S16 32) a x).toNat < S80.size a := fun v2496 k0_hw48 => k0_hw48

def k0_chk49 (v2504 : IVec S16 32) : Prop :=
  (∀ a x, ((![v2504] : Fin 1 → IVec S16 32) a x).toNat < S80.size a)
theorem k0_idx49_inb : ∀ (v2504 : IVec S16 32) (k0_hw49 : k0_chk49 v2504), ∀ a x, ((![v2504] : Fin 1 → IVec S16 32) a x).toNat < S80.size a := fun v2504 k0_hw49 => k0_hw49

def k0_chk50 (v2512 : IVec S16 32) : Prop :=
  (∀ a x, ((![v2512] : Fin 1 → IVec S16 32) a x).toNat < S80.size a)
theorem k0_idx50_inb : ∀ (v2512 : IVec S16 32) (k0_hw50 : k0_chk50 v2512), ∀ a x, ((![v2512] : Fin 1 → IVec S16 32) a x).toNat < S80.size a := fun v2512 k0_hw50 => k0_hw50

def k0_chk51 (v2520 : IVec S16 32) : Prop :=
  (∀ a x, ((![v2520] : Fin 1 → IVec S16 32) a x).toNat < S80.size a)
theorem k0_idx51_inb : ∀ (v2520 : IVec S16 32) (k0_hw51 : k0_chk51 v2520), ∀ a x, ((![v2520] : Fin 1 → IVec S16 32) a x).toNat < S80.size a := fun v2520 k0_hw51 => k0_hw51

def k0_chk52 (v2530 : IVec S16 32) : Prop :=
  (∀ a x, ((![v2530] : Fin 1 → IVec S16 32) a x).toNat < S80.size a)
theorem k0_idx52_inb : ∀ (v2530 : IVec S16 32) (k0_hw52 : k0_chk52 v2530), ∀ a x, ((![v2530] : Fin 1 → IVec S16 32) a x).toNat < S80.size a := fun v2530 k0_hw52 => k0_hw52

def k0_chk53 (v2537 : IVec S16 32) : Prop :=
  (∀ a x, ((![v2537] : Fin 1 → IVec S16 32) a x).toNat < S80.size a)
theorem k0_idx53_inb : ∀ (v2537 : IVec S16 32) (k0_hw53 : k0_chk53 v2537), ∀ a x, ((![v2537] : Fin 1 → IVec S16 32) a x).toNat < S80.size a := fun v2537 k0_hw53 => k0_hw53

def k0_chk54 (v2545 : IVec S16 32) : Prop :=
  (∀ a x, ((![v2545] : Fin 1 → IVec S16 32) a x).toNat < S80.size a)
theorem k0_idx54_inb : ∀ (v2545 : IVec S16 32) (k0_hw54 : k0_chk54 v2545), ∀ a x, ((![v2545] : Fin 1 → IVec S16 32) a x).toNat < S80.size a := fun v2545 k0_hw54 => k0_hw54

def k0_chk55 (v2553 : IVec S16 32) : Prop :=
  (∀ a x, ((![v2553] : Fin 1 → IVec S16 32) a x).toNat < S80.size a)
theorem k0_idx55_inb : ∀ (v2553 : IVec S16 32) (k0_hw55 : k0_chk55 v2553), ∀ a x, ((![v2553] : Fin 1 → IVec S16 32) a x).toNat < S80.size a := fun v2553 k0_hw55 => k0_hw55

def k0_chk56 (v2561 : IVec S16 32) : Prop :=
  (∀ a x, ((![v2561] : Fin 1 → IVec S16 32) a x).toNat < S80.size a)
theorem k0_idx56_inb : ∀ (v2561 : IVec S16 32) (k0_hw56 : k0_chk56 v2561), ∀ a x, ((![v2561] : Fin 1 → IVec S16 32) a x).toNat < S80.size a := fun v2561 k0_hw56 => k0_hw56

def k0_chk57 (v2569 : IVec S16 32) : Prop :=
  (∀ a x, ((![v2569] : Fin 1 → IVec S16 32) a x).toNat < S80.size a)
theorem k0_idx57_inb : ∀ (v2569 : IVec S16 32) (k0_hw57 : k0_chk57 v2569), ∀ a x, ((![v2569] : Fin 1 → IVec S16 32) a x).toNat < S80.size a := fun v2569 k0_hw57 => k0_hw57

def k0_chk58 (v2577 : IVec S16 32) : Prop :=
  (∀ a x, ((![v2577] : Fin 1 → IVec S16 32) a x).toNat < S80.size a)
theorem k0_idx58_inb : ∀ (v2577 : IVec S16 32) (k0_hw58 : k0_chk58 v2577), ∀ a x, ((![v2577] : Fin 1 → IVec S16 32) a x).toNat < S80.size a := fun v2577 k0_hw58 => k0_hw58

def k0_chk59 (v2585 : IVec S16 32) : Prop :=
  (∀ a x, ((![v2585] : Fin 1 → IVec S16 32) a x).toNat < S80.size a)
theorem k0_idx59_inb : ∀ (v2585 : IVec S16 32) (k0_hw59 : k0_chk59 v2585), ∀ a x, ((![v2585] : Fin 1 → IVec S16 32) a x).toNat < S80.size a := fun v2585 k0_hw59 => k0_hw59

def k0_chk60 (v2593 : IVec S16 32) : Prop :=
  (∀ a x, ((![v2593] : Fin 1 → IVec S16 32) a x).toNat < S80.size a)
theorem k0_idx60_inb : ∀ (v2593 : IVec S16 32) (k0_hw60 : k0_chk60 v2593), ∀ a x, ((![v2593] : Fin 1 → IVec S16 32) a x).toNat < S80.size a := fun v2593 k0_hw60 => k0_hw60

def k0_chk61 (v2601 : IVec S16 32) : Prop :=
  (∀ a x, ((![v2601] : Fin 1 → IVec S16 32) a x).toNat < S80.size a)
theorem k0_idx61_inb : ∀ (v2601 : IVec S16 32) (k0_hw61 : k0_chk61 v2601), ∀ a x, ((![v2601] : Fin 1 → IVec S16 32) a x).toNat < S80.size a := fun v2601 k0_hw61 => k0_hw61

def k0_chk62 (v2609 : IVec S16 32) : Prop :=
  (∀ a x, ((![v2609] : Fin 1 → IVec S16 32) a x).toNat < S80.size a)
theorem k0_idx62_inb : ∀ (v2609 : IVec S16 32) (k0_hw62 : k0_chk62 v2609), ∀ a x, ((![v2609] : Fin 1 → IVec S16 32) a x).toNat < S80.size a := fun v2609 k0_hw62 => k0_hw62

def k0_chk63 (v2617 : IVec S16 32) : Prop :=
  (∀ a x, ((![v2617] : Fin 1 → IVec S16 32) a x).toNat < S80.size a)
theorem k0_idx63_inb : ∀ (v2617 : IVec S16 32) (k0_hw63 : k0_chk63 v2617), ∀ a x, ((![v2617] : Fin 1 → IVec S16 32) a x).toNat < S80.size a := fun v2617 k0_hw63 => k0_hw63

def k0_chk64 (v2625 : IVec S16 32) : Prop :=
  (∀ a x, ((![v2625] : Fin 1 → IVec S16 32) a x).toNat < S80.size a)
theorem k0_idx64_inb : ∀ (v2625 : IVec S16 32) (k0_hw64 : k0_chk64 v2625), ∀ a x, ((![v2625] : Fin 1 → IVec S16 32) a x).toNat < S80.size a := fun v2625 k0_hw64 => k0_hw64

def k0_chk65 (v2635 : IVec S16 32) : Prop :=
  (∀ a x, ((![v2635] : Fin 1 → IVec S16 32) a x).toNat < S80.size a)
theorem k0_idx65_inb : ∀ (v2635 : IVec S16 32) (k0_hw65 : k0_chk65 v2635), ∀ a x, ((![v2635] : Fin 1 → IVec S16 32) a x).toNat < S80.size a := fun v2635 k0_hw65 => k0_hw65

def k0_chk66 (v2642 : IVec S16 32) : Prop :=
  (∀ a x, ((![v2642] : Fin 1 → IVec S16 32) a x).toNat < S80.size a)
theorem k0_idx66_inb : ∀ (v2642 : IVec S16 32) (k0_hw66 : k0_chk66 v2642), ∀ a x, ((![v2642] : Fin 1 → IVec S16 32) a x).toNat < S80.size a := fun v2642 k0_hw66 => k0_hw66

def k0_chk67 (v2650 : IVec S16 32) : Prop :=
  (∀ a x, ((![v2650] : Fin 1 → IVec S16 32) a x).toNat < S80.size a)
theorem k0_idx67_inb : ∀ (v2650 : IVec S16 32) (k0_hw67 : k0_chk67 v2650), ∀ a x, ((![v2650] : Fin 1 → IVec S16 32) a x).toNat < S80.size a := fun v2650 k0_hw67 => k0_hw67

def k0_chk68 (v2658 : IVec S16 32) : Prop :=
  (∀ a x, ((![v2658] : Fin 1 → IVec S16 32) a x).toNat < S80.size a)
theorem k0_idx68_inb : ∀ (v2658 : IVec S16 32) (k0_hw68 : k0_chk68 v2658), ∀ a x, ((![v2658] : Fin 1 → IVec S16 32) a x).toNat < S80.size a := fun v2658 k0_hw68 => k0_hw68

def k0_chk69 (v2666 : IVec S16 32) : Prop :=
  (∀ a x, ((![v2666] : Fin 1 → IVec S16 32) a x).toNat < S80.size a)
theorem k0_idx69_inb : ∀ (v2666 : IVec S16 32) (k0_hw69 : k0_chk69 v2666), ∀ a x, ((![v2666] : Fin 1 → IVec S16 32) a x).toNat < S80.size a := fun v2666 k0_hw69 => k0_hw69

def k0_chk70 (v2674 : IVec S16 32) : Prop :=
  (∀ a x, ((![v2674] : Fin 1 → IVec S16 32) a x).toNat < S80.size a)
theorem k0_idx70_inb : ∀ (v2674 : IVec S16 32) (k0_hw70 : k0_chk70 v2674), ∀ a x, ((![v2674] : Fin 1 → IVec S16 32) a x).toNat < S80.size a := fun v2674 k0_hw70 => k0_hw70

def k0_chk71 (v2682 : IVec S16 32) : Prop :=
  (∀ a x, ((![v2682] : Fin 1 → IVec S16 32) a x).toNat < S80.size a)
theorem k0_idx71_inb : ∀ (v2682 : IVec S16 32) (k0_hw71 : k0_chk71 v2682), ∀ a x, ((![v2682] : Fin 1 → IVec S16 32) a x).toNat < S80.size a := fun v2682 k0_hw71 => k0_hw71

def k0_chk72 (v2690 : IVec S16 32) : Prop :=
  (∀ a x, ((![v2690] : Fin 1 → IVec S16 32) a x).toNat < S80.size a)
theorem k0_idx72_inb : ∀ (v2690 : IVec S16 32) (k0_hw72 : k0_chk72 v2690), ∀ a x, ((![v2690] : Fin 1 → IVec S16 32) a x).toNat < S80.size a := fun v2690 k0_hw72 => k0_hw72

def k0_chk73 (v2698 : IVec S16 32) : Prop :=
  (∀ a x, ((![v2698] : Fin 1 → IVec S16 32) a x).toNat < S80.size a)
theorem k0_idx73_inb : ∀ (v2698 : IVec S16 32) (k0_hw73 : k0_chk73 v2698), ∀ a x, ((![v2698] : Fin 1 → IVec S16 32) a x).toNat < S80.size a := fun v2698 k0_hw73 => k0_hw73

def k0_chk74 (v2706 : IVec S16 32) : Prop :=
  (∀ a x, ((![v2706] : Fin 1 → IVec S16 32) a x).toNat < S80.size a)
theorem k0_idx74_inb : ∀ (v2706 : IVec S16 32) (k0_hw74 : k0_chk74 v2706), ∀ a x, ((![v2706] : Fin 1 → IVec S16 32) a x).toNat < S80.size a := fun v2706 k0_hw74 => k0_hw74

def k0_chk75 (v2714 : IVec S16 32) : Prop :=
  (∀ a x, ((![v2714] : Fin 1 → IVec S16 32) a x).toNat < S80.size a)
theorem k0_idx75_inb : ∀ (v2714 : IVec S16 32) (k0_hw75 : k0_chk75 v2714), ∀ a x, ((![v2714] : Fin 1 → IVec S16 32) a x).toNat < S80.size a := fun v2714 k0_hw75 => k0_hw75

def k0_chk76 (v2722 : IVec S16 32) : Prop :=
  (∀ a x, ((![v2722] : Fin 1 → IVec S16 32) a x).toNat < S80.size a)
theorem k0_idx76_inb : ∀ (v2722 : IVec S16 32) (k0_hw76 : k0_chk76 v2722), ∀ a x, ((![v2722] : Fin 1 → IVec S16 32) a x).toNat < S80.size a := fun v2722 k0_hw76 => k0_hw76

def k0_chk77 (v2730 : IVec S16 32) : Prop :=
  (∀ a x, ((![v2730] : Fin 1 → IVec S16 32) a x).toNat < S80.size a)
theorem k0_idx77_inb : ∀ (v2730 : IVec S16 32) (k0_hw77 : k0_chk77 v2730), ∀ a x, ((![v2730] : Fin 1 → IVec S16 32) a x).toNat < S80.size a := fun v2730 k0_hw77 => k0_hw77

def k0_chk78 (v2740 : IVec S16 32) : Prop :=
  (∀ a x, ((![v2740] : Fin 1 → IVec S16 32) a x).toNat < S80.size a)
theorem k0_idx78_inb : ∀ (v2740 : IVec S16 32) (k0_hw78 : k0_chk78 v2740), ∀ a x, ((![v2740] : Fin 1 → IVec S16 32) a x).toNat < S80.size a := fun v2740 k0_hw78 => k0_hw78

def k0_chk79 (v2747 : IVec S16 32) : Prop :=
  (∀ a x, ((![v2747] : Fin 1 → IVec S16 32) a x).toNat < S80.size a)
theorem k0_idx79_inb : ∀ (v2747 : IVec S16 32) (k0_hw79 : k0_chk79 v2747), ∀ a x, ((![v2747] : Fin 1 → IVec S16 32) a x).toNat < S80.size a := fun v2747 k0_hw79 => k0_hw79

def k0_chk80 (v2755 : IVec S16 32) : Prop :=
  (∀ a x, ((![v2755] : Fin 1 → IVec S16 32) a x).toNat < S80.size a)
theorem k0_idx80_inb : ∀ (v2755 : IVec S16 32) (k0_hw80 : k0_chk80 v2755), ∀ a x, ((![v2755] : Fin 1 → IVec S16 32) a x).toNat < S80.size a := fun v2755 k0_hw80 => k0_hw80

def k0_chk81 (v2763 : IVec S16 32) : Prop :=
  (∀ a x, ((![v2763] : Fin 1 → IVec S16 32) a x).toNat < S80.size a)
theorem k0_idx81_inb : ∀ (v2763 : IVec S16 32) (k0_hw81 : k0_chk81 v2763), ∀ a x, ((![v2763] : Fin 1 → IVec S16 32) a x).toNat < S80.size a := fun v2763 k0_hw81 => k0_hw81

def k0_chk82 (v2771 : IVec S16 32) : Prop :=
  (∀ a x, ((![v2771] : Fin 1 → IVec S16 32) a x).toNat < S80.size a)
theorem k0_idx82_inb : ∀ (v2771 : IVec S16 32) (k0_hw82 : k0_chk82 v2771), ∀ a x, ((![v2771] : Fin 1 → IVec S16 32) a x).toNat < S80.size a := fun v2771 k0_hw82 => k0_hw82

def k0_chk83 (v2779 : IVec S16 32) : Prop :=
  (∀ a x, ((![v2779] : Fin 1 → IVec S16 32) a x).toNat < S80.size a)
theorem k0_idx83_inb : ∀ (v2779 : IVec S16 32) (k0_hw83 : k0_chk83 v2779), ∀ a x, ((![v2779] : Fin 1 → IVec S16 32) a x).toNat < S80.size a := fun v2779 k0_hw83 => k0_hw83

def k0_chk84 (v2787 : IVec S16 32) : Prop :=
  (∀ a x, ((![v2787] : Fin 1 → IVec S16 32) a x).toNat < S80.size a)
theorem k0_idx84_inb : ∀ (v2787 : IVec S16 32) (k0_hw84 : k0_chk84 v2787), ∀ a x, ((![v2787] : Fin 1 → IVec S16 32) a x).toNat < S80.size a := fun v2787 k0_hw84 => k0_hw84

def k0_chk85 (v2795 : IVec S16 32) : Prop :=
  (∀ a x, ((![v2795] : Fin 1 → IVec S16 32) a x).toNat < S80.size a)
theorem k0_idx85_inb : ∀ (v2795 : IVec S16 32) (k0_hw85 : k0_chk85 v2795), ∀ a x, ((![v2795] : Fin 1 → IVec S16 32) a x).toNat < S80.size a := fun v2795 k0_hw85 => k0_hw85

def k0_chk86 (v2803 : IVec S16 32) : Prop :=
  (∀ a x, ((![v2803] : Fin 1 → IVec S16 32) a x).toNat < S80.size a)
theorem k0_idx86_inb : ∀ (v2803 : IVec S16 32) (k0_hw86 : k0_chk86 v2803), ∀ a x, ((![v2803] : Fin 1 → IVec S16 32) a x).toNat < S80.size a := fun v2803 k0_hw86 => k0_hw86

def k0_chk87 (v2811 : IVec S16 32) : Prop :=
  (∀ a x, ((![v2811] : Fin 1 → IVec S16 32) a x).toNat < S80.size a)
theorem k0_idx87_inb : ∀ (v2811 : IVec S16 32) (k0_hw87 : k0_chk87 v2811), ∀ a x, ((![v2811] : Fin 1 → IVec S16 32) a x).toNat < S80.size a := fun v2811 k0_hw87 => k0_hw87

def k0_chk88 (v2819 : IVec S16 32) : Prop :=
  (∀ a x, ((![v2819] : Fin 1 → IVec S16 32) a x).toNat < S80.size a)
theorem k0_idx88_inb : ∀ (v2819 : IVec S16 32) (k0_hw88 : k0_chk88 v2819), ∀ a x, ((![v2819] : Fin 1 → IVec S16 32) a x).toNat < S80.size a := fun v2819 k0_hw88 => k0_hw88

def k0_chk89 (v2827 : IVec S16 32) : Prop :=
  (∀ a x, ((![v2827] : Fin 1 → IVec S16 32) a x).toNat < S80.size a)
theorem k0_idx89_inb : ∀ (v2827 : IVec S16 32) (k0_hw89 : k0_chk89 v2827), ∀ a x, ((![v2827] : Fin 1 → IVec S16 32) a x).toNat < S80.size a := fun v2827 k0_hw89 => k0_hw89

def k0_chk90 (v2835 : IVec S16 32) : Prop :=
  (∀ a x, ((![v2835] : Fin 1 → IVec S16 32) a x).toNat < S80.size a)
theorem k0_idx90_inb : ∀ (v2835 : IVec S16 32) (k0_hw90 : k0_chk90 v2835), ∀ a x, ((![v2835] : Fin 1 → IVec S16 32) a x).toNat < S80.size a := fun v2835 k0_hw90 => k0_hw90

def k0_chk91 (v2845 : IVec S16 32) : Prop :=
  (∀ a x, ((![v2845] : Fin 1 → IVec S16 32) a x).toNat < S80.size a)
theorem k0_idx91_inb : ∀ (v2845 : IVec S16 32) (k0_hw91 : k0_chk91 v2845), ∀ a x, ((![v2845] : Fin 1 → IVec S16 32) a x).toNat < S80.size a := fun v2845 k0_hw91 => k0_hw91

def k0_chk92 (v2852 : IVec S16 32) : Prop :=
  (∀ a x, ((![v2852] : Fin 1 → IVec S16 32) a x).toNat < S80.size a)
theorem k0_idx92_inb : ∀ (v2852 : IVec S16 32) (k0_hw92 : k0_chk92 v2852), ∀ a x, ((![v2852] : Fin 1 → IVec S16 32) a x).toNat < S80.size a := fun v2852 k0_hw92 => k0_hw92

def k0_chk93 (v2860 : IVec S16 32) : Prop :=
  (∀ a x, ((![v2860] : Fin 1 → IVec S16 32) a x).toNat < S80.size a)
theorem k0_idx93_inb : ∀ (v2860 : IVec S16 32) (k0_hw93 : k0_chk93 v2860), ∀ a x, ((![v2860] : Fin 1 → IVec S16 32) a x).toNat < S80.size a := fun v2860 k0_hw93 => k0_hw93

def k0_chk94 (v2868 : IVec S16 32) : Prop :=
  (∀ a x, ((![v2868] : Fin 1 → IVec S16 32) a x).toNat < S80.size a)
theorem k0_idx94_inb : ∀ (v2868 : IVec S16 32) (k0_hw94 : k0_chk94 v2868), ∀ a x, ((![v2868] : Fin 1 → IVec S16 32) a x).toNat < S80.size a := fun v2868 k0_hw94 => k0_hw94

def k0_chk95 (v2876 : IVec S16 32) : Prop :=
  (∀ a x, ((![v2876] : Fin 1 → IVec S16 32) a x).toNat < S80.size a)
theorem k0_idx95_inb : ∀ (v2876 : IVec S16 32) (k0_hw95 : k0_chk95 v2876), ∀ a x, ((![v2876] : Fin 1 → IVec S16 32) a x).toNat < S80.size a := fun v2876 k0_hw95 => k0_hw95

def k0_chk96 (v2884 : IVec S16 32) : Prop :=
  (∀ a x, ((![v2884] : Fin 1 → IVec S16 32) a x).toNat < S80.size a)
theorem k0_idx96_inb : ∀ (v2884 : IVec S16 32) (k0_hw96 : k0_chk96 v2884), ∀ a x, ((![v2884] : Fin 1 → IVec S16 32) a x).toNat < S80.size a := fun v2884 k0_hw96 => k0_hw96

def k0_chk97 (v2892 : IVec S16 32) : Prop :=
  (∀ a x, ((![v2892] : Fin 1 → IVec S16 32) a x).toNat < S80.size a)
theorem k0_idx97_inb : ∀ (v2892 : IVec S16 32) (k0_hw97 : k0_chk97 v2892), ∀ a x, ((![v2892] : Fin 1 → IVec S16 32) a x).toNat < S80.size a := fun v2892 k0_hw97 => k0_hw97

def k0_chk98 (v2900 : IVec S16 32) : Prop :=
  (∀ a x, ((![v2900] : Fin 1 → IVec S16 32) a x).toNat < S80.size a)
theorem k0_idx98_inb : ∀ (v2900 : IVec S16 32) (k0_hw98 : k0_chk98 v2900), ∀ a x, ((![v2900] : Fin 1 → IVec S16 32) a x).toNat < S80.size a := fun v2900 k0_hw98 => k0_hw98

def k0_chk99 (v2908 : IVec S16 32) : Prop :=
  (∀ a x, ((![v2908] : Fin 1 → IVec S16 32) a x).toNat < S80.size a)
theorem k0_idx99_inb : ∀ (v2908 : IVec S16 32) (k0_hw99 : k0_chk99 v2908), ∀ a x, ((![v2908] : Fin 1 → IVec S16 32) a x).toNat < S80.size a := fun v2908 k0_hw99 => k0_hw99

def k0_chk100 (v2916 : IVec S16 32) : Prop :=
  (∀ a x, ((![v2916] : Fin 1 → IVec S16 32) a x).toNat < S80.size a)
theorem k0_idx100_inb : ∀ (v2916 : IVec S16 32) (k0_hw100 : k0_chk100 v2916), ∀ a x, ((![v2916] : Fin 1 → IVec S16 32) a x).toNat < S80.size a := fun v2916 k0_hw100 => k0_hw100

def k0_chk101 (v2924 : IVec S16 32) : Prop :=
  (∀ a x, ((![v2924] : Fin 1 → IVec S16 32) a x).toNat < S80.size a)
theorem k0_idx101_inb : ∀ (v2924 : IVec S16 32) (k0_hw101 : k0_chk101 v2924), ∀ a x, ((![v2924] : Fin 1 → IVec S16 32) a x).toNat < S80.size a := fun v2924 k0_hw101 => k0_hw101

def k0_chk102 (v2932 : IVec S16 32) : Prop :=
  (∀ a x, ((![v2932] : Fin 1 → IVec S16 32) a x).toNat < S80.size a)
theorem k0_idx102_inb : ∀ (v2932 : IVec S16 32) (k0_hw102 : k0_chk102 v2932), ∀ a x, ((![v2932] : Fin 1 → IVec S16 32) a x).toNat < S80.size a := fun v2932 k0_hw102 => k0_hw102

def k0_chk103 (v2940 : IVec S16 32) : Prop :=
  (∀ a x, ((![v2940] : Fin 1 → IVec S16 32) a x).toNat < S80.size a)
theorem k0_idx103_inb : ∀ (v2940 : IVec S16 32) (k0_hw103 : k0_chk103 v2940), ∀ a x, ((![v2940] : Fin 1 → IVec S16 32) a x).toNat < S80.size a := fun v2940 k0_hw103 => k0_hw103

def k0_chk104 (v2950 : IVec S16 32) : Prop :=
  (∀ a x, ((![v2950] : Fin 1 → IVec S16 32) a x).toNat < S80.size a)
theorem k0_idx104_inb : ∀ (v2950 : IVec S16 32) (k0_hw104 : k0_chk104 v2950), ∀ a x, ((![v2950] : Fin 1 → IVec S16 32) a x).toNat < S80.size a := fun v2950 k0_hw104 => k0_hw104
@[reducible] def k0_t3_loop : Scf.Loop 32 :=
  let c0_i32_36 : BitVec 32 := 0#32
  let c16_i32_37 : BitVec 32 := 16#32
  let v77 : BitVec 32 := Scalar.addi c0_i32_36 c16_i32_37
  let c1_i32_38 : BitVec 32 := 1#32
  ⟨c0_i32_36, v77, c1_i32_38⟩
def k0_off67 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let c0_i32_36 : BitVec 32 := 0#32
  let c1_i32_38 : BitVec 32 := 1#32
  let arg10 : BitVec 32 := Scf.iv c0_i32_36 c1_i32_38 k0_t3
  let c8_i32 : BitVec 32 := 8#32
  let v133 : BitVec 32 := Scalar.muli arg10 c8_i32
  let v134 : BitVec 32 := Scalar.addi v6 v133
  let c0_i32_2684_r2 : BitVec 32 := 0#32
  ![v134.toNat, 0]
def k0_off68 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  let c0_i32_36 : BitVec 32 := 0#32
  let c1_i32_38 : BitVec 32 := 1#32
  let arg10 : BitVec 32 := Scf.iv c0_i32_36 c1_i32_38 k0_t3
  let c8_i32_74 : BitVec 32 := 8#32
  let v135 : BitVec 32 := Scalar.muli arg10 c8_i32_74
  let v136 : BitVec 32 := Scalar.addi v6 v135
  let c128_i32_2684_r3 : BitVec 32 := 128#32
  ![v136.toNat, 128]

def k0_chk106 (v2139 : IVec S16 32) : Prop :=
  (∀ a x, ((![v2139] : Fin 1 → IVec S16 32) a x).toNat < S27648.size a)
theorem k0_idx106_inb : ∀ (v2139 : IVec S16 32) (k0_hw106 : k0_chk106 v2139), ∀ a x, ((![v2139] : Fin 1 → IVec S16 32) a x).toNat < S27648.size a := fun v2139 k0_hw106 => k0_hw106

def k0_chk105 (v2122 : IVec S16 32) : Prop :=
  (∀ a x, ((![v2122] : Fin 1 → IVec S16 32) a x).toNat < S80.size a) ∧
  (∀ a x, ((![v2122] : Fin 1 → IVec S16 32) a x).toNat < S80.size a)
theorem k0_idx105_inb : ∀ (v2122 : IVec S16 32) (k0_hw105 : k0_chk105 v2122), ∀ a x, ((![v2122] : Fin 1 → IVec S16 32) a x).toNat < S80.size a := fun v2122 k0_hw105 => k0_hw105.1
theorem k0_idx107_inb : ∀ (v2122 : IVec S16 32) (k0_hw105 : k0_chk105 v2122), ∀ a x, ((![v2122] : Fin 1 → IVec S16 32) a x).toNat < S80.size a := fun v2122 k0_hw105 => k0_hw105.2

def k0_chk108 (v2164 : IVec S16 32) : Prop :=
  (∀ a x, ((![v2164] : Fin 1 → IVec S16 32) a x).toNat < S27648.size a)
theorem k0_idx109_inb : ∀ (v2164 : IVec S16 32) (k0_hw108 : k0_chk108 v2164), ∀ a x, ((![v2164] : Fin 1 → IVec S16 32) a x).toNat < S27648.size a := fun v2164 k0_hw108 => k0_hw108

def k0_chk107 (v2147 : IVec S16 32) : Prop :=
  (∀ a x, ((![v2147] : Fin 1 → IVec S16 32) a x).toNat < S80.size a) ∧
  (∀ a x, ((![v2147] : Fin 1 → IVec S16 32) a x).toNat < S80.size a)
theorem k0_idx108_inb : ∀ (v2147 : IVec S16 32) (k0_hw107 : k0_chk107 v2147), ∀ a x, ((![v2147] : Fin 1 → IVec S16 32) a x).toNat < S80.size a := fun v2147 k0_hw107 => k0_hw107.1
theorem k0_idx110_inb : ∀ (v2147 : IVec S16 32) (k0_hw107 : k0_chk107 v2147), ∀ a x, ((![v2147] : Fin 1 → IVec S16 32) a x).toNat < S80.size a := fun v2147 k0_hw107 => k0_hw107.2

def k0_chk110 (v2189 : IVec S16 32) : Prop :=
  (∀ a x, ((![v2189] : Fin 1 → IVec S16 32) a x).toNat < S27648.size a)
theorem k0_idx112_inb : ∀ (v2189 : IVec S16 32) (k0_hw110 : k0_chk110 v2189), ∀ a x, ((![v2189] : Fin 1 → IVec S16 32) a x).toNat < S27648.size a := fun v2189 k0_hw110 => k0_hw110

def k0_chk109 (v2172 : IVec S16 32) : Prop :=
  (∀ a x, ((![v2172] : Fin 1 → IVec S16 32) a x).toNat < S80.size a) ∧
  (∀ a x, ((![v2172] : Fin 1 → IVec S16 32) a x).toNat < S80.size a)
theorem k0_idx111_inb : ∀ (v2172 : IVec S16 32) (k0_hw109 : k0_chk109 v2172), ∀ a x, ((![v2172] : Fin 1 → IVec S16 32) a x).toNat < S80.size a := fun v2172 k0_hw109 => k0_hw109.1
theorem k0_idx113_inb : ∀ (v2172 : IVec S16 32) (k0_hw109 : k0_chk109 v2172), ∀ a x, ((![v2172] : Fin 1 → IVec S16 32) a x).toNat < S80.size a := fun v2172 k0_hw109 => k0_hw109.2

def k0_chk112 (v2214 : IVec S16 32) : Prop :=
  (∀ a x, ((![v2214] : Fin 1 → IVec S16 32) a x).toNat < S27648.size a)
theorem k0_idx115_inb : ∀ (v2214 : IVec S16 32) (k0_hw112 : k0_chk112 v2214), ∀ a x, ((![v2214] : Fin 1 → IVec S16 32) a x).toNat < S27648.size a := fun v2214 k0_hw112 => k0_hw112

def k0_chk111 (v2197 : IVec S16 32) : Prop :=
  (∀ a x, ((![v2197] : Fin 1 → IVec S16 32) a x).toNat < S80.size a) ∧
  (∀ a x, ((![v2197] : Fin 1 → IVec S16 32) a x).toNat < S80.size a)
theorem k0_idx114_inb : ∀ (v2197 : IVec S16 32) (k0_hw111 : k0_chk111 v2197), ∀ a x, ((![v2197] : Fin 1 → IVec S16 32) a x).toNat < S80.size a := fun v2197 k0_hw111 => k0_hw111.1
theorem k0_idx116_inb : ∀ (v2197 : IVec S16 32) (k0_hw111 : k0_chk111 v2197), ∀ a x, ((![v2197] : Fin 1 → IVec S16 32) a x).toNat < S80.size a := fun v2197 k0_hw111 => k0_hw111.2

def k0_chk114 (v2239 : IVec S16 32) : Prop :=
  (∀ a x, ((![v2239] : Fin 1 → IVec S16 32) a x).toNat < S27648.size a)
theorem k0_idx118_inb : ∀ (v2239 : IVec S16 32) (k0_hw114 : k0_chk114 v2239), ∀ a x, ((![v2239] : Fin 1 → IVec S16 32) a x).toNat < S27648.size a := fun v2239 k0_hw114 => k0_hw114

def k0_chk113 (v2222 : IVec S16 32) : Prop :=
  (∀ a x, ((![v2222] : Fin 1 → IVec S16 32) a x).toNat < S80.size a) ∧
  (∀ a x, ((![v2222] : Fin 1 → IVec S16 32) a x).toNat < S80.size a)
theorem k0_idx117_inb : ∀ (v2222 : IVec S16 32) (k0_hw113 : k0_chk113 v2222), ∀ a x, ((![v2222] : Fin 1 → IVec S16 32) a x).toNat < S80.size a := fun v2222 k0_hw113 => k0_hw113.1
theorem k0_idx119_inb : ∀ (v2222 : IVec S16 32) (k0_hw113 : k0_chk113 v2222), ∀ a x, ((![v2222] : Fin 1 → IVec S16 32) a x).toNat < S80.size a := fun v2222 k0_hw113 => k0_hw113.2

def k0_chk116 (v2264 : IVec S16 32) : Prop :=
  (∀ a x, ((![v2264] : Fin 1 → IVec S16 32) a x).toNat < S27648.size a)
theorem k0_idx121_inb : ∀ (v2264 : IVec S16 32) (k0_hw116 : k0_chk116 v2264), ∀ a x, ((![v2264] : Fin 1 → IVec S16 32) a x).toNat < S27648.size a := fun v2264 k0_hw116 => k0_hw116

def k0_chk115 (v2247 : IVec S16 32) : Prop :=
  (∀ a x, ((![v2247] : Fin 1 → IVec S16 32) a x).toNat < S80.size a) ∧
  (∀ a x, ((![v2247] : Fin 1 → IVec S16 32) a x).toNat < S80.size a)
theorem k0_idx120_inb : ∀ (v2247 : IVec S16 32) (k0_hw115 : k0_chk115 v2247), ∀ a x, ((![v2247] : Fin 1 → IVec S16 32) a x).toNat < S80.size a := fun v2247 k0_hw115 => k0_hw115.1
theorem k0_idx122_inb : ∀ (v2247 : IVec S16 32) (k0_hw115 : k0_chk115 v2247), ∀ a x, ((![v2247] : Fin 1 → IVec S16 32) a x).toNat < S80.size a := fun v2247 k0_hw115 => k0_hw115.2

def k0_chk118 (v2289 : IVec S16 32) : Prop :=
  (∀ a x, ((![v2289] : Fin 1 → IVec S16 32) a x).toNat < S27648.size a)
theorem k0_idx124_inb : ∀ (v2289 : IVec S16 32) (k0_hw118 : k0_chk118 v2289), ∀ a x, ((![v2289] : Fin 1 → IVec S16 32) a x).toNat < S27648.size a := fun v2289 k0_hw118 => k0_hw118

def k0_chk117 (v2272 : IVec S16 32) : Prop :=
  (∀ a x, ((![v2272] : Fin 1 → IVec S16 32) a x).toNat < S80.size a) ∧
  (∀ a x, ((![v2272] : Fin 1 → IVec S16 32) a x).toNat < S80.size a)
theorem k0_idx123_inb : ∀ (v2272 : IVec S16 32) (k0_hw117 : k0_chk117 v2272), ∀ a x, ((![v2272] : Fin 1 → IVec S16 32) a x).toNat < S80.size a := fun v2272 k0_hw117 => k0_hw117.1
theorem k0_idx125_inb : ∀ (v2272 : IVec S16 32) (k0_hw117 : k0_chk117 v2272), ∀ a x, ((![v2272] : Fin 1 → IVec S16 32) a x).toNat < S80.size a := fun v2272 k0_hw117 => k0_hw117.2

def k0_chk120 (v2314 : IVec S16 32) : Prop :=
  (∀ a x, ((![v2314] : Fin 1 → IVec S16 32) a x).toNat < S27648.size a)
theorem k0_idx127_inb : ∀ (v2314 : IVec S16 32) (k0_hw120 : k0_chk120 v2314), ∀ a x, ((![v2314] : Fin 1 → IVec S16 32) a x).toNat < S27648.size a := fun v2314 k0_hw120 => k0_hw120

def k0_chk119 (v2297 : IVec S16 32) : Prop :=
  (∀ a x, ((![v2297] : Fin 1 → IVec S16 32) a x).toNat < S80.size a) ∧
  (∀ a x, ((![v2297] : Fin 1 → IVec S16 32) a x).toNat < S80.size a)
theorem k0_idx126_inb : ∀ (v2297 : IVec S16 32) (k0_hw119 : k0_chk119 v2297), ∀ a x, ((![v2297] : Fin 1 → IVec S16 32) a x).toNat < S80.size a := fun v2297 k0_hw119 => k0_hw119.1
theorem k0_idx128_inb : ∀ (v2297 : IVec S16 32) (k0_hw119 : k0_chk119 v2297), ∀ a x, ((![v2297] : Fin 1 → IVec S16 32) a x).toNat < S80.size a := fun v2297 k0_hw119 => k0_hw119.2

def k0_chk122 (v2339 : IVec S16 32) : Prop :=
  (∀ a x, ((![v2339] : Fin 1 → IVec S16 32) a x).toNat < S27648.size a)
theorem k0_idx130_inb : ∀ (v2339 : IVec S16 32) (k0_hw122 : k0_chk122 v2339), ∀ a x, ((![v2339] : Fin 1 → IVec S16 32) a x).toNat < S27648.size a := fun v2339 k0_hw122 => k0_hw122

def k0_chk121 (v2322 : IVec S16 32) : Prop :=
  (∀ a x, ((![v2322] : Fin 1 → IVec S16 32) a x).toNat < S80.size a) ∧
  (∀ a x, ((![v2322] : Fin 1 → IVec S16 32) a x).toNat < S80.size a)
theorem k0_idx129_inb : ∀ (v2322 : IVec S16 32) (k0_hw121 : k0_chk121 v2322), ∀ a x, ((![v2322] : Fin 1 → IVec S16 32) a x).toNat < S80.size a := fun v2322 k0_hw121 => k0_hw121.1
theorem k0_idx131_inb : ∀ (v2322 : IVec S16 32) (k0_hw121 : k0_chk121 v2322), ∀ a x, ((![v2322] : Fin 1 → IVec S16 32) a x).toNat < S80.size a := fun v2322 k0_hw121 => k0_hw121.2

def k0_chk124 (v2364 : IVec S16 32) : Prop :=
  (∀ a x, ((![v2364] : Fin 1 → IVec S16 32) a x).toNat < S27648.size a)
theorem k0_idx133_inb : ∀ (v2364 : IVec S16 32) (k0_hw124 : k0_chk124 v2364), ∀ a x, ((![v2364] : Fin 1 → IVec S16 32) a x).toNat < S27648.size a := fun v2364 k0_hw124 => k0_hw124

def k0_chk123 (v2347 : IVec S16 32) : Prop :=
  (∀ a x, ((![v2347] : Fin 1 → IVec S16 32) a x).toNat < S80.size a) ∧
  (∀ a x, ((![v2347] : Fin 1 → IVec S16 32) a x).toNat < S80.size a)
theorem k0_idx132_inb : ∀ (v2347 : IVec S16 32) (k0_hw123 : k0_chk123 v2347), ∀ a x, ((![v2347] : Fin 1 → IVec S16 32) a x).toNat < S80.size a := fun v2347 k0_hw123 => k0_hw123.1
theorem k0_idx134_inb : ∀ (v2347 : IVec S16 32) (k0_hw123 : k0_chk123 v2347), ∀ a x, ((![v2347] : Fin 1 → IVec S16 32) a x).toNat < S80.size a := fun v2347 k0_hw123 => k0_hw123.2

def k0_chk126 (v2389 : IVec S16 32) : Prop :=
  (∀ a x, ((![v2389] : Fin 1 → IVec S16 32) a x).toNat < S27648.size a)
theorem k0_idx136_inb : ∀ (v2389 : IVec S16 32) (k0_hw126 : k0_chk126 v2389), ∀ a x, ((![v2389] : Fin 1 → IVec S16 32) a x).toNat < S27648.size a := fun v2389 k0_hw126 => k0_hw126

def k0_chk125 (v2372 : IVec S16 32) : Prop :=
  (∀ a x, ((![v2372] : Fin 1 → IVec S16 32) a x).toNat < S80.size a) ∧
  (∀ a x, ((![v2372] : Fin 1 → IVec S16 32) a x).toNat < S80.size a)
theorem k0_idx135_inb : ∀ (v2372 : IVec S16 32) (k0_hw125 : k0_chk125 v2372), ∀ a x, ((![v2372] : Fin 1 → IVec S16 32) a x).toNat < S80.size a := fun v2372 k0_hw125 => k0_hw125.1
theorem k0_idx137_inb : ∀ (v2372 : IVec S16 32) (k0_hw125 : k0_chk125 v2372), ∀ a x, ((![v2372] : Fin 1 → IVec S16 32) a x).toNat < S80.size a := fun v2372 k0_hw125 => k0_hw125.2

def k0_chk128 (v2414 : IVec S16 32) : Prop :=
  (∀ a x, ((![v2414] : Fin 1 → IVec S16 32) a x).toNat < S27648.size a)
theorem k0_idx139_inb : ∀ (v2414 : IVec S16 32) (k0_hw128 : k0_chk128 v2414), ∀ a x, ((![v2414] : Fin 1 → IVec S16 32) a x).toNat < S27648.size a := fun v2414 k0_hw128 => k0_hw128

def k0_chk127 (v2397 : IVec S16 32) : Prop :=
  (∀ a x, ((![v2397] : Fin 1 → IVec S16 32) a x).toNat < S80.size a) ∧
  (∀ a x, ((![v2397] : Fin 1 → IVec S16 32) a x).toNat < S80.size a)
theorem k0_idx138_inb : ∀ (v2397 : IVec S16 32) (k0_hw127 : k0_chk127 v2397), ∀ a x, ((![v2397] : Fin 1 → IVec S16 32) a x).toNat < S80.size a := fun v2397 k0_hw127 => k0_hw127.1
theorem k0_idx140_inb : ∀ (v2397 : IVec S16 32) (k0_hw127 : k0_chk127 v2397), ∀ a x, ((![v2397] : Fin 1 → IVec S16 32) a x).toNat < S80.size a := fun v2397 k0_hw127 => k0_hw127.2

def k0_chk130 (v2440 : IVec S16 32) : Prop :=
  (∀ a x, ((![v2440] : Fin 1 → IVec S16 32) a x).toNat < S27648.size a)
theorem k0_idx142_inb : ∀ (v2440 : IVec S16 32) (k0_hw130 : k0_chk130 v2440), ∀ a x, ((![v2440] : Fin 1 → IVec S16 32) a x).toNat < S27648.size a := fun v2440 k0_hw130 => k0_hw130

def k0_chk129 (v2424 : IVec S16 32) : Prop :=
  (∀ a x, ((![v2424] : Fin 1 → IVec S16 32) a x).toNat < S80.size a) ∧
  (∀ a x, ((![v2424] : Fin 1 → IVec S16 32) a x).toNat < S80.size a)
theorem k0_idx141_inb : ∀ (v2424 : IVec S16 32) (k0_hw129 : k0_chk129 v2424), ∀ a x, ((![v2424] : Fin 1 → IVec S16 32) a x).toNat < S80.size a := fun v2424 k0_hw129 => k0_hw129.1
theorem k0_idx143_inb : ∀ (v2424 : IVec S16 32) (k0_hw129 : k0_chk129 v2424), ∀ a x, ((![v2424] : Fin 1 → IVec S16 32) a x).toNat < S80.size a := fun v2424 k0_hw129 => k0_hw129.2

def k0_chk132 (v2470 : IVec S16 32) : Prop :=
  (∀ a x, ((![v2470] : Fin 1 → IVec S16 32) a x).toNat < S27648.size a)
theorem k0_idx145_inb : ∀ (v2470 : IVec S16 32) (k0_hw132 : k0_chk132 v2470), ∀ a x, ((![v2470] : Fin 1 → IVec S16 32) a x).toNat < S27648.size a := fun v2470 k0_hw132 => k0_hw132

def k0_chk131 (v2453 : IVec S16 32) : Prop :=
  (∀ a x, ((![v2453] : Fin 1 → IVec S16 32) a x).toNat < S80.size a) ∧
  (∀ a x, ((![v2453] : Fin 1 → IVec S16 32) a x).toNat < S80.size a)
theorem k0_idx144_inb : ∀ (v2453 : IVec S16 32) (k0_hw131 : k0_chk131 v2453), ∀ a x, ((![v2453] : Fin 1 → IVec S16 32) a x).toNat < S80.size a := fun v2453 k0_hw131 => k0_hw131.1
theorem k0_idx146_inb : ∀ (v2453 : IVec S16 32) (k0_hw131 : k0_chk131 v2453), ∀ a x, ((![v2453] : Fin 1 → IVec S16 32) a x).toNat < S80.size a := fun v2453 k0_hw131 => k0_hw131.2

def k0_chk134 (v2495 : IVec S16 32) : Prop :=
  (∀ a x, ((![v2495] : Fin 1 → IVec S16 32) a x).toNat < S27648.size a)
theorem k0_idx148_inb : ∀ (v2495 : IVec S16 32) (k0_hw134 : k0_chk134 v2495), ∀ a x, ((![v2495] : Fin 1 → IVec S16 32) a x).toNat < S27648.size a := fun v2495 k0_hw134 => k0_hw134

def k0_chk133 (v2478 : IVec S16 32) : Prop :=
  (∀ a x, ((![v2478] : Fin 1 → IVec S16 32) a x).toNat < S80.size a) ∧
  (∀ a x, ((![v2478] : Fin 1 → IVec S16 32) a x).toNat < S80.size a)
theorem k0_idx147_inb : ∀ (v2478 : IVec S16 32) (k0_hw133 : k0_chk133 v2478), ∀ a x, ((![v2478] : Fin 1 → IVec S16 32) a x).toNat < S80.size a := fun v2478 k0_hw133 => k0_hw133.1
theorem k0_idx149_inb : ∀ (v2478 : IVec S16 32) (k0_hw133 : k0_chk133 v2478), ∀ a x, ((![v2478] : Fin 1 → IVec S16 32) a x).toNat < S80.size a := fun v2478 k0_hw133 => k0_hw133.2

def k0_chk136 (v2520 : IVec S16 32) : Prop :=
  (∀ a x, ((![v2520] : Fin 1 → IVec S16 32) a x).toNat < S27648.size a)
theorem k0_idx151_inb : ∀ (v2520 : IVec S16 32) (k0_hw136 : k0_chk136 v2520), ∀ a x, ((![v2520] : Fin 1 → IVec S16 32) a x).toNat < S27648.size a := fun v2520 k0_hw136 => k0_hw136

def k0_chk135 (v2503 : IVec S16 32) : Prop :=
  (∀ a x, ((![v2503] : Fin 1 → IVec S16 32) a x).toNat < S80.size a) ∧
  (∀ a x, ((![v2503] : Fin 1 → IVec S16 32) a x).toNat < S80.size a)
theorem k0_idx150_inb : ∀ (v2503 : IVec S16 32) (k0_hw135 : k0_chk135 v2503), ∀ a x, ((![v2503] : Fin 1 → IVec S16 32) a x).toNat < S80.size a := fun v2503 k0_hw135 => k0_hw135.1
theorem k0_idx152_inb : ∀ (v2503 : IVec S16 32) (k0_hw135 : k0_chk135 v2503), ∀ a x, ((![v2503] : Fin 1 → IVec S16 32) a x).toNat < S80.size a := fun v2503 k0_hw135 => k0_hw135.2

def k0_chk138 (v2545 : IVec S16 32) : Prop :=
  (∀ a x, ((![v2545] : Fin 1 → IVec S16 32) a x).toNat < S27648.size a)
theorem k0_idx154_inb : ∀ (v2545 : IVec S16 32) (k0_hw138 : k0_chk138 v2545), ∀ a x, ((![v2545] : Fin 1 → IVec S16 32) a x).toNat < S27648.size a := fun v2545 k0_hw138 => k0_hw138

def k0_chk137 (v2528 : IVec S16 32) : Prop :=
  (∀ a x, ((![v2528] : Fin 1 → IVec S16 32) a x).toNat < S80.size a) ∧
  (∀ a x, ((![v2528] : Fin 1 → IVec S16 32) a x).toNat < S80.size a)
theorem k0_idx153_inb : ∀ (v2528 : IVec S16 32) (k0_hw137 : k0_chk137 v2528), ∀ a x, ((![v2528] : Fin 1 → IVec S16 32) a x).toNat < S80.size a := fun v2528 k0_hw137 => k0_hw137.1
theorem k0_idx155_inb : ∀ (v2528 : IVec S16 32) (k0_hw137 : k0_chk137 v2528), ∀ a x, ((![v2528] : Fin 1 → IVec S16 32) a x).toNat < S80.size a := fun v2528 k0_hw137 => k0_hw137.2

def k0_chk140 (v2570 : IVec S16 32) : Prop :=
  (∀ a x, ((![v2570] : Fin 1 → IVec S16 32) a x).toNat < S27648.size a)
theorem k0_idx157_inb : ∀ (v2570 : IVec S16 32) (k0_hw140 : k0_chk140 v2570), ∀ a x, ((![v2570] : Fin 1 → IVec S16 32) a x).toNat < S27648.size a := fun v2570 k0_hw140 => k0_hw140

def k0_chk139 (v2553 : IVec S16 32) : Prop :=
  (∀ a x, ((![v2553] : Fin 1 → IVec S16 32) a x).toNat < S80.size a) ∧
  (∀ a x, ((![v2553] : Fin 1 → IVec S16 32) a x).toNat < S80.size a)
theorem k0_idx156_inb : ∀ (v2553 : IVec S16 32) (k0_hw139 : k0_chk139 v2553), ∀ a x, ((![v2553] : Fin 1 → IVec S16 32) a x).toNat < S80.size a := fun v2553 k0_hw139 => k0_hw139.1
theorem k0_idx158_inb : ∀ (v2553 : IVec S16 32) (k0_hw139 : k0_chk139 v2553), ∀ a x, ((![v2553] : Fin 1 → IVec S16 32) a x).toNat < S80.size a := fun v2553 k0_hw139 => k0_hw139.2

def k0_chk142 (v2595 : IVec S16 32) : Prop :=
  (∀ a x, ((![v2595] : Fin 1 → IVec S16 32) a x).toNat < S27648.size a)
theorem k0_idx160_inb : ∀ (v2595 : IVec S16 32) (k0_hw142 : k0_chk142 v2595), ∀ a x, ((![v2595] : Fin 1 → IVec S16 32) a x).toNat < S27648.size a := fun v2595 k0_hw142 => k0_hw142

def k0_chk141 (v2578 : IVec S16 32) : Prop :=
  (∀ a x, ((![v2578] : Fin 1 → IVec S16 32) a x).toNat < S80.size a) ∧
  (∀ a x, ((![v2578] : Fin 1 → IVec S16 32) a x).toNat < S80.size a)
theorem k0_idx159_inb : ∀ (v2578 : IVec S16 32) (k0_hw141 : k0_chk141 v2578), ∀ a x, ((![v2578] : Fin 1 → IVec S16 32) a x).toNat < S80.size a := fun v2578 k0_hw141 => k0_hw141.1
theorem k0_idx161_inb : ∀ (v2578 : IVec S16 32) (k0_hw141 : k0_chk141 v2578), ∀ a x, ((![v2578] : Fin 1 → IVec S16 32) a x).toNat < S80.size a := fun v2578 k0_hw141 => k0_hw141.2

def k0_chk144 (v2620 : IVec S16 32) : Prop :=
  (∀ a x, ((![v2620] : Fin 1 → IVec S16 32) a x).toNat < S27648.size a)
theorem k0_idx163_inb : ∀ (v2620 : IVec S16 32) (k0_hw144 : k0_chk144 v2620), ∀ a x, ((![v2620] : Fin 1 → IVec S16 32) a x).toNat < S27648.size a := fun v2620 k0_hw144 => k0_hw144

def k0_chk143 (v2603 : IVec S16 32) : Prop :=
  (∀ a x, ((![v2603] : Fin 1 → IVec S16 32) a x).toNat < S80.size a) ∧
  (∀ a x, ((![v2603] : Fin 1 → IVec S16 32) a x).toNat < S80.size a)
theorem k0_idx162_inb : ∀ (v2603 : IVec S16 32) (k0_hw143 : k0_chk143 v2603), ∀ a x, ((![v2603] : Fin 1 → IVec S16 32) a x).toNat < S80.size a := fun v2603 k0_hw143 => k0_hw143.1
theorem k0_idx164_inb : ∀ (v2603 : IVec S16 32) (k0_hw143 : k0_chk143 v2603), ∀ a x, ((![v2603] : Fin 1 → IVec S16 32) a x).toNat < S80.size a := fun v2603 k0_hw143 => k0_hw143.2

def k0_chk146 (v2645 : IVec S16 32) : Prop :=
  (∀ a x, ((![v2645] : Fin 1 → IVec S16 32) a x).toNat < S27648.size a)
theorem k0_idx166_inb : ∀ (v2645 : IVec S16 32) (k0_hw146 : k0_chk146 v2645), ∀ a x, ((![v2645] : Fin 1 → IVec S16 32) a x).toNat < S27648.size a := fun v2645 k0_hw146 => k0_hw146

def k0_chk145 (v2628 : IVec S16 32) : Prop :=
  (∀ a x, ((![v2628] : Fin 1 → IVec S16 32) a x).toNat < S80.size a) ∧
  (∀ a x, ((![v2628] : Fin 1 → IVec S16 32) a x).toNat < S80.size a)
theorem k0_idx165_inb : ∀ (v2628 : IVec S16 32) (k0_hw145 : k0_chk145 v2628), ∀ a x, ((![v2628] : Fin 1 → IVec S16 32) a x).toNat < S80.size a := fun v2628 k0_hw145 => k0_hw145.1
theorem k0_idx167_inb : ∀ (v2628 : IVec S16 32) (k0_hw145 : k0_chk145 v2628), ∀ a x, ((![v2628] : Fin 1 → IVec S16 32) a x).toNat < S80.size a := fun v2628 k0_hw145 => k0_hw145.2

def k0_chk148 (v2670 : IVec S16 32) : Prop :=
  (∀ a x, ((![v2670] : Fin 1 → IVec S16 32) a x).toNat < S27648.size a)
theorem k0_idx169_inb : ∀ (v2670 : IVec S16 32) (k0_hw148 : k0_chk148 v2670), ∀ a x, ((![v2670] : Fin 1 → IVec S16 32) a x).toNat < S27648.size a := fun v2670 k0_hw148 => k0_hw148

def k0_chk147 (v2653 : IVec S16 32) : Prop :=
  (∀ a x, ((![v2653] : Fin 1 → IVec S16 32) a x).toNat < S80.size a) ∧
  (∀ a x, ((![v2653] : Fin 1 → IVec S16 32) a x).toNat < S80.size a)
theorem k0_idx168_inb : ∀ (v2653 : IVec S16 32) (k0_hw147 : k0_chk147 v2653), ∀ a x, ((![v2653] : Fin 1 → IVec S16 32) a x).toNat < S80.size a := fun v2653 k0_hw147 => k0_hw147.1
theorem k0_idx170_inb : ∀ (v2653 : IVec S16 32) (k0_hw147 : k0_chk147 v2653), ∀ a x, ((![v2653] : Fin 1 → IVec S16 32) a x).toNat < S80.size a := fun v2653 k0_hw147 => k0_hw147.2

def k0_chk150 (v2695 : IVec S16 32) : Prop :=
  (∀ a x, ((![v2695] : Fin 1 → IVec S16 32) a x).toNat < S27648.size a)
theorem k0_idx172_inb : ∀ (v2695 : IVec S16 32) (k0_hw150 : k0_chk150 v2695), ∀ a x, ((![v2695] : Fin 1 → IVec S16 32) a x).toNat < S27648.size a := fun v2695 k0_hw150 => k0_hw150

def k0_chk149 (v2678 : IVec S16 32) : Prop :=
  (∀ a x, ((![v2678] : Fin 1 → IVec S16 32) a x).toNat < S80.size a) ∧
  (∀ a x, ((![v2678] : Fin 1 → IVec S16 32) a x).toNat < S80.size a)
theorem k0_idx171_inb : ∀ (v2678 : IVec S16 32) (k0_hw149 : k0_chk149 v2678), ∀ a x, ((![v2678] : Fin 1 → IVec S16 32) a x).toNat < S80.size a := fun v2678 k0_hw149 => k0_hw149.1
theorem k0_idx173_inb : ∀ (v2678 : IVec S16 32) (k0_hw149 : k0_chk149 v2678), ∀ a x, ((![v2678] : Fin 1 → IVec S16 32) a x).toNat < S80.size a := fun v2678 k0_hw149 => k0_hw149.2

def k0_chk152 (v2720 : IVec S16 32) : Prop :=
  (∀ a x, ((![v2720] : Fin 1 → IVec S16 32) a x).toNat < S27648.size a)
theorem k0_idx175_inb : ∀ (v2720 : IVec S16 32) (k0_hw152 : k0_chk152 v2720), ∀ a x, ((![v2720] : Fin 1 → IVec S16 32) a x).toNat < S27648.size a := fun v2720 k0_hw152 => k0_hw152

def k0_chk151 (v2703 : IVec S16 32) : Prop :=
  (∀ a x, ((![v2703] : Fin 1 → IVec S16 32) a x).toNat < S80.size a) ∧
  (∀ a x, ((![v2703] : Fin 1 → IVec S16 32) a x).toNat < S80.size a)
theorem k0_idx174_inb : ∀ (v2703 : IVec S16 32) (k0_hw151 : k0_chk151 v2703), ∀ a x, ((![v2703] : Fin 1 → IVec S16 32) a x).toNat < S80.size a := fun v2703 k0_hw151 => k0_hw151.1
theorem k0_idx176_inb : ∀ (v2703 : IVec S16 32) (k0_hw151 : k0_chk151 v2703), ∀ a x, ((![v2703] : Fin 1 → IVec S16 32) a x).toNat < S80.size a := fun v2703 k0_hw151 => k0_hw151.2

def k0_chk154 (v2745 : IVec S16 32) : Prop :=
  (∀ a x, ((![v2745] : Fin 1 → IVec S16 32) a x).toNat < S27648.size a)
theorem k0_idx178_inb : ∀ (v2745 : IVec S16 32) (k0_hw154 : k0_chk154 v2745), ∀ a x, ((![v2745] : Fin 1 → IVec S16 32) a x).toNat < S27648.size a := fun v2745 k0_hw154 => k0_hw154

def k0_chk153 (v2728 : IVec S16 32) : Prop :=
  (∀ a x, ((![v2728] : Fin 1 → IVec S16 32) a x).toNat < S80.size a) ∧
  (∀ a x, ((![v2728] : Fin 1 → IVec S16 32) a x).toNat < S80.size a)
theorem k0_idx177_inb : ∀ (v2728 : IVec S16 32) (k0_hw153 : k0_chk153 v2728), ∀ a x, ((![v2728] : Fin 1 → IVec S16 32) a x).toNat < S80.size a := fun v2728 k0_hw153 => k0_hw153.1
theorem k0_idx179_inb : ∀ (v2728 : IVec S16 32) (k0_hw153 : k0_chk153 v2728), ∀ a x, ((![v2728] : Fin 1 → IVec S16 32) a x).toNat < S80.size a := fun v2728 k0_hw153 => k0_hw153.2

def k0_chk156 (v2771 : IVec S16 32) : Prop :=
  (∀ a x, ((![v2771] : Fin 1 → IVec S16 32) a x).toNat < S27648.size a)
theorem k0_idx181_inb : ∀ (v2771 : IVec S16 32) (k0_hw156 : k0_chk156 v2771), ∀ a x, ((![v2771] : Fin 1 → IVec S16 32) a x).toNat < S27648.size a := fun v2771 k0_hw156 => k0_hw156

def k0_chk155 (v2755 : IVec S16 32) : Prop :=
  (∀ a x, ((![v2755] : Fin 1 → IVec S16 32) a x).toNat < S80.size a) ∧
  (∀ a x, ((![v2755] : Fin 1 → IVec S16 32) a x).toNat < S80.size a)
theorem k0_idx180_inb : ∀ (v2755 : IVec S16 32) (k0_hw155 : k0_chk155 v2755), ∀ a x, ((![v2755] : Fin 1 → IVec S16 32) a x).toNat < S80.size a := fun v2755 k0_hw155 => k0_hw155.1
theorem k0_idx182_inb : ∀ (v2755 : IVec S16 32) (k0_hw155 : k0_chk155 v2755), ∀ a x, ((![v2755] : Fin 1 → IVec S16 32) a x).toNat < S80.size a := fun v2755 k0_hw155 => k0_hw155.2

def k0_chk158 (v2801 : IVec S16 32) : Prop :=
  (∀ a x, ((![v2801] : Fin 1 → IVec S16 32) a x).toNat < S27648.size a)
theorem k0_idx184_inb : ∀ (v2801 : IVec S16 32) (k0_hw158 : k0_chk158 v2801), ∀ a x, ((![v2801] : Fin 1 → IVec S16 32) a x).toNat < S27648.size a := fun v2801 k0_hw158 => k0_hw158

def k0_chk157 (v2784 : IVec S16 32) : Prop :=
  (∀ a x, ((![v2784] : Fin 1 → IVec S16 32) a x).toNat < S80.size a) ∧
  (∀ a x, ((![v2784] : Fin 1 → IVec S16 32) a x).toNat < S80.size a)
theorem k0_idx183_inb : ∀ (v2784 : IVec S16 32) (k0_hw157 : k0_chk157 v2784), ∀ a x, ((![v2784] : Fin 1 → IVec S16 32) a x).toNat < S80.size a := fun v2784 k0_hw157 => k0_hw157.1
theorem k0_idx185_inb : ∀ (v2784 : IVec S16 32) (k0_hw157 : k0_chk157 v2784), ∀ a x, ((![v2784] : Fin 1 → IVec S16 32) a x).toNat < S80.size a := fun v2784 k0_hw157 => k0_hw157.2

def k0_chk160 (v2826 : IVec S16 32) : Prop :=
  (∀ a x, ((![v2826] : Fin 1 → IVec S16 32) a x).toNat < S27648.size a)
theorem k0_idx187_inb : ∀ (v2826 : IVec S16 32) (k0_hw160 : k0_chk160 v2826), ∀ a x, ((![v2826] : Fin 1 → IVec S16 32) a x).toNat < S27648.size a := fun v2826 k0_hw160 => k0_hw160

def k0_chk159 (v2809 : IVec S16 32) : Prop :=
  (∀ a x, ((![v2809] : Fin 1 → IVec S16 32) a x).toNat < S80.size a) ∧
  (∀ a x, ((![v2809] : Fin 1 → IVec S16 32) a x).toNat < S80.size a)
theorem k0_idx186_inb : ∀ (v2809 : IVec S16 32) (k0_hw159 : k0_chk159 v2809), ∀ a x, ((![v2809] : Fin 1 → IVec S16 32) a x).toNat < S80.size a := fun v2809 k0_hw159 => k0_hw159.1
theorem k0_idx188_inb : ∀ (v2809 : IVec S16 32) (k0_hw159 : k0_chk159 v2809), ∀ a x, ((![v2809] : Fin 1 → IVec S16 32) a x).toNat < S80.size a := fun v2809 k0_hw159 => k0_hw159.2

def k0_chk162 (v2851 : IVec S16 32) : Prop :=
  (∀ a x, ((![v2851] : Fin 1 → IVec S16 32) a x).toNat < S27648.size a)
theorem k0_idx190_inb : ∀ (v2851 : IVec S16 32) (k0_hw162 : k0_chk162 v2851), ∀ a x, ((![v2851] : Fin 1 → IVec S16 32) a x).toNat < S27648.size a := fun v2851 k0_hw162 => k0_hw162

def k0_chk161 (v2834 : IVec S16 32) : Prop :=
  (∀ a x, ((![v2834] : Fin 1 → IVec S16 32) a x).toNat < S80.size a) ∧
  (∀ a x, ((![v2834] : Fin 1 → IVec S16 32) a x).toNat < S80.size a)
theorem k0_idx189_inb : ∀ (v2834 : IVec S16 32) (k0_hw161 : k0_chk161 v2834), ∀ a x, ((![v2834] : Fin 1 → IVec S16 32) a x).toNat < S80.size a := fun v2834 k0_hw161 => k0_hw161.1
theorem k0_idx191_inb : ∀ (v2834 : IVec S16 32) (k0_hw161 : k0_chk161 v2834), ∀ a x, ((![v2834] : Fin 1 → IVec S16 32) a x).toNat < S80.size a := fun v2834 k0_hw161 => k0_hw161.2

def k0_chk164 (v2876 : IVec S16 32) : Prop :=
  (∀ a x, ((![v2876] : Fin 1 → IVec S16 32) a x).toNat < S27648.size a)
theorem k0_idx193_inb : ∀ (v2876 : IVec S16 32) (k0_hw164 : k0_chk164 v2876), ∀ a x, ((![v2876] : Fin 1 → IVec S16 32) a x).toNat < S27648.size a := fun v2876 k0_hw164 => k0_hw164

def k0_chk163 (v2859 : IVec S16 32) : Prop :=
  (∀ a x, ((![v2859] : Fin 1 → IVec S16 32) a x).toNat < S80.size a) ∧
  (∀ a x, ((![v2859] : Fin 1 → IVec S16 32) a x).toNat < S80.size a)
theorem k0_idx192_inb : ∀ (v2859 : IVec S16 32) (k0_hw163 : k0_chk163 v2859), ∀ a x, ((![v2859] : Fin 1 → IVec S16 32) a x).toNat < S80.size a := fun v2859 k0_hw163 => k0_hw163.1
theorem k0_idx194_inb : ∀ (v2859 : IVec S16 32) (k0_hw163 : k0_chk163 v2859), ∀ a x, ((![v2859] : Fin 1 → IVec S16 32) a x).toNat < S80.size a := fun v2859 k0_hw163 => k0_hw163.2

def k0_chk166 (v2901 : IVec S16 32) : Prop :=
  (∀ a x, ((![v2901] : Fin 1 → IVec S16 32) a x).toNat < S27648.size a)
theorem k0_idx196_inb : ∀ (v2901 : IVec S16 32) (k0_hw166 : k0_chk166 v2901), ∀ a x, ((![v2901] : Fin 1 → IVec S16 32) a x).toNat < S27648.size a := fun v2901 k0_hw166 => k0_hw166

def k0_chk165 (v2884 : IVec S16 32) : Prop :=
  (∀ a x, ((![v2884] : Fin 1 → IVec S16 32) a x).toNat < S80.size a) ∧
  (∀ a x, ((![v2884] : Fin 1 → IVec S16 32) a x).toNat < S80.size a)
theorem k0_idx195_inb : ∀ (v2884 : IVec S16 32) (k0_hw165 : k0_chk165 v2884), ∀ a x, ((![v2884] : Fin 1 → IVec S16 32) a x).toNat < S80.size a := fun v2884 k0_hw165 => k0_hw165.1
theorem k0_idx197_inb : ∀ (v2884 : IVec S16 32) (k0_hw165 : k0_chk165 v2884), ∀ a x, ((![v2884] : Fin 1 → IVec S16 32) a x).toNat < S80.size a := fun v2884 k0_hw165 => k0_hw165.2

def k0_chk168 (v2926 : IVec S16 32) : Prop :=
  (∀ a x, ((![v2926] : Fin 1 → IVec S16 32) a x).toNat < S27648.size a)
theorem k0_idx199_inb : ∀ (v2926 : IVec S16 32) (k0_hw168 : k0_chk168 v2926), ∀ a x, ((![v2926] : Fin 1 → IVec S16 32) a x).toNat < S27648.size a := fun v2926 k0_hw168 => k0_hw168

def k0_chk167 (v2909 : IVec S16 32) : Prop :=
  (∀ a x, ((![v2909] : Fin 1 → IVec S16 32) a x).toNat < S80.size a) ∧
  (∀ a x, ((![v2909] : Fin 1 → IVec S16 32) a x).toNat < S80.size a)
theorem k0_idx198_inb : ∀ (v2909 : IVec S16 32) (k0_hw167 : k0_chk167 v2909), ∀ a x, ((![v2909] : Fin 1 → IVec S16 32) a x).toNat < S80.size a := fun v2909 k0_hw167 => k0_hw167.1
theorem k0_idx200_inb : ∀ (v2909 : IVec S16 32) (k0_hw167 : k0_chk167 v2909), ∀ a x, ((![v2909] : Fin 1 → IVec S16 32) a x).toNat < S80.size a := fun v2909 k0_hw167 => k0_hw167.2

def k0_chk170 (v2951 : IVec S16 32) : Prop :=
  (∀ a x, ((![v2951] : Fin 1 → IVec S16 32) a x).toNat < S27648.size a)
theorem k0_idx202_inb : ∀ (v2951 : IVec S16 32) (k0_hw170 : k0_chk170 v2951), ∀ a x, ((![v2951] : Fin 1 → IVec S16 32) a x).toNat < S27648.size a := fun v2951 k0_hw170 => k0_hw170

def k0_chk169 (v2934 : IVec S16 32) : Prop :=
  (∀ a x, ((![v2934] : Fin 1 → IVec S16 32) a x).toNat < S80.size a) ∧
  (∀ a x, ((![v2934] : Fin 1 → IVec S16 32) a x).toNat < S80.size a)
theorem k0_idx201_inb : ∀ (v2934 : IVec S16 32) (k0_hw169 : k0_chk169 v2934), ∀ a x, ((![v2934] : Fin 1 → IVec S16 32) a x).toNat < S80.size a := fun v2934 k0_hw169 => k0_hw169.1
theorem k0_idx203_inb : ∀ (v2934 : IVec S16 32) (k0_hw169 : k0_chk169 v2934), ∀ a x, ((![v2934] : Fin 1 → IVec S16 32) a x).toNat < S80.size a := fun v2934 k0_hw169 => k0_hw169.2

def k0_chk172 (v2976 : IVec S16 32) : Prop :=
  (∀ a x, ((![v2976] : Fin 1 → IVec S16 32) a x).toNat < S27648.size a)
theorem k0_idx205_inb : ∀ (v2976 : IVec S16 32) (k0_hw172 : k0_chk172 v2976), ∀ a x, ((![v2976] : Fin 1 → IVec S16 32) a x).toNat < S27648.size a := fun v2976 k0_hw172 => k0_hw172

def k0_chk171 (v2959 : IVec S16 32) : Prop :=
  (∀ a x, ((![v2959] : Fin 1 → IVec S16 32) a x).toNat < S80.size a) ∧
  (∀ a x, ((![v2959] : Fin 1 → IVec S16 32) a x).toNat < S80.size a)
theorem k0_idx204_inb : ∀ (v2959 : IVec S16 32) (k0_hw171 : k0_chk171 v2959), ∀ a x, ((![v2959] : Fin 1 → IVec S16 32) a x).toNat < S80.size a := fun v2959 k0_hw171 => k0_hw171.1
theorem k0_idx206_inb : ∀ (v2959 : IVec S16 32) (k0_hw171 : k0_chk171 v2959), ∀ a x, ((![v2959] : Fin 1 → IVec S16 32) a x).toNat < S80.size a := fun v2959 k0_hw171 => k0_hw171.2

def k0_chk174 (v3001 : IVec S16 32) : Prop :=
  (∀ a x, ((![v3001] : Fin 1 → IVec S16 32) a x).toNat < S27648.size a)
theorem k0_idx208_inb : ∀ (v3001 : IVec S16 32) (k0_hw174 : k0_chk174 v3001), ∀ a x, ((![v3001] : Fin 1 → IVec S16 32) a x).toNat < S27648.size a := fun v3001 k0_hw174 => k0_hw174

def k0_chk173 (v2984 : IVec S16 32) : Prop :=
  (∀ a x, ((![v2984] : Fin 1 → IVec S16 32) a x).toNat < S80.size a) ∧
  (∀ a x, ((![v2984] : Fin 1 → IVec S16 32) a x).toNat < S80.size a)
theorem k0_idx207_inb : ∀ (v2984 : IVec S16 32) (k0_hw173 : k0_chk173 v2984), ∀ a x, ((![v2984] : Fin 1 → IVec S16 32) a x).toNat < S80.size a := fun v2984 k0_hw173 => k0_hw173.1
theorem k0_idx209_inb : ∀ (v2984 : IVec S16 32) (k0_hw173 : k0_chk173 v2984), ∀ a x, ((![v2984] : Fin 1 → IVec S16 32) a x).toNat < S80.size a := fun v2984 k0_hw173 => k0_hw173.2

def k0_chk176 (v3026 : IVec S16 32) : Prop :=
  (∀ a x, ((![v3026] : Fin 1 → IVec S16 32) a x).toNat < S27648.size a)
theorem k0_idx211_inb : ∀ (v3026 : IVec S16 32) (k0_hw176 : k0_chk176 v3026), ∀ a x, ((![v3026] : Fin 1 → IVec S16 32) a x).toNat < S27648.size a := fun v3026 k0_hw176 => k0_hw176

def k0_chk175 (v3009 : IVec S16 32) : Prop :=
  (∀ a x, ((![v3009] : Fin 1 → IVec S16 32) a x).toNat < S80.size a) ∧
  (∀ a x, ((![v3009] : Fin 1 → IVec S16 32) a x).toNat < S80.size a)
theorem k0_idx210_inb : ∀ (v3009 : IVec S16 32) (k0_hw175 : k0_chk175 v3009), ∀ a x, ((![v3009] : Fin 1 → IVec S16 32) a x).toNat < S80.size a := fun v3009 k0_hw175 => k0_hw175.1
theorem k0_idx212_inb : ∀ (v3009 : IVec S16 32) (k0_hw175 : k0_chk175 v3009), ∀ a x, ((![v3009] : Fin 1 → IVec S16 32) a x).toNat < S80.size a := fun v3009 k0_hw175 => k0_hw175.2

def k0_chk178 (v3051 : IVec S16 32) : Prop :=
  (∀ a x, ((![v3051] : Fin 1 → IVec S16 32) a x).toNat < S27648.size a)
theorem k0_idx214_inb : ∀ (v3051 : IVec S16 32) (k0_hw178 : k0_chk178 v3051), ∀ a x, ((![v3051] : Fin 1 → IVec S16 32) a x).toNat < S27648.size a := fun v3051 k0_hw178 => k0_hw178

def k0_chk177 (v3034 : IVec S16 32) : Prop :=
  (∀ a x, ((![v3034] : Fin 1 → IVec S16 32) a x).toNat < S80.size a) ∧
  (∀ a x, ((![v3034] : Fin 1 → IVec S16 32) a x).toNat < S80.size a)
theorem k0_idx213_inb : ∀ (v3034 : IVec S16 32) (k0_hw177 : k0_chk177 v3034), ∀ a x, ((![v3034] : Fin 1 → IVec S16 32) a x).toNat < S80.size a := fun v3034 k0_hw177 => k0_hw177.1
theorem k0_idx215_inb : ∀ (v3034 : IVec S16 32) (k0_hw177 : k0_chk177 v3034), ∀ a x, ((![v3034] : Fin 1 → IVec S16 32) a x).toNat < S80.size a := fun v3034 k0_hw177 => k0_hw177.2

def k0_chk180 (v3076 : IVec S16 32) : Prop :=
  (∀ a x, ((![v3076] : Fin 1 → IVec S16 32) a x).toNat < S27648.size a)
theorem k0_idx217_inb : ∀ (v3076 : IVec S16 32) (k0_hw180 : k0_chk180 v3076), ∀ a x, ((![v3076] : Fin 1 → IVec S16 32) a x).toNat < S27648.size a := fun v3076 k0_hw180 => k0_hw180

def k0_chk179 (v3059 : IVec S16 32) : Prop :=
  (∀ a x, ((![v3059] : Fin 1 → IVec S16 32) a x).toNat < S80.size a) ∧
  (∀ a x, ((![v3059] : Fin 1 → IVec S16 32) a x).toNat < S80.size a)
theorem k0_idx216_inb : ∀ (v3059 : IVec S16 32) (k0_hw179 : k0_chk179 v3059), ∀ a x, ((![v3059] : Fin 1 → IVec S16 32) a x).toNat < S80.size a := fun v3059 k0_hw179 => k0_hw179.1
theorem k0_idx218_inb : ∀ (v3059 : IVec S16 32) (k0_hw179 : k0_chk179 v3059), ∀ a x, ((![v3059] : Fin 1 → IVec S16 32) a x).toNat < S80.size a := fun v3059 k0_hw179 => k0_hw179.2

def k0_chk182 (v3102 : IVec S16 32) : Prop :=
  (∀ a x, ((![v3102] : Fin 1 → IVec S16 32) a x).toNat < S27648.size a)
theorem k0_idx220_inb : ∀ (v3102 : IVec S16 32) (k0_hw182 : k0_chk182 v3102), ∀ a x, ((![v3102] : Fin 1 → IVec S16 32) a x).toNat < S27648.size a := fun v3102 k0_hw182 => k0_hw182

def k0_chk181 (v3086 : IVec S16 32) : Prop :=
  (∀ a x, ((![v3086] : Fin 1 → IVec S16 32) a x).toNat < S80.size a) ∧
  (∀ a x, ((![v3086] : Fin 1 → IVec S16 32) a x).toNat < S80.size a)
theorem k0_idx219_inb : ∀ (v3086 : IVec S16 32) (k0_hw181 : k0_chk181 v3086), ∀ a x, ((![v3086] : Fin 1 → IVec S16 32) a x).toNat < S80.size a := fun v3086 k0_hw181 => k0_hw181.1
theorem k0_idx221_inb : ∀ (v3086 : IVec S16 32) (k0_hw181 : k0_chk181 v3086), ∀ a x, ((![v3086] : Fin 1 → IVec S16 32) a x).toNat < S80.size a := fun v3086 k0_hw181 => k0_hw181.2

def k0_chk184 (v3132 : IVec S16 32) : Prop :=
  (∀ a x, ((![v3132] : Fin 1 → IVec S16 32) a x).toNat < S27648.size a)
theorem k0_idx223_inb : ∀ (v3132 : IVec S16 32) (k0_hw184 : k0_chk184 v3132), ∀ a x, ((![v3132] : Fin 1 → IVec S16 32) a x).toNat < S27648.size a := fun v3132 k0_hw184 => k0_hw184

def k0_chk183 (v3115 : IVec S16 32) : Prop :=
  (∀ a x, ((![v3115] : Fin 1 → IVec S16 32) a x).toNat < S80.size a) ∧
  (∀ a x, ((![v3115] : Fin 1 → IVec S16 32) a x).toNat < S80.size a)
theorem k0_idx222_inb : ∀ (v3115 : IVec S16 32) (k0_hw183 : k0_chk183 v3115), ∀ a x, ((![v3115] : Fin 1 → IVec S16 32) a x).toNat < S80.size a := fun v3115 k0_hw183 => k0_hw183.1
theorem k0_idx224_inb : ∀ (v3115 : IVec S16 32) (k0_hw183 : k0_chk183 v3115), ∀ a x, ((![v3115] : Fin 1 → IVec S16 32) a x).toNat < S80.size a := fun v3115 k0_hw183 => k0_hw183.2

def k0_chk186 (v3157 : IVec S16 32) : Prop :=
  (∀ a x, ((![v3157] : Fin 1 → IVec S16 32) a x).toNat < S27648.size a)
theorem k0_idx226_inb : ∀ (v3157 : IVec S16 32) (k0_hw186 : k0_chk186 v3157), ∀ a x, ((![v3157] : Fin 1 → IVec S16 32) a x).toNat < S27648.size a := fun v3157 k0_hw186 => k0_hw186

def k0_chk185 (v3140 : IVec S16 32) : Prop :=
  (∀ a x, ((![v3140] : Fin 1 → IVec S16 32) a x).toNat < S80.size a) ∧
  (∀ a x, ((![v3140] : Fin 1 → IVec S16 32) a x).toNat < S80.size a)
theorem k0_idx225_inb : ∀ (v3140 : IVec S16 32) (k0_hw185 : k0_chk185 v3140), ∀ a x, ((![v3140] : Fin 1 → IVec S16 32) a x).toNat < S80.size a := fun v3140 k0_hw185 => k0_hw185.1
theorem k0_idx227_inb : ∀ (v3140 : IVec S16 32) (k0_hw185 : k0_chk185 v3140), ∀ a x, ((![v3140] : Fin 1 → IVec S16 32) a x).toNat < S80.size a := fun v3140 k0_hw185 => k0_hw185.2

def k0_chk188 (v3182 : IVec S16 32) : Prop :=
  (∀ a x, ((![v3182] : Fin 1 → IVec S16 32) a x).toNat < S27648.size a)
theorem k0_idx229_inb : ∀ (v3182 : IVec S16 32) (k0_hw188 : k0_chk188 v3182), ∀ a x, ((![v3182] : Fin 1 → IVec S16 32) a x).toNat < S27648.size a := fun v3182 k0_hw188 => k0_hw188

def k0_chk187 (v3165 : IVec S16 32) : Prop :=
  (∀ a x, ((![v3165] : Fin 1 → IVec S16 32) a x).toNat < S80.size a) ∧
  (∀ a x, ((![v3165] : Fin 1 → IVec S16 32) a x).toNat < S80.size a)
theorem k0_idx228_inb : ∀ (v3165 : IVec S16 32) (k0_hw187 : k0_chk187 v3165), ∀ a x, ((![v3165] : Fin 1 → IVec S16 32) a x).toNat < S80.size a := fun v3165 k0_hw187 => k0_hw187.1
theorem k0_idx230_inb : ∀ (v3165 : IVec S16 32) (k0_hw187 : k0_chk187 v3165), ∀ a x, ((![v3165] : Fin 1 → IVec S16 32) a x).toNat < S80.size a := fun v3165 k0_hw187 => k0_hw187.2

def k0_chk190 (v3207 : IVec S16 32) : Prop :=
  (∀ a x, ((![v3207] : Fin 1 → IVec S16 32) a x).toNat < S27648.size a)
theorem k0_idx232_inb : ∀ (v3207 : IVec S16 32) (k0_hw190 : k0_chk190 v3207), ∀ a x, ((![v3207] : Fin 1 → IVec S16 32) a x).toNat < S27648.size a := fun v3207 k0_hw190 => k0_hw190

def k0_chk189 (v3190 : IVec S16 32) : Prop :=
  (∀ a x, ((![v3190] : Fin 1 → IVec S16 32) a x).toNat < S80.size a) ∧
  (∀ a x, ((![v3190] : Fin 1 → IVec S16 32) a x).toNat < S80.size a)
theorem k0_idx231_inb : ∀ (v3190 : IVec S16 32) (k0_hw189 : k0_chk189 v3190), ∀ a x, ((![v3190] : Fin 1 → IVec S16 32) a x).toNat < S80.size a := fun v3190 k0_hw189 => k0_hw189.1
theorem k0_idx233_inb : ∀ (v3190 : IVec S16 32) (k0_hw189 : k0_chk189 v3190), ∀ a x, ((![v3190] : Fin 1 → IVec S16 32) a x).toNat < S80.size a := fun v3190 k0_hw189 => k0_hw189.2

def k0_chk192 (v3232 : IVec S16 32) : Prop :=
  (∀ a x, ((![v3232] : Fin 1 → IVec S16 32) a x).toNat < S27648.size a)
theorem k0_idx235_inb : ∀ (v3232 : IVec S16 32) (k0_hw192 : k0_chk192 v3232), ∀ a x, ((![v3232] : Fin 1 → IVec S16 32) a x).toNat < S27648.size a := fun v3232 k0_hw192 => k0_hw192

def k0_chk191 (v3215 : IVec S16 32) : Prop :=
  (∀ a x, ((![v3215] : Fin 1 → IVec S16 32) a x).toNat < S80.size a) ∧
  (∀ a x, ((![v3215] : Fin 1 → IVec S16 32) a x).toNat < S80.size a)
theorem k0_idx234_inb : ∀ (v3215 : IVec S16 32) (k0_hw191 : k0_chk191 v3215), ∀ a x, ((![v3215] : Fin 1 → IVec S16 32) a x).toNat < S80.size a := fun v3215 k0_hw191 => k0_hw191.1
theorem k0_idx236_inb : ∀ (v3215 : IVec S16 32) (k0_hw191 : k0_chk191 v3215), ∀ a x, ((![v3215] : Fin 1 → IVec S16 32) a x).toNat < S80.size a := fun v3215 k0_hw191 => k0_hw191.2

def k0_chk194 (v3257 : IVec S16 32) : Prop :=
  (∀ a x, ((![v3257] : Fin 1 → IVec S16 32) a x).toNat < S27648.size a)
theorem k0_idx238_inb : ∀ (v3257 : IVec S16 32) (k0_hw194 : k0_chk194 v3257), ∀ a x, ((![v3257] : Fin 1 → IVec S16 32) a x).toNat < S27648.size a := fun v3257 k0_hw194 => k0_hw194

def k0_chk193 (v3240 : IVec S16 32) : Prop :=
  (∀ a x, ((![v3240] : Fin 1 → IVec S16 32) a x).toNat < S80.size a) ∧
  (∀ a x, ((![v3240] : Fin 1 → IVec S16 32) a x).toNat < S80.size a)
theorem k0_idx237_inb : ∀ (v3240 : IVec S16 32) (k0_hw193 : k0_chk193 v3240), ∀ a x, ((![v3240] : Fin 1 → IVec S16 32) a x).toNat < S80.size a := fun v3240 k0_hw193 => k0_hw193.1
theorem k0_idx239_inb : ∀ (v3240 : IVec S16 32) (k0_hw193 : k0_chk193 v3240), ∀ a x, ((![v3240] : Fin 1 → IVec S16 32) a x).toNat < S80.size a := fun v3240 k0_hw193 => k0_hw193.2

def k0_chk196 (v3282 : IVec S16 32) : Prop :=
  (∀ a x, ((![v3282] : Fin 1 → IVec S16 32) a x).toNat < S27648.size a)
theorem k0_idx241_inb : ∀ (v3282 : IVec S16 32) (k0_hw196 : k0_chk196 v3282), ∀ a x, ((![v3282] : Fin 1 → IVec S16 32) a x).toNat < S27648.size a := fun v3282 k0_hw196 => k0_hw196

def k0_chk195 (v3265 : IVec S16 32) : Prop :=
  (∀ a x, ((![v3265] : Fin 1 → IVec S16 32) a x).toNat < S80.size a) ∧
  (∀ a x, ((![v3265] : Fin 1 → IVec S16 32) a x).toNat < S80.size a)
theorem k0_idx240_inb : ∀ (v3265 : IVec S16 32) (k0_hw195 : k0_chk195 v3265), ∀ a x, ((![v3265] : Fin 1 → IVec S16 32) a x).toNat < S80.size a := fun v3265 k0_hw195 => k0_hw195.1
theorem k0_idx242_inb : ∀ (v3265 : IVec S16 32) (k0_hw195 : k0_chk195 v3265), ∀ a x, ((![v3265] : Fin 1 → IVec S16 32) a x).toNat < S80.size a := fun v3265 k0_hw195 => k0_hw195.2

def k0_chk198 (v3307 : IVec S16 32) : Prop :=
  (∀ a x, ((![v3307] : Fin 1 → IVec S16 32) a x).toNat < S27648.size a)
theorem k0_idx244_inb : ∀ (v3307 : IVec S16 32) (k0_hw198 : k0_chk198 v3307), ∀ a x, ((![v3307] : Fin 1 → IVec S16 32) a x).toNat < S27648.size a := fun v3307 k0_hw198 => k0_hw198

def k0_chk197 (v3290 : IVec S16 32) : Prop :=
  (∀ a x, ((![v3290] : Fin 1 → IVec S16 32) a x).toNat < S80.size a) ∧
  (∀ a x, ((![v3290] : Fin 1 → IVec S16 32) a x).toNat < S80.size a)
theorem k0_idx243_inb : ∀ (v3290 : IVec S16 32) (k0_hw197 : k0_chk197 v3290), ∀ a x, ((![v3290] : Fin 1 → IVec S16 32) a x).toNat < S80.size a := fun v3290 k0_hw197 => k0_hw197.1
theorem k0_idx245_inb : ∀ (v3290 : IVec S16 32) (k0_hw197 : k0_chk197 v3290), ∀ a x, ((![v3290] : Fin 1 → IVec S16 32) a x).toNat < S80.size a := fun v3290 k0_hw197 => k0_hw197.2

def k0_chk200 (v3332 : IVec S16 32) : Prop :=
  (∀ a x, ((![v3332] : Fin 1 → IVec S16 32) a x).toNat < S27648.size a)
theorem k0_idx247_inb : ∀ (v3332 : IVec S16 32) (k0_hw200 : k0_chk200 v3332), ∀ a x, ((![v3332] : Fin 1 → IVec S16 32) a x).toNat < S27648.size a := fun v3332 k0_hw200 => k0_hw200

def k0_chk199 (v3315 : IVec S16 32) : Prop :=
  (∀ a x, ((![v3315] : Fin 1 → IVec S16 32) a x).toNat < S80.size a) ∧
  (∀ a x, ((![v3315] : Fin 1 → IVec S16 32) a x).toNat < S80.size a)
theorem k0_idx246_inb : ∀ (v3315 : IVec S16 32) (k0_hw199 : k0_chk199 v3315), ∀ a x, ((![v3315] : Fin 1 → IVec S16 32) a x).toNat < S80.size a := fun v3315 k0_hw199 => k0_hw199.1
theorem k0_idx248_inb : ∀ (v3315 : IVec S16 32) (k0_hw199 : k0_chk199 v3315), ∀ a x, ((![v3315] : Fin 1 → IVec S16 32) a x).toNat < S80.size a := fun v3315 k0_hw199 => k0_hw199.2

def k0_chk202 (v3357 : IVec S16 32) : Prop :=
  (∀ a x, ((![v3357] : Fin 1 → IVec S16 32) a x).toNat < S27648.size a)
theorem k0_idx250_inb : ∀ (v3357 : IVec S16 32) (k0_hw202 : k0_chk202 v3357), ∀ a x, ((![v3357] : Fin 1 → IVec S16 32) a x).toNat < S27648.size a := fun v3357 k0_hw202 => k0_hw202

def k0_chk201 (v3340 : IVec S16 32) : Prop :=
  (∀ a x, ((![v3340] : Fin 1 → IVec S16 32) a x).toNat < S80.size a) ∧
  (∀ a x, ((![v3340] : Fin 1 → IVec S16 32) a x).toNat < S80.size a)
theorem k0_idx249_inb : ∀ (v3340 : IVec S16 32) (k0_hw201 : k0_chk201 v3340), ∀ a x, ((![v3340] : Fin 1 → IVec S16 32) a x).toNat < S80.size a := fun v3340 k0_hw201 => k0_hw201.1
theorem k0_idx251_inb : ∀ (v3340 : IVec S16 32) (k0_hw201 : k0_chk201 v3340), ∀ a x, ((![v3340] : Fin 1 → IVec S16 32) a x).toNat < S80.size a := fun v3340 k0_hw201 => k0_hw201.2

def k0_chk204 (v3382 : IVec S16 32) : Prop :=
  (∀ a x, ((![v3382] : Fin 1 → IVec S16 32) a x).toNat < S27648.size a)
theorem k0_idx253_inb : ∀ (v3382 : IVec S16 32) (k0_hw204 : k0_chk204 v3382), ∀ a x, ((![v3382] : Fin 1 → IVec S16 32) a x).toNat < S27648.size a := fun v3382 k0_hw204 => k0_hw204

def k0_chk203 (v3365 : IVec S16 32) : Prop :=
  (∀ a x, ((![v3365] : Fin 1 → IVec S16 32) a x).toNat < S80.size a) ∧
  (∀ a x, ((![v3365] : Fin 1 → IVec S16 32) a x).toNat < S80.size a)
theorem k0_idx252_inb : ∀ (v3365 : IVec S16 32) (k0_hw203 : k0_chk203 v3365), ∀ a x, ((![v3365] : Fin 1 → IVec S16 32) a x).toNat < S80.size a := fun v3365 k0_hw203 => k0_hw203.1
theorem k0_idx254_inb : ∀ (v3365 : IVec S16 32) (k0_hw203 : k0_chk203 v3365), ∀ a x, ((![v3365] : Fin 1 → IVec S16 32) a x).toNat < S80.size a := fun v3365 k0_hw203 => k0_hw203.2

def k0_chk206 (v3407 : IVec S16 32) : Prop :=
  (∀ a x, ((![v3407] : Fin 1 → IVec S16 32) a x).toNat < S27648.size a)
theorem k0_idx256_inb : ∀ (v3407 : IVec S16 32) (k0_hw206 : k0_chk206 v3407), ∀ a x, ((![v3407] : Fin 1 → IVec S16 32) a x).toNat < S27648.size a := fun v3407 k0_hw206 => k0_hw206

def k0_chk205 (v3390 : IVec S16 32) : Prop :=
  (∀ a x, ((![v3390] : Fin 1 → IVec S16 32) a x).toNat < S80.size a) ∧
  (∀ a x, ((![v3390] : Fin 1 → IVec S16 32) a x).toNat < S80.size a)
theorem k0_idx255_inb : ∀ (v3390 : IVec S16 32) (k0_hw205 : k0_chk205 v3390), ∀ a x, ((![v3390] : Fin 1 → IVec S16 32) a x).toNat < S80.size a := fun v3390 k0_hw205 => k0_hw205.1
theorem k0_idx257_inb : ∀ (v3390 : IVec S16 32) (k0_hw205 : k0_chk205 v3390), ∀ a x, ((![v3390] : Fin 1 → IVec S16 32) a x).toNat < S80.size a := fun v3390 k0_hw205 => k0_hw205.2

def k0_chk208 (v3433 : IVec S16 32) : Prop :=
  (∀ a x, ((![v3433] : Fin 1 → IVec S16 32) a x).toNat < S27648.size a)
theorem k0_idx259_inb : ∀ (v3433 : IVec S16 32) (k0_hw208 : k0_chk208 v3433), ∀ a x, ((![v3433] : Fin 1 → IVec S16 32) a x).toNat < S27648.size a := fun v3433 k0_hw208 => k0_hw208

def k0_chk207 (v3417 : IVec S16 32) : Prop :=
  (∀ a x, ((![v3417] : Fin 1 → IVec S16 32) a x).toNat < S80.size a) ∧
  (∀ a x, ((![v3417] : Fin 1 → IVec S16 32) a x).toNat < S80.size a)
theorem k0_idx258_inb : ∀ (v3417 : IVec S16 32) (k0_hw207 : k0_chk207 v3417), ∀ a x, ((![v3417] : Fin 1 → IVec S16 32) a x).toNat < S80.size a := fun v3417 k0_hw207 => k0_hw207.1
theorem k0_idx260_inb : ∀ (v3417 : IVec S16 32) (k0_hw207 : k0_chk207 v3417), ∀ a x, ((![v3417] : Fin 1 → IVec S16 32) a x).toNat < S80.size a := fun v3417 k0_hw207 => k0_hw207.2

def k0_chk210 (v3463 : IVec S16 32) : Prop :=
  (∀ a x, ((![v3463] : Fin 1 → IVec S16 32) a x).toNat < S27648.size a)
theorem k0_idx262_inb : ∀ (v3463 : IVec S16 32) (k0_hw210 : k0_chk210 v3463), ∀ a x, ((![v3463] : Fin 1 → IVec S16 32) a x).toNat < S27648.size a := fun v3463 k0_hw210 => k0_hw210

def k0_chk209 (v3446 : IVec S16 32) : Prop :=
  (∀ a x, ((![v3446] : Fin 1 → IVec S16 32) a x).toNat < S80.size a) ∧
  (∀ a x, ((![v3446] : Fin 1 → IVec S16 32) a x).toNat < S80.size a)
theorem k0_idx261_inb : ∀ (v3446 : IVec S16 32) (k0_hw209 : k0_chk209 v3446), ∀ a x, ((![v3446] : Fin 1 → IVec S16 32) a x).toNat < S80.size a := fun v3446 k0_hw209 => k0_hw209.1
theorem k0_idx263_inb : ∀ (v3446 : IVec S16 32) (k0_hw209 : k0_chk209 v3446), ∀ a x, ((![v3446] : Fin 1 → IVec S16 32) a x).toNat < S80.size a := fun v3446 k0_hw209 => k0_hw209.2

def k0_chk212 (v3488 : IVec S16 32) : Prop :=
  (∀ a x, ((![v3488] : Fin 1 → IVec S16 32) a x).toNat < S27648.size a)
theorem k0_idx265_inb : ∀ (v3488 : IVec S16 32) (k0_hw212 : k0_chk212 v3488), ∀ a x, ((![v3488] : Fin 1 → IVec S16 32) a x).toNat < S27648.size a := fun v3488 k0_hw212 => k0_hw212

def k0_chk211 (v3471 : IVec S16 32) : Prop :=
  (∀ a x, ((![v3471] : Fin 1 → IVec S16 32) a x).toNat < S80.size a) ∧
  (∀ a x, ((![v3471] : Fin 1 → IVec S16 32) a x).toNat < S80.size a)
theorem k0_idx264_inb : ∀ (v3471 : IVec S16 32) (k0_hw211 : k0_chk211 v3471), ∀ a x, ((![v3471] : Fin 1 → IVec S16 32) a x).toNat < S80.size a := fun v3471 k0_hw211 => k0_hw211.1
theorem k0_idx266_inb : ∀ (v3471 : IVec S16 32) (k0_hw211 : k0_chk211 v3471), ∀ a x, ((![v3471] : Fin 1 → IVec S16 32) a x).toNat < S80.size a := fun v3471 k0_hw211 => k0_hw211.2

def k0_chk214 (v3513 : IVec S16 32) : Prop :=
  (∀ a x, ((![v3513] : Fin 1 → IVec S16 32) a x).toNat < S27648.size a)
theorem k0_idx268_inb : ∀ (v3513 : IVec S16 32) (k0_hw214 : k0_chk214 v3513), ∀ a x, ((![v3513] : Fin 1 → IVec S16 32) a x).toNat < S27648.size a := fun v3513 k0_hw214 => k0_hw214

def k0_chk213 (v3496 : IVec S16 32) : Prop :=
  (∀ a x, ((![v3496] : Fin 1 → IVec S16 32) a x).toNat < S80.size a) ∧
  (∀ a x, ((![v3496] : Fin 1 → IVec S16 32) a x).toNat < S80.size a)
theorem k0_idx267_inb : ∀ (v3496 : IVec S16 32) (k0_hw213 : k0_chk213 v3496), ∀ a x, ((![v3496] : Fin 1 → IVec S16 32) a x).toNat < S80.size a := fun v3496 k0_hw213 => k0_hw213.1
theorem k0_idx269_inb : ∀ (v3496 : IVec S16 32) (k0_hw213 : k0_chk213 v3496), ∀ a x, ((![v3496] : Fin 1 → IVec S16 32) a x).toNat < S80.size a := fun v3496 k0_hw213 => k0_hw213.2

def k0_chk216 (v3538 : IVec S16 32) : Prop :=
  (∀ a x, ((![v3538] : Fin 1 → IVec S16 32) a x).toNat < S27648.size a)
theorem k0_idx271_inb : ∀ (v3538 : IVec S16 32) (k0_hw216 : k0_chk216 v3538), ∀ a x, ((![v3538] : Fin 1 → IVec S16 32) a x).toNat < S27648.size a := fun v3538 k0_hw216 => k0_hw216

def k0_chk215 (v3521 : IVec S16 32) : Prop :=
  (∀ a x, ((![v3521] : Fin 1 → IVec S16 32) a x).toNat < S80.size a) ∧
  (∀ a x, ((![v3521] : Fin 1 → IVec S16 32) a x).toNat < S80.size a)
theorem k0_idx270_inb : ∀ (v3521 : IVec S16 32) (k0_hw215 : k0_chk215 v3521), ∀ a x, ((![v3521] : Fin 1 → IVec S16 32) a x).toNat < S80.size a := fun v3521 k0_hw215 => k0_hw215.1
theorem k0_idx272_inb : ∀ (v3521 : IVec S16 32) (k0_hw215 : k0_chk215 v3521), ∀ a x, ((![v3521] : Fin 1 → IVec S16 32) a x).toNat < S80.size a := fun v3521 k0_hw215 => k0_hw215.2

def k0_chk218 (v3563 : IVec S16 32) : Prop :=
  (∀ a x, ((![v3563] : Fin 1 → IVec S16 32) a x).toNat < S27648.size a)
theorem k0_idx274_inb : ∀ (v3563 : IVec S16 32) (k0_hw218 : k0_chk218 v3563), ∀ a x, ((![v3563] : Fin 1 → IVec S16 32) a x).toNat < S27648.size a := fun v3563 k0_hw218 => k0_hw218

def k0_chk217 (v3546 : IVec S16 32) : Prop :=
  (∀ a x, ((![v3546] : Fin 1 → IVec S16 32) a x).toNat < S80.size a) ∧
  (∀ a x, ((![v3546] : Fin 1 → IVec S16 32) a x).toNat < S80.size a)
theorem k0_idx273_inb : ∀ (v3546 : IVec S16 32) (k0_hw217 : k0_chk217 v3546), ∀ a x, ((![v3546] : Fin 1 → IVec S16 32) a x).toNat < S80.size a := fun v3546 k0_hw217 => k0_hw217.1
theorem k0_idx275_inb : ∀ (v3546 : IVec S16 32) (k0_hw217 : k0_chk217 v3546), ∀ a x, ((![v3546] : Fin 1 → IVec S16 32) a x).toNat < S80.size a := fun v3546 k0_hw217 => k0_hw217.2

def k0_chk220 (v3588 : IVec S16 32) : Prop :=
  (∀ a x, ((![v3588] : Fin 1 → IVec S16 32) a x).toNat < S27648.size a)
theorem k0_idx277_inb : ∀ (v3588 : IVec S16 32) (k0_hw220 : k0_chk220 v3588), ∀ a x, ((![v3588] : Fin 1 → IVec S16 32) a x).toNat < S27648.size a := fun v3588 k0_hw220 => k0_hw220

def k0_chk219 (v3571 : IVec S16 32) : Prop :=
  (∀ a x, ((![v3571] : Fin 1 → IVec S16 32) a x).toNat < S80.size a) ∧
  (∀ a x, ((![v3571] : Fin 1 → IVec S16 32) a x).toNat < S80.size a)
theorem k0_idx276_inb : ∀ (v3571 : IVec S16 32) (k0_hw219 : k0_chk219 v3571), ∀ a x, ((![v3571] : Fin 1 → IVec S16 32) a x).toNat < S80.size a := fun v3571 k0_hw219 => k0_hw219.1
theorem k0_idx278_inb : ∀ (v3571 : IVec S16 32) (k0_hw219 : k0_chk219 v3571), ∀ a x, ((![v3571] : Fin 1 → IVec S16 32) a x).toNat < S80.size a := fun v3571 k0_hw219 => k0_hw219.2

def k0_chk222 (v3613 : IVec S16 32) : Prop :=
  (∀ a x, ((![v3613] : Fin 1 → IVec S16 32) a x).toNat < S27648.size a)
theorem k0_idx280_inb : ∀ (v3613 : IVec S16 32) (k0_hw222 : k0_chk222 v3613), ∀ a x, ((![v3613] : Fin 1 → IVec S16 32) a x).toNat < S27648.size a := fun v3613 k0_hw222 => k0_hw222

def k0_chk221 (v3596 : IVec S16 32) : Prop :=
  (∀ a x, ((![v3596] : Fin 1 → IVec S16 32) a x).toNat < S80.size a) ∧
  (∀ a x, ((![v3596] : Fin 1 → IVec S16 32) a x).toNat < S80.size a)
theorem k0_idx279_inb : ∀ (v3596 : IVec S16 32) (k0_hw221 : k0_chk221 v3596), ∀ a x, ((![v3596] : Fin 1 → IVec S16 32) a x).toNat < S80.size a := fun v3596 k0_hw221 => k0_hw221.1
theorem k0_idx281_inb : ∀ (v3596 : IVec S16 32) (k0_hw221 : k0_chk221 v3596), ∀ a x, ((![v3596] : Fin 1 → IVec S16 32) a x).toNat < S80.size a := fun v3596 k0_hw221 => k0_hw221.2

def k0_chk224 (v3638 : IVec S16 32) : Prop :=
  (∀ a x, ((![v3638] : Fin 1 → IVec S16 32) a x).toNat < S27648.size a)
theorem k0_idx283_inb : ∀ (v3638 : IVec S16 32) (k0_hw224 : k0_chk224 v3638), ∀ a x, ((![v3638] : Fin 1 → IVec S16 32) a x).toNat < S27648.size a := fun v3638 k0_hw224 => k0_hw224

def k0_chk223 (v3621 : IVec S16 32) : Prop :=
  (∀ a x, ((![v3621] : Fin 1 → IVec S16 32) a x).toNat < S80.size a) ∧
  (∀ a x, ((![v3621] : Fin 1 → IVec S16 32) a x).toNat < S80.size a)
theorem k0_idx282_inb : ∀ (v3621 : IVec S16 32) (k0_hw223 : k0_chk223 v3621), ∀ a x, ((![v3621] : Fin 1 → IVec S16 32) a x).toNat < S80.size a := fun v3621 k0_hw223 => k0_hw223.1
theorem k0_idx284_inb : ∀ (v3621 : IVec S16 32) (k0_hw223 : k0_chk223 v3621), ∀ a x, ((![v3621] : Fin 1 → IVec S16 32) a x).toNat < S80.size a := fun v3621 k0_hw223 => k0_hw223.2

def k0_chk226 (v3663 : IVec S16 32) : Prop :=
  (∀ a x, ((![v3663] : Fin 1 → IVec S16 32) a x).toNat < S27648.size a)
theorem k0_idx286_inb : ∀ (v3663 : IVec S16 32) (k0_hw226 : k0_chk226 v3663), ∀ a x, ((![v3663] : Fin 1 → IVec S16 32) a x).toNat < S27648.size a := fun v3663 k0_hw226 => k0_hw226

def k0_chk225 (v3646 : IVec S16 32) : Prop :=
  (∀ a x, ((![v3646] : Fin 1 → IVec S16 32) a x).toNat < S80.size a) ∧
  (∀ a x, ((![v3646] : Fin 1 → IVec S16 32) a x).toNat < S80.size a)
theorem k0_idx285_inb : ∀ (v3646 : IVec S16 32) (k0_hw225 : k0_chk225 v3646), ∀ a x, ((![v3646] : Fin 1 → IVec S16 32) a x).toNat < S80.size a := fun v3646 k0_hw225 => k0_hw225.1
theorem k0_idx287_inb : ∀ (v3646 : IVec S16 32) (k0_hw225 : k0_chk225 v3646), ∀ a x, ((![v3646] : Fin 1 → IVec S16 32) a x).toNat < S80.size a := fun v3646 k0_hw225 => k0_hw225.2

def k0_chk228 (v3688 : IVec S16 32) : Prop :=
  (∀ a x, ((![v3688] : Fin 1 → IVec S16 32) a x).toNat < S27648.size a)
theorem k0_idx289_inb : ∀ (v3688 : IVec S16 32) (k0_hw228 : k0_chk228 v3688), ∀ a x, ((![v3688] : Fin 1 → IVec S16 32) a x).toNat < S27648.size a := fun v3688 k0_hw228 => k0_hw228

def k0_chk227 (v3671 : IVec S16 32) : Prop :=
  (∀ a x, ((![v3671] : Fin 1 → IVec S16 32) a x).toNat < S80.size a) ∧
  (∀ a x, ((![v3671] : Fin 1 → IVec S16 32) a x).toNat < S80.size a)
theorem k0_idx288_inb : ∀ (v3671 : IVec S16 32) (k0_hw227 : k0_chk227 v3671), ∀ a x, ((![v3671] : Fin 1 → IVec S16 32) a x).toNat < S80.size a := fun v3671 k0_hw227 => k0_hw227.1
theorem k0_idx290_inb : ∀ (v3671 : IVec S16 32) (k0_hw227 : k0_chk227 v3671), ∀ a x, ((![v3671] : Fin 1 → IVec S16 32) a x).toNat < S80.size a := fun v3671 k0_hw227 => k0_hw227.2

def k0_chk230 (v3713 : IVec S16 32) : Prop :=
  (∀ a x, ((![v3713] : Fin 1 → IVec S16 32) a x).toNat < S27648.size a)
theorem k0_idx292_inb : ∀ (v3713 : IVec S16 32) (k0_hw230 : k0_chk230 v3713), ∀ a x, ((![v3713] : Fin 1 → IVec S16 32) a x).toNat < S27648.size a := fun v3713 k0_hw230 => k0_hw230

def k0_chk229 (v3696 : IVec S16 32) : Prop :=
  (∀ a x, ((![v3696] : Fin 1 → IVec S16 32) a x).toNat < S80.size a) ∧
  (∀ a x, ((![v3696] : Fin 1 → IVec S16 32) a x).toNat < S80.size a)
theorem k0_idx291_inb : ∀ (v3696 : IVec S16 32) (k0_hw229 : k0_chk229 v3696), ∀ a x, ((![v3696] : Fin 1 → IVec S16 32) a x).toNat < S80.size a := fun v3696 k0_hw229 => k0_hw229.1
theorem k0_idx293_inb : ∀ (v3696 : IVec S16 32) (k0_hw229 : k0_chk229 v3696), ∀ a x, ((![v3696] : Fin 1 → IVec S16 32) a x).toNat < S80.size a := fun v3696 k0_hw229 => k0_hw229.2

def k0_chk232 (v3738 : IVec S16 32) : Prop :=
  (∀ a x, ((![v3738] : Fin 1 → IVec S16 32) a x).toNat < S27648.size a)
theorem k0_idx295_inb : ∀ (v3738 : IVec S16 32) (k0_hw232 : k0_chk232 v3738), ∀ a x, ((![v3738] : Fin 1 → IVec S16 32) a x).toNat < S27648.size a := fun v3738 k0_hw232 => k0_hw232

def k0_chk231 (v3721 : IVec S16 32) : Prop :=
  (∀ a x, ((![v3721] : Fin 1 → IVec S16 32) a x).toNat < S80.size a) ∧
  (∀ a x, ((![v3721] : Fin 1 → IVec S16 32) a x).toNat < S80.size a)
theorem k0_idx294_inb : ∀ (v3721 : IVec S16 32) (k0_hw231 : k0_chk231 v3721), ∀ a x, ((![v3721] : Fin 1 → IVec S16 32) a x).toNat < S80.size a := fun v3721 k0_hw231 => k0_hw231.1
theorem k0_idx296_inb : ∀ (v3721 : IVec S16 32) (k0_hw231 : k0_chk231 v3721), ∀ a x, ((![v3721] : Fin 1 → IVec S16 32) a x).toNat < S80.size a := fun v3721 k0_hw231 => k0_hw231.2

def k0_chk234 (v3764 : IVec S16 32) : Prop :=
  (∀ a x, ((![v3764] : Fin 1 → IVec S16 32) a x).toNat < S27648.size a)
theorem k0_idx298_inb : ∀ (v3764 : IVec S16 32) (k0_hw234 : k0_chk234 v3764), ∀ a x, ((![v3764] : Fin 1 → IVec S16 32) a x).toNat < S27648.size a := fun v3764 k0_hw234 => k0_hw234

def k0_chk233 (v3748 : IVec S16 32) : Prop :=
  (∀ a x, ((![v3748] : Fin 1 → IVec S16 32) a x).toNat < S80.size a) ∧
  (∀ a x, ((![v3748] : Fin 1 → IVec S16 32) a x).toNat < S80.size a)
theorem k0_idx297_inb : ∀ (v3748 : IVec S16 32) (k0_hw233 : k0_chk233 v3748), ∀ a x, ((![v3748] : Fin 1 → IVec S16 32) a x).toNat < S80.size a := fun v3748 k0_hw233 => k0_hw233.1
theorem k0_idx299_inb : ∀ (v3748 : IVec S16 32) (k0_hw233 : k0_chk233 v3748), ∀ a x, ((![v3748] : Fin 1 → IVec S16 32) a x).toNat < S80.size a := fun v3748 k0_hw233 => k0_hw233.2

def k0_chk236 (v3794 : IVec S16 32) : Prop :=
  (∀ a x, ((![v3794] : Fin 1 → IVec S16 32) a x).toNat < S27648.size a)
theorem k0_idx301_inb : ∀ (v3794 : IVec S16 32) (k0_hw236 : k0_chk236 v3794), ∀ a x, ((![v3794] : Fin 1 → IVec S16 32) a x).toNat < S27648.size a := fun v3794 k0_hw236 => k0_hw236

def k0_chk235 (v3777 : IVec S16 32) : Prop :=
  (∀ a x, ((![v3777] : Fin 1 → IVec S16 32) a x).toNat < S80.size a) ∧
  (∀ a x, ((![v3777] : Fin 1 → IVec S16 32) a x).toNat < S80.size a)
theorem k0_idx300_inb : ∀ (v3777 : IVec S16 32) (k0_hw235 : k0_chk235 v3777), ∀ a x, ((![v3777] : Fin 1 → IVec S16 32) a x).toNat < S80.size a := fun v3777 k0_hw235 => k0_hw235.1
theorem k0_idx302_inb : ∀ (v3777 : IVec S16 32) (k0_hw235 : k0_chk235 v3777), ∀ a x, ((![v3777] : Fin 1 → IVec S16 32) a x).toNat < S80.size a := fun v3777 k0_hw235 => k0_hw235.2

def k0_chk238 (v3819 : IVec S16 32) : Prop :=
  (∀ a x, ((![v3819] : Fin 1 → IVec S16 32) a x).toNat < S27648.size a)
theorem k0_idx304_inb : ∀ (v3819 : IVec S16 32) (k0_hw238 : k0_chk238 v3819), ∀ a x, ((![v3819] : Fin 1 → IVec S16 32) a x).toNat < S27648.size a := fun v3819 k0_hw238 => k0_hw238

def k0_chk237 (v3802 : IVec S16 32) : Prop :=
  (∀ a x, ((![v3802] : Fin 1 → IVec S16 32) a x).toNat < S80.size a) ∧
  (∀ a x, ((![v3802] : Fin 1 → IVec S16 32) a x).toNat < S80.size a)
theorem k0_idx303_inb : ∀ (v3802 : IVec S16 32) (k0_hw237 : k0_chk237 v3802), ∀ a x, ((![v3802] : Fin 1 → IVec S16 32) a x).toNat < S80.size a := fun v3802 k0_hw237 => k0_hw237.1
theorem k0_idx305_inb : ∀ (v3802 : IVec S16 32) (k0_hw237 : k0_chk237 v3802), ∀ a x, ((![v3802] : Fin 1 → IVec S16 32) a x).toNat < S80.size a := fun v3802 k0_hw237 => k0_hw237.2

def k0_chk240 (v3844 : IVec S16 32) : Prop :=
  (∀ a x, ((![v3844] : Fin 1 → IVec S16 32) a x).toNat < S27648.size a)
theorem k0_idx307_inb : ∀ (v3844 : IVec S16 32) (k0_hw240 : k0_chk240 v3844), ∀ a x, ((![v3844] : Fin 1 → IVec S16 32) a x).toNat < S27648.size a := fun v3844 k0_hw240 => k0_hw240

def k0_chk239 (v3827 : IVec S16 32) : Prop :=
  (∀ a x, ((![v3827] : Fin 1 → IVec S16 32) a x).toNat < S80.size a) ∧
  (∀ a x, ((![v3827] : Fin 1 → IVec S16 32) a x).toNat < S80.size a)
theorem k0_idx306_inb : ∀ (v3827 : IVec S16 32) (k0_hw239 : k0_chk239 v3827), ∀ a x, ((![v3827] : Fin 1 → IVec S16 32) a x).toNat < S80.size a := fun v3827 k0_hw239 => k0_hw239.1
theorem k0_idx308_inb : ∀ (v3827 : IVec S16 32) (k0_hw239 : k0_chk239 v3827), ∀ a x, ((![v3827] : Fin 1 → IVec S16 32) a x).toNat < S80.size a := fun v3827 k0_hw239 => k0_hw239.2

def k0_chk242 (v3869 : IVec S16 32) : Prop :=
  (∀ a x, ((![v3869] : Fin 1 → IVec S16 32) a x).toNat < S27648.size a)
theorem k0_idx310_inb : ∀ (v3869 : IVec S16 32) (k0_hw242 : k0_chk242 v3869), ∀ a x, ((![v3869] : Fin 1 → IVec S16 32) a x).toNat < S27648.size a := fun v3869 k0_hw242 => k0_hw242

def k0_chk241 (v3852 : IVec S16 32) : Prop :=
  (∀ a x, ((![v3852] : Fin 1 → IVec S16 32) a x).toNat < S80.size a) ∧
  (∀ a x, ((![v3852] : Fin 1 → IVec S16 32) a x).toNat < S80.size a)
theorem k0_idx309_inb : ∀ (v3852 : IVec S16 32) (k0_hw241 : k0_chk241 v3852), ∀ a x, ((![v3852] : Fin 1 → IVec S16 32) a x).toNat < S80.size a := fun v3852 k0_hw241 => k0_hw241.1
theorem k0_idx311_inb : ∀ (v3852 : IVec S16 32) (k0_hw241 : k0_chk241 v3852), ∀ a x, ((![v3852] : Fin 1 → IVec S16 32) a x).toNat < S80.size a := fun v3852 k0_hw241 => k0_hw241.2

def k0_chk244 (v3894 : IVec S16 32) : Prop :=
  (∀ a x, ((![v3894] : Fin 1 → IVec S16 32) a x).toNat < S27648.size a)
theorem k0_idx313_inb : ∀ (v3894 : IVec S16 32) (k0_hw244 : k0_chk244 v3894), ∀ a x, ((![v3894] : Fin 1 → IVec S16 32) a x).toNat < S27648.size a := fun v3894 k0_hw244 => k0_hw244

def k0_chk243 (v3877 : IVec S16 32) : Prop :=
  (∀ a x, ((![v3877] : Fin 1 → IVec S16 32) a x).toNat < S80.size a) ∧
  (∀ a x, ((![v3877] : Fin 1 → IVec S16 32) a x).toNat < S80.size a)
theorem k0_idx312_inb : ∀ (v3877 : IVec S16 32) (k0_hw243 : k0_chk243 v3877), ∀ a x, ((![v3877] : Fin 1 → IVec S16 32) a x).toNat < S80.size a := fun v3877 k0_hw243 => k0_hw243.1
theorem k0_idx314_inb : ∀ (v3877 : IVec S16 32) (k0_hw243 : k0_chk243 v3877), ∀ a x, ((![v3877] : Fin 1 → IVec S16 32) a x).toNat < S80.size a := fun v3877 k0_hw243 => k0_hw243.2

def k0_chk246 (v3919 : IVec S16 32) : Prop :=
  (∀ a x, ((![v3919] : Fin 1 → IVec S16 32) a x).toNat < S27648.size a)
theorem k0_idx316_inb : ∀ (v3919 : IVec S16 32) (k0_hw246 : k0_chk246 v3919), ∀ a x, ((![v3919] : Fin 1 → IVec S16 32) a x).toNat < S27648.size a := fun v3919 k0_hw246 => k0_hw246

def k0_chk245 (v3902 : IVec S16 32) : Prop :=
  (∀ a x, ((![v3902] : Fin 1 → IVec S16 32) a x).toNat < S80.size a) ∧
  (∀ a x, ((![v3902] : Fin 1 → IVec S16 32) a x).toNat < S80.size a)
theorem k0_idx315_inb : ∀ (v3902 : IVec S16 32) (k0_hw245 : k0_chk245 v3902), ∀ a x, ((![v3902] : Fin 1 → IVec S16 32) a x).toNat < S80.size a := fun v3902 k0_hw245 => k0_hw245.1
theorem k0_idx317_inb : ∀ (v3902 : IVec S16 32) (k0_hw245 : k0_chk245 v3902), ∀ a x, ((![v3902] : Fin 1 → IVec S16 32) a x).toNat < S80.size a := fun v3902 k0_hw245 => k0_hw245.2

def k0_chk248 (v3944 : IVec S16 32) : Prop :=
  (∀ a x, ((![v3944] : Fin 1 → IVec S16 32) a x).toNat < S27648.size a)
theorem k0_idx319_inb : ∀ (v3944 : IVec S16 32) (k0_hw248 : k0_chk248 v3944), ∀ a x, ((![v3944] : Fin 1 → IVec S16 32) a x).toNat < S27648.size a := fun v3944 k0_hw248 => k0_hw248

def k0_chk247 (v3927 : IVec S16 32) : Prop :=
  (∀ a x, ((![v3927] : Fin 1 → IVec S16 32) a x).toNat < S80.size a) ∧
  (∀ a x, ((![v3927] : Fin 1 → IVec S16 32) a x).toNat < S80.size a)
theorem k0_idx318_inb : ∀ (v3927 : IVec S16 32) (k0_hw247 : k0_chk247 v3927), ∀ a x, ((![v3927] : Fin 1 → IVec S16 32) a x).toNat < S80.size a := fun v3927 k0_hw247 => k0_hw247.1
theorem k0_idx320_inb : ∀ (v3927 : IVec S16 32) (k0_hw247 : k0_chk247 v3927), ∀ a x, ((![v3927] : Fin 1 → IVec S16 32) a x).toNat < S80.size a := fun v3927 k0_hw247 => k0_hw247.2

def k0_chk250 (v3969 : IVec S16 32) : Prop :=
  (∀ a x, ((![v3969] : Fin 1 → IVec S16 32) a x).toNat < S27648.size a)
theorem k0_idx322_inb : ∀ (v3969 : IVec S16 32) (k0_hw250 : k0_chk250 v3969), ∀ a x, ((![v3969] : Fin 1 → IVec S16 32) a x).toNat < S27648.size a := fun v3969 k0_hw250 => k0_hw250

def k0_chk249 (v3952 : IVec S16 32) : Prop :=
  (∀ a x, ((![v3952] : Fin 1 → IVec S16 32) a x).toNat < S80.size a) ∧
  (∀ a x, ((![v3952] : Fin 1 → IVec S16 32) a x).toNat < S80.size a)
theorem k0_idx321_inb : ∀ (v3952 : IVec S16 32) (k0_hw249 : k0_chk249 v3952), ∀ a x, ((![v3952] : Fin 1 → IVec S16 32) a x).toNat < S80.size a := fun v3952 k0_hw249 => k0_hw249.1
theorem k0_idx323_inb : ∀ (v3952 : IVec S16 32) (k0_hw249 : k0_chk249 v3952), ∀ a x, ((![v3952] : Fin 1 → IVec S16 32) a x).toNat < S80.size a := fun v3952 k0_hw249 => k0_hw249.2

def k0_chk252 (v3994 : IVec S16 32) : Prop :=
  (∀ a x, ((![v3994] : Fin 1 → IVec S16 32) a x).toNat < S27648.size a)
theorem k0_idx325_inb : ∀ (v3994 : IVec S16 32) (k0_hw252 : k0_chk252 v3994), ∀ a x, ((![v3994] : Fin 1 → IVec S16 32) a x).toNat < S27648.size a := fun v3994 k0_hw252 => k0_hw252

def k0_chk251 (v3977 : IVec S16 32) : Prop :=
  (∀ a x, ((![v3977] : Fin 1 → IVec S16 32) a x).toNat < S80.size a) ∧
  (∀ a x, ((![v3977] : Fin 1 → IVec S16 32) a x).toNat < S80.size a)
theorem k0_idx324_inb : ∀ (v3977 : IVec S16 32) (k0_hw251 : k0_chk251 v3977), ∀ a x, ((![v3977] : Fin 1 → IVec S16 32) a x).toNat < S80.size a := fun v3977 k0_hw251 => k0_hw251.1
theorem k0_idx326_inb : ∀ (v3977 : IVec S16 32) (k0_hw251 : k0_chk251 v3977), ∀ a x, ((![v3977] : Fin 1 → IVec S16 32) a x).toNat < S80.size a := fun v3977 k0_hw251 => k0_hw251.2

def k0_chk254 (v4019 : IVec S16 32) : Prop :=
  (∀ a x, ((![v4019] : Fin 1 → IVec S16 32) a x).toNat < S27648.size a)
theorem k0_idx328_inb : ∀ (v4019 : IVec S16 32) (k0_hw254 : k0_chk254 v4019), ∀ a x, ((![v4019] : Fin 1 → IVec S16 32) a x).toNat < S27648.size a := fun v4019 k0_hw254 => k0_hw254

def k0_chk253 (v4002 : IVec S16 32) : Prop :=
  (∀ a x, ((![v4002] : Fin 1 → IVec S16 32) a x).toNat < S80.size a) ∧
  (∀ a x, ((![v4002] : Fin 1 → IVec S16 32) a x).toNat < S80.size a)
theorem k0_idx327_inb : ∀ (v4002 : IVec S16 32) (k0_hw253 : k0_chk253 v4002), ∀ a x, ((![v4002] : Fin 1 → IVec S16 32) a x).toNat < S80.size a := fun v4002 k0_hw253 => k0_hw253.1
theorem k0_idx329_inb : ∀ (v4002 : IVec S16 32) (k0_hw253 : k0_chk253 v4002), ∀ a x, ((![v4002] : Fin 1 → IVec S16 32) a x).toNat < S80.size a := fun v4002 k0_hw253 => k0_hw253.2

def k0_chk256 (v4044 : IVec S16 32) : Prop :=
  (∀ a x, ((![v4044] : Fin 1 → IVec S16 32) a x).toNat < S27648.size a)
theorem k0_idx331_inb : ∀ (v4044 : IVec S16 32) (k0_hw256 : k0_chk256 v4044), ∀ a x, ((![v4044] : Fin 1 → IVec S16 32) a x).toNat < S27648.size a := fun v4044 k0_hw256 => k0_hw256

def k0_chk255 (v4027 : IVec S16 32) : Prop :=
  (∀ a x, ((![v4027] : Fin 1 → IVec S16 32) a x).toNat < S80.size a) ∧
  (∀ a x, ((![v4027] : Fin 1 → IVec S16 32) a x).toNat < S80.size a)
theorem k0_idx330_inb : ∀ (v4027 : IVec S16 32) (k0_hw255 : k0_chk255 v4027), ∀ a x, ((![v4027] : Fin 1 → IVec S16 32) a x).toNat < S80.size a := fun v4027 k0_hw255 => k0_hw255.1
theorem k0_idx332_inb : ∀ (v4027 : IVec S16 32) (k0_hw255 : k0_chk255 v4027), ∀ a x, ((![v4027] : Fin 1 → IVec S16 32) a x).toNat < S80.size a := fun v4027 k0_hw255 => k0_hw255.2

def k0_chk258 (v4069 : IVec S16 32) : Prop :=
  (∀ a x, ((![v4069] : Fin 1 → IVec S16 32) a x).toNat < S27648.size a)
theorem k0_idx334_inb : ∀ (v4069 : IVec S16 32) (k0_hw258 : k0_chk258 v4069), ∀ a x, ((![v4069] : Fin 1 → IVec S16 32) a x).toNat < S27648.size a := fun v4069 k0_hw258 => k0_hw258

def k0_chk257 (v4052 : IVec S16 32) : Prop :=
  (∀ a x, ((![v4052] : Fin 1 → IVec S16 32) a x).toNat < S80.size a) ∧
  (∀ a x, ((![v4052] : Fin 1 → IVec S16 32) a x).toNat < S80.size a)
theorem k0_idx333_inb : ∀ (v4052 : IVec S16 32) (k0_hw257 : k0_chk257 v4052), ∀ a x, ((![v4052] : Fin 1 → IVec S16 32) a x).toNat < S80.size a := fun v4052 k0_hw257 => k0_hw257.1
theorem k0_idx335_inb : ∀ (v4052 : IVec S16 32) (k0_hw257 : k0_chk257 v4052), ∀ a x, ((![v4052] : Fin 1 → IVec S16 32) a x).toNat < S80.size a := fun v4052 k0_hw257 => k0_hw257.2

def k0_chk260 (v4095 : IVec S16 32) : Prop :=
  (∀ a x, ((![v4095] : Fin 1 → IVec S16 32) a x).toNat < S27648.size a)
theorem k0_idx337_inb : ∀ (v4095 : IVec S16 32) (k0_hw260 : k0_chk260 v4095), ∀ a x, ((![v4095] : Fin 1 → IVec S16 32) a x).toNat < S27648.size a := fun v4095 k0_hw260 => k0_hw260

def k0_chk259 (v4079 : IVec S16 32) : Prop :=
  (∀ a x, ((![v4079] : Fin 1 → IVec S16 32) a x).toNat < S80.size a) ∧
  (∀ a x, ((![v4079] : Fin 1 → IVec S16 32) a x).toNat < S80.size a)
theorem k0_idx336_inb : ∀ (v4079 : IVec S16 32) (k0_hw259 : k0_chk259 v4079), ∀ a x, ((![v4079] : Fin 1 → IVec S16 32) a x).toNat < S80.size a := fun v4079 k0_hw259 => k0_hw259.1
theorem k0_idx338_inb : ∀ (v4079 : IVec S16 32) (k0_hw259 : k0_chk259 v4079), ∀ a x, ((![v4079] : Fin 1 → IVec S16 32) a x).toNat < S80.size a := fun v4079 k0_hw259 => k0_hw259.2

def k0_chk262 (v4125 : IVec S16 32) : Prop :=
  (∀ a x, ((![v4125] : Fin 1 → IVec S16 32) a x).toNat < S27648.size a)
theorem k0_idx340_inb : ∀ (v4125 : IVec S16 32) (k0_hw262 : k0_chk262 v4125), ∀ a x, ((![v4125] : Fin 1 → IVec S16 32) a x).toNat < S27648.size a := fun v4125 k0_hw262 => k0_hw262

def k0_chk261 (v4108 : IVec S16 32) : Prop :=
  (∀ a x, ((![v4108] : Fin 1 → IVec S16 32) a x).toNat < S80.size a) ∧
  (∀ a x, ((![v4108] : Fin 1 → IVec S16 32) a x).toNat < S80.size a)
theorem k0_idx339_inb : ∀ (v4108 : IVec S16 32) (k0_hw261 : k0_chk261 v4108), ∀ a x, ((![v4108] : Fin 1 → IVec S16 32) a x).toNat < S80.size a := fun v4108 k0_hw261 => k0_hw261.1
theorem k0_idx341_inb : ∀ (v4108 : IVec S16 32) (k0_hw261 : k0_chk261 v4108), ∀ a x, ((![v4108] : Fin 1 → IVec S16 32) a x).toNat < S80.size a := fun v4108 k0_hw261 => k0_hw261.2

def k0_chk264 (v4150 : IVec S16 32) : Prop :=
  (∀ a x, ((![v4150] : Fin 1 → IVec S16 32) a x).toNat < S27648.size a)
theorem k0_idx343_inb : ∀ (v4150 : IVec S16 32) (k0_hw264 : k0_chk264 v4150), ∀ a x, ((![v4150] : Fin 1 → IVec S16 32) a x).toNat < S27648.size a := fun v4150 k0_hw264 => k0_hw264

def k0_chk263 (v4133 : IVec S16 32) : Prop :=
  (∀ a x, ((![v4133] : Fin 1 → IVec S16 32) a x).toNat < S80.size a) ∧
  (∀ a x, ((![v4133] : Fin 1 → IVec S16 32) a x).toNat < S80.size a)
theorem k0_idx342_inb : ∀ (v4133 : IVec S16 32) (k0_hw263 : k0_chk263 v4133), ∀ a x, ((![v4133] : Fin 1 → IVec S16 32) a x).toNat < S80.size a := fun v4133 k0_hw263 => k0_hw263.1
theorem k0_idx344_inb : ∀ (v4133 : IVec S16 32) (k0_hw263 : k0_chk263 v4133), ∀ a x, ((![v4133] : Fin 1 → IVec S16 32) a x).toNat < S80.size a := fun v4133 k0_hw263 => k0_hw263.2

def k0_chk266 (v4175 : IVec S16 32) : Prop :=
  (∀ a x, ((![v4175] : Fin 1 → IVec S16 32) a x).toNat < S27648.size a)
theorem k0_idx346_inb : ∀ (v4175 : IVec S16 32) (k0_hw266 : k0_chk266 v4175), ∀ a x, ((![v4175] : Fin 1 → IVec S16 32) a x).toNat < S27648.size a := fun v4175 k0_hw266 => k0_hw266

def k0_chk265 (v4158 : IVec S16 32) : Prop :=
  (∀ a x, ((![v4158] : Fin 1 → IVec S16 32) a x).toNat < S80.size a) ∧
  (∀ a x, ((![v4158] : Fin 1 → IVec S16 32) a x).toNat < S80.size a)
theorem k0_idx345_inb : ∀ (v4158 : IVec S16 32) (k0_hw265 : k0_chk265 v4158), ∀ a x, ((![v4158] : Fin 1 → IVec S16 32) a x).toNat < S80.size a := fun v4158 k0_hw265 => k0_hw265.1
theorem k0_idx347_inb : ∀ (v4158 : IVec S16 32) (k0_hw265 : k0_chk265 v4158), ∀ a x, ((![v4158] : Fin 1 → IVec S16 32) a x).toNat < S80.size a := fun v4158 k0_hw265 => k0_hw265.2

def k0_chk268 (v4200 : IVec S16 32) : Prop :=
  (∀ a x, ((![v4200] : Fin 1 → IVec S16 32) a x).toNat < S27648.size a)
theorem k0_idx349_inb : ∀ (v4200 : IVec S16 32) (k0_hw268 : k0_chk268 v4200), ∀ a x, ((![v4200] : Fin 1 → IVec S16 32) a x).toNat < S27648.size a := fun v4200 k0_hw268 => k0_hw268

def k0_chk267 (v4183 : IVec S16 32) : Prop :=
  (∀ a x, ((![v4183] : Fin 1 → IVec S16 32) a x).toNat < S80.size a) ∧
  (∀ a x, ((![v4183] : Fin 1 → IVec S16 32) a x).toNat < S80.size a)
theorem k0_idx348_inb : ∀ (v4183 : IVec S16 32) (k0_hw267 : k0_chk267 v4183), ∀ a x, ((![v4183] : Fin 1 → IVec S16 32) a x).toNat < S80.size a := fun v4183 k0_hw267 => k0_hw267.1
theorem k0_idx350_inb : ∀ (v4183 : IVec S16 32) (k0_hw267 : k0_chk267 v4183), ∀ a x, ((![v4183] : Fin 1 → IVec S16 32) a x).toNat < S80.size a := fun v4183 k0_hw267 => k0_hw267.2

def k0_chk270 (v4225 : IVec S16 32) : Prop :=
  (∀ a x, ((![v4225] : Fin 1 → IVec S16 32) a x).toNat < S27648.size a)
theorem k0_idx352_inb : ∀ (v4225 : IVec S16 32) (k0_hw270 : k0_chk270 v4225), ∀ a x, ((![v4225] : Fin 1 → IVec S16 32) a x).toNat < S27648.size a := fun v4225 k0_hw270 => k0_hw270

def k0_chk269 (v4208 : IVec S16 32) : Prop :=
  (∀ a x, ((![v4208] : Fin 1 → IVec S16 32) a x).toNat < S80.size a) ∧
  (∀ a x, ((![v4208] : Fin 1 → IVec S16 32) a x).toNat < S80.size a)
theorem k0_idx351_inb : ∀ (v4208 : IVec S16 32) (k0_hw269 : k0_chk269 v4208), ∀ a x, ((![v4208] : Fin 1 → IVec S16 32) a x).toNat < S80.size a := fun v4208 k0_hw269 => k0_hw269.1
theorem k0_idx353_inb : ∀ (v4208 : IVec S16 32) (k0_hw269 : k0_chk269 v4208), ∀ a x, ((![v4208] : Fin 1 → IVec S16 32) a x).toNat < S80.size a := fun v4208 k0_hw269 => k0_hw269.2

def k0_chk272 (v4250 : IVec S16 32) : Prop :=
  (∀ a x, ((![v4250] : Fin 1 → IVec S16 32) a x).toNat < S27648.size a)
theorem k0_idx355_inb : ∀ (v4250 : IVec S16 32) (k0_hw272 : k0_chk272 v4250), ∀ a x, ((![v4250] : Fin 1 → IVec S16 32) a x).toNat < S27648.size a := fun v4250 k0_hw272 => k0_hw272

def k0_chk271 (v4233 : IVec S16 32) : Prop :=
  (∀ a x, ((![v4233] : Fin 1 → IVec S16 32) a x).toNat < S80.size a) ∧
  (∀ a x, ((![v4233] : Fin 1 → IVec S16 32) a x).toNat < S80.size a)
theorem k0_idx354_inb : ∀ (v4233 : IVec S16 32) (k0_hw271 : k0_chk271 v4233), ∀ a x, ((![v4233] : Fin 1 → IVec S16 32) a x).toNat < S80.size a := fun v4233 k0_hw271 => k0_hw271.1
theorem k0_idx356_inb : ∀ (v4233 : IVec S16 32) (k0_hw271 : k0_chk271 v4233), ∀ a x, ((![v4233] : Fin 1 → IVec S16 32) a x).toNat < S80.size a := fun v4233 k0_hw271 => k0_hw271.2

def k0_chk274 (v4275 : IVec S16 32) : Prop :=
  (∀ a x, ((![v4275] : Fin 1 → IVec S16 32) a x).toNat < S27648.size a)
theorem k0_idx358_inb : ∀ (v4275 : IVec S16 32) (k0_hw274 : k0_chk274 v4275), ∀ a x, ((![v4275] : Fin 1 → IVec S16 32) a x).toNat < S27648.size a := fun v4275 k0_hw274 => k0_hw274

def k0_chk273 (v4258 : IVec S16 32) : Prop :=
  (∀ a x, ((![v4258] : Fin 1 → IVec S16 32) a x).toNat < S80.size a) ∧
  (∀ a x, ((![v4258] : Fin 1 → IVec S16 32) a x).toNat < S80.size a)
theorem k0_idx357_inb : ∀ (v4258 : IVec S16 32) (k0_hw273 : k0_chk273 v4258), ∀ a x, ((![v4258] : Fin 1 → IVec S16 32) a x).toNat < S80.size a := fun v4258 k0_hw273 => k0_hw273.1
theorem k0_idx359_inb : ∀ (v4258 : IVec S16 32) (k0_hw273 : k0_chk273 v4258), ∀ a x, ((![v4258] : Fin 1 → IVec S16 32) a x).toNat < S80.size a := fun v4258 k0_hw273 => k0_hw273.2

def k0_chk276 (v4300 : IVec S16 32) : Prop :=
  (∀ a x, ((![v4300] : Fin 1 → IVec S16 32) a x).toNat < S27648.size a)
theorem k0_idx361_inb : ∀ (v4300 : IVec S16 32) (k0_hw276 : k0_chk276 v4300), ∀ a x, ((![v4300] : Fin 1 → IVec S16 32) a x).toNat < S27648.size a := fun v4300 k0_hw276 => k0_hw276

def k0_chk275 (v4283 : IVec S16 32) : Prop :=
  (∀ a x, ((![v4283] : Fin 1 → IVec S16 32) a x).toNat < S80.size a) ∧
  (∀ a x, ((![v4283] : Fin 1 → IVec S16 32) a x).toNat < S80.size a)
theorem k0_idx360_inb : ∀ (v4283 : IVec S16 32) (k0_hw275 : k0_chk275 v4283), ∀ a x, ((![v4283] : Fin 1 → IVec S16 32) a x).toNat < S80.size a := fun v4283 k0_hw275 => k0_hw275.1
theorem k0_idx362_inb : ∀ (v4283 : IVec S16 32) (k0_hw275 : k0_chk275 v4283), ∀ a x, ((![v4283] : Fin 1 → IVec S16 32) a x).toNat < S80.size a := fun v4283 k0_hw275 => k0_hw275.2

def k0_chk278 (v4325 : IVec S16 32) : Prop :=
  (∀ a x, ((![v4325] : Fin 1 → IVec S16 32) a x).toNat < S27648.size a)
theorem k0_idx364_inb : ∀ (v4325 : IVec S16 32) (k0_hw278 : k0_chk278 v4325), ∀ a x, ((![v4325] : Fin 1 → IVec S16 32) a x).toNat < S27648.size a := fun v4325 k0_hw278 => k0_hw278

def k0_chk277 (v4308 : IVec S16 32) : Prop :=
  (∀ a x, ((![v4308] : Fin 1 → IVec S16 32) a x).toNat < S80.size a) ∧
  (∀ a x, ((![v4308] : Fin 1 → IVec S16 32) a x).toNat < S80.size a)
theorem k0_idx363_inb : ∀ (v4308 : IVec S16 32) (k0_hw277 : k0_chk277 v4308), ∀ a x, ((![v4308] : Fin 1 → IVec S16 32) a x).toNat < S80.size a := fun v4308 k0_hw277 => k0_hw277.1
theorem k0_idx365_inb : ∀ (v4308 : IVec S16 32) (k0_hw277 : k0_chk277 v4308), ∀ a x, ((![v4308] : Fin 1 → IVec S16 32) a x).toNat < S80.size a := fun v4308 k0_hw277 => k0_hw277.2

def k0_chk280 (v4350 : IVec S16 32) : Prop :=
  (∀ a x, ((![v4350] : Fin 1 → IVec S16 32) a x).toNat < S27648.size a)
theorem k0_idx367_inb : ∀ (v4350 : IVec S16 32) (k0_hw280 : k0_chk280 v4350), ∀ a x, ((![v4350] : Fin 1 → IVec S16 32) a x).toNat < S27648.size a := fun v4350 k0_hw280 => k0_hw280

def k0_chk279 (v4333 : IVec S16 32) : Prop :=
  (∀ a x, ((![v4333] : Fin 1 → IVec S16 32) a x).toNat < S80.size a) ∧
  (∀ a x, ((![v4333] : Fin 1 → IVec S16 32) a x).toNat < S80.size a)
theorem k0_idx366_inb : ∀ (v4333 : IVec S16 32) (k0_hw279 : k0_chk279 v4333), ∀ a x, ((![v4333] : Fin 1 → IVec S16 32) a x).toNat < S80.size a := fun v4333 k0_hw279 => k0_hw279.1
theorem k0_idx368_inb : ∀ (v4333 : IVec S16 32) (k0_hw279 : k0_chk279 v4333), ∀ a x, ((![v4333] : Fin 1 → IVec S16 32) a x).toNat < S80.size a := fun v4333 k0_hw279 => k0_hw279.2

def k0_chk282 (v4375 : IVec S16 32) : Prop :=
  (∀ a x, ((![v4375] : Fin 1 → IVec S16 32) a x).toNat < S27648.size a)
theorem k0_idx370_inb : ∀ (v4375 : IVec S16 32) (k0_hw282 : k0_chk282 v4375), ∀ a x, ((![v4375] : Fin 1 → IVec S16 32) a x).toNat < S27648.size a := fun v4375 k0_hw282 => k0_hw282

def k0_chk281 (v4358 : IVec S16 32) : Prop :=
  (∀ a x, ((![v4358] : Fin 1 → IVec S16 32) a x).toNat < S80.size a) ∧
  (∀ a x, ((![v4358] : Fin 1 → IVec S16 32) a x).toNat < S80.size a)
theorem k0_idx369_inb : ∀ (v4358 : IVec S16 32) (k0_hw281 : k0_chk281 v4358), ∀ a x, ((![v4358] : Fin 1 → IVec S16 32) a x).toNat < S80.size a := fun v4358 k0_hw281 => k0_hw281.1
theorem k0_idx371_inb : ∀ (v4358 : IVec S16 32) (k0_hw281 : k0_chk281 v4358), ∀ a x, ((![v4358] : Fin 1 → IVec S16 32) a x).toNat < S80.size a := fun v4358 k0_hw281 => k0_hw281.2

def k0_chk284 (v4400 : IVec S16 32) : Prop :=
  (∀ a x, ((![v4400] : Fin 1 → IVec S16 32) a x).toNat < S27648.size a)
theorem k0_idx373_inb : ∀ (v4400 : IVec S16 32) (k0_hw284 : k0_chk284 v4400), ∀ a x, ((![v4400] : Fin 1 → IVec S16 32) a x).toNat < S27648.size a := fun v4400 k0_hw284 => k0_hw284

def k0_chk283 (v4383 : IVec S16 32) : Prop :=
  (∀ a x, ((![v4383] : Fin 1 → IVec S16 32) a x).toNat < S80.size a) ∧
  (∀ a x, ((![v4383] : Fin 1 → IVec S16 32) a x).toNat < S80.size a)
theorem k0_idx372_inb : ∀ (v4383 : IVec S16 32) (k0_hw283 : k0_chk283 v4383), ∀ a x, ((![v4383] : Fin 1 → IVec S16 32) a x).toNat < S80.size a := fun v4383 k0_hw283 => k0_hw283.1
theorem k0_idx374_inb : ∀ (v4383 : IVec S16 32) (k0_hw283 : k0_chk283 v4383), ∀ a x, ((![v4383] : Fin 1 → IVec S16 32) a x).toNat < S80.size a := fun v4383 k0_hw283 => k0_hw283.2

def k0_chk286 (v4426 : IVec S16 32) : Prop :=
  (∀ a x, ((![v4426] : Fin 1 → IVec S16 32) a x).toNat < S27648.size a)
theorem k0_idx376_inb : ∀ (v4426 : IVec S16 32) (k0_hw286 : k0_chk286 v4426), ∀ a x, ((![v4426] : Fin 1 → IVec S16 32) a x).toNat < S27648.size a := fun v4426 k0_hw286 => k0_hw286

def k0_chk285 (v4410 : IVec S16 32) : Prop :=
  (∀ a x, ((![v4410] : Fin 1 → IVec S16 32) a x).toNat < S80.size a) ∧
  (∀ a x, ((![v4410] : Fin 1 → IVec S16 32) a x).toNat < S80.size a)
theorem k0_idx375_inb : ∀ (v4410 : IVec S16 32) (k0_hw285 : k0_chk285 v4410), ∀ a x, ((![v4410] : Fin 1 → IVec S16 32) a x).toNat < S80.size a := fun v4410 k0_hw285 => k0_hw285.1
theorem k0_idx377_inb : ∀ (v4410 : IVec S16 32) (k0_hw285 : k0_chk285 v4410), ∀ a x, ((![v4410] : Fin 1 → IVec S16 32) a x).toNat < S80.size a := fun v4410 k0_hw285 => k0_hw285.2

def k0_chk288 (v4456 : IVec S16 32) : Prop :=
  (∀ a x, ((![v4456] : Fin 1 → IVec S16 32) a x).toNat < S27648.size a)
theorem k0_idx379_inb : ∀ (v4456 : IVec S16 32) (k0_hw288 : k0_chk288 v4456), ∀ a x, ((![v4456] : Fin 1 → IVec S16 32) a x).toNat < S27648.size a := fun v4456 k0_hw288 => k0_hw288

def k0_chk287 (v4439 : IVec S16 32) : Prop :=
  (∀ a x, ((![v4439] : Fin 1 → IVec S16 32) a x).toNat < S80.size a) ∧
  (∀ a x, ((![v4439] : Fin 1 → IVec S16 32) a x).toNat < S80.size a)
theorem k0_idx378_inb : ∀ (v4439 : IVec S16 32) (k0_hw287 : k0_chk287 v4439), ∀ a x, ((![v4439] : Fin 1 → IVec S16 32) a x).toNat < S80.size a := fun v4439 k0_hw287 => k0_hw287.1
theorem k0_idx380_inb : ∀ (v4439 : IVec S16 32) (k0_hw287 : k0_chk287 v4439), ∀ a x, ((![v4439] : Fin 1 → IVec S16 32) a x).toNat < S80.size a := fun v4439 k0_hw287 => k0_hw287.2

def k0_chk290 (v4481 : IVec S16 32) : Prop :=
  (∀ a x, ((![v4481] : Fin 1 → IVec S16 32) a x).toNat < S27648.size a)
theorem k0_idx382_inb : ∀ (v4481 : IVec S16 32) (k0_hw290 : k0_chk290 v4481), ∀ a x, ((![v4481] : Fin 1 → IVec S16 32) a x).toNat < S27648.size a := fun v4481 k0_hw290 => k0_hw290

def k0_chk289 (v4464 : IVec S16 32) : Prop :=
  (∀ a x, ((![v4464] : Fin 1 → IVec S16 32) a x).toNat < S80.size a) ∧
  (∀ a x, ((![v4464] : Fin 1 → IVec S16 32) a x).toNat < S80.size a)
theorem k0_idx381_inb : ∀ (v4464 : IVec S16 32) (k0_hw289 : k0_chk289 v4464), ∀ a x, ((![v4464] : Fin 1 → IVec S16 32) a x).toNat < S80.size a := fun v4464 k0_hw289 => k0_hw289.1
theorem k0_idx383_inb : ∀ (v4464 : IVec S16 32) (k0_hw289 : k0_chk289 v4464), ∀ a x, ((![v4464] : Fin 1 → IVec S16 32) a x).toNat < S80.size a := fun v4464 k0_hw289 => k0_hw289.2

def k0_chk292 (v4506 : IVec S16 32) : Prop :=
  (∀ a x, ((![v4506] : Fin 1 → IVec S16 32) a x).toNat < S27648.size a)
theorem k0_idx385_inb : ∀ (v4506 : IVec S16 32) (k0_hw292 : k0_chk292 v4506), ∀ a x, ((![v4506] : Fin 1 → IVec S16 32) a x).toNat < S27648.size a := fun v4506 k0_hw292 => k0_hw292

def k0_chk291 (v4489 : IVec S16 32) : Prop :=
  (∀ a x, ((![v4489] : Fin 1 → IVec S16 32) a x).toNat < S80.size a) ∧
  (∀ a x, ((![v4489] : Fin 1 → IVec S16 32) a x).toNat < S80.size a)
theorem k0_idx384_inb : ∀ (v4489 : IVec S16 32) (k0_hw291 : k0_chk291 v4489), ∀ a x, ((![v4489] : Fin 1 → IVec S16 32) a x).toNat < S80.size a := fun v4489 k0_hw291 => k0_hw291.1
theorem k0_idx386_inb : ∀ (v4489 : IVec S16 32) (k0_hw291 : k0_chk291 v4489), ∀ a x, ((![v4489] : Fin 1 → IVec S16 32) a x).toNat < S80.size a := fun v4489 k0_hw291 => k0_hw291.2

def k0_chk294 (v4531 : IVec S16 32) : Prop :=
  (∀ a x, ((![v4531] : Fin 1 → IVec S16 32) a x).toNat < S27648.size a)
theorem k0_idx388_inb : ∀ (v4531 : IVec S16 32) (k0_hw294 : k0_chk294 v4531), ∀ a x, ((![v4531] : Fin 1 → IVec S16 32) a x).toNat < S27648.size a := fun v4531 k0_hw294 => k0_hw294

def k0_chk293 (v4514 : IVec S16 32) : Prop :=
  (∀ a x, ((![v4514] : Fin 1 → IVec S16 32) a x).toNat < S80.size a) ∧
  (∀ a x, ((![v4514] : Fin 1 → IVec S16 32) a x).toNat < S80.size a)
theorem k0_idx387_inb : ∀ (v4514 : IVec S16 32) (k0_hw293 : k0_chk293 v4514), ∀ a x, ((![v4514] : Fin 1 → IVec S16 32) a x).toNat < S80.size a := fun v4514 k0_hw293 => k0_hw293.1
theorem k0_idx389_inb : ∀ (v4514 : IVec S16 32) (k0_hw293 : k0_chk293 v4514), ∀ a x, ((![v4514] : Fin 1 → IVec S16 32) a x).toNat < S80.size a := fun v4514 k0_hw293 => k0_hw293.2

def k0_chk296 (v4556 : IVec S16 32) : Prop :=
  (∀ a x, ((![v4556] : Fin 1 → IVec S16 32) a x).toNat < S27648.size a)
theorem k0_idx391_inb : ∀ (v4556 : IVec S16 32) (k0_hw296 : k0_chk296 v4556), ∀ a x, ((![v4556] : Fin 1 → IVec S16 32) a x).toNat < S27648.size a := fun v4556 k0_hw296 => k0_hw296

def k0_chk295 (v4539 : IVec S16 32) : Prop :=
  (∀ a x, ((![v4539] : Fin 1 → IVec S16 32) a x).toNat < S80.size a) ∧
  (∀ a x, ((![v4539] : Fin 1 → IVec S16 32) a x).toNat < S80.size a)
theorem k0_idx390_inb : ∀ (v4539 : IVec S16 32) (k0_hw295 : k0_chk295 v4539), ∀ a x, ((![v4539] : Fin 1 → IVec S16 32) a x).toNat < S80.size a := fun v4539 k0_hw295 => k0_hw295.1
theorem k0_idx392_inb : ∀ (v4539 : IVec S16 32) (k0_hw295 : k0_chk295 v4539), ∀ a x, ((![v4539] : Fin 1 → IVec S16 32) a x).toNat < S80.size a := fun v4539 k0_hw295 => k0_hw295.2

def k0_chk298 (v4581 : IVec S16 32) : Prop :=
  (∀ a x, ((![v4581] : Fin 1 → IVec S16 32) a x).toNat < S27648.size a)
theorem k0_idx394_inb : ∀ (v4581 : IVec S16 32) (k0_hw298 : k0_chk298 v4581), ∀ a x, ((![v4581] : Fin 1 → IVec S16 32) a x).toNat < S27648.size a := fun v4581 k0_hw298 => k0_hw298

def k0_chk297 (v4564 : IVec S16 32) : Prop :=
  (∀ a x, ((![v4564] : Fin 1 → IVec S16 32) a x).toNat < S80.size a) ∧
  (∀ a x, ((![v4564] : Fin 1 → IVec S16 32) a x).toNat < S80.size a)
theorem k0_idx393_inb : ∀ (v4564 : IVec S16 32) (k0_hw297 : k0_chk297 v4564), ∀ a x, ((![v4564] : Fin 1 → IVec S16 32) a x).toNat < S80.size a := fun v4564 k0_hw297 => k0_hw297.1
theorem k0_idx395_inb : ∀ (v4564 : IVec S16 32) (k0_hw297 : k0_chk297 v4564), ∀ a x, ((![v4564] : Fin 1 → IVec S16 32) a x).toNat < S80.size a := fun v4564 k0_hw297 => k0_hw297.2

def k0_chk300 (v4606 : IVec S16 32) : Prop :=
  (∀ a x, ((![v4606] : Fin 1 → IVec S16 32) a x).toNat < S27648.size a)
theorem k0_idx397_inb : ∀ (v4606 : IVec S16 32) (k0_hw300 : k0_chk300 v4606), ∀ a x, ((![v4606] : Fin 1 → IVec S16 32) a x).toNat < S27648.size a := fun v4606 k0_hw300 => k0_hw300

def k0_chk299 (v4589 : IVec S16 32) : Prop :=
  (∀ a x, ((![v4589] : Fin 1 → IVec S16 32) a x).toNat < S80.size a) ∧
  (∀ a x, ((![v4589] : Fin 1 → IVec S16 32) a x).toNat < S80.size a)
theorem k0_idx396_inb : ∀ (v4589 : IVec S16 32) (k0_hw299 : k0_chk299 v4589), ∀ a x, ((![v4589] : Fin 1 → IVec S16 32) a x).toNat < S80.size a := fun v4589 k0_hw299 => k0_hw299.1
theorem k0_idx398_inb : ∀ (v4589 : IVec S16 32) (k0_hw299 : k0_chk299 v4589), ∀ a x, ((![v4589] : Fin 1 → IVec S16 32) a x).toNat < S80.size a := fun v4589 k0_hw299 => k0_hw299.2

def k0_chk302 (v4631 : IVec S16 32) : Prop :=
  (∀ a x, ((![v4631] : Fin 1 → IVec S16 32) a x).toNat < S27648.size a)
theorem k0_idx400_inb : ∀ (v4631 : IVec S16 32) (k0_hw302 : k0_chk302 v4631), ∀ a x, ((![v4631] : Fin 1 → IVec S16 32) a x).toNat < S27648.size a := fun v4631 k0_hw302 => k0_hw302

def k0_chk301 (v4614 : IVec S16 32) : Prop :=
  (∀ a x, ((![v4614] : Fin 1 → IVec S16 32) a x).toNat < S80.size a) ∧
  (∀ a x, ((![v4614] : Fin 1 → IVec S16 32) a x).toNat < S80.size a)
theorem k0_idx399_inb : ∀ (v4614 : IVec S16 32) (k0_hw301 : k0_chk301 v4614), ∀ a x, ((![v4614] : Fin 1 → IVec S16 32) a x).toNat < S80.size a := fun v4614 k0_hw301 => k0_hw301.1
theorem k0_idx401_inb : ∀ (v4614 : IVec S16 32) (k0_hw301 : k0_chk301 v4614), ∀ a x, ((![v4614] : Fin 1 → IVec S16 32) a x).toNat < S80.size a := fun v4614 k0_hw301 => k0_hw301.2

def k0_chk304 (v4656 : IVec S16 32) : Prop :=
  (∀ a x, ((![v4656] : Fin 1 → IVec S16 32) a x).toNat < S27648.size a)
theorem k0_idx403_inb : ∀ (v4656 : IVec S16 32) (k0_hw304 : k0_chk304 v4656), ∀ a x, ((![v4656] : Fin 1 → IVec S16 32) a x).toNat < S27648.size a := fun v4656 k0_hw304 => k0_hw304

def k0_chk303 (v4639 : IVec S16 32) : Prop :=
  (∀ a x, ((![v4639] : Fin 1 → IVec S16 32) a x).toNat < S80.size a) ∧
  (∀ a x, ((![v4639] : Fin 1 → IVec S16 32) a x).toNat < S80.size a)
theorem k0_idx402_inb : ∀ (v4639 : IVec S16 32) (k0_hw303 : k0_chk303 v4639), ∀ a x, ((![v4639] : Fin 1 → IVec S16 32) a x).toNat < S80.size a := fun v4639 k0_hw303 => k0_hw303.1
theorem k0_idx404_inb : ∀ (v4639 : IVec S16 32) (k0_hw303 : k0_chk303 v4639), ∀ a x, ((![v4639] : Fin 1 → IVec S16 32) a x).toNat < S80.size a := fun v4639 k0_hw303 => k0_hw303.2

def k0_chk306 (v4681 : IVec S16 32) : Prop :=
  (∀ a x, ((![v4681] : Fin 1 → IVec S16 32) a x).toNat < S27648.size a)
theorem k0_idx406_inb : ∀ (v4681 : IVec S16 32) (k0_hw306 : k0_chk306 v4681), ∀ a x, ((![v4681] : Fin 1 → IVec S16 32) a x).toNat < S27648.size a := fun v4681 k0_hw306 => k0_hw306

def k0_chk305 (v4664 : IVec S16 32) : Prop :=
  (∀ a x, ((![v4664] : Fin 1 → IVec S16 32) a x).toNat < S80.size a) ∧
  (∀ a x, ((![v4664] : Fin 1 → IVec S16 32) a x).toNat < S80.size a)
theorem k0_idx405_inb : ∀ (v4664 : IVec S16 32) (k0_hw305 : k0_chk305 v4664), ∀ a x, ((![v4664] : Fin 1 → IVec S16 32) a x).toNat < S80.size a := fun v4664 k0_hw305 => k0_hw305.1
theorem k0_idx407_inb : ∀ (v4664 : IVec S16 32) (k0_hw305 : k0_chk305 v4664), ∀ a x, ((![v4664] : Fin 1 → IVec S16 32) a x).toNat < S80.size a := fun v4664 k0_hw305 => k0_hw305.2

def k0_chk308 (v4706 : IVec S16 32) : Prop :=
  (∀ a x, ((![v4706] : Fin 1 → IVec S16 32) a x).toNat < S27648.size a)
theorem k0_idx409_inb : ∀ (v4706 : IVec S16 32) (k0_hw308 : k0_chk308 v4706), ∀ a x, ((![v4706] : Fin 1 → IVec S16 32) a x).toNat < S27648.size a := fun v4706 k0_hw308 => k0_hw308

def k0_chk307 (v4689 : IVec S16 32) : Prop :=
  (∀ a x, ((![v4689] : Fin 1 → IVec S16 32) a x).toNat < S80.size a) ∧
  (∀ a x, ((![v4689] : Fin 1 → IVec S16 32) a x).toNat < S80.size a)
theorem k0_idx408_inb : ∀ (v4689 : IVec S16 32) (k0_hw307 : k0_chk307 v4689), ∀ a x, ((![v4689] : Fin 1 → IVec S16 32) a x).toNat < S80.size a := fun v4689 k0_hw307 => k0_hw307.1
theorem k0_idx410_inb : ∀ (v4689 : IVec S16 32) (k0_hw307 : k0_chk307 v4689), ∀ a x, ((![v4689] : Fin 1 → IVec S16 32) a x).toNat < S80.size a := fun v4689 k0_hw307 => k0_hw307.2

def k0_chk310 (v4731 : IVec S16 32) : Prop :=
  (∀ a x, ((![v4731] : Fin 1 → IVec S16 32) a x).toNat < S27648.size a)
theorem k0_idx412_inb : ∀ (v4731 : IVec S16 32) (k0_hw310 : k0_chk310 v4731), ∀ a x, ((![v4731] : Fin 1 → IVec S16 32) a x).toNat < S27648.size a := fun v4731 k0_hw310 => k0_hw310

def k0_chk309 (v4714 : IVec S16 32) : Prop :=
  (∀ a x, ((![v4714] : Fin 1 → IVec S16 32) a x).toNat < S80.size a) ∧
  (∀ a x, ((![v4714] : Fin 1 → IVec S16 32) a x).toNat < S80.size a)
theorem k0_idx411_inb : ∀ (v4714 : IVec S16 32) (k0_hw309 : k0_chk309 v4714), ∀ a x, ((![v4714] : Fin 1 → IVec S16 32) a x).toNat < S80.size a := fun v4714 k0_hw309 => k0_hw309.1
theorem k0_idx413_inb : ∀ (v4714 : IVec S16 32) (k0_hw309 : k0_chk309 v4714), ∀ a x, ((![v4714] : Fin 1 → IVec S16 32) a x).toNat < S80.size a := fun v4714 k0_hw309 => k0_hw309.2

def k0_chk312 (v4757 : IVec S16 32) : Prop :=
  (∀ a x, ((![v4757] : Fin 1 → IVec S16 32) a x).toNat < S27648.size a)
theorem k0_idx415_inb : ∀ (v4757 : IVec S16 32) (k0_hw312 : k0_chk312 v4757), ∀ a x, ((![v4757] : Fin 1 → IVec S16 32) a x).toNat < S27648.size a := fun v4757 k0_hw312 => k0_hw312

def k0_chk311 (v4741 : IVec S16 32) : Prop :=
  (∀ a x, ((![v4741] : Fin 1 → IVec S16 32) a x).toNat < S80.size a) ∧
  (∀ a x, ((![v4741] : Fin 1 → IVec S16 32) a x).toNat < S80.size a)
theorem k0_idx414_inb : ∀ (v4741 : IVec S16 32) (k0_hw311 : k0_chk311 v4741), ∀ a x, ((![v4741] : Fin 1 → IVec S16 32) a x).toNat < S80.size a := fun v4741 k0_hw311 => k0_hw311.1
theorem k0_idx416_inb : ∀ (v4741 : IVec S16 32) (k0_hw311 : k0_chk311 v4741), ∀ a x, ((![v4741] : Fin 1 → IVec S16 32) a x).toNat < S80.size a := fun v4741 k0_hw311 => k0_hw311.2
@[reducible] def k0_t4_loop : Scf.Loop 32 :=
  let c0_i32_41 : BitVec 32 := 0#32
  let c59_i32 : BitVec 32 := 59#32
  let v78 : BitVec 32 := Scalar.addi c0_i32_41 c59_i32
  let c1_i32_42 : BitVec 32 := 1#32
  ⟨c0_i32_41, v78, c1_i32_42⟩
def k0_off69 (k0_t4 : Fin k0_t4_loop.trips) : Fin 1 → Nat :=
  let c0_i32_41 : BitVec 32 := 0#32
  let c1_i32_42 : BitVec 32 := 1#32
  let arg10 : BitVec 32 := Scf.iv c0_i32_41 c1_i32_42 k0_t4
  let v133 : Index := Scalar.indexCast arg10
  ![v133.toNat]
@[reducible] def k0_t5_loop (v140 : BitVec 32) : Scf.Loop 32 :=
  let c0_i32_83 : BitVec 32 := 0#32
  let c16_i32_73 : BitVec 32 := 16#32
  let v141 : BitVec 32 := Scalar.addi v140 c16_i32_73
  let c1_i32_74 : BitVec 32 := 1#32
  let v142 : BitVec 32 := Scalar.subi v141 c1_i32_74
  let c0_i32_76 : BitVec 32 := 0#32
  let v144 : BitVec 1 := Scalar.cmpi .sgt v142 c0_i32_76
  let v145 : BitVec 32 := Scalar.extui v144
  let c0_i32_77 : BitVec 32 := 0#32
  let v146 : BitVec 1 := Scalar.cmpi .slt v142 c0_i32_77
  let v147 : BitVec 32 := Scalar.extui v146
  let v148 : BitVec 32 := Scalar.subi v145 v147
  let c16_i32_75 : BitVec 32 := 16#32
  let c0_i32_78 : BitVec 32 := 0#32
  let v149 : BitVec 1 := Scalar.cmpi .sgt c16_i32_75 c0_i32_78
  let v150 : BitVec 32 := Scalar.extui v149
  let c0_i32_79 : BitVec 32 := 0#32
  let v151 : BitVec 1 := Scalar.cmpi .slt c16_i32_75 c0_i32_79
  let v152 : BitVec 32 := Scalar.extui v151
  let v153 : BitVec 32 := Scalar.subi v150 v152
  let v154 : BitVec 1 := Scalar.cmpi .ne v148 v153
  let v155 : BitVec 32 := Scalar.remsi v142 c16_i32_75
  let c0_i32_80 : BitVec 32 := 0#32
  let v156 : BitVec 1 := Scalar.cmpi .ne v155 c0_i32_80
  let v157 : BitVec 1 := Scalar.andi v154 v156
  let v143 : BitVec 32 := Scalar.divsi v142 c16_i32_75
  let c1_i32_81 : BitVec 32 := 1#32
  let v158 : BitVec 32 := Scalar.subi v143 c1_i32_81
  let v159 : BitVec 32 := Scalar.select v157 v158 v143
  let v160 : BitVec 32 := Scalar.subi v159 c0_i32_83
  let c1_i32_84 : BitVec 32 := 1#32
  let v162 : BitVec 32 := Scalar.divsi v160 c1_i32_84
  let v163 : BitVec 32 := Scalar.muli v162 c1_i32_84
  let v164 : BitVec 32 := Scalar.addi c0_i32_83 v163
  let c1_i32_85 : BitVec 32 := 1#32
  ⟨c0_i32_83, v164, c1_i32_85⟩

def k0_off70 (v136 : BitVec 32) (v140 : BitVec 32) (k0_t5 : Fin (k0_t5_loop v140).trips) : Fin 1 → Nat :=
  let c0_i32_83 : BitVec 32 := 0#32
  let c1_i32_85 : BitVec 32 := 1#32
  let arg11 : BitVec 32 := Scf.iv c0_i32_83 c1_i32_85 k0_t5
  let c16_i32_102 : BitVec 32 := 16#32
  let v190 : BitVec 32 := Scalar.muli arg11 c16_i32_102
  let v191 : BitVec 32 := Scalar.addi v136 v190
  let v192 : Index := Scalar.indexCast v191
  ![v192.toNat]

def k0_chk314 (v201 : IVec S16 32) (v205 : IVec S16 32) (v207 : IVec S16 32) : Prop :=
  (∀ a x, ((![v201, v205, v207] : Fin 3 → IVec S16 32) a x).toNat < S64x8x128.size a)
theorem k0_idx417_inb : ∀ (v201 : IVec S16 32) (v205 : IVec S16 32) (v207 : IVec S16 32) (k0_hw314 : k0_chk314 v201 v205 v207), ∀ a x, ((![v201, v205, v207] : Fin 3 → IVec S16 32) a x).toNat < S64x8x128.size a := fun v201 v205 v207 k0_hw314 => k0_hw314
@[reducible] def k0_t6_loop (v140 : BitVec 32) : Scf.Loop 32 :=
  let c0_i32_83 : BitVec 32 := 0#32
  let c16_i32_73 : BitVec 32 := 16#32
  let v141 : BitVec 32 := Scalar.addi v140 c16_i32_73
  let c1_i32_74 : BitVec 32 := 1#32
  let v142 : BitVec 32 := Scalar.subi v141 c1_i32_74
  let c0_i32_76 : BitVec 32 := 0#32
  let v144 : BitVec 1 := Scalar.cmpi .sgt v142 c0_i32_76
  let v145 : BitVec 32 := Scalar.extui v144
  let c0_i32_77 : BitVec 32 := 0#32
  let v146 : BitVec 1 := Scalar.cmpi .slt v142 c0_i32_77
  let v147 : BitVec 32 := Scalar.extui v146
  let v148 : BitVec 32 := Scalar.subi v145 v147
  let c16_i32_75 : BitVec 32 := 16#32
  let c0_i32_78 : BitVec 32 := 0#32
  let v149 : BitVec 1 := Scalar.cmpi .sgt c16_i32_75 c0_i32_78
  let v150 : BitVec 32 := Scalar.extui v149
  let c0_i32_79 : BitVec 32 := 0#32
  let v151 : BitVec 1 := Scalar.cmpi .slt c16_i32_75 c0_i32_79
  let v152 : BitVec 32 := Scalar.extui v151
  let v153 : BitVec 32 := Scalar.subi v150 v152
  let v154 : BitVec 1 := Scalar.cmpi .ne v148 v153
  let v155 : BitVec 32 := Scalar.remsi v142 c16_i32_75
  let c0_i32_80 : BitVec 32 := 0#32
  let v156 : BitVec 1 := Scalar.cmpi .ne v155 c0_i32_80
  let v157 : BitVec 1 := Scalar.andi v154 v156
  let v143 : BitVec 32 := Scalar.divsi v142 c16_i32_75
  let c1_i32_81 : BitVec 32 := 1#32
  let v158 : BitVec 32 := Scalar.subi v143 c1_i32_81
  let v159 : BitVec 32 := Scalar.select v157 v158 v143
  let v160 : BitVec 32 := Scalar.subi v159 c0_i32_83
  let c1_i32_84 : BitVec 32 := 1#32
  let v162 : BitVec 32 := Scalar.divsi v160 c1_i32_84
  let v163 : BitVec 32 := Scalar.muli v162 c1_i32_84
  let v164 : BitVec 32 := Scalar.addi c0_i32_83 v163
  let v161 : BitVec 32 := Scalar.addi c0_i32_83 v160
  let c1_i32_86 : BitVec 32 := 1#32
  ⟨v164, v161, c1_i32_86⟩
def k0_off71 (v136 : BitVec 32) (v140 : BitVec 32) (k0_t6 : Fin (k0_t6_loop v140).trips) : Fin 1 → Nat :=
  let c0_i32_83 : BitVec 32 := 0#32
  let c16_i32_73 : BitVec 32 := 16#32
  let v141 : BitVec 32 := Scalar.addi v140 c16_i32_73
  let c1_i32_74 : BitVec 32 := 1#32
  let v142 : BitVec 32 := Scalar.subi v141 c1_i32_74
  let c0_i32_76 : BitVec 32 := 0#32
  let v144 : BitVec 1 := Scalar.cmpi .sgt v142 c0_i32_76
  let v145 : BitVec 32 := Scalar.extui v144
  let c0_i32_77 : BitVec 32 := 0#32
  let v146 : BitVec 1 := Scalar.cmpi .slt v142 c0_i32_77
  let v147 : BitVec 32 := Scalar.extui v146
  let v148 : BitVec 32 := Scalar.subi v145 v147
  let c16_i32_75 : BitVec 32 := 16#32
  let c0_i32_78 : BitVec 32 := 0#32
  let v149 : BitVec 1 := Scalar.cmpi .sgt c16_i32_75 c0_i32_78
  let v150 : BitVec 32 := Scalar.extui v149
  let c0_i32_79 : BitVec 32 := 0#32
  let v151 : BitVec 1 := Scalar.cmpi .slt c16_i32_75 c0_i32_79
  let v152 : BitVec 32 := Scalar.extui v151
  let v153 : BitVec 32 := Scalar.subi v150 v152
  let v154 : BitVec 1 := Scalar.cmpi .ne v148 v153
  let v155 : BitVec 32 := Scalar.remsi v142 c16_i32_75
  let c0_i32_80 : BitVec 32 := 0#32
  let v156 : BitVec 1 := Scalar.cmpi .ne v155 c0_i32_80
  let v157 : BitVec 1 := Scalar.andi v154 v156
  let v143 : BitVec 32 := Scalar.divsi v142 c16_i32_75
  let c1_i32_81 : BitVec 32 := 1#32
  let v158 : BitVec 32 := Scalar.subi v143 c1_i32_81
  let v159 : BitVec 32 := Scalar.select v157 v158 v143
  let v160 : BitVec 32 := Scalar.subi v159 c0_i32_83
  let c1_i32_84 : BitVec 32 := 1#32
  let v162 : BitVec 32 := Scalar.divsi v160 c1_i32_84
  let v163 : BitVec 32 := Scalar.muli v162 c1_i32_84
  let v164 : BitVec 32 := Scalar.addi c0_i32_83 v163
  let c1_i32_86 : BitVec 32 := 1#32
  let arg11 : BitVec 32 := Scf.iv v164 c1_i32_86 k0_t6
  let c16_i32_102 : BitVec 32 := 16#32
  let v190 : BitVec 32 := Scalar.muli arg11 c16_i32_102
  let v191 : BitVec 32 := Scalar.addi v136 v190
  let v192 : Index := Scalar.indexCast v191
  ![v192.toNat]

def k0_chk315 (v201 : IVec S16 32) (v205 : IVec S16 32) (v207 : IVec S16 32) : Prop :=
  (∀ a x, ((![v201, v205, v207] : Fin 3 → IVec S16 32) a x).toNat < S64x8x128.size a)
theorem k0_idx418_inb : ∀ (v201 : IVec S16 32) (v205 : IVec S16 32) (v207 : IVec S16 32) (k0_hw315 : k0_chk315 v201 v205 v207), ∀ a x, ((![v201, v205, v207] : Fin 3 → IVec S16 32) a x).toNat < S64x8x128.size a := fun v201 v205 v207 k0_hw315 => k0_hw315
def k0_off72 (i : grid0.Coords) (k0_t4 : Fin k0_t4_loop.trips) : Fin 4 → Nat :=
  let c0_i32_41 : BitVec 32 := 0#32
  let c1_i32_42 : BitVec 32 := 1#32
  let arg10 : BitVec 32 := Scf.iv c0_i32_41 c1_i32_42 k0_t4
  let c64_i32_87 : BitVec 32 := 64#32
  let v165 : BitVec 32 := Scalar.muli arg10 c64_i32_87
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_105_r4 : BitVec 32 := 0#32
  let c0_i32_106_r4 : BitVec 32 := 0#32
  ![v165.toNat, v1.toNat, 0, 0]
@[reducible] def k0_t7_loop (v140 : BitVec 32) : Scf.Loop 32 :=
  let c0_i32_98 : BitVec 32 := 0#32
  let c16_i32_88 : BitVec 32 := 16#32
  let v166 : BitVec 32 := Scalar.addi v140 c16_i32_88
  let c1_i32_89 : BitVec 32 := 1#32
  let v167 : BitVec 32 := Scalar.subi v166 c1_i32_89
  let c0_i32_91 : BitVec 32 := 0#32
  let v169 : BitVec 1 := Scalar.cmpi .sgt v167 c0_i32_91
  let v170 : BitVec 32 := Scalar.extui v169
  let c0_i32_92 : BitVec 32 := 0#32
  let v171 : BitVec 1 := Scalar.cmpi .slt v167 c0_i32_92
  let v172 : BitVec 32 := Scalar.extui v171
  let v173 : BitVec 32 := Scalar.subi v170 v172
  let c16_i32_90 : BitVec 32 := 16#32
  let c0_i32_93 : BitVec 32 := 0#32
  let v174 : BitVec 1 := Scalar.cmpi .sgt c16_i32_90 c0_i32_93
  let v175 : BitVec 32 := Scalar.extui v174
  let c0_i32_94 : BitVec 32 := 0#32
  let v176 : BitVec 1 := Scalar.cmpi .slt c16_i32_90 c0_i32_94
  let v177 : BitVec 32 := Scalar.extui v176
  let v178 : BitVec 32 := Scalar.subi v175 v177
  let v179 : BitVec 1 := Scalar.cmpi .ne v173 v178
  let v180 : BitVec 32 := Scalar.remsi v167 c16_i32_90
  let c0_i32_95 : BitVec 32 := 0#32
  let v181 : BitVec 1 := Scalar.cmpi .ne v180 c0_i32_95
  let v182 : BitVec 1 := Scalar.andi v179 v181
  let v168 : BitVec 32 := Scalar.divsi v167 c16_i32_90
  let c1_i32_96 : BitVec 32 := 1#32
  let v183 : BitVec 32 := Scalar.subi v168 c1_i32_96
  let v184 : BitVec 32 := Scalar.select v182 v183 v168
  let v185 : BitVec 32 := Scalar.subi v184 c0_i32_98
  let c1_i32_99 : BitVec 32 := 1#32
  let v187 : BitVec 32 := Scalar.divsi v185 c1_i32_99
  let v188 : BitVec 32 := Scalar.muli v187 c1_i32_99
  let v189 : BitVec 32 := Scalar.addi c0_i32_98 v188
  let c1_i32_100 : BitVec 32 := 1#32
  ⟨c0_i32_98, v189, c1_i32_100⟩
def k0_off73 (v136 : BitVec 32) (v140 : BitVec 32) (k0_t7 : Fin (k0_t7_loop v140).trips) : Fin 1 → Nat :=
  let c0_i32_98 : BitVec 32 := 0#32
  let c1_i32_100 : BitVec 32 := 1#32
  let arg11 : BitVec 32 := Scf.iv c0_i32_98 c1_i32_100 k0_t7
  let c16_i32_102 : BitVec 32 := 16#32
  let v190 : BitVec 32 := Scalar.muli arg11 c16_i32_102
  let v191 : BitVec 32 := Scalar.addi v136 v190
  let v192 : Index := Scalar.indexCast v191
  ![v192.toNat]

def k0_chk316 (v201 : IVec S16 32) (v205 : IVec S16 32) (v207 : IVec S16 32) : Prop :=
  (∀ a x, ((![v201, v205, v207] : Fin 3 → IVec S16 32) a x).toNat < S64x8x128.size a)
theorem k0_idx419_inb : ∀ (v201 : IVec S16 32) (v205 : IVec S16 32) (v207 : IVec S16 32) (k0_hw316 : k0_chk316 v201 v205 v207), ∀ a x, ((![v201, v205, v207] : Fin 3 → IVec S16 32) a x).toNat < S64x8x128.size a := fun v201 v205 v207 k0_hw316 => k0_hw316
@[reducible] def k0_t8_loop (v140 : BitVec 32) : Scf.Loop 32 :=
  let c0_i32_98 : BitVec 32 := 0#32
  let c16_i32_88 : BitVec 32 := 16#32
  let v166 : BitVec 32 := Scalar.addi v140 c16_i32_88
  let c1_i32_89 : BitVec 32 := 1#32
  let v167 : BitVec 32 := Scalar.subi v166 c1_i32_89
  let c0_i32_91 : BitVec 32 := 0#32
  let v169 : BitVec 1 := Scalar.cmpi .sgt v167 c0_i32_91
  let v170 : BitVec 32 := Scalar.extui v169
  let c0_i32_92 : BitVec 32 := 0#32
  let v171 : BitVec 1 := Scalar.cmpi .slt v167 c0_i32_92
  let v172 : BitVec 32 := Scalar.extui v171
  let v173 : BitVec 32 := Scalar.subi v170 v172
  let c16_i32_90 : BitVec 32 := 16#32
  let c0_i32_93 : BitVec 32 := 0#32
  let v174 : BitVec 1 := Scalar.cmpi .sgt c16_i32_90 c0_i32_93
  let v175 : BitVec 32 := Scalar.extui v174
  let c0_i32_94 : BitVec 32 := 0#32
  let v176 : BitVec 1 := Scalar.cmpi .slt c16_i32_90 c0_i32_94
  let v177 : BitVec 32 := Scalar.extui v176
  let v178 : BitVec 32 := Scalar.subi v175 v177
  let v179 : BitVec 1 := Scalar.cmpi .ne v173 v178
  let v180 : BitVec 32 := Scalar.remsi v167 c16_i32_90
  let c0_i32_95 : BitVec 32 := 0#32
  let v181 : BitVec 1 := Scalar.cmpi .ne v180 c0_i32_95
  let v182 : BitVec 1 := Scalar.andi v179 v181
  let v168 : BitVec 32 := Scalar.divsi v167 c16_i32_90
  let c1_i32_96 : BitVec 32 := 1#32
  let v183 : BitVec 32 := Scalar.subi v168 c1_i32_96
  let v184 : BitVec 32 := Scalar.select v182 v183 v168
  let v185 : BitVec 32 := Scalar.subi v184 c0_i32_98
  let c1_i32_99 : BitVec 32 := 1#32
  let v187 : BitVec 32 := Scalar.divsi v185 c1_i32_99
  let v188 : BitVec 32 := Scalar.muli v187 c1_i32_99
  let v189 : BitVec 32 := Scalar.addi c0_i32_98 v188
  let v186 : BitVec 32 := Scalar.addi c0_i32_98 v185
  let c1_i32_101 : BitVec 32 := 1#32
  ⟨v189, v186, c1_i32_101⟩
def k0_off74 (v136 : BitVec 32) (v140 : BitVec 32) (k0_t8 : Fin (k0_t8_loop v140).trips) : Fin 1 → Nat :=
  let c0_i32_98 : BitVec 32 := 0#32
  let c16_i32_88 : BitVec 32 := 16#32
  let v166 : BitVec 32 := Scalar.addi v140 c16_i32_88
  let c1_i32_89 : BitVec 32 := 1#32
  let v167 : BitVec 32 := Scalar.subi v166 c1_i32_89
  let c0_i32_91 : BitVec 32 := 0#32
  let v169 : BitVec 1 := Scalar.cmpi .sgt v167 c0_i32_91
  let v170 : BitVec 32 := Scalar.extui v169
  let c0_i32_92 : BitVec 32 := 0#32
  let v171 : BitVec 1 := Scalar.cmpi .slt v167 c0_i32_92
  let v172 : BitVec 32 := Scalar.extui v171
  let v173 : BitVec 32 := Scalar.subi v170 v172
  let c16_i32_90 : BitVec 32 := 16#32
  let c0_i32_93 : BitVec 32 := 0#32
  let v174 : BitVec 1 := Scalar.cmpi .sgt c16_i32_90 c0_i32_93
  let v175 : BitVec 32 := Scalar.extui v174
  let c0_i32_94 : BitVec 32 := 0#32
  let v176 : BitVec 1 := Scalar.cmpi .slt c16_i32_90 c0_i32_94
  let v177 : BitVec 32 := Scalar.extui v176
  let v178 : BitVec 32 := Scalar.subi v175 v177
  let v179 : BitVec 1 := Scalar.cmpi .ne v173 v178
  let v180 : BitVec 32 := Scalar.remsi v167 c16_i32_90
  let c0_i32_95 : BitVec 32 := 0#32
  let v181 : BitVec 1 := Scalar.cmpi .ne v180 c0_i32_95
  let v182 : BitVec 1 := Scalar.andi v179 v181
  let v168 : BitVec 32 := Scalar.divsi v167 c16_i32_90
  let c1_i32_96 : BitVec 32 := 1#32
  let v183 : BitVec 32 := Scalar.subi v168 c1_i32_96
  let v184 : BitVec 32 := Scalar.select v182 v183 v168
  let v185 : BitVec 32 := Scalar.subi v184 c0_i32_98
  let c1_i32_99 : BitVec 32 := 1#32
  let v187 : BitVec 32 := Scalar.divsi v185 c1_i32_99
  let v188 : BitVec 32 := Scalar.muli v187 c1_i32_99
  let v189 : BitVec 32 := Scalar.addi c0_i32_98 v188
  let c1_i32_101 : BitVec 32 := 1#32
  let arg11 : BitVec 32 := Scf.iv v189 c1_i32_101 k0_t8
  let c16_i32_102 : BitVec 32 := 16#32
  let v190 : BitVec 32 := Scalar.muli arg11 c16_i32_102
  let v191 : BitVec 32 := Scalar.addi v136 v190
  let v192 : Index := Scalar.indexCast v191
  ![v192.toNat]

def k0_chk313 (v136 : BitVec 32) (v140 : BitVec 32) : Prop :=
  ((k0_t5_loop v140).OK) ∧
  (∀ k0_t5 : Fin (k0_t5_loop v140).trips, ∀ a, (k0_off70 v136 v140 k0_t5) a + S16.size a ≤ S27648.size a) ∧
  ((k0_t6_loop v140).OK) ∧
  (∀ k0_t6 : Fin (k0_t6_loop v140).trips, ∀ a, (k0_off71 v136 v140 k0_t6) a + S16.size a ≤ S27648.size a) ∧
  ((k0_t7_loop v140).OK) ∧
  (∀ k0_t7 : Fin (k0_t7_loop v140).trips, ∀ a, (k0_off73 v136 v140 k0_t7) a + S16.size a ≤ S27648.size a) ∧
  ((k0_t8_loop v140).OK) ∧
  (∀ k0_t8 : Fin (k0_t8_loop v140).trips, ∀ a, (k0_off74 v136 v140 k0_t8) a + S16.size a ≤ S27648.size a)
theorem k0_t5_ok : ∀ (v136 : BitVec 32) (v140 : BitVec 32) (k0_hw313 : k0_chk313 v136 v140), (k0_t5_loop v140).OK := fun v136 v140 k0_hw313 => k0_hw313.1
theorem k0_off70_inb : ∀ (v136 : BitVec 32) (v140 : BitVec 32) (k0_hw313 : k0_chk313 v136 v140) (k0_t5 : Fin (k0_t5_loop v140).trips), ∀ a, (k0_off70 v136 v140 k0_t5) a + S16.size a ≤ S27648.size a := fun v136 v140 k0_hw313 k0_t5 => k0_hw313.2.1 k0_t5
theorem k0_t6_ok : ∀ (v136 : BitVec 32) (v140 : BitVec 32) (k0_hw313 : k0_chk313 v136 v140), (k0_t6_loop v140).OK := fun v136 v140 k0_hw313 => k0_hw313.2.2.1
theorem k0_off71_inb : ∀ (v136 : BitVec 32) (v140 : BitVec 32) (k0_hw313 : k0_chk313 v136 v140) (k0_t6 : Fin (k0_t6_loop v140).trips), ∀ a, (k0_off71 v136 v140 k0_t6) a + S16.size a ≤ S27648.size a := fun v136 v140 k0_hw313 k0_t6 => k0_hw313.2.2.2.1 k0_t6
theorem k0_t7_ok : ∀ (v136 : BitVec 32) (v140 : BitVec 32) (k0_hw313 : k0_chk313 v136 v140), (k0_t7_loop v140).OK := fun v136 v140 k0_hw313 => k0_hw313.2.2.2.2.1
theorem k0_off73_inb : ∀ (v136 : BitVec 32) (v140 : BitVec 32) (k0_hw313 : k0_chk313 v136 v140) (k0_t7 : Fin (k0_t7_loop v140).trips), ∀ a, (k0_off73 v136 v140 k0_t7) a + S16.size a ≤ S27648.size a := fun v136 v140 k0_hw313 k0_t7 => k0_hw313.2.2.2.2.2.1 k0_t7
theorem k0_t8_ok : ∀ (v136 : BitVec 32) (v140 : BitVec 32) (k0_hw313 : k0_chk313 v136 v140), (k0_t8_loop v140).OK := fun v136 v140 k0_hw313 => k0_hw313.2.2.2.2.2.2.1
theorem k0_off74_inb : ∀ (v136 : BitVec 32) (v140 : BitVec 32) (k0_hw313 : k0_chk313 v136 v140) (k0_t8 : Fin (k0_t8_loop v140).trips), ∀ a, (k0_off74 v136 v140 k0_t8) a + S16.size a ≤ S27648.size a := fun v136 v140 k0_hw313 k0_t8 => k0_hw313.2.2.2.2.2.2.2 k0_t8

def k0_chk317 (v201 : IVec S16 32) (v205 : IVec S16 32) (v207 : IVec S16 32) : Prop :=
  (∀ a x, ((![v201, v205, v207] : Fin 3 → IVec S16 32) a x).toNat < S64x8x128.size a)
theorem k0_idx420_inb : ∀ (v201 : IVec S16 32) (v205 : IVec S16 32) (v207 : IVec S16 32) (k0_hw317 : k0_chk317 v201 v205 v207), ∀ a x, ((![v201, v205, v207] : Fin 3 → IVec S16 32) a x).toNat < S64x8x128.size a := fun v201 v205 v207 k0_hw317 => k0_hw317
@[reducible] def k0_t9_loop (v84 : BitVec 32) : Scf.Loop 32 :=
  let c0_i32_55 : BitVec 32 := 0#32
  let c16_i32_45 : BitVec 32 := 16#32
  let v85 : BitVec 32 := Scalar.addi v84 c16_i32_45
  let c1_i32_46 : BitVec 32 := 1#32
  let v86 : BitVec 32 := Scalar.subi v85 c1_i32_46
  let c0_i32_48 : BitVec 32 := 0#32
  let v88 : BitVec 1 := Scalar.cmpi .sgt v86 c0_i32_48
  let v89 : BitVec 32 := Scalar.extui v88
  let c0_i32_49 : BitVec 32 := 0#32
  let v90 : BitVec 1 := Scalar.cmpi .slt v86 c0_i32_49
  let v91 : BitVec 32 := Scalar.extui v90
  let v92 : BitVec 32 := Scalar.subi v89 v91
  let c16_i32_47 : BitVec 32 := 16#32
  let c0_i32_50 : BitVec 32 := 0#32
  let v93 : BitVec 1 := Scalar.cmpi .sgt c16_i32_47 c0_i32_50
  let v94 : BitVec 32 := Scalar.extui v93
  let c0_i32_51 : BitVec 32 := 0#32
  let v95 : BitVec 1 := Scalar.cmpi .slt c16_i32_47 c0_i32_51
  let v96 : BitVec 32 := Scalar.extui v95
  let v97 : BitVec 32 := Scalar.subi v94 v96
  let v98 : BitVec 1 := Scalar.cmpi .ne v92 v97
  let v99 : BitVec 32 := Scalar.remsi v86 c16_i32_47
  let c0_i32_52 : BitVec 32 := 0#32
  let v100 : BitVec 1 := Scalar.cmpi .ne v99 c0_i32_52
  let v101 : BitVec 1 := Scalar.andi v98 v100
  let v87 : BitVec 32 := Scalar.divsi v86 c16_i32_47
  let c1_i32_53 : BitVec 32 := 1#32
  let v102 : BitVec 32 := Scalar.subi v87 c1_i32_53
  let v103 : BitVec 32 := Scalar.select v101 v102 v87
  let v104 : BitVec 32 := Scalar.subi v103 c0_i32_55
  let c1_i32_56 : BitVec 32 := 1#32
  let v106 : BitVec 32 := Scalar.divsi v104 c1_i32_56
  let v107 : BitVec 32 := Scalar.muli v106 c1_i32_56
  let v108 : BitVec 32 := Scalar.addi c0_i32_55 v107
  let c1_i32_57 : BitVec 32 := 1#32
  ⟨c0_i32_55, v108, c1_i32_57⟩

def k0_off75 (v81 : BitVec 32) (v84 : BitVec 32) (k0_t9 : Fin (k0_t9_loop v84).trips) : Fin 1 → Nat :=
  let c0_i32_55 : BitVec 32 := 0#32
  let c1_i32_57 : BitVec 32 := 1#32
  let arg10 : BitVec 32 := Scf.iv c0_i32_55 c1_i32_57 k0_t9
  let c16_i32_73 : BitVec 32 := 16#32
  let v133 : BitVec 32 := Scalar.muli arg10 c16_i32_73
  let v134 : BitVec 32 := Scalar.addi v81 v133
  let v135 : Index := Scalar.indexCast v134
  ![v135.toNat]

def k0_chk319 (v144 : IVec S16 32) (v148 : IVec S16 32) (v150 : IVec S16 32) : Prop :=
  (∀ a x, ((![v144, v148, v150] : Fin 3 → IVec S16 32) a x).toNat < S64x8x128.size a)
theorem k0_idx421_inb : ∀ (v144 : IVec S16 32) (v148 : IVec S16 32) (v150 : IVec S16 32) (k0_hw319 : k0_chk319 v144 v148 v150), ∀ a x, ((![v144, v148, v150] : Fin 3 → IVec S16 32) a x).toNat < S64x8x128.size a := fun v144 v148 v150 k0_hw319 => k0_hw319
@[reducible] def k0_t10_loop (v84 : BitVec 32) : Scf.Loop 32 :=
  let c0_i32_55 : BitVec 32 := 0#32
  let c16_i32_45 : BitVec 32 := 16#32
  let v85 : BitVec 32 := Scalar.addi v84 c16_i32_45
  let c1_i32_46 : BitVec 32 := 1#32
  let v86 : BitVec 32 := Scalar.subi v85 c1_i32_46
  let c0_i32_48 : BitVec 32 := 0#32
  let v88 : BitVec 1 := Scalar.cmpi .sgt v86 c0_i32_48
  let v89 : BitVec 32 := Scalar.extui v88
  let c0_i32_49 : BitVec 32 := 0#32
  let v90 : BitVec 1 := Scalar.cmpi .slt v86 c0_i32_49
  let v91 : BitVec 32 := Scalar.extui v90
  let v92 : BitVec 32 := Scalar.subi v89 v91
  let c16_i32_47 : BitVec 32 := 16#32
  let c0_i32_50 : BitVec 32 := 0#32
  let v93 : BitVec 1 := Scalar.cmpi .sgt c16_i32_47 c0_i32_50
  let v94 : BitVec 32 := Scalar.extui v93
  let c0_i32_51 : BitVec 32 := 0#32
  let v95 : BitVec 1 := Scalar.cmpi .slt c16_i32_47 c0_i32_51
  let v96 : BitVec 32 := Scalar.extui v95
  let v97 : BitVec 32 := Scalar.subi v94 v96
  let v98 : BitVec 1 := Scalar.cmpi .ne v92 v97
  let v99 : BitVec 32 := Scalar.remsi v86 c16_i32_47
  let c0_i32_52 : BitVec 32 := 0#32
  let v100 : BitVec 1 := Scalar.cmpi .ne v99 c0_i32_52
  let v101 : BitVec 1 := Scalar.andi v98 v100
  let v87 : BitVec 32 := Scalar.divsi v86 c16_i32_47
  let c1_i32_53 : BitVec 32 := 1#32
  let v102 : BitVec 32 := Scalar.subi v87 c1_i32_53
  let v103 : BitVec 32 := Scalar.select v101 v102 v87
  let v104 : BitVec 32 := Scalar.subi v103 c0_i32_55
  let c1_i32_56 : BitVec 32 := 1#32
  let v106 : BitVec 32 := Scalar.divsi v104 c1_i32_56
  let v107 : BitVec 32 := Scalar.muli v106 c1_i32_56
  let v108 : BitVec 32 := Scalar.addi c0_i32_55 v107
  let v105 : BitVec 32 := Scalar.addi c0_i32_55 v104
  let c1_i32_58 : BitVec 32 := 1#32
  ⟨v108, v105, c1_i32_58⟩
def k0_off76 (v81 : BitVec 32) (v84 : BitVec 32) (k0_t10 : Fin (k0_t10_loop v84).trips) : Fin 1 → Nat :=
  let c0_i32_55 : BitVec 32 := 0#32
  let c16_i32_45 : BitVec 32 := 16#32
  let v85 : BitVec 32 := Scalar.addi v84 c16_i32_45
  let c1_i32_46 : BitVec 32 := 1#32
  let v86 : BitVec 32 := Scalar.subi v85 c1_i32_46
  let c0_i32_48 : BitVec 32 := 0#32
  let v88 : BitVec 1 := Scalar.cmpi .sgt v86 c0_i32_48
  let v89 : BitVec 32 := Scalar.extui v88
  let c0_i32_49 : BitVec 32 := 0#32
  let v90 : BitVec 1 := Scalar.cmpi .slt v86 c0_i32_49
  let v91 : BitVec 32 := Scalar.extui v90
  let v92 : BitVec 32 := Scalar.subi v89 v91
  let c16_i32_47 : BitVec 32 := 16#32
  let c0_i32_50 : BitVec 32 := 0#32
  let v93 : BitVec 1 := Scalar.cmpi .sgt c16_i32_47 c0_i32_50
  let v94 : BitVec 32 := Scalar.extui v93
  let c0_i32_51 : BitVec 32 := 0#32
  let v95 : BitVec 1 := Scalar.cmpi .slt c16_i32_47 c0_i32_51
  let v96 : BitVec 32 := Scalar.extui v95
  let v97 : BitVec 32 := Scalar.subi v94 v96
  let v98 : BitVec 1 := Scalar.cmpi .ne v92 v97
  let v99 : BitVec 32 := Scalar.remsi v86 c16_i32_47
  let c0_i32_52 : BitVec 32 := 0#32
  let v100 : BitVec 1 := Scalar.cmpi .ne v99 c0_i32_52
  let v101 : BitVec 1 := Scalar.andi v98 v100
  let v87 : BitVec 32 := Scalar.divsi v86 c16_i32_47
  let c1_i32_53 : BitVec 32 := 1#32
  let v102 : BitVec 32 := Scalar.subi v87 c1_i32_53
  let v103 : BitVec 32 := Scalar.select v101 v102 v87
  let v104 : BitVec 32 := Scalar.subi v103 c0_i32_55
  let c1_i32_56 : BitVec 32 := 1#32
  let v106 : BitVec 32 := Scalar.divsi v104 c1_i32_56
  let v107 : BitVec 32 := Scalar.muli v106 c1_i32_56
  let v108 : BitVec 32 := Scalar.addi c0_i32_55 v107
  let c1_i32_58 : BitVec 32 := 1#32
  let arg10 : BitVec 32 := Scf.iv v108 c1_i32_58 k0_t10
  let c16_i32_73 : BitVec 32 := 16#32
  let v133 : BitVec 32 := Scalar.muli arg10 c16_i32_73
  let v134 : BitVec 32 := Scalar.addi v81 v133
  let v135 : Index := Scalar.indexCast v134
  ![v135.toNat]

def k0_chk320 (v144 : IVec S16 32) (v148 : IVec S16 32) (v150 : IVec S16 32) : Prop :=
  (∀ a x, ((![v144, v148, v150] : Fin 3 → IVec S16 32) a x).toNat < S64x8x128.size a)
theorem k0_idx422_inb : ∀ (v144 : IVec S16 32) (v148 : IVec S16 32) (v150 : IVec S16 32) (k0_hw320 : k0_chk320 v144 v148 v150), ∀ a x, ((![v144, v148, v150] : Fin 3 → IVec S16 32) a x).toNat < S64x8x128.size a := fun v144 v148 v150 k0_hw320 => k0_hw320
def k0_off77 (i : grid0.Coords) : Fin 4 → Nat :=
  let c3776_i32_r5 : BitVec 32 := 3776#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76_r5 : BitVec 32 := 0#32
  let c0_i32_77_r5 : BitVec 32 := 0#32
  ![3776, v1.toNat, 0, 0]
@[reducible] def k0_t11_loop (v84 : BitVec 32) : Scf.Loop 32 :=
  let c0_i32_69 : BitVec 32 := 0#32
  let c16_i32_59 : BitVec 32 := 16#32
  let v109 : BitVec 32 := Scalar.addi v84 c16_i32_59
  let c1_i32_60 : BitVec 32 := 1#32
  let v110 : BitVec 32 := Scalar.subi v109 c1_i32_60
  let c0_i32_62 : BitVec 32 := 0#32
  let v112 : BitVec 1 := Scalar.cmpi .sgt v110 c0_i32_62
  let v113 : BitVec 32 := Scalar.extui v112
  let c0_i32_63 : BitVec 32 := 0#32
  let v114 : BitVec 1 := Scalar.cmpi .slt v110 c0_i32_63
  let v115 : BitVec 32 := Scalar.extui v114
  let v116 : BitVec 32 := Scalar.subi v113 v115
  let c16_i32_61 : BitVec 32 := 16#32
  let c0_i32_64 : BitVec 32 := 0#32
  let v117 : BitVec 1 := Scalar.cmpi .sgt c16_i32_61 c0_i32_64
  let v118 : BitVec 32 := Scalar.extui v117
  let c0_i32_65 : BitVec 32 := 0#32
  let v119 : BitVec 1 := Scalar.cmpi .slt c16_i32_61 c0_i32_65
  let v120 : BitVec 32 := Scalar.extui v119
  let v121 : BitVec 32 := Scalar.subi v118 v120
  let v122 : BitVec 1 := Scalar.cmpi .ne v116 v121
  let v123 : BitVec 32 := Scalar.remsi v110 c16_i32_61
  let c0_i32_66 : BitVec 32 := 0#32
  let v124 : BitVec 1 := Scalar.cmpi .ne v123 c0_i32_66
  let v125 : BitVec 1 := Scalar.andi v122 v124
  let v111 : BitVec 32 := Scalar.divsi v110 c16_i32_61
  let c1_i32_67 : BitVec 32 := 1#32
  let v126 : BitVec 32 := Scalar.subi v111 c1_i32_67
  let v127 : BitVec 32 := Scalar.select v125 v126 v111
  let v128 : BitVec 32 := Scalar.subi v127 c0_i32_69
  let c1_i32_70 : BitVec 32 := 1#32
  let v130 : BitVec 32 := Scalar.divsi v128 c1_i32_70
  let v131 : BitVec 32 := Scalar.muli v130 c1_i32_70
  let v132 : BitVec 32 := Scalar.addi c0_i32_69 v131
  let c1_i32_71 : BitVec 32 := 1#32
  ⟨c0_i32_69, v132, c1_i32_71⟩
def k0_off78 (v81 : BitVec 32) (v84 : BitVec 32) (k0_t11 : Fin (k0_t11_loop v84).trips) : Fin 1 → Nat :=
  let c0_i32_69 : BitVec 32 := 0#32
  let c1_i32_71 : BitVec 32 := 1#32
  let arg10 : BitVec 32 := Scf.iv c0_i32_69 c1_i32_71 k0_t11
  let c16_i32_73 : BitVec 32 := 16#32
  let v133 : BitVec 32 := Scalar.muli arg10 c16_i32_73
  let v134 : BitVec 32 := Scalar.addi v81 v133
  let v135 : Index := Scalar.indexCast v134
  ![v135.toNat]

def k0_chk321 (v144 : IVec S16 32) (v148 : IVec S16 32) (v150 : IVec S16 32) : Prop :=
  (∀ a x, ((![v144, v148, v150] : Fin 3 → IVec S16 32) a x).toNat < S64x8x128.size a)
theorem k0_idx423_inb : ∀ (v144 : IVec S16 32) (v148 : IVec S16 32) (v150 : IVec S16 32) (k0_hw321 : k0_chk321 v144 v148 v150), ∀ a x, ((![v144, v148, v150] : Fin 3 → IVec S16 32) a x).toNat < S64x8x128.size a := fun v144 v148 v150 k0_hw321 => k0_hw321
@[reducible] def k0_t12_loop (v84 : BitVec 32) : Scf.Loop 32 :=
  let c0_i32_69 : BitVec 32 := 0#32
  let c16_i32_59 : BitVec 32 := 16#32
  let v109 : BitVec 32 := Scalar.addi v84 c16_i32_59
  let c1_i32_60 : BitVec 32 := 1#32
  let v110 : BitVec 32 := Scalar.subi v109 c1_i32_60
  let c0_i32_62 : BitVec 32 := 0#32
  let v112 : BitVec 1 := Scalar.cmpi .sgt v110 c0_i32_62
  let v113 : BitVec 32 := Scalar.extui v112
  let c0_i32_63 : BitVec 32 := 0#32
  let v114 : BitVec 1 := Scalar.cmpi .slt v110 c0_i32_63
  let v115 : BitVec 32 := Scalar.extui v114
  let v116 : BitVec 32 := Scalar.subi v113 v115
  let c16_i32_61 : BitVec 32 := 16#32
  let c0_i32_64 : BitVec 32 := 0#32
  let v117 : BitVec 1 := Scalar.cmpi .sgt c16_i32_61 c0_i32_64
  let v118 : BitVec 32 := Scalar.extui v117
  let c0_i32_65 : BitVec 32 := 0#32
  let v119 : BitVec 1 := Scalar.cmpi .slt c16_i32_61 c0_i32_65
  let v120 : BitVec 32 := Scalar.extui v119
  let v121 : BitVec 32 := Scalar.subi v118 v120
  let v122 : BitVec 1 := Scalar.cmpi .ne v116 v121
  let v123 : BitVec 32 := Scalar.remsi v110 c16_i32_61
  let c0_i32_66 : BitVec 32 := 0#32
  let v124 : BitVec 1 := Scalar.cmpi .ne v123 c0_i32_66
  let v125 : BitVec 1 := Scalar.andi v122 v124
  let v111 : BitVec 32 := Scalar.divsi v110 c16_i32_61
  let c1_i32_67 : BitVec 32 := 1#32
  let v126 : BitVec 32 := Scalar.subi v111 c1_i32_67
  let v127 : BitVec 32 := Scalar.select v125 v126 v111
  let v128 : BitVec 32 := Scalar.subi v127 c0_i32_69
  let c1_i32_70 : BitVec 32 := 1#32
  let v130 : BitVec 32 := Scalar.divsi v128 c1_i32_70
  let v131 : BitVec 32 := Scalar.muli v130 c1_i32_70
  let v132 : BitVec 32 := Scalar.addi c0_i32_69 v131
  let v129 : BitVec 32 := Scalar.addi c0_i32_69 v128
  let c1_i32_72 : BitVec 32 := 1#32
  ⟨v132, v129, c1_i32_72⟩
def k0_off79 (v81 : BitVec 32) (v84 : BitVec 32) (k0_t12 : Fin (k0_t12_loop v84).trips) : Fin 1 → Nat :=
  let c0_i32_69 : BitVec 32 := 0#32
  let c16_i32_59 : BitVec 32 := 16#32
  let v109 : BitVec 32 := Scalar.addi v84 c16_i32_59
  let c1_i32_60 : BitVec 32 := 1#32
  let v110 : BitVec 32 := Scalar.subi v109 c1_i32_60
  let c0_i32_62 : BitVec 32 := 0#32
  let v112 : BitVec 1 := Scalar.cmpi .sgt v110 c0_i32_62
  let v113 : BitVec 32 := Scalar.extui v112
  let c0_i32_63 : BitVec 32 := 0#32
  let v114 : BitVec 1 := Scalar.cmpi .slt v110 c0_i32_63
  let v115 : BitVec 32 := Scalar.extui v114
  let v116 : BitVec 32 := Scalar.subi v113 v115
  let c16_i32_61 : BitVec 32 := 16#32
  let c0_i32_64 : BitVec 32 := 0#32
  let v117 : BitVec 1 := Scalar.cmpi .sgt c16_i32_61 c0_i32_64
  let v118 : BitVec 32 := Scalar.extui v117
  let c0_i32_65 : BitVec 32 := 0#32
  let v119 : BitVec 1 := Scalar.cmpi .slt c16_i32_61 c0_i32_65
  let v120 : BitVec 32 := Scalar.extui v119
  let v121 : BitVec 32 := Scalar.subi v118 v120
  let v122 : BitVec 1 := Scalar.cmpi .ne v116 v121
  let v123 : BitVec 32 := Scalar.remsi v110 c16_i32_61
  let c0_i32_66 : BitVec 32 := 0#32
  let v124 : BitVec 1 := Scalar.cmpi .ne v123 c0_i32_66
  let v125 : BitVec 1 := Scalar.andi v122 v124
  let v111 : BitVec 32 := Scalar.divsi v110 c16_i32_61
  let c1_i32_67 : BitVec 32 := 1#32
  let v126 : BitVec 32 := Scalar.subi v111 c1_i32_67
  let v127 : BitVec 32 := Scalar.select v125 v126 v111
  let v128 : BitVec 32 := Scalar.subi v127 c0_i32_69
  let c1_i32_70 : BitVec 32 := 1#32
  let v130 : BitVec 32 := Scalar.divsi v128 c1_i32_70
  let v131 : BitVec 32 := Scalar.muli v130 c1_i32_70
  let v132 : BitVec 32 := Scalar.addi c0_i32_69 v131
  let c1_i32_72 : BitVec 32 := 1#32
  let arg10 : BitVec 32 := Scf.iv v132 c1_i32_72 k0_t12
  let c16_i32_73 : BitVec 32 := 16#32
  let v133 : BitVec 32 := Scalar.muli arg10 c16_i32_73
  let v134 : BitVec 32 := Scalar.addi v81 v133
  let v135 : Index := Scalar.indexCast v134
  ![v135.toNat]

def k0_chk318 (v81 : BitVec 32) (v84 : BitVec 32) : Prop :=
  ((k0_t9_loop v84).OK) ∧
  (∀ k0_t9 : Fin (k0_t9_loop v84).trips, ∀ a, (k0_off75 v81 v84 k0_t9) a + S16.size a ≤ S27648.size a) ∧
  ((k0_t10_loop v84).OK) ∧
  (∀ k0_t10 : Fin (k0_t10_loop v84).trips, ∀ a, (k0_off76 v81 v84 k0_t10) a + S16.size a ≤ S27648.size a) ∧
  ((k0_t11_loop v84).OK) ∧
  (∀ k0_t11 : Fin (k0_t11_loop v84).trips, ∀ a, (k0_off78 v81 v84 k0_t11) a + S16.size a ≤ S27648.size a) ∧
  ((k0_t12_loop v84).OK) ∧
  (∀ k0_t12 : Fin (k0_t12_loop v84).trips, ∀ a, (k0_off79 v81 v84 k0_t12) a + S16.size a ≤ S27648.size a)
theorem k0_t9_ok : ∀ (v81 : BitVec 32) (v84 : BitVec 32) (k0_hw318 : k0_chk318 v81 v84), (k0_t9_loop v84).OK := fun v81 v84 k0_hw318 => k0_hw318.1
theorem k0_off75_inb : ∀ (v81 : BitVec 32) (v84 : BitVec 32) (k0_hw318 : k0_chk318 v81 v84) (k0_t9 : Fin (k0_t9_loop v84).trips), ∀ a, (k0_off75 v81 v84 k0_t9) a + S16.size a ≤ S27648.size a := fun v81 v84 k0_hw318 k0_t9 => k0_hw318.2.1 k0_t9
theorem k0_t10_ok : ∀ (v81 : BitVec 32) (v84 : BitVec 32) (k0_hw318 : k0_chk318 v81 v84), (k0_t10_loop v84).OK := fun v81 v84 k0_hw318 => k0_hw318.2.2.1
theorem k0_off76_inb : ∀ (v81 : BitVec 32) (v84 : BitVec 32) (k0_hw318 : k0_chk318 v81 v84) (k0_t10 : Fin (k0_t10_loop v84).trips), ∀ a, (k0_off76 v81 v84 k0_t10) a + S16.size a ≤ S27648.size a := fun v81 v84 k0_hw318 k0_t10 => k0_hw318.2.2.2.1 k0_t10
theorem k0_t11_ok : ∀ (v81 : BitVec 32) (v84 : BitVec 32) (k0_hw318 : k0_chk318 v81 v84), (k0_t11_loop v84).OK := fun v81 v84 k0_hw318 => k0_hw318.2.2.2.2.1
theorem k0_off78_inb : ∀ (v81 : BitVec 32) (v84 : BitVec 32) (k0_hw318 : k0_chk318 v81 v84) (k0_t11 : Fin (k0_t11_loop v84).trips), ∀ a, (k0_off78 v81 v84 k0_t11) a + S16.size a ≤ S27648.size a := fun v81 v84 k0_hw318 k0_t11 => k0_hw318.2.2.2.2.2.1 k0_t11
theorem k0_t12_ok : ∀ (v81 : BitVec 32) (v84 : BitVec 32) (k0_hw318 : k0_chk318 v81 v84), (k0_t12_loop v84).OK := fun v81 v84 k0_hw318 => k0_hw318.2.2.2.2.2.2.1
theorem k0_off79_inb : ∀ (v81 : BitVec 32) (v84 : BitVec 32) (k0_hw318 : k0_chk318 v81 v84) (k0_t12 : Fin (k0_t12_loop v84).trips), ∀ a, (k0_off79 v81 v84 k0_t12) a + S16.size a ≤ S27648.size a := fun v81 v84 k0_hw318 k0_t12 => k0_hw318.2.2.2.2.2.2.2 k0_t12

def k0_chk322 (v144 : IVec S16 32) (v148 : IVec S16 32) (v150 : IVec S16 32) : Prop :=
  (∀ a x, ((![v144, v148, v150] : Fin 3 → IVec S16 32) a x).toNat < S64x8x128.size a)
theorem k0_idx424_inb : ∀ (v144 : IVec S16 32) (v148 : IVec S16 32) (v150 : IVec S16 32) (k0_hw322 : k0_chk322 v144 v148 v150), ∀ a x, ((![v144, v148, v150] : Fin 3 → IVec S16 32) a x).toNat < S64x8x128.size a := fun v144 v148 v150 k0_hw322 => k0_hw322
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S4 : Shape := ⟨1, ![4]⟩
abbrev S_ : Shape := ⟨0, ![]⟩
abbrev S4096x30522 : Shape := ⟨2, ![4096, 30522]⟩
abbrev S4096 : Shape := ⟨1, ![4096]⟩
abbrev S4096x1 : Shape := ⟨2, ![4096, 1]⟩
abbrev S4096x200x1 : Shape := ⟨3, ![4096, 200, 1]⟩
abbrev S4096x200x2 : Shape := ⟨3, ![4096, 200, 2]⟩
abbrev S4x1 : Shape := ⟨2, ![4, 1]⟩
abbrev S4096x4 : Shape := ⟨2, ![4096, 4]⟩

abbrev nBuf : Space → Nat
  | .hbm => 38
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4, .i32⟩
  | .hbm, ⟨2, _⟩ => ⟨S_, .f32⟩
  | .hbm, ⟨3, _⟩ => ⟨S4096x30522, .f32⟩
  | .hbm, ⟨4, _⟩ => ⟨S4096, .i32⟩
  | .hbm, ⟨5, _⟩ => ⟨S4096x1, .i32⟩
  | .hbm, ⟨6, _⟩ => ⟨S_, .i32⟩
  | .hbm, ⟨7, _⟩ => ⟨S4096x1, .i32⟩
  | .hbm, ⟨8, _⟩ => ⟨S4096x1, .i1⟩
  | .hbm, ⟨9, _⟩ => ⟨S_, .i32⟩
  | .hbm, ⟨10, _⟩ => ⟨S4096x1, .i32⟩
  | .hbm, ⟨11, _⟩ => ⟨S4096x1, .i32⟩
  | .hbm, ⟨12, _⟩ => ⟨S4096x1, .i32⟩
  | .hbm, ⟨13, _⟩ => ⟨S_, .i32⟩
  | .hbm, ⟨14, _⟩ => ⟨S4096x200, .i32⟩
  | .hbm, ⟨15, _⟩ => ⟨S4096x200, .i1⟩
  | .hbm, ⟨16, _⟩ => ⟨S_, .i32⟩
  | .hbm, ⟨17, _⟩ => ⟨S4096x200, .i32⟩
  | .hbm, ⟨18, _⟩ => ⟨S4096x200, .i32⟩
  | .hbm, ⟨19, _⟩ => ⟨S4096x200, .i32⟩
  | .hbm, ⟨20, _⟩ => ⟨S4096x200, .i32⟩
  | .hbm, ⟨21, _⟩ => ⟨S4096x200x1, .i32⟩
  | .hbm, ⟨22, _⟩ => ⟨S4096x200x1, .i32⟩
  | .hbm, ⟨23, _⟩ => ⟨S4096x200x2, .i32⟩
  | .hbm, ⟨24, _⟩ => ⟨S_, .f32⟩
  | .hbm, ⟨25, _⟩ => ⟨S4096x200, .f32⟩
  | .hbm, ⟨26, _⟩ => ⟨S4096x30522, .f32⟩
  | .hbm, ⟨27, _⟩ => ⟨S_, .i32⟩
  | .hbm, ⟨28, _⟩ => ⟨S4, .i32⟩
  | .hbm, ⟨29, _⟩ => ⟨S4, .i1⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S4, .i32⟩
  | .hbm, ⟨34, _⟩ => ⟨S4x1, .i32⟩
  | .hbm, ⟨35, _⟩ => ⟨S_, .f32⟩
  | .hbm, ⟨36, _⟩ => ⟨S4096x4, .f32⟩
  | .hbm, ⟨37, _⟩ => ⟨S4096x30522, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Fold.lean ====
module

public import proofs.«01_k».proof.Proof.Gen.KernelIdeal.Skeleton

@[expose] public section

/-! # The kernel's unrolled code as counted steps

The kernel unrolls its short loops: 104 sixteen-lane steps clean a block of token ids, 104 count
them, 104 place them, 64 zero a slab of the staging buffer.  Each of these is one step at a number
`n`, and the unrolled code is the steps one after the other. -/

noncomputable section

namespace Cert.Proof.Bow

open Cert.KernelIdeal Cert.KernelIdeal.Gen
open Idealize.ShloMosaic Idealize.SL.Sem

variable {F : FTy → Type} [FloatOps F]

/-- A program of the tile at the grid coordinates `i`. -/
abbrev TP (F : FTy → Type) (i : grid0.Coords) (α : Type) :=
  Prog (TpuEff nD τ sig (Elt F) Λ₀ (.scVector ((i 0).castLE hcore0) ((i 1).castLE hsub0))) α

/-- The steps `f n` for the numbers `n` of a list, in order. -/
def seqL {i : grid0.Coords} (f : Nat → TP F i PUnit) : List Nat → TP F i PUnit
  | [] => pure ⟨⟩
  | n :: ns => f n >>= fun _ => seqL f ns

/-- Where the `n`-th sixteen-lane group of a block of ids begins: row `n / 13`, columns
`16 (n % 13)` and on, the columns in two tiles of 128. -/
def cOff (n : Nat) : Fin 3 → Nat := ![(n % 13) * 16 / 128 % 2, n / 13 % 8, (n % 13) * 16 % 128]

theorem cOff_inb (n : Nat) : ∀ a, cOff n a + S1x1x16.size a ≤ S2x8x128.size a := by
  intro a
  fin_cases a
  · show (n % 13) * 16 / 128 % 2 + 1 ≤ 2; omega
  · show n / 13 % 8 + 1 ≤ 8; omega
  · show (n % 13) * 16 % 128 + 16 ≤ 128; omega

/-- Where the `n`-th sixteen-lane group of slab `t` of the staging buffer begins. -/
def zOff (t : Nat) (n : Nat) : Fin 3 → Nat :=
  ![(Scalar.indexCast (Scf.iv 0#32 1#32 t)).toNat, n / 8 % 8, 16 * (n % 8)]

/-- Special token ids become an id past the vocabulary. -/
def cleanV (v : IVec S16 32) : IVec S16 32 :=
  select (ori (ori (ori (cmpi .eq v (broadcast S16 0#32)) (cmpi .eq v (broadcast S16 101#32)))
    (cmpi .eq v (broadcast S16 102#32))) (cmpi .eq v (broadcast S16 103#32)))
    (broadcast S16 32256#32) v

/-- The lane numbers. -/
def lanesV : IVec S16 32 := iota .scVector S16 32 [0] iota_S16_d0_w32_scVector

/-- The lane mask of group `n`: the last group of a row holds eight tokens only. -/
def maskV (v5 : IVec S16 32) (n : Nat) : IVec S16 1 :=
  cond (Nat.beq (n % 13) 12) (cmpi .slt v5 (broadcast S16 8#32)) (broadcast S16 1#1)

/-- Clean group `n` of the block of ids. -/
def cleanStep (i : grid0.Coords) (arg4 : Memref sig .scVector .vmem S2x8x128 .i32) (n : Nat) :
    TP F i PUnit := do
  let ld : Vec F S1x1x16 .i32 ← Prog.lift (.load arg4 (Rect.unit (s := S2x8x128) (cOff n) S1x1x16.size (cOff_inb n)).toLoadRect (View.loadsAt_vmem h_S1x1x16))
  let _ld : Vec F S1x1x16 .i32 ← Prog.lift (.load arg4 (Rect.unit (s := S2x8x128) (cOff n) S1x1x16.size (cOff_inb n)).toLoadRect (View.loadsAt_vmem h_S1x1x16))
  Prog.lift (.store arg4 (Rect.unit (s := S2x8x128) (cOff n) S1x1x16.size (cOff_inb n)) (shapeCast S1x1x16 (cleanV (shapeCast S16 ld shapeCasts_S1x1x16_S16)) shapeCasts_S16_S1x1x16) Finset.univ (View.stores_vmem_bits_univ h_S1x1x16 rfl) (.inl rfl))

/-- Count group `n` of the block of ids by window. -/
def histStep (i : grid0.Coords) (arg4 : Memref sig .scVector .vmem S2x8x128 .i32)
    (arg7 : Memref sig .scVector .vmem S80 .i32) (v5 : IVec S16 32) (n : Nat) : TP F i PUnit := do
  let ld : Vec F S1x1x16 .i32 ← Prog.lift (.load arg4 (Rect.unit (s := S2x8x128) (cOff n) S1x1x16.size (cOff_inb n)).toLoadRect (View.loadsAt_vmem h_S1x1x16))
  let w : IVec S16 32 := shrui (shapeCast S16 ld shapeCasts_S1x1x16_S16) (broadcast S16 9#32)
  let hw ← Prog.lift (TpuEff.assume (k0_chk1 w) (k0_chk1.dec w))
  SparseCore.vectorStoreIdx arg7 ![w] (addi (scanCount (maskV v5 n) w).2 (broadcast S16 0#32)) (scanCount (maskV v5 n) w).1 true (k0_idx1_inb w hw.down) (View.stores_vmem_bits_univ h_S80 rfl)

/-- The row of the tile's batch that the group `n` of block `g` belongs to. -/
def rowV (g : BitVec 32) (n : Nat) : IVec S16 32 :=
  addi (broadcast S16 0#32) (broadcast S16 (Scalar.addi (Scalar.muli g 8#32) (BitVec.ofNat 32 (n / 13))))

/-- The packed staging address of a token id. -/
def addrV (v : IVec S16 32) (g : BitVec 32) (n : Nat) : IVec S16 32 :=
  addi (addi (muli (andi (shrui v (broadcast S16 3#32)) (broadcast S16 63#32)) (broadcast S16 1024#32))
    (muli (andi v (broadcast S16 7#32)) (broadcast S16 128#32))) (rowV g n)

/-- Place group `n` of block `g` in the lists. -/
def placeStep (i : grid0.Coords) (arg4 : Memref sig .scVector .vmem S2x8x128 .i32)
    (arg5 : Memref sig .scVector .vmem S27648 .i32)
    (arg9 : Memref sig .scVector .vmem S80 .i32) (v5 : IVec S16 32) (g : BitVec 32) (n : Nat) :
    TP F i PUnit := do
  let ld : Vec F S1x1x16 .i32 ← Prog.lift (.load arg4 (Rect.unit (s := S2x8x128) (cOff n) S1x1x16.size (cOff_inb n)).toLoadRect (View.loadsAt_vmem h_S1x1x16))
  let v : IVec S16 32 := shapeCast S16 ld shapeCasts_S1x1x16_S16
  let w : IVec S16 32 := shrui v (broadcast S16 9#32)
  let hw ← Prog.lift (TpuEff.assume (k0_chk105 w) (k0_chk105.dec w))
  let b : Vec F S16 .i32 ← SparseCore.vectorLoadIdx arg9 ![w] (k0_idx105_inb w hw.down) (View.loads_vmem h_S80)
  let slot : IVec S16 32 := subi (addi b (scanCount (maskV v5 n) w).2) (broadcast S16 1#32)
  let hs ← Prog.lift (TpuEff.assume (k0_chk106 slot) (k0_chk106.dec slot))
  SparseCore.vectorStoreIdx arg5 ![slot] (addrV v g n) (maskV v5 n) false (k0_idx106_inb slot hs.down) (View.stores_vmem_bits_univ h_S27648 rfl)
  SparseCore.vectorStoreIdx arg9 ![w] (addi (addi b (scanCount (maskV v5 n) w).2) (broadcast S16 0#32)) (scanCount (maskV v5 n) w).1 false (k0_idx107_inb w hw.down) (View.stores_vmem_bits_univ h_S80 rfl)

theorem zOff_inb (t : Fin k0_t1_loop.trips) (n : Nat) :
    ∀ a, zOff t n a + S1x1x16.size a ≤ S64x8x128.size a := by
  have ht : t.val < 64 := t.isLt
  intro a
  fin_cases a
  · show (0#32 + BitVec.ofNat 32 t.val * 1#32).toNat + 1 ≤ 64
    have : (0#32 + BitVec.ofNat 32 t.val * 1#32).toNat = t.val := by simp; omega
    omega
  · show n / 8 % 8 + 1 ≤ 8; omega
  · show 16 * (n % 8) + 16 ≤ 128; omega

/-- Zero group `n` of slab `t` of the staging buffer. -/
def zeroStep (i : grid0.Coords) (arg6 : Memref sig .scVector .vmem S64x8x128 .f32)
    (v2 : FVec F S16 .f32) (t : Fin k0_t1_loop.trips) (n : Nat) : TP F i PUnit := do
  let _ld : Vec F S1x1x16 .f32 ← Prog.lift (.load arg6 (Rect.unit (s := S64x8x128) (zOff t n) S1x1x16.size (zOff_inb t n)).toLoadRect (View.loadsAt_vmem h_S1x1x16))
  Prog.lift (.store arg6 (Rect.unit (s := S64x8x128) (zOff t n) S1x1x16.size (zOff_inb t n)) (shapeCast S1x1x16 v2 shapeCasts_S16_S1x1x16) Finset.univ (View.stores_vmem_bits_univ h_S1x1x16 rfl) (.inl rfl))

/-- Copy one 8 × 128 piece of the padded ids into a half of the block buffer and wait for it. -/
def fetch (i : grid0.Coords) (arg2 : Memref sig .scVector .hbm S4096x256 .i32)
    (arg4 : Memref sig .scVector .vmem S2x8x128 .i32) (s : DmaSems sig S_)
    (off : Fin 2 → Nat) (hoff : ∀ a, off a + S8x128.size a ≤ S4096x256.size a)
    (half : Fin 3 → Nat) (hhalf : ∀ a, half a + S1x8x128.size a ≤ S2x8x128.size a) :
    TP F i PUnit := do
  Prog.lift (.enqueueDma (arg2.slice (Rect.unit (s := S4096x256) off S8x128.size hoff) (fun _ => rfl))
    (.here ((arg4.slice (Rect.unit (s := S2x8x128) half S1x8x128.size hhalf) (fun _ => rfl)).squeeze S8x128 squeezes_S1x8x128_S8x128))
    (.dma s.sem) (View.wordExact_bits rfl) ((View.wordExact_bits rfl).reshape _ _) ⟨Or.inl rfl, trivial⟩)
  Prog.lift (.waitDma2 s.sem (arg2.slice (Rect.unit (s := S4096x256) off S8x128.size hoff) (fun _ => rfl))
    ((arg4.slice (Rect.unit (s := S2x8x128) half S1x8x128.size hhalf) (fun _ => rfl)).squeeze S8x128 squeezes_S1x8x128_S8x128)
    (View.wordExact_bits rfl) ((View.wordExact_bits rfl).reshape _ _))

theorem op_congr {E : Type → Type} {α β : Type} {e e' : E β} {k k' : β → Prog E α} (h : e = e')
    (hk : ∀ x, k x = k' x) : Prog.op e k = Prog.op e' k' := by
  subst h; exact congrArg _ (funext hk)

section Fold

variable (i : grid0.Coords) (arg2 : Memref sig .scVector .hbm S4096x256 .i32) (harg2 : arg2.IsWhole) (arg3 : Memref sig .scVector .hbm S3816x32x8x128 .f32) (harg3 : arg3.IsWhole) (arg4 : Memref sig .scVector .vmem S2x8x128 .i32) (harg4 : arg4.IsWhole) (arg5 : Memref sig .scVector .vmem S27648 .i32) (harg5 : arg5.IsWhole) (arg6 : Memref sig .scVector .vmem S64x8x128 .f32) (harg6 : arg6.IsWhole) (arg7 : Memref sig .scVector .vmem S80 .i32) (harg7 : arg7.IsWhole) (arg8 : Memref sig .scVector .vmem S80 .i32) (harg8 : arg8.IsWhole) (arg9 : Memref sig .scVector .vmem S80 .i32) (harg9 : arg9.IsWhole) (v2953_r0 : DmaSems sig S_) (v2953_r1 : DmaSems sig S_) (v4761_r2 : DmaSems sig S_) (v4761_r3 : DmaSems sig S_) (v190_r4 : DmaSems sig S_) (v133_r5 : DmaSems sig S_)

set_option maxRecDepth 100000 in
set_option maxHeartbeats 4000000 in
theorem t1_fold :
    k0_t1_body (F := F) i arg2 harg2 arg3 harg3 arg4 harg4 arg5 harg5 arg6 harg6 arg7 harg7 arg8 harg8 arg9 harg9 v2953_r0 v2953_r1 v4761_r2 v4761_r3 v190_r4 v133_r5
      = fun t _ => seqL (zeroStep i arg6 (k0_pay1675 (F := F)) t) (List.range 64) := rfl

set_option maxRecDepth 100000 in
set_option maxHeartbeats 40000000 in
theorem t2_fold (v6 : BitVec 32) :
    k0_t2_body (F := F) i arg2 harg2 arg3 harg3 arg4 harg4 arg5 harg5 arg6 harg6 arg7 harg7 arg8 harg8 arg9 harg9 v2953_r0 v2953_r1 v4761_r2 v4761_r3 v190_r4 v133_r5 lanesV v6
      = fun t _ => (do
          fetch i arg2 arg4 v2953_r0 (k0_off65 i t) (k0_off65_inb i t) ![0, 0, 0] inb_S2x8x128_S1x8x128_0_0_0
          fetch i arg2 arg4 v2953_r1 (k0_off66 i t) (k0_off66_inb i t) ![1, 0, 0] inb_S2x8x128_S1x8x128_1_0_0
          seqL (cleanStep i arg4) (List.range 104)
          seqL (histStep i arg4 arg7 lanesV) (List.range 104)) := by
  funext t u
  iterate 731 refine op_congr rfl (fun _ => ?_)
  rfl

set_option maxRecDepth 100000 in
set_option maxHeartbeats 40000000 in
theorem t3_fold (v2 v3 : FVec F S16 .f32) (v6 v60 c15 : BitVec 32) (v61 : Vec F S16 .i32) :
    k0_t3_body (F := F) i arg2 harg2 arg3 harg3 arg4 harg4 arg5 harg5 arg6 harg6 arg7 harg7 arg8 harg8 arg9 harg9 v2953_r0 v2953_r1 v4761_r2 v4761_r3 v190_r4 v133_r5 v2 v3 lanesV v6 v60 v61 c15
      = fun t _ => (do
          fetch i arg2 arg4 v4761_r2 (k0_off67 i t) (k0_off67_inb i t) ![0, 0, 0] inb_S2x8x128_S1x8x128_0_0_0
          fetch i arg2 arg4 v4761_r3 (k0_off68 i t) (k0_off68_inb i t) ![1, 0, 0] inb_S2x8x128_S1x8x128_1_0_0
          seqL (cleanStep i arg4) (List.range 104)
          seqL (placeStep i arg4 arg5 arg9 lanesV (Scf.iv 0#32 1#32 t)) (List.range 104)) := by
  funext t u
  iterate 1147 refine op_congr rfl (fun _ => ?_)
  rfl

end Fold

end Cert.Proof.Bow
-- ==== Proof.Lanes.lean ====
module

public import proofs.«01_k».proof.Proof.Gen.KernelIdeal

@[expose] public section

/-! # Sixteen-lane counting and indexed stores

What the running count of equal lanes and the indexed stores driven by it do to a table of
counters and to the lists behind it. -/

noncomputable section

namespace Cert.Proof.Bow

open Cert.KernelIdeal Cert.KernelIdeal.Gen
open Idealize.ShloMosaic Idealize.SL.Sem

variable {F : FTy → Type} [FloatOps F]

/-! ## Indexed stores -/

section Store

variable {s : Shape} {e : EltTy} {d : Fin 1 → Nat}

/-- One lane of an indexed store. -/
def stStep (idx : (⟨1, d⟩ : Shape).Idx → s.Idx) (v : Vec F ⟨1, d⟩ e) (mask : IVec ⟨1, d⟩ 1) (add : Bool)
    (g : Vec F s e) (k : Fin (d 0)) : Vec F s e :=
  let x := Shape.ofLane k
  if mask x = 1 then
    let i := idx x
    let y := if add then Elt.idxAdd e (g i) (v x) else v x
    fun j => if (∀ a, (j a).val = (i a).val) then y else g j
  else g

theorem storeIdx_eq (f : Vec F s e) (idxs : Fin s.rank → IVec ⟨1, d⟩ 32) (v : Vec F ⟨1, d⟩ e)
    (mask : IVec ⟨1, d⟩ 1) (add : Bool) (h) :
    storeIdx f idxs v mask add h
      = (List.finRange (d 0)).foldl (stStep (F := F) (idxAt idxs h) v mask add) f := by
  unfold storeIdx stStep
  refine congrArg (fun st => List.foldl st f (List.finRange (d 0))) ?_
  funext g k
  dsimp only
  by_cases hm : mask (Shape.ofLane k) = 1
  · rw [if_pos hm, if_pos hm]
    funext j
    by_cases hj : ∀ a, (j a).val = (idxAt idxs h (Shape.ofLane k) a).val
    · exact (if_pos hj).trans (if_pos hj).symm
    · exact (if_neg hj).trans (if_neg hj).symm
  · rw [if_neg hm, if_neg hm]

theorem fold_miss (idx : (⟨1, d⟩ : Shape).Idx → s.Idx) (v : Vec F ⟨1, d⟩ e) (mask : IVec ⟨1, d⟩ 1)
    (add : Bool) (j : s.Idx) (L : List (Fin (d 0))) : ∀ (f : Vec F s e),
    (∀ k ∈ L, mask (Shape.ofLane k) = 1 → idx (Shape.ofLane k) ≠ j) →
    L.foldl (stStep idx v mask add) f j = f j := by
  induction L with
  | nil => intro f _; rfl
  | cons k L ih =>
    intro f h
    rw [List.foldl_cons, ih _ fun k' hk' => h k' (List.mem_cons_of_mem _ hk')]
    unfold stStep
    dsimp only
    by_cases hm : mask (Shape.ofLane k) = 1
    · rw [if_pos hm]
      refine if_neg ?_
      intro hj
      exact h k List.mem_cons_self hm (funext fun a => Fin.ext (hj a).symm)
    · rw [if_neg hm]

theorem fold_hit (idx : (⟨1, d⟩ : Shape).Idx → s.Idx) (v : Vec F ⟨1, d⟩ e) (mask : IVec ⟨1, d⟩ 1)
    (add : Bool) (l : Fin (d 0)) (L : List (Fin (d 0))) : ∀ (f : Vec F s e),
    L.Nodup → l ∈ L → mask (Shape.ofLane l) = 1 →
    (∀ k ∈ L, k ≠ l → mask (Shape.ofLane k) = 1 → idx (Shape.ofLane k) ≠ idx (Shape.ofLane l)) →
    L.foldl (stStep idx v mask add) f (idx (Shape.ofLane l))
      = if add then Elt.idxAdd e (f (idx (Shape.ofLane l))) (v (Shape.ofLane l)) else v (Shape.ofLane l) := by
  induction L with
  | nil => intro f _ hl; exact absurd hl (List.not_mem_nil)
  | cons k L ih =>
    intro f hn hl hm h
    rw [List.foldl_cons]
    rw [List.nodup_cons] at hn
    by_cases hkl : k = l
    · subst hkl
      rw [fold_miss idx v mask add _ L _ fun k' hk' hm' => h k' (List.mem_cons_of_mem _ hk')
        (fun e => hn.1 (e ▸ hk')) hm']
      unfold stStep
      dsimp only
      rw [if_pos hm, if_pos fun _ => rfl]
    · have hl' : l ∈ L := by
        rcases List.mem_cons.mp hl with h' | h'
        · exact absurd h'.symm hkl
        · exact h'
      rw [ih _ hn.2 hl' hm fun k' hk' => h k' (List.mem_cons_of_mem _ hk')]
      have : stStep idx v mask add f k (idx (Shape.ofLane l)) = f (idx (Shape.ofLane l)) := by
        unfold stStep
        dsimp only
        by_cases hmk : mask (Shape.ofLane k) = 1
        · rw [if_pos hmk]
          refine if_neg ?_
          intro hj
          exact h k List.mem_cons_self hkl hmk (funext fun a => Fin.ext (hj a).symm)
        · rw [if_neg hmk]
      rw [this]

theorem ofLane_lane (x : (⟨1, d⟩ : Shape).Idx) : Shape.ofLane (x 0) = x := by
  funext a
  have : a = 0 := Fin.eq_zero a
  subst this
  rfl

/-- An element that no set lane names keeps its value. -/
theorem storeIdx_miss (f : Vec F s e) (idxs : Fin s.rank → IVec ⟨1, d⟩ 32) (v : Vec F ⟨1, d⟩ e)
    (mask : IVec ⟨1, d⟩ 1) (add : Bool) (h) (j : s.Idx)
    (hj : ∀ x, mask x = 1 → idxAt idxs h x ≠ j) : storeIdx f idxs v mask add h j = f j := by
  rw [storeIdx_eq]
  exact fold_miss _ _ _ _ _ _ _ fun k _ hm => hj _ hm

/-- An element that exactly one set lane names takes that lane's value. -/
theorem storeIdx_hit (f : Vec F s e) (idxs : Fin s.rank → IVec ⟨1, d⟩ 32) (v : Vec F ⟨1, d⟩ e)
    (mask : IVec ⟨1, d⟩ 1) (add : Bool) (h) (x : (⟨1, d⟩ : Shape).Idx) (hx : mask x = 1)
    (hu : ∀ y, y ≠ x → mask y = 1 → idxAt idxs h y ≠ idxAt idxs h x) :
    storeIdx f idxs v mask add h (idxAt idxs h x)
      = if add then Elt.idxAdd e (f (idxAt idxs h x)) (v x) else v x := by
  have hl := ofLane_lane x
  rw [storeIdx_eq]
  have := fold_hit (F := F) (idxAt idxs h) v mask add (x 0) (List.finRange (d 0)) f (List.nodup_finRange _)
    (List.mem_finRange _) (by rw [hl]; exact hx)
    (fun k _ hk hm => by
      rw [hl]; exact hu _ (fun e => hk (by rw [← e]; rfl)) hm)
  rw [hl] at this
  exact this

/-- An unadded store of one value at every set lane: the elements the set lanes name take it. -/
theorem storeIdx_const (f : Vec F s e) (idxs : Fin s.rank → IVec ⟨1, d⟩ 32) (c : Elt F e)
    (mask : IVec ⟨1, d⟩ 1) (h) (j : s.Idx) :
    storeIdx f idxs (fun _ => c) mask false h j
      = open Classical in if ∃ x, mask x = 1 ∧ idxAt idxs h x = j then c else f j := by
  classical
  rw [storeIdx_eq]
  have key : ∀ (L : List (Fin (d 0))) (f : Vec F s e),
      L.foldl (stStep (F := F) (idxAt idxs h) (fun _ => c) mask false) f j
        = if ∃ k ∈ L, mask (Shape.ofLane k) = 1 ∧ idxAt idxs h (Shape.ofLane k) = j then c else f j := by
    intro L
    induction L with
    | nil => intro f; simp
    | cons k L ih =>
      intro f
      rw [List.foldl_cons, ih]
      by_cases hL : ∃ k ∈ L, mask (Shape.ofLane k) = 1 ∧ idxAt idxs h (Shape.ofLane k) = j
      · rw [if_pos hL, if_pos]
        obtain ⟨k', hk', hh⟩ := hL
        exact ⟨k', List.mem_cons_of_mem _ hk', hh⟩
      · rw [if_neg hL]
        unfold stStep
        dsimp only
        by_cases hm : mask (Shape.ofLane k) = 1
        · rw [if_pos hm]
          by_cases hj : ∀ a, (j a).val = (idxAt idxs h (Shape.ofLane k) a).val
          · refine (if_pos hj).trans (Eq.trans rfl (if_pos ?_).symm)
            exact ⟨k, List.mem_cons_self, hm, (funext fun a => Fin.ext (hj a).symm)⟩
          · refine (if_neg hj).trans (if_neg ?_).symm
            rintro ⟨k', hk', hm', hj'⟩
            rcases List.mem_cons.mp hk' with rfl | hk'
            · exact hj fun a => by rw [hj']
            · exact hL ⟨k', hk', hm', hj'⟩
        · rw [if_neg hm, if_neg]
          rintro ⟨k', hk', hm', hj'⟩
          rcases List.mem_cons.mp hk' with rfl | hk'
          · exact hm hm'
          · exact hL ⟨k', hk', hm', hj'⟩
  rw [key]
  refine if_congr ⟨?_, ?_⟩ rfl rfl
  · rintro ⟨k, _, hh⟩; exact ⟨_, hh⟩
  · rintro ⟨x, hh⟩; exact ⟨x 0, List.mem_finRange _, by rw [ofLane_lane]; exact hh⟩

end Store

/-! ## The running count of equal lanes -/

/-- How many set lanes hold `x`. -/
def hits (m : IVec S16 1) (w : IVec S16 32) (x : BitVec 32) : Nat :=
  (Finset.univ.filter fun l : S16.Idx => m l = 1 ∧ w l = x).card

/-- How many set lanes up to `l` hold what lane `l` holds. -/
def rank (m : IVec S16 1) (w : IVec S16 32) (l : S16.Idx) : Nat :=
  (Finset.univ.filter fun j : S16.Idx => (j 0).val ≤ (l 0).val ∧ m j = 1 ∧ w j = w l).card

theorem lane_ext {x y : S16.Idx} (h : (x 0).val = (y 0).val) : x = y := by
  funext a
  have : a = 0 := Fin.eq_zero a
  subst this
  exact Fin.ext h

theorem scanCount_fst (m : IVec S16 1) (w : IVec S16 32) (l : S16.Idx) :
    (scanCount m w).1 l = 1 ↔ m l = 1 ∧ ∀ j : S16.Idx, (l 0).val < (j 0).val → ¬(m j = 1 ∧ w j = w l) := by
  unfold scanCount
  simp only [Shape.rowMajor_val_one]
  split
  · next h => exact ⟨fun _ => h, fun _ => rfl⟩
  · next h => exact ⟨fun e => absurd e (by decide), fun e => absurd e h⟩

theorem scanCount_snd (m : IVec S16 1) (w : IVec S16 32) (l : S16.Idx) (h : m l = 1) :
    (scanCount m w).2 l = BitVec.ofNat 32 (rank m w l) := by
  unfold scanCount
  simp only [Shape.rowMajor_val_one]
  rw [if_pos h]
  rfl

theorem scanCount_snd' (m : IVec S16 1) (w : IVec S16 32) (l : S16.Idx) (h : ¬ m l = 1) :
    (scanCount m w).2 l = 1 := by
  unfold scanCount
  simp only [Shape.rowMajor_val_one]
  rw [if_neg h]

theorem hits_le (m : IVec S16 1) (w : IVec S16 32) (x : BitVec 32) : hits m w x ≤ 16 := by
  unfold hits
  refine (Finset.card_le_univ _).trans ?_
  decide

theorem rank_le_hits (m : IVec S16 1) (w : IVec S16 32) (l : S16.Idx) : rank m w l ≤ hits m w (w l) := by
  unfold rank hits
  exact Finset.card_le_card fun j hj => by
    simp only [Finset.mem_filter, Finset.mem_univ, true_and] at hj ⊢
    exact hj.2

theorem rank_pos (m : IVec S16 1) (w : IVec S16 32) (l : S16.Idx) (h : m l = 1) : 1 ≤ rank m w l := by
  unfold rank
  refine Finset.card_pos.mpr ⟨l, ?_⟩
  simp only [Finset.mem_filter, Finset.mem_univ, true_and]
  exact ⟨le_refl _, h, trivial⟩

theorem rank_lt (m : IVec S16 1) (w : IVec S16 32) (l l' : S16.Idx) (h' : m l' = 1) (hw : w l = w l')
    (hl : (l 0).val < (l' 0).val) : rank m w l < rank m w l' := by
  unfold rank
  refine Finset.card_lt_card ⟨fun j hj => ?_, fun hh => ?_⟩
  · simp only [Finset.mem_filter, Finset.mem_univ, true_and] at hj ⊢
    exact ⟨by omega, hj.2.1, hj.2.2.trans hw⟩
  · have := @hh l' (by simp only [Finset.mem_filter, Finset.mem_univ, true_and]; exact ⟨le_refl _, h', trivial⟩)
    simp only [Finset.mem_filter, Finset.mem_univ, true_and] at this
    omega

theorem rank_inj (m : IVec S16 1) (w : IVec S16 32) (l l' : S16.Idx) (h : m l = 1) (h' : m l' = 1)
    (hw : w l = w l') (hr : rank m w l = rank m w l') : l = l' := by
  rcases Nat.lt_trichotomy (l 0).val (l' 0).val with hl | hl | hl
  · exact absurd hr (rank_lt m w l l' h' hw hl).ne
  · exact lane_ext hl
  · exact absurd hr (rank_lt m w l' l h hw.symm hl).ne'

/-- The last set lane of a value counts them all. -/
theorem rank_last (m : IVec S16 1) (w : IVec S16 32) (l : S16.Idx)
    (hlast : ∀ j : S16.Idx, (l 0).val < (j 0).val → ¬(m j = 1 ∧ w j = w l)) :
    rank m w l = hits m w (w l) := by
  unfold rank hits
  congr 1
  ext j
  simp only [Finset.mem_filter, Finset.mem_univ, true_and]
  refine ⟨fun h => h.2, fun h => ⟨?_, h⟩⟩
  by_contra hlt
  exact hlast j (by omega) h

/-- A value some set lane holds has a last one. -/
theorem exists_last (m : IVec S16 1) (w : IVec S16 32) (l : S16.Idx) (h : m l = 1) :
    ∃ k, w k = w l ∧ (scanCount m w).1 k = 1 := by
  obtain ⟨k, hk, hmax⟩ := Finset.exists_max_image
    (Finset.univ.filter fun j : S16.Idx => m j = 1 ∧ w j = w l) (fun j => (j 0).val) ⟨l, by simp [h]⟩
  simp only [Finset.mem_filter, Finset.mem_univ, true_and] at hk hmax
  refine ⟨k, hk.2, (scanCount_fst m w k).mpr ⟨hk.1, fun j hj hm => ?_⟩⟩
  have := hmax j ⟨hm.1, hm.2.trans hk.2⟩
  omega

theorem last_inj (m : IVec S16 1) (w : IVec S16 32) (l l' : S16.Idx) (h : (scanCount m w).1 l = 1)
    (h' : (scanCount m w).1 l' = 1) (hw : w l = w l') : l = l' := by
  obtain ⟨hm, hl⟩ := (scanCount_fst m w l).mp h
  obtain ⟨hm', hl'⟩ := (scanCount_fst m w l').mp h'
  rcases Nat.lt_trichotomy (l 0).val (l' 0).val with hlt | hlt | hlt
  · exact absurd ⟨hm', hw.symm⟩ (hl l' hlt)
  · exact lane_ext hlt
  · exact absurd ⟨hm, hw⟩ (hl' l hlt)

/-- Every rank up to the count is some set lane's. -/
theorem exists_rank (m : IVec S16 1) (w : IVec S16 32) (x : BitVec 32) (i : Nat) (hi : i < hits m w x) :
    ∃ l, m l = 1 ∧ w l = x ∧ rank m w l = i + 1 := by
  classical
  set S := Finset.univ.filter fun l : S16.Idx => m l = 1 ∧ w l = x with hS
  have hmem : ∀ l, l ∈ S ↔ m l = 1 ∧ w l = x := fun l => by simp [hS]
  have hcard : S.card = hits m w x := rfl
  have hsub : S.image (rank m w) ⊆ Finset.Icc 1 (hits m w x) := by
    intro r hr
    obtain ⟨l, hl, rfl⟩ := Finset.mem_image.mp hr
    obtain ⟨hm, hw⟩ := (hmem l).mp hl
    rw [Finset.mem_Icc]
    exact ⟨rank_pos m w l hm, hw ▸ rank_le_hits m w l⟩
  have hci : (S.image (rank m w)).card = hits m w x := by
    rw [Finset.card_image_of_injOn, hcard]
    intro l hl l' hl' hr
    obtain ⟨hm, hw⟩ := (hmem l).mp hl
    obtain ⟨hm', hw'⟩ := (hmem l').mp hl'
    exact rank_inj m w l l' hm hm' (hw.trans hw'.symm) hr
  have heq := Finset.eq_of_subset_of_card_le hsub (by rw [hci]; simp)
  have : i + 1 ∈ S.image (rank m w) := by rw [heq, Finset.mem_Icc]; omega
  obtain ⟨l, hl, hr⟩ := Finset.mem_image.mp this
  obtain ⟨hm, hw⟩ := (hmem l).mp hl
  exact ⟨l, hm, hw, hr⟩

/-! ## Tables of counters -/

/-- The `n`-th word of a rank-one buffer (zero past its end). -/
def at1 {d : Fin 1 → Nat} (f : (⟨1, d⟩ : Shape).Idx → BitVec 32) (n : Nat) : BitVec 32 :=
  if h : n < d 0 then f (Shape.ofLane ⟨n, h⟩) else 0

theorem at1_eq {d : Fin 1 → Nat} (f : (⟨1, d⟩ : Shape).Idx → BitVec 32) (j : (⟨1, d⟩ : Shape).Idx) :
    at1 f (j 0).val = f j := by
  unfold at1
  rw [dif_pos (j 0).isLt]
  exact congrArg f (ofLane_lane j)

theorem idxAt1 {d : Fin 1 → Nat} (w : IVec S16 32) (h : ∀ a x, ((![w] : Fin 1 → IVec S16 32) a x).toNat < (⟨1, d⟩ : Shape).size a)
    (l : S16.Idx) (f : (⟨1, d⟩ : Shape).Idx → BitVec 32) :
    f (idxAt (s := (⟨1, d⟩ : Shape)) ![w] h l) = at1 f (w l).toNat := by
  rw [← at1_eq f]
  rfl

/-- Storing at the last lane of each value the count of its set lanes on top of the table (added by
the store or by the lane itself) adds the counts to the table. -/
theorem last_store (f : Vec F S80 .i32) (m : IVec S16 1) (w : IVec S16 32) (v : IVec S16 32) (add : Bool)
    (h : ∀ a x, ((![w] : Fin 1 → IVec S16 32) a x).toNat < S80.size a)
    (hv : ∀ l, m l = 1 → v l = (if add then 0 else at1 f (w l).toNat) + BitVec.ofNat 32 (rank m w l))
    (n : Nat) (hn : n < 80) :
    at1 (storeIdx (F := F) (e := .i32) f ![w] v (scanCount m w).1 add h : Vec F S80 .i32) n
      = at1 f n + BitVec.ofNat 32 (hits m w (BitVec.ofNat 32 n)) := by
  obtain ⟨j, rfl⟩ : ∃ j : S80.Idx, (j 0).val = n := ⟨Shape.ofLane ⟨n, hn⟩, rfl⟩
  rw [at1_eq, at1_eq]
  by_cases hx : ∃ l, (scanCount m w).1 l = 1 ∧ idxAt (s := S80) ![w] h l = j
  · obtain ⟨l, hl, hlj⟩ := hx
    have hw : w l = BitVec.ofNat 32 (j 0).val := by
      rw [← hlj]
      show w l = BitVec.ofNat 32 (w l).toNat
      simp
    obtain ⟨hm, hlast⟩ := (scanCount_fst m w l).mp hl
    have hu : ∀ y, y ≠ l → (scanCount m w).1 y = 1 → idxAt (s := S80) ![w] h y ≠ idxAt (s := S80) ![w] h l := by
      intro y hy hmy he
      refine hy (last_inj m w y l hmy hl ?_)
      have : (w y).toNat = (w l).toNat := congrArg (fun i : S80.Idx => (i 0).val) he
      exact BitVec.eq_of_toNat_eq this
    rw [← hlj, storeIdx_hit _ _ _ _ _ _ l hl hu, idxAt1 (d := ![80]) w h l f, hv l hm, rank_last m w l hlast, hlj, ← hw]
    cases add <;> simp
  · rw [storeIdx_miss]
    · have : hits m w (BitVec.ofNat 32 (j 0).val) = 0 := by
        unfold hits
        rw [Finset.card_eq_zero, Finset.filter_eq_empty_iff]
        rintro l - ⟨hm, hw⟩
        obtain ⟨k, hk, hlast⟩ := exists_last m w l hm
        refine hx ⟨k, hlast, ?_⟩
        funext a
        have : a = 0 := Fin.eq_zero a
        subst this
        apply Fin.ext
        show (w k).toNat = (j 0).val
        rw [hk, hw, BitVec.toNat_ofNat, Nat.mod_eq_of_lt]
        exact (j 0).isLt.trans (by decide)
      rw [this]; simp
    · intro l hl he
      exact hx ⟨l, hl, he⟩

end Cert.Proof.Bow
-- ==== Proof.Place.lean ====
module

public import proofs.«01_k».proof.Proof.Lanes

@[expose] public section

/-! # Placing a stream of groups in lists by window

A stream of sixteen-lane groups with masks `M`, windows `W` and values `A`: counted by window, the
counts rounded up to whole groups of sixteen and summed to bases `B`, and each value stored in its
window's list behind the values of that window before it. -/

noncomputable section

namespace Cert.Proof.Bow

open Cert.KernelIdeal Cert.KernelIdeal.Gen
open Idealize.ShloMosaic Idealize.SL.Sem

variable {F : FTy → Type} [FloatOps F]

theorem lists_keep (L : Vec F S27648 .i32) (m : IVec S16 1) (w a slot : IVec S16 32)
    (h : ∀ a x, ((![slot] : Fin 1 → IVec S16 32) a x).toNat < S27648.size a) (n : Nat)
    (hn : ∀ l, m l = 1 → (slot l).toNat ≠ n) :
    at1 (storeIdx (F := F) (e := .i32) L ![slot] a m false h : Vec F S27648 .i32) n = at1 L n := by
  by_cases hlt : n < 27648
  · obtain ⟨j, rfl⟩ : ∃ j : S27648.Idx, (j 0).val = n := ⟨Shape.ofLane ⟨n, hlt⟩, rfl⟩
    rw [at1_eq, at1_eq, storeIdx_miss]
    intro l hl he
    exact hn l hl (congrArg (fun i : S27648.Idx => (i 0).val) he)
  · unfold at1
    rw [dif_neg (show ¬ n < (![27648] : Fin 1 → Nat) 0 from hlt), dif_neg (show ¬ n < (![27648] : Fin 1 → Nat) 0 from hlt)]

theorem lists_put (L : Vec F S27648 .i32) (m : IVec S16 1) (a slot : IVec S16 32)
    (h : ∀ a x, ((![slot] : Fin 1 → IVec S16 32) a x).toNat < S27648.size a) (l : S16.Idx) (hl : m l = 1)
    (hu : ∀ y, m y = 1 → (slot y).toNat = (slot l).toNat → y = l) :
    at1 (storeIdx (F := F) (e := .i32) L ![slot] a m false h : Vec F S27648 .i32) (slot l).toNat = a l := by
  have e : (slot l).toNat = ((idxAt (s := S27648) ![slot] h l) 0).val := rfl
  rw [e, at1_eq, storeIdx_hit _ _ _ _ _ _ l hl]
  · rfl
  · intro y hy hm he
    exact hy (hu y hm (congrArg (fun i : S27648.Idx => (i 0).val) he))

/-- How many set lanes of the first `k` groups are in window `x`. -/
def cnt (M : Nat → IVec S16 1) (W : Nat → IVec S16 32) (k x : Nat) : Nat :=
  (Finset.range k).sum fun k' => hits (M k') (W k') (BitVec.ofNat 32 x)

/-- A count rounded up to whole groups of sixteen. -/
def r16 (n : Nat) : Nat := (n + 15) / 16 * 16

/-- Where window `x`'s list begins. -/
def base (M : Nat → IVec S16 1) (W : Nat → IVec S16 32) (N x : Nat) : Nat :=
  (Finset.range x).sum fun y => r16 (cnt M W N y)

/-- The lists after the first `k` groups: every value is in its window's list, and every entry of a
list is such a value. -/
def Placed (M : Nat → IVec S16 1) (W A : Nat → IVec S16 32) (B : Nat → Nat) (k : Nat)
    (L : S27648.Idx → BitVec 32) : Prop :=
  (∀ k' < k, ∀ l, M k' l = 1 → ∃ i < cnt M W k (W k' l).toNat, at1 L (B (W k' l).toNat + i) = A k' l) ∧
  (∀ x < 64, ∀ i < cnt M W k x, ∃ k' < k, ∃ l, M k' l = 1 ∧ (W k' l).toNat = x ∧ at1 L (B x + i) = A k' l)

section Stream

variable (M : Nat → IVec S16 1) (W A : Nat → IVec S16 32)

theorem cnt_succ (k x : Nat) : cnt M W (k + 1) x = cnt M W k x + hits (M k) (W k) (BitVec.ofNat 32 x) := by
  unfold cnt; rw [Finset.sum_range_succ]

theorem cnt_mono {k k' : Nat} (h : k ≤ k') (x : Nat) : cnt M W k x ≤ cnt M W k' x := by
  unfold cnt
  exact Finset.sum_le_sum_of_subset (Finset.range_mono h)

theorem placed_zero (B : Nat → Nat) (L : S27648.Idx → BitVec 32) : Placed M W A B 0 L := by
  refine ⟨fun k' hk => absurd hk (Nat.not_lt_zero _), fun x _ i hi => absurd hi ?_⟩
  unfold cnt; simp

theorem placed_step (B : Nat → Nat) (k : Nat) (L : Vec F S27648 .i32) (slot : IVec S16 32)
    (h : ∀ a x, ((![slot] : Fin 1 → IVec S16 32) a x).toNat < S27648.size a)
    (hW : ∀ k l, (W k l).toNat < 64)
    (hslot : ∀ l, M k l = 1 → (slot l).toNat = B (W k l).toNat + cnt M W k (W k l).toNat + rank (M k) (W k) l - 1)
    (hB : ∀ x y, x < y → y < 64 → B x + cnt M W (k + 1) x ≤ B y)
    (hP : Placed M W A B k L) :
    Placed M W A B (k + 1) (storeIdx (F := F) (e := .i32) L ![slot] (A k) (M k) false h) := by
  have hofnat : ∀ l, BitVec.ofNat 32 (W k l).toNat = W k l := fun l => by simp
  -- a slot lies past its window's old entries and within its new ones
  have hrange : ∀ l, M k l = 1 → B (W k l).toNat + cnt M W k (W k l).toNat ≤ (slot l).toNat
      ∧ (slot l).toNat < B (W k l).toNat + cnt M W (k + 1) (W k l).toNat := by
    intro l hl
    have h1 := rank_pos (M k) (W k) l hl
    have h2 := rank_le_hits (M k) (W k) l
    rw [hslot l hl, cnt_succ, hofnat]
    omega
  have hwin : ∀ l x n, M k l = 1 → x < 64 → B x ≤ n → n < B x + cnt M W (k + 1) x → (slot l).toNat = n →
      (W k l).toNat = x := by
    intro l x n hl hx h1 h2 he
    have := hrange l hl
    rcases Nat.lt_trichotomy (W k l).toNat x with hlt | heq | hgt
    · have := hB _ _ hlt hx; omega
    · exact heq
    · have := hB _ _ hgt (hW k l); omega
  have hkeep : ∀ x i, x < 64 → i < cnt M W k x →
      at1 (storeIdx (F := F) (e := .i32) L ![slot] (A k) (M k) false h : Vec F S27648 .i32) (B x + i) = at1 L (B x + i) := by
    intro x i hx hi
    refine lists_keep L (M k) (W k) (A k) slot h _ fun l hl he => ?_
    have hc := cnt_mono M W (show k ≤ k + 1 from Nat.le_succ k) x
    have := hwin l x _ hl hx (Nat.le_add_right _ _) (by omega) he
    have h3 := (hrange l hl).1
    rw [this] at h3
    omega
  have hput : ∀ l, M k l = 1 →
      at1 (storeIdx (F := F) (e := .i32) L ![slot] (A k) (M k) false h : Vec F S27648 .i32) (slot l).toNat = A k l := by
    intro l hl
    refine lists_put L (M k) (A k) slot h l hl fun y hy he => ?_
    have hr := hrange l hl
    have hw := hwin y (W k l).toNat _ hy (hW k l) (by omega) hr.2 he
    refine rank_inj (M k) (W k) y l hy hl (BitVec.eq_of_toNat_eq hw) ?_
    have h1 := rank_pos (M k) (W k) l hl
    have h2 := rank_pos (M k) (W k) y hy
    rw [hslot y hy, hslot l hl, hw] at he
    omega
  refine ⟨fun k' hk' l hl => ?_, fun x hx i hi => ?_⟩
  · rcases Nat.lt_succ_iff_lt_or_eq.mp hk' with hlt | rfl
    · obtain ⟨i, hi, he⟩ := hP.1 k' hlt l hl
      exact ⟨i, lt_of_lt_of_le hi (cnt_mono M W (show k ≤ k + 1 from Nat.le_succ k) _), by rw [hkeep _ _ (hW k' l) hi, he]⟩
    · have hr := hrange l hl
      refine ⟨(slot l).toNat - B (W k' l).toNat, by omega, ?_⟩
      have e : B (W k' l).toNat + ((slot l).toNat - B (W k' l).toNat) = (slot l).toNat := by omega
      rw [e, hput l hl]
  · by_cases hi' : i < cnt M W k x
    · obtain ⟨k', hk', l, hl, hw, he⟩ := hP.2 x hx i hi'
      exact ⟨k', Nat.lt_succ_of_lt hk', l, hl, hw, by rw [hkeep x i hx hi', he]⟩
    · have hi2 : i - cnt M W k x < hits (M k) (W k) (BitVec.ofNat 32 x) := by rw [cnt_succ] at hi; omega
      obtain ⟨l, hl, hw, hr⟩ := exists_rank (M k) (W k) (BitVec.ofNat 32 x) _ hi2
      have hwx : (W k l).toNat = x := by
        rw [hw, BitVec.toNat_ofNat]; omega
      refine ⟨k, Nat.lt_succ_self k, l, hl, hwx, ?_⟩
      have hs := hslot l hl
      rw [hwx, hr] at hs
      have e : B x + i = (slot l).toNat := by rw [hs]; omega
      rw [e, hput l hl]

/-! ## The bases -/

theorem sum_hits_le (m : IVec S16 1) (w : IVec S16 32) :
    ((Finset.range 64).sum fun x => hits m w (BitVec.ofNat 32 x)) ≤ 16 := by
  classical
  unfold hits
  rw [← Finset.card_biUnion]
  · refine (Finset.card_le_univ _).trans ?_
    decide
  · intro x hx y hy hne
    rw [Function.onFun, Finset.disjoint_left]
    intro l hl hl'
    simp only [Finset.mem_filter, Finset.mem_univ, true_and] at hl hl'
    have := congrArg BitVec.toNat (hl.2.symm.trans hl'.2)
    simp only [Finset.coe_range, Set.mem_Iio] at hx hy
    rw [BitVec.toNat_ofNat, BitVec.toNat_ofNat] at this
    omega

theorem sum_cnt_le (N : Nat) : ((Finset.range 64).sum fun x => cnt M W N x) ≤ 16 * N := by
  unfold cnt
  rw [Finset.sum_comm]
  refine (Finset.sum_le_card_nsmul _ _ 16 fun k _ => sum_hits_le (M k) (W k)).trans ?_
  simp; omega

theorem r16_le (n : Nat) : r16 n ≤ n + 15 := by unfold r16; omega
theorem le_r16 (n : Nat) : n ≤ r16 n := by unfold r16; omega

theorem base_succ (N x : Nat) : base M W N (x + 1) = base M W N x + r16 (cnt M W N x) := by
  unfold base; rw [Finset.sum_range_succ]

theorem base_mono (N : Nat) {x y : Nat} (h : x ≤ y) : base M W N x ≤ base M W N y := by
  unfold base
  exact Finset.sum_le_sum_of_subset (Finset.range_mono h)

theorem base_le (N : Nat) : base M W N 64 ≤ 16 * N + 960 := by
  have h1 : base M W N 64 ≤ (Finset.range 64).sum fun x => (cnt M W N x + 15) := by
    unfold base
    exact Finset.sum_le_sum fun x _ => r16_le _
  have h2 := sum_cnt_le M W N
  rw [Finset.sum_add_distrib] at h1
  simp only [Finset.sum_const, Finset.card_range, smul_eq_mul] at h1
  omega

theorem base_next (N : Nat) {x y : Nat} (h : x < y) : base M W N x + r16 (cnt M W N x) ≤ base M W N y := by
  rw [← base_succ]; exact base_mono M W N h

theorem base_bound (N : Nat) {x : Nat} (h : x < 64) :
    base M W N x + r16 (cnt M W N x) ≤ 16 * N + 960 :=
  (base_next M W N h).trans (base_le M W N)

end Stream

end Cert.Proof.Bow
-- ==== Proof.Ctx.lean ====
module

public import proofs.«01_k».proof.Proof.Fold
public import proofs.«01_k».proof.Proof.Place
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic

@[expose] public section

/-! # The tile's context

The launch's names, the buffers a tile works on, and the rule for steps run in order. -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

/-- The resources of the whole launch. -/
abbrev MM (F : FTy → Type) := MT nD τ sig (HIx 1) (Elt F) ℕ UU ℕ

abbrev EH : Emb UH (MM F) := embL

/-- The tile at the grid coordinates `i`. -/
abbrev thr (d : Dev nD) (i : grid0.Coords) : Thread nD τ :=
  V d ((i 0).castLE hcore0) ((i 1).castLE hsub0)

abbrev bIds : Memref sig .scVector .hbm S4096x256 .i32 := Memref.whole main_v0_scv
abbrev bOut : Memref sig .scVector .hbm S3816x32x8x128 .f32 := Memref.whole main_v1_scv
abbrev b4 : Memref sig .scVector .vmem S2x8x128 .i32 := Memref.whole cc0_scratch0
abbrev b5 : Memref sig .scVector .vmem S27648 .i32 := Memref.whole cc0_scratch1
abbrev b6 : Memref sig .scVector .vmem S64x8x128 .f32 := Memref.whole cc0_scratch2
abbrev b7 : Memref sig .scVector .vmem S80 .i32 := Memref.whole cc0_scratch3
abbrev b8 : Memref sig .scVector .vmem S80 .i32 := Memref.whole cc0_scratch4
abbrev b9 : Memref sig .scVector .vmem S80 .i32 := Memref.whole cc0_scratch5

section
variable (d : Dev nD) (i : grid0.Coords)

/-- The six buffers of the tile, each whole at the contents given. -/
abbrev p4 (f : S2x8x128.Idx → BitVec 32) : sProp (MM F) := b4.view.loc (thr d i) ↦{fullShare} f
abbrev p5 (f : S27648.Idx → BitVec 32) : sProp (MM F) := b5.view.loc (thr d i) ↦{fullShare} f
abbrev p6 (f : S64x8x128.Idx → F .f32) : sProp (MM F) := b6.view.loc (thr d i) ↦{fullShare} f
abbrev p7 (f : S80.Idx → BitVec 32) : sProp (MM F) := b7.view.loc (thr d i) ↦{fullShare} f
abbrev p8 (f : S80.Idx → BitVec 32) : sProp (MM F) := b8.view.loc (thr d i) ↦{fullShare} f
abbrev p9 (f : S80.Idx → BitVec 32) : sProp (MM F) := b9.view.loc (thr d i) ↦{fullShare} f

/-- The weakest precondition of a program of the tile. -/
abbrev wpT {α : Type} (p : TP F i α) (Q : α → sProp (MM F)) : sProp (MM F) :=
  wp frame (wpE (defs₀ (F := F)) 𝒱₀ (thr d i) none) Set.univ p Q

/-- Steps in order: an assertion that each step carries from its number to the next. -/
theorem seqL_wp {f : Nat → TP F i PUnit} (I : Nat → sProp (MM F)) (N : Nat)
    (h : ∀ n, n < N → I n ⊢ wpT d i (f n) fun _ => I (n + 1)) :
    I 0 ⊢ wpT d i (seqL f (List.range N)) fun _ => I N := by
  suffices H : ∀ k a, a + k = N → I a ⊢ wpT d i (seqL f (List.range' a k)) fun _ => I N by
    have := H N 0 (by omega)
    rwa [← List.range_eq_range'] at this
  intro k
  induction k with
  | zero =>
    intro a ha
    obtain rfl : a = N := by omega
    show _ ⊢ wp _ _ _ (Prog.ret _) _
    rw [wp_ret]
    exact fupd_intro
  | succ k ih =>
    intro a ha
    show _ ⊢ wp _ _ _ (f a >>= fun _ => seqL f (List.range' (a + 1) k)) _
    rw [wp_bind]
    exact (h a (by omega)).trans (wp_mono _ _ _ fun _ => ih (a + 1) (by omega))

/-- A program's pieces one after the other. -/
theorem wpT_bind {α β : Type} {p : TP F i α} {k : α → TP F i β} {Q : β → sProp (MM F)} {P : sProp (MM F)}
    (R : α → sProp (MM F)) (h : P ⊢ wpT d i p R) (hk : ∀ x, R x ⊢ wpT d i (k x) Q) :
    P ⊢ wpT d i (p >>= k) Q := by
  show _ ⊢ wp _ _ _ (p >>= k) _
  rw [wp_bind]
  exact h.trans (wp_mono _ _ _ hk)

/-- What a piece does not touch stays as it is. -/
theorem wpT_frame {α : Type} {p : TP F i α} {P : sProp (MM F)} {Q : α → sProp (MM F)} (R : sProp (MM F))
    (h : P ⊢ wpT d i p Q) : iprop(P ∗ R) ⊢ wpT d i p fun x => iprop(Q x ∗ R) :=
  (sep_mono_left h).trans (wp_frame_r _ _ _)

/-! ## Reading and writing a sixteen-lane group of the block of ids -/

/-- Lane `l` of group `n` of a block of ids, as a place of the block buffer. -/
def gpos (n : Nat) (l : S16.Idx) : S2x8x128.Idx :=
  fun a => ⟨cOff n a + (![0, 0, (l 0).val] : Fin 3 → Nat) a, by
    have hl : (l 0).val < 16 := (l 0).isLt
    have := cOff_inb n a
    revert this
    fin_cases a
    · show _ + 1 ≤ _ → _ + 0 < _; omega
    · show _ + 1 ≤ _ → _ + 0 < _; omega
    · show _ + 16 ≤ _ → _ + (l 0).val < _; omega⟩

/-- Group `n` of the block of ids. -/
def grp (f : S2x8x128.Idx → BitVec 32) (n : Nat) : IVec S16 32 := fun l => f (gpos n l)

theorem cast_grp (f : S2x8x128.Idx → BitVec 32) (n : Nat) :
    (shapeCast S16 (b4.view.readAt (Elt F) (Rect.unit (s := S2x8x128) (cOff n) S1x1x16.size (cOff_inb n)).toLoadRect f : Vec F S1x1x16 .i32)
      shapeCasts_S1x1x16_S16 : IVec S16 32) = grp f n := by
  funext l
  have hl : (l 0).val < 16 := (l 0).isLt
  have h := shapeCast_apply (b4.view.readAt (Elt F) (Rect.unit (s := S2x8x128) (cOff n) S1x1x16.size (cOff_inb n)).toLoadRect f : Vec F S1x1x16 .i32)
    shapeCasts_S1x1x16_S16 l (fun a => ⟨(![0, 0, (l 0).val] : Fin 3 → Nat) a, by fin_cases a <;> simp [S1x1x16] ; exact hl⟩)
    (by rw [Shape.rowMajor_val_one, Shape.rowMajor_val_three]; simp [S1x1x16])
  rw [h, View.readAt_apply]
  show f _ = f _
  congr 1
  funext a
  apply Fin.ext
  show cOff n a + 1 * _ = cOff n a + _
  rw [one_mul]

end

end Cert.Proof.Bow
-- ==== Proof.Steps.lean ====
module

public import proofs.«01_k».proof.Proof.Ctx

@[expose] public section

/-! # What each step does to the tile's buffers -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-! ## The indexed loads and stores -/

theorem wpT_last {α : Type} {p : TP F i α} {P : sProp (MM F)} {Q : α → sProp (MM F)} (h : P ⊢ wpT d i (p >>= Prog.ret) Q) :
    P ⊢ wpT d i p Q := by
  rwa [show p >>= Prog.ret = p from bind_pure p] at h

theorem wp_scatter5 {idxs : Fin S27648.rank → IVec S16 32} {v : Vec F S16 .i32} {mask : IVec S16 1} {add : Bool}
    {h : ∀ a x, (idxs a x).toNat < S27648.size a} {hs} (f : S27648.Idx → BitVec 32) :
    p5 d i f ⊢ wpT (F := F) d i (SparseCore.vectorStoreIdx b5 idxs v mask add h hs) fun _ => p5 d i (storeIdx (F := F) (e := .i32) f idxs v mask add h) := by
  apply wpT_last
  have e1 : (b5.access (Rect.whole S27648)).set = Finset.univ := Memref.set_access_whole cc0_scratch1
  have e2 : (b5.access (Rect.whole S27648)).read (Elt F) f = f := Memref.read_access_whole (Elt F) cc0_scratch1 f
  have e3 : ∀ w, (b5.access (Rect.whole S27648)).write (Elt F) f w Finset.univ = w := Memref.write_access_whole_univ (Elt F) cc0_scratch1 f
  have := SparseCore.wp_vectorStoreIdx (defs := defs₀ (F := F)) 𝒱₀ (thr d i) none Set.univ (base := b5) (idxs := idxs) (v := v) (mask := mask)
    (add := add) (h := h) (hs := hs) (k := Prog.ret) (f := f) (Q := fun _ => p5 d i (storeIdx (F := F) (e := .i32) f idxs v mask add h))
  rw [e1, e2, e3] at this
  iintro H
  iapply this $$ [H]
  · iexact H
  iintro H
  rw [wp_ret]; imodintro; iexact H

theorem wp_scatter6 {idxs : Fin S64x8x128.rank → IVec S16 32} {v : Vec F S16 .f32} {mask : IVec S16 1} {add : Bool}
    {h : ∀ a x, (idxs a x).toNat < S64x8x128.size a} {hs} (f : S64x8x128.Idx → F .f32) :
    p6 d i f ⊢ wpT (F := F) d i (SparseCore.vectorStoreIdx b6 idxs v mask add h hs) fun _ => p6 d i (storeIdx (F := F) (e := .f32) f idxs v mask add h) := by
  apply wpT_last
  have e1 : (b6.access (Rect.whole S64x8x128)).set = Finset.univ := Memref.set_access_whole cc0_scratch2
  have e2 : (b6.access (Rect.whole S64x8x128)).read (Elt F) f = f := Memref.read_access_whole (Elt F) cc0_scratch2 f
  have e3 : ∀ w, (b6.access (Rect.whole S64x8x128)).write (Elt F) f w Finset.univ = w := Memref.write_access_whole_univ (Elt F) cc0_scratch2 f
  have := SparseCore.wp_vectorStoreIdx (defs := defs₀ (F := F)) 𝒱₀ (thr d i) none Set.univ (base := b6) (idxs := idxs) (v := v) (mask := mask)
    (add := add) (h := h) (hs := hs) (k := Prog.ret) (f := f) (Q := fun _ => p6 d i (storeIdx (F := F) (e := .f32) f idxs v mask add h))
  rw [e1, e2, e3] at this
  iintro H
  iapply this $$ [H]
  · iexact H
  iintro H
  rw [wp_ret]; imodintro; iexact H

theorem wp_scatter7 {idxs : Fin S80.rank → IVec S16 32} {v : Vec F S16 .i32} {mask : IVec S16 1} {add : Bool}
    {h : ∀ a x, (idxs a x).toNat < S80.size a} {hs} (f : S80.Idx → BitVec 32) :
    p7 d i f ⊢ wpT (F := F) d i (SparseCore.vectorStoreIdx b7 idxs v mask add h hs) fun _ => p7 d i (storeIdx (F := F) (e := .i32) f idxs v mask add h) := by
  apply wpT_last
  have e1 : (b7.access (Rect.whole S80)).set = Finset.univ := Memref.set_access_whole cc0_scratch3
  have e2 : (b7.access (Rect.whole S80)).read (Elt F) f = f := Memref.read_access_whole (Elt F) cc0_scratch3 f
  have e3 : ∀ w, (b7.access (Rect.whole S80)).write (Elt F) f w Finset.univ = w := Memref.write_access_whole_univ (Elt F) cc0_scratch3 f
  have := SparseCore.wp_vectorStoreIdx (defs := defs₀ (F := F)) 𝒱₀ (thr d i) none Set.univ (base := b7) (idxs := idxs) (v := v) (mask := mask)
    (add := add) (h := h) (hs := hs) (k := Prog.ret) (f := f) (Q := fun _ => p7 d i (storeIdx (F := F) (e := .i32) f idxs v mask add h))
  rw [e1, e2, e3] at this
  iintro H
  iapply this $$ [H]
  · iexact H
  iintro H
  rw [wp_ret]; imodintro; iexact H

theorem wp_scatter9 {idxs : Fin S80.rank → IVec S16 32} {v : Vec F S16 .i32} {mask : IVec S16 1} {add : Bool}
    {h : ∀ a x, (idxs a x).toNat < S80.size a} {hs} (f : S80.Idx → BitVec 32) :
    p9 d i f ⊢ wpT (F := F) d i (SparseCore.vectorStoreIdx b9 idxs v mask add h hs) fun _ => p9 d i (storeIdx (F := F) (e := .i32) f idxs v mask add h) := by
  apply wpT_last
  have e1 : (b9.access (Rect.whole S80)).set = Finset.univ := Memref.set_access_whole cc0_scratch5
  have e2 : (b9.access (Rect.whole S80)).read (Elt F) f = f := Memref.read_access_whole (Elt F) cc0_scratch5 f
  have e3 : ∀ w, (b9.access (Rect.whole S80)).write (Elt F) f w Finset.univ = w := Memref.write_access_whole_univ (Elt F) cc0_scratch5 f
  have := SparseCore.wp_vectorStoreIdx (defs := defs₀ (F := F)) 𝒱₀ (thr d i) none Set.univ (base := b9) (idxs := idxs) (v := v) (mask := mask)
    (add := add) (h := h) (hs := hs) (k := Prog.ret) (f := f) (Q := fun _ => p9 d i (storeIdx (F := F) (e := .i32) f idxs v mask add h))
  rw [e1, e2, e3] at this
  iintro H
  iapply this $$ [H]
  · iexact H
  iintro H
  rw [wp_ret]; imodintro; iexact H

theorem wp_gather9 {idxs : Fin S80.rank → IVec S16 32} {α : Type}
    {h : ∀ a x, (idxs a x).toNat < S80.size a} {hl} (f : S80.Idx → BitVec 32) {k : Vec F S16 .i32 → TP F i α} {Q : α → sProp (MM F)} {R : sProp (MM F)}
    (hk : iprop(p9 d i f ∗ R) ⊢ wpT (F := F) d i (k (loadIdx (F := F) (e := .i32) f idxs h)) Q) :
    iprop(p9 d i f ∗ R) ⊢ wpT (F := F) d i (SparseCore.vectorLoadIdx b9 idxs h hl >>= k) Q := by
  have e2 : (b9.access (Rect.whole S80)).read (Elt F) f = f := Memref.read_access_whole (Elt F) cc0_scratch5 f
  have := SparseCore.wp_vectorLoadIdx (defs := defs₀ (F := F)) 𝒱₀ (thr d i) none Set.univ (base := b9) (idxs := idxs) (h := h) (hl := hl)
    (S := Finset.univ) (q := fullShare) (f := f) (k := k) (Q := Q) (Finset.subset_univ _)
  rw [e2] at this
  iintro ⟨H, HR⟩
  iapply this $$ [H]
  · iexact H
  iintro H
  iapply hk
  isplitl [H] <;> iassumption

/-! ## Loads and stores of part of a buffer -/

theorem wp_load4 {α : Type} (n : Nat) {hl} (f : S2x8x128.Idx → BitVec 32) {k : Vec F S1x1x16 .i32 → TP F i α} {Q : α → sProp (MM F)} {R : sProp (MM F)}
    (hk : ∀ v : Vec F S1x1x16 .i32, shapeCast S16 v shapeCasts_S1x1x16_S16 = grp f n → iprop(p4 d i f ∗ R) ⊢ wpT (F := F) d i (k v) Q) :
    iprop(p4 d i f ∗ R) ⊢ wpT (F := F) d i
      (Prog.lift (.load b4 (Rect.unit (s := S2x8x128) (cOff n) S1x1x16.size (cOff_inb n)).toLoadRect hl) >>= k) Q := by
  simp only [Prog.lift, Prog.bind_op, Prog.bind_ret]
  iintro ⟨H, HR⟩
  iapply (wp_load (defs := defs₀ (F := F)) 𝒱₀ (thr d i) none Set.univ (S := Finset.univ) (Finset.subset_univ _)) $$ [H]
  · iexact H
  iintro H
  iapply (hk _ (cast_grp f n))
  isplitl [H] <;> iassumption

/-- A sixteen-lane group rewritten. -/
def putGrp (f : S2x8x128.Idx → BitVec 32) (n : Nat) (v : IVec S16 32) : S2x8x128.Idx → BitVec 32 :=
  updateSlice f (shapeCast S1x1x16 v shapeCasts_S16_S1x1x16) (cOff n) ⟨rfl, cOff_inb n⟩

theorem wp_store4 (n : Nat) {hs hm} (f : S2x8x128.Idx → BitVec 32) (v : IVec S16 32) :
    p4 d i f ⊢ wpT (F := F) d i
      (Prog.lift (.store b4 (Rect.unit (s := S2x8x128) (cOff n) S1x1x16.size (cOff_inb n)) (shapeCast S1x1x16 v shapeCasts_S16_S1x1x16 : Vec F S1x1x16 .i32) Finset.univ hs hm))
      fun _ => p4 d i (putGrp f n v) := by
  simp only [Prog.lift]
  iintro H
  iapply (wp_store (defs := defs₀ (F := F)) 𝒱₀ (thr d i) none Set.univ (S := Finset.univ) (Finset.subset_univ _)) $$ [H]
  · iexact H
  rw [show (b4.access (Rect.unit (s := S2x8x128) (cOff n) S1x1x16.size (cOff_inb n))).write (Elt F) f (shapeCast S1x1x16 v shapeCasts_S16_S1x1x16 : Vec F S1x1x16 .i32) Finset.univ = putGrp f n v from
    View.write_whole_slice_unit cc0_scratch0 _ _ _ _ _]
  iintro H
  rw [wp_ret]; imodintro; iexact H

/-- The lane a column falls on. -/
def ln (k : Nat) : S16.Idx := fun a => ⟨k % 16, by
  have : S16.size a = 16 := by fin_cases a; rfl
  omega⟩

/-! ## The cleaning of a block -/

/-- A special token's id becomes an id past the vocabulary. -/
def cleanW (w : BitVec 32) : BitVec 32 := if w = 0#32 ∨ w = 101#32 ∨ w = 102#32 ∨ w = 103#32 then 32256#32 else w

theorem cleanV_apply (v : IVec S16 32) (l : S16.Idx) : cleanV v l = cleanW (v l) := by
  show (if (BitVec.ofBool (v l == 0#32) ||| BitVec.ofBool (v l == 101#32) ||| BitVec.ofBool (v l == 102#32) ||| BitVec.ofBool (v l == 103#32)) = 1#1 then 32256#32 else v l) = _
  unfold cleanW
  have e : ∀ c, (v l == c) = decide (v l = c) := fun c => rfl
  rw [e, e, e, e]
  by_cases h0 : v l = 0#32 <;> by_cases h1 : v l = 101#32 <;> by_cases h2 : v l = 102#32 <;> by_cases h3 : v l = 103#32 <;> simp [h0, h1, h2, h3]

/-- The block with its first `k` groups cleaned. -/
def cleanK (f : S2x8x128.Idx → BitVec 32) (k : Nat) : S2x8x128.Idx → BitVec 32 := fun x =>
  if 128 * (x 0).val + (x 2).val < 208 ∧ (x 1).val * 13 + (128 * (x 0).val + (x 2).val) / 16 < k then cleanW (f x) else f x

theorem cleanK_zero (f : S2x8x128.Idx → BitVec 32) : cleanK f 0 = f := by
  funext x; unfold cleanK; rw [if_neg (by omega)]

theorem gpos_val (n : Nat) (l : S16.Idx) : (gpos n l 0).val = (n % 13) * 16 / 128 % 2 ∧ (gpos n l 1).val = n / 13 % 8 ∧ (gpos n l 2).val = (n % 13) * 16 % 128 + (l 0).val :=
  ⟨rfl, rfl, rfl⟩

/-- Where column `c` of row `r` of a block lies in the block's groups. -/
theorem grp_at {n x0 x1 x2 : Nat} (h0 : x0 < 2) (h2 : x2 < 128) (h1 : x1 < 8)
    (h : 128 * x0 + x2 < 208 ∧ x1 * 13 + (128 * x0 + x2) / 16 = n) :
    n % 13 * 16 / 128 % 2 = x0 ∧ n / 13 % 8 = x1 ∧ n % 13 * 16 % 128 = x2 / 16 * 16 := by
  have hq : (128 * x0 + x2) / 16 = 8 * x0 + x2 / 16 := by omega
  obtain ⟨ha, hb⟩ := h
  rw [hq] at hb
  have hr : x2 / 16 < 8 := by omega
  have hlt : 8 * x0 + x2 / 16 < 13 := by omega
  generalize x2 / 16 = r at *
  have e1 : n / 13 = x1 := by omega
  have e2 : n % 13 = 8 * x0 + r := by omega
  rw [e1, e2]
  refine ⟨?_, ?_, ?_⟩ <;> omega

/-- A group holds the places of its row and columns only. -/
theorem grp_of {n x0 x1 x2 : Nat} (hn : n < 104)
    (a0 : n % 13 * 16 / 128 % 2 ≤ x0 ∧ x0 < n % 13 * 16 / 128 % 2 + 1) (a1 : n / 13 % 8 ≤ x1 ∧ x1 < n / 13 % 8 + 1)
    (a2 : n % 13 * 16 % 128 ≤ x2 ∧ x2 < n % 13 * 16 % 128 + 16) :
    128 * x0 + x2 < 208 ∧ x1 * 13 + (128 * x0 + x2) / 16 = n := by
  have e1 : n / 13 % 8 = n / 13 := by omega
  have hj : n % 13 < 13 := Nat.mod_lt _ (by decide)
  have hd := Nat.div_add_mod n 13
  have e0 : n % 13 * 16 / 128 % 2 = n % 13 / 8 := by omega
  have e2 : n % 13 * 16 % 128 = n % 13 % 8 * 16 := by omega
  rw [e0] at a0; rw [e1] at a1; rw [e2] at a2
  generalize n % 13 = j at *
  generalize n / 13 = r at *
  have hq : (128 * x0 + x2) / 16 = 8 * x0 + x2 / 16 := by omega
  have : x2 / 16 = j % 8 := by omega
  have : x0 = j / 8 := by omega
  omega

theorem putGrp_apply (f : S2x8x128.Idx → BitVec 32) (n : Nat) (hn : n < 104) (v : IVec S16 32) (x : S2x8x128.Idx) :
    putGrp f n v x = if h : 128 * (x 0).val + (x 2).val < 208 ∧ (x 1).val * 13 + (128 * (x 0).val + (x 2).val) / 16 = n then
      v (ln (x 2).val) else f x := by
  have h0 : (x 0).val < 2 := (x 0).isLt
  have h1 : (x 1).val < 8 := (x 1).isLt
  have h2 : (x 2).val < 128 := (x 2).isLt
  unfold putGrp updateSlice
  by_cases h : 128 * (x 0).val + (x 2).val < 208 ∧ (x 1).val * 13 + (128 * (x 0).val + (x 2).val) / 16 = n
  · obtain ⟨e0, e1, e2⟩ := grp_at h0 h2 h1 h
    rw [dif_pos h, dif_pos]
    · rw [shapeCast_apply _ _ _ (ln (x 2).val)]
      rw [Shape.rowMajor_val_one, Shape.rowMajor_val_three]
      show (x 2).val % 16 = (((x 0).val - (n % 13) * 16 / 128 % 2) * 1 + ((x 1).val - n / 13 % 8)) * 16 + ((x 2).val - (n % 13) * 16 % 128)
      rw [e0, e1, e2]; omega
    · intro a
      fin_cases a
      · show (n % 13) * 16 / 128 % 2 ≤ (x 0).val ∧ (x 0).val < (n % 13) * 16 / 128 % 2 + 1; rw [e0]; omega
      · show n / 13 % 8 ≤ (x 1).val ∧ (x 1).val < n / 13 % 8 + 1; rw [e1]; omega
      · show (n % 13) * 16 % 128 ≤ (x 2).val ∧ (x 2).val < (n % 13) * 16 % 128 + 16; rw [e2]; omega
  · rw [dif_neg h, dif_neg]
    intro hx
    have a0 : (n % 13) * 16 / 128 % 2 ≤ (x 0).val ∧ (x 0).val < (n % 13) * 16 / 128 % 2 + 1 := hx 0
    have a1 : n / 13 % 8 ≤ (x 1).val ∧ (x 1).val < n / 13 % 8 + 1 := hx 1
    have a2 : (n % 13) * 16 % 128 ≤ (x 2).val ∧ (x 2).val < (n % 13) * 16 % 128 + 16 := hx 2
    exact h (grp_of hn a0 a1 a2)

theorem clean_step (f : S2x8x128.Idx → BitVec 32) (k : Nat) (hk : k < 104) :
    putGrp (cleanK f k) k (cleanV (grp (cleanK f k) k)) = cleanK f (k + 1) := by
  funext x
  have h0 : (x 0).val < 2 := (x 0).isLt
  have h1 : (x 1).val < 8 := (x 1).isLt
  have h2 : (x 2).val < 128 := (x 2).isLt
  rw [putGrp_apply _ _ hk]
  by_cases h : 128 * (x 0).val + (x 2).val < 208 ∧ (x 1).val * 13 + (128 * (x 0).val + (x 2).val) / 16 = k
  · rw [dif_pos h, cleanV_apply]
    obtain ⟨e0, e1, e2⟩ := grp_at h0 h2 h1 h
    have hx : gpos k (ln (x 2).val) = x := by
      funext a; apply Fin.ext
      fin_cases a
      · show (k % 13) * 16 / 128 % 2 = (x 0).val; exact e0
      · show k / 13 % 8 = (x 1).val; exact e1
      · show (k % 13) * 16 % 128 + (x 2).val % 16 = (x 2).val; rw [e2]; omega
    show cleanW (cleanK f k (gpos k _)) = _
    rw [hx]; unfold cleanK; rw [if_neg (by omega), if_pos (by omega)]
  · rw [dif_neg h]; unfold cleanK
    by_cases h' : 128 * (x 0).val + (x 2).val < 208 ∧ (x 1).val * 13 + (128 * (x 0).val + (x 2).val) / 16 < k
    · rw [if_pos h', if_pos (by omega)]
    · rw [if_neg h', if_neg (by omega)]

theorem grp_clean (f : S2x8x128.Idx → BitVec 32) (n : Nat) (hn : n < 104) :
    grp (cleanK f 104) n = fun l => cleanW (f (gpos n l)) := by
  funext l
  have hl : (l 0).val < 16 := (l 0).isLt
  show cleanK f 104 (gpos n l) = _
  unfold cleanK
  have ⟨a, b, c⟩ := gpos_val n l
  rw [if_pos]
  rw [a, b, c]
  have : 128 * (n % 13 * 16 / 128 % 2) + (n % 13 * 16 % 128 + (l 0).val) = n % 13 * 16 + (l 0).val := by omega
  rw [this]; omega

theorem wp_cleanStep (f : S2x8x128.Idx → BitVec 32) (k : Nat) (hk : k < 104) :
    p4 (F := F) d i (cleanK f k) ⊢ wpT (F := F) d i (cleanStep i b4 k) fun _ => p4 d i (cleanK f (k + 1)) := by
  unfold cleanStep
  refine (Laws.sep_emp.mpr).trans (wp_load4 d i k _ fun v hv => ?_)
  refine wp_load4 d i k _ fun _ _ => ?_
  refine (Laws.sep_emp.mp).trans ?_
  rw [hv]
  exact (wp_store4 d i k _ _).trans (wp_mono _ _ _ fun _ => Entails.of_eq (by rw [clean_step f k hk]))

theorem wp_clean (f : S2x8x128.Idx → BitVec 32) :
    p4 (F := F) d i f ⊢ wpT (F := F) d i (seqL (cleanStep i b4) (List.range 104)) fun _ => p4 d i (cleanK f 104) := by
  have := seqL_wp (F := F) d i (f := cleanStep i b4) (fun k => p4 d i (cleanK f k)) 104 fun k hk => wp_cleanStep d i f k hk
  rwa [cleanK_zero] at this

end Cert.Proof.Bow
-- ==== Proof.Fetch.lean ====
module

public import proofs.«01_k».proof.Proof.Steps

@[expose] public section

/-! # The copies of the tile's ids into the block buffer -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-- What the tile owes the launch while it runs: its waits are recorded beyond `W`. -/
def owing (O : CellTallies nD τ sig (HIx 1)) (W : Waits sig (HIx 1)) : sProp (MM F) :=
  iprop(Transfers.MayWaits (thr d i) (none : HIx 1) O ∗ ∃ W', ⌜∀ p ∈ W', p ∈ W ∨ p.2 = none⌝ ∗ owes (thr d i) O W')

/-- The padded ids, read by this tile at the share `q`. -/
abbrev pIds (q : PosShare TreeShare) (f : S4096x256.Idx → BitVec 32) : sProp (MM F) := bIds.view.loc (thr d i) ↦{q} f

/-- A half of the block buffer rewritten with the piece of the ids that begins at `off`. -/
def fetched (ids : S4096x256.Idx → BitVec 32) (f : S2x8x128.Idx → BitVec 32) (off : Fin 2 → Nat)
    (hoff : ∀ a, off a + S8x128.size a ≤ S4096x256.size a) (h : Nat) : S2x8x128.Idx → BitVec 32 := fun x =>
  if (x 0).val = h then ids (fun a => ⟨off a + (![(x 1).val, (x 2).val] : Fin 2 → Nat) a, by
    have h1 : (x 1).val < 8 := (x 1).isLt
    have h2 : (x 2).val < 128 := (x 2).isLt
    have := hoff a
    revert this
    fin_cases a
    · show off 0 + 8 ≤ _ → off 0 + (x 1).val < _; omega
    · show off 1 + 128 ≤ _ → off 1 + (x 2).val < _; omega⟩) else f x

theorem fetched_eq (ids : S4096x256.Idx → BitVec 32) (f : S2x8x128.Idx → BitVec 32) (off : Fin 2 → Nat)
    (hoff : ∀ a, off a + S8x128.size a ≤ S4096x256.size a) (h : Nat)
    (hhalf : ∀ a, (![h, 0, 0] : Fin 3 → Nat) a + S1x8x128.size a ≤ S2x8x128.size a) (w : S8x128.Idx → BitVec 32)
    (hw : ∀ y, w y = ids ((bIds.slice (Rect.unit (s := S4096x256) off S8x128.size hoff) (fun _ => rfl)).view.emb y)) :
    fetched ids f off hoff h = View.write (Elt F)
      ((b4.slice (Rect.unit (s := S2x8x128) ![h, 0, 0] S1x8x128.size hhalf) (fun _ => rfl)).squeeze S8x128 squeezes_S1x8x128_S8x128).view f
      w Finset.univ := by
  have hemb : ∀ y : S8x128.Idx, ∀ a, (((b4.slice (Rect.unit (s := S2x8x128) ![h, 0, 0] S1x8x128.size hhalf) (fun _ => rfl)).squeeze S8x128 squeezes_S1x8x128_S8x128).view.emb y a).val
      = (![h, (y 0).val, (y 1).val] : Fin 3 → Nat) a := by
    intro y a
    have hy0 : (y 0).val < 8 := (y 0).isLt
    have hy1 : (y 1).val < 128 := (y 1).isLt
    have e : Shape.reshapeEquiv squeezes_S1x8x128_S8x128.numel_eq y
        = (fun a => ⟨(![0, (y 0).val, (y 1).val] : Fin 3 → Nat) a, by fin_cases a; exact Nat.one_pos; exact hy0; exact hy1⟩ : S1x8x128.Idx) :=
      Shape.reshapeEquiv_eq_of_rowMajor _ (by
        rw [Shape.rowMajor_val_three, Shape.rowMajor_val_two]
        show (0 * 8 + (y 0).val) * 128 + (y 1).val = (y 0).val * 128 + (y 1).val
        omega)
    show ((Rect.unit (s := S2x8x128) ![h, 0, 0] S1x8x128.size hhalf).emb (Shape.reshapeEquiv squeezes_S1x8x128_S8x128.numel_eq y) a).val = _
    rw [e, Rect.emb_apply]
    fin_cases a
    · show h + 1 * 0 = h; omega
    · show 0 + 1 * (y 0).val = (y 0).val; omega
    · show 0 + 1 * (y 1).val = (y 1).val; omega
  funext x
  have h1 : (x 1).val < 8 := (x 1).isLt
  have h2 : (x 2).val < 128 := (x 2).isLt
  by_cases hx : (x 0).val = h
  · have ex : ((b4.slice (Rect.unit (s := S2x8x128) ![h, 0, 0] S1x8x128.size hhalf) (fun _ => rfl)).squeeze S8x128 squeezes_S1x8x128_S8x128).view.emb
        (fun a => ⟨(![(x 1).val, (x 2).val] : Fin 2 → Nat) a, by fin_cases a; exact h1; exact h2⟩ : S8x128.Idx) = x := by
      funext a; apply Fin.ext; rw [hemb]
      fin_cases a
      · exact hx.symm
      · rfl
      · rfl
    have hv := View.write_emb_of_mem (Val := Elt F) (v := ((b4.slice (Rect.unit (s := S2x8x128) ![h, 0, 0] S1x8x128.size hhalf) (fun _ => rfl)).squeeze S8x128 squeezes_S1x8x128_S8x128).view)
      f w (Finset.mem_univ (fun a => ⟨(![(x 1).val, (x 2).val] : Fin 2 → Nat) a, by fin_cases a; exact h1; exact h2⟩ : S8x128.Idx))
    rw [ex] at hv
    refine Eq.trans ?_ hv.symm
    show fetched ids f off hoff h x = w _
    rw [hw]
    unfold fetched
    rw [if_pos hx]
    congr 1; funext a; apply Fin.ext
    show off a + _ = off a + 1 * _
    rw [one_mul]
  · rw [View.write_of_not_mem]
    · unfold fetched; rw [if_neg hx]
    · intro hm
      obtain ⟨y, -, rfl⟩ := Finset.mem_map.mp hm
      exact hx (hemb y 0)

theorem wp_fetch (q : PosShare TreeShare) (ids : S4096x256.Idx → BitVec 32) (f : S2x8x128.Idx → BitVec 32)
    (O : CellTallies nD τ sig (HIx 1)) (W : Waits sig (HIx 1)) (s : DmaSems sig S_)
    (off : Fin 2 → Nat) (hoff : ∀ a, off a + S8x128.size a ≤ S4096x256.size a) (h : Nat)
    (hhalf : ∀ a, (![h, 0, 0] : Fin 3 → Nat) a + S1x8x128.size a ≤ S2x8x128.size a) :
    iprop(owing d i O W ∗ pIds d i q ids ∗ p4 d i f ∗ semVal (thr d i, SemLoc.dma s.sem) 0)
      ⊢ wp frame (wpE (defs₀ (F := F)) 𝒱₀ (thr d i) none) Set.univ (fetch i bIds b4 s off hoff ![h, 0, 0] hhalf) fun _ =>
        iprop(owing d i O W ∗ pIds d i q ids ∗ p4 d i (fetched ids f off hoff h) ∗ semVal (thr d i, SemLoc.dma s.sem) 0) := by
  unfold fetch owing
  simp only [Prog.lift, Prog.bind_op, Prog.bind_ret]
  iintro ⟨⟨Hmw, %W', %hW', HO⟩, Hi, H4, Hs⟩
  sl_exec (disch := exact View.amount_pos _ _ (show 0 < S8x128.numel by decide))
  sl_step
  isplitl [Hmw HO]
  · isplitl [Hmw]; · iexact Hmw
    iexists (insert (SemLoc.dma s.sem, (default : HIx 1)) W'); isplitr
    · ipureintro; intro p hp
      rcases Finset.mem_insert.mp hp with hp | hp
      · exact .inr (hp ▸ rfl)
      · exact hW' p hp
    · iexact HO
  isplitl [Hi]; · iexact Hi
  isplitl [H4]
  · rw [show fetched ids f off hoff h = wp_fetch.sl.H4_w0 ids f off hoff h hhalf from ?_]
    · iexact H4
    unfold wp_fetch.sl.H4_w0
    exact fetched_eq (F := F) ids f off hoff h hhalf _ fun _ => rfl
  iexact Hs

end Cert.Proof.Bow
-- ==== Proof.Stream.lean ====
module

public import proofs.«01_k».proof.Proof.Fetch

@[expose] public section

/-! # The tile's tokens as a stream of groups

The tile reads 16 blocks of eight rows; a block is 104 groups of sixteen tokens.  Group `k` of the
1664 belongs to row `k / 13` of the tile and begins at column `16 (k % 13)`. -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-- The word of the padded ids at row `r`, column `c`. -/
def idAt (ids : S4096x256.Idx → BitVec 32) (r c : Nat) : BitVec 32 :=
  if h : r < 4096 ∧ c < 256 then ids (fun a => ⟨(![r, c] : Fin 2 → Nat) a, by fin_cases a; exact h.1; exact h.2⟩) else 0

/-- The first row of the batch that the tile at `i` works on. -/
def row0 (i : grid0.Coords) : Nat := 256 * (i 1).val + 128 * (i 0).val

/-- The tile's own ids. -/
def tok (i : grid0.Coords) (ids : S4096x256.Idx → BitVec 32) (r c : Nat) : BitVec 32 := idAt ids (row0 i + r) c

section Words

variable (tk : Nat → Nat → BitVec 32)

/-- Block `g` of the tile's ids. -/
def blk (g : Nat) : S2x8x128.Idx → BitVec 32 := fun x => tk (8 * g + (x 1).val) (128 * (x 0).val + (x 2).val)

/-- Group `k` of the tile's ids, cleaned. -/
def idV (k : Nat) : IVec S16 32 := fun l => cleanW (tk (k / 13) (16 * (k % 13) + (l 0).val))

/-- Which lanes of group `k` are tokens. -/
def mV (k : Nat) : IVec S16 1 := maskV lanesV k

/-- The window that each token of group `k` belongs to. -/
def wV (k : Nat) : IVec S16 32 := shrui (idV tk k) (broadcast S16 9#32)

/-- The packed staging addresses of group `k`. -/
def aV (k : Nat) : IVec S16 32 := addrV (idV tk k) (BitVec.ofNat 32 (k / 104)) (k % 104)

theorem mV_mod (g n : Nat) : mV (104 * g + n) = maskV lanesV n := by
  unfold mV maskV
  rw [show (104 * g + n) % 13 = n % 13 by omega]

theorem grp_blk (g n : Nat) (hn : n < 104) : grp (cleanK (blk tk g) 104) n = idV tk (104 * g + n) := by
  rw [grp_clean _ _ hn]
  funext l
  have hl : (l 0).val < 16 := (l 0).isLt
  show cleanW (tk (8 * g + n / 13 % 8) (128 * (n % 13 * 16 / 128 % 2) + (n % 13 * 16 % 128 + (l 0).val))) = cleanW (tk ((104 * g + n) / 13) (16 * ((104 * g + n) % 13) + (l 0).val))
  congr 2 <;> omega

variable {tk}

theorem cleanW_le (w : BitVec 32) (h : w.toNat < 30522) : (cleanW w).toNat ≤ 32256 := by
  unfold cleanW
  split
  · decide
  · omega

theorem wV_lt (hT : ∀ r c, (tk r c).toNat < 30522) (k : Nat) (l : S16.Idx) : (wV tk k l).toNat < 64 := by
  have h := cleanW_le _ (hT (k / 13) (16 * (k % 13) + (l 0).val))
  have e : wV tk k l = cleanW (tk (k / 13) (16 * (k % 13) + (l 0).val)) >>> 9 := rfl
  rw [e, BitVec.toNat_ushiftRight, Nat.shiftRight_eq_div_pow]
  omega

end Words

/-- A check that holds is passed. -/
theorem wpT_assume {α : Type} {C : Prop} {dec : Decidable C} {k : PLift C → TP F i α} {P : sProp (MM F)} {Q : α → sProp (MM F)} (h : C)
    (hk : P ⊢ wpT d i (k ⟨h⟩) Q) : P ⊢ wpT d i (Prog.lift (TpuEff.assume C dec) >>= k) Q :=
  hk.trans (Entails.of_eq (wp_assume_of (defs := defs₀ (F := F)) 𝒱₀ (thr d i) none Set.univ h).symm)

theorem wpT_bindI {α β : Type} {p : TP F i α} {k : α → TP F i β} {Q : β → sProp (MM F)} :
    wpT d i p (fun x => wpT d i (k x) Q) ⊢ wpT d i (p >>= k) Q := Entails.of_eq (wp_bind _ _ _ _ _ _).symm

/-! ## Counting -/

/-- The counters after `k` groups. -/
def Counted (tk : Nat → Nat → BitVec 32) (k : Nat) (c : S80.Idx → BitVec 32) : Prop :=
  ∀ x < 64, at1 c x = BitVec.ofNat 32 (cnt mV (wV tk) k x)

theorem snd_zero (m : IVec S16 1) (w : IVec S16 32) (l : S16.Idx) (h : m l = 1) :
    addi (scanCount m w).2 (broadcast S16 0#32) l = BitVec.ofNat 32 (rank m w l) := by
  show (scanCount m w).2 l + 0#32 = _
  rw [scanCount_snd m w l h, BitVec.add_zero]

variable (F) in
theorem counted_step (tk : Nat → Nat → BitVec 32) (k : Nat) (c : S80.Idx → BitVec 32)
    (h : ∀ a x, ((![wV tk k] : Fin 1 → IVec S16 32) a x).toNat < S80.size a) (hc : Counted tk k c) :
    Counted tk (k + 1) (storeIdx (F := F) (e := .i32) (s := S80) c ![wV tk k]
      (addi (scanCount (mV k) (wV tk k)).2 (broadcast S16 0#32)) (scanCount (mV k) (wV tk k)).1 true h) := by
  intro x hx
  refine (last_store (F := F) c (mV k) (wV tk k) _ true h (fun l hl => ?_) x (by omega)).trans ?_
  · rw [snd_zero _ _ _ hl]; exact (BitVec.zero_add _).symm
  · rw [hc x hx, cnt_succ, BitVec.ofNat_add]

theorem wp_histTail (tk : Nat → Nat → BitVec 32) (hT : ∀ r c, (tk r c).toNat < 30522) (k : Nat)
    (m : IVec S16 1) (w : IVec S16 32) (em : m = mV k) (ew : w = wV tk k) (R : sProp (MM F)) :
    iprop(R ∗ ∃ c, ⌜Counted tk k c⌝ ∗ p7 d i c)
      ⊢ wpT (F := F) d i (do
          let hw ← Prog.lift (TpuEff.assume (k0_chk1 w) (k0_chk1.dec w))
          SparseCore.vectorStoreIdx b7 ![w] (addi (scanCount m w).2 (broadcast S16 0#32)) (scanCount m w).1 true
            (k0_idx1_inb w hw.down) (View.stores_vmem_bits_univ h_S80 rfl)) fun _ =>
        iprop(R ∗ ∃ c, ⌜Counted tk (k + 1) c⌝ ∗ p7 d i c) := by
  subst em ew
  have hw : k0_chk1 (wV tk k) := by
    intro a x
    fin_cases a
    show (wV tk k x).toNat < 80
    have := wV_lt hT k x
    omega
  refine wpT_assume d i hw ?_
  iintro ⟨H4, %c, %hc, H7⟩
  iapply (wp_mono _ _ _ (Q := fun _ => iprop(p7 d i (storeIdx (F := F) (e := .i32) c ![wV tk k]
      (addi (scanCount (mV k) (wV tk k)).2 (broadcast S16 0#32)) (scanCount (mV k) (wV tk k)).1 true
      (k0_idx1_inb _ hw)) ∗ R)))
  · intro _
    iintro ⟨H7, H4⟩
    isplitl [H4]; · iexact H4
    iexists (storeIdx (F := F) (e := .i32) c ![wV tk k]
      (addi (scanCount (mV k) (wV tk k)).2 (broadcast S16 0#32)) (scanCount (mV k) (wV tk k)).1 true (k0_idx1_inb _ hw))
    isplitr
    · ipureintro
      exact counted_step F tk k c _ hc
    · iexact H7
  iapply (wpT_frame d i _ (wp_scatter7 d i c))
  isplitl [H7] <;> iassumption

theorem wp_histStep (tk : Nat → Nat → BitVec 32) (hT : ∀ r c, (tk r c).toNat < 30522) (g n : Nat) (hn : n < 104) :
    iprop(p4 (F := F) d i (cleanK (blk tk g) 104) ∗ ∃ c, ⌜Counted tk (104 * g + n) c⌝ ∗ p7 d i c)
      ⊢ wpT (F := F) d i (histStep i b4 b7 lanesV n) fun _ =>
        iprop(p4 (F := F) d i (cleanK (blk tk g) 104) ∗ ∃ c, ⌜Counted tk (104 * g + n + 1) c⌝ ∗ p7 d i c) := by
  unfold histStep
  refine wp_load4 d i n _ fun v hv => ?_
  refine wp_histTail d i tk hT (104 * g + n) _ _ (mV_mod g n).symm ?_ _
  exact congrArg (fun u => shrui u (broadcast S16 9#32)) (hv.trans (grp_blk tk g n hn))

theorem wp_hist (tk : Nat → Nat → BitVec 32) (hT : ∀ r c, (tk r c).toNat < 30522) (g : Nat) :
    iprop(p4 (F := F) d i (cleanK (blk tk g) 104) ∗ ∃ c, ⌜Counted tk (104 * g) c⌝ ∗ p7 d i c)
      ⊢ wpT (F := F) d i (seqL (histStep i b4 b7 lanesV) (List.range 104)) fun _ =>
        iprop(p4 (F := F) d i (cleanK (blk tk g) 104) ∗ ∃ c, ⌜Counted tk (104 * (g + 1)) c⌝ ∗ p7 d i c) := by
  have h := seqL_wp (F := F) d i (f := histStep i b4 b7 lanesV)
    (fun n => iprop(p4 (F := F) d i (cleanK (blk tk g) 104) ∗ ∃ c, ⌜Counted tk (104 * g + n) c⌝ ∗ p7 d i c)) 104
    fun n hn => wp_histStep d i tk hT g n hn
  rw [show 104 * (g + 1) = 104 * g + 104 by omega]
  exact h

/-! ## Placing -/

/-- Where window `x`'s list begins. -/
abbrev bs (tk : Nat → Nat → BitVec 32) (x : Nat) : Nat := base mV (wV tk) 1664 x

/-- The cursors and the lists after `k` groups. -/
def Laid (tk : Nat → Nat → BitVec 32) (k : Nat) (c : S80.Idx → BitVec 32) (L : S27648.Idx → BitVec 32) : Prop :=
  (∀ x < 64, at1 c x = BitVec.ofNat 32 (bs tk x + cnt mV (wV tk) k x)) ∧ Placed mV (wV tk) (aV tk) (bs tk) k L

theorem bs_cnt (tk : Nat → Nat → BitVec 32) {k x : Nat} (hk : k ≤ 1664) (hx : x < 64) : bs tk x + cnt mV (wV tk) k x ≤ 27584 := by
  have h1 := base_bound mV (wV tk) 1664 hx
  have h2 := cnt_mono mV (wV tk) hk x
  have h3 := le_r16 (cnt mV (wV tk) 1664 x)
  show base mV (wV tk) 1664 x + _ ≤ _
  omega

variable (F) in
theorem laid_step (tk : Nat → Nat → BitVec 32) (hT : ∀ r c, (tk r c).toNat < 30522) (k : Nat) (hk : k < 1664)
    (c : S80.Idx → BitVec 32) (L : S27648.Idx → BitVec 32) (b : IVec S16 32)
    (h : ∀ a x, ((![wV tk k] : Fin 1 → IVec S16 32) a x).toNat < S80.size a)
    (h' : ∀ a x, ((![subi (addi b (scanCount (mV k) (wV tk k)).2) (broadcast S16 1#32)] : Fin 1 → IVec S16 32) a x).toNat < S27648.size a)
    (hcur : ∀ x < 64, at1 c x = BitVec.ofNat 32 (bs tk x + cnt mV (wV tk) k x))
    (hpl : Placed mV (wV tk) (aV tk) (bs tk) k L)
    (hb : ∀ l, b l = BitVec.ofNat 32 (bs tk (wV tk k l).toNat + cnt mV (wV tk) k (wV tk k l).toNat))
    (hslot : ∀ l, mV k l = 1 → (subi (addi b (scanCount (mV k) (wV tk k)).2) (broadcast S16 1#32) l).toNat
      = bs tk (wV tk k l).toNat + cnt mV (wV tk) k (wV tk k l).toNat + rank (mV k) (wV tk k) l - 1) :
    Laid tk (k + 1)
      (storeIdx (F := F) (e := .i32) (s := S80) c ![wV tk k]
        (addi (addi b (scanCount (mV k) (wV tk k)).2) (broadcast S16 0#32)) (scanCount (mV k) (wV tk k)).1 false h)
      (storeIdx (F := F) (e := .i32) (s := S27648) L ![subi (addi b (scanCount (mV k) (wV tk k)).2) (broadcast S16 1#32)]
        (aV tk k) (mV k) false h') := by
  refine ⟨fun x hx => ?_, ?_⟩
  · refine (last_store (F := F) c (mV k) (wV tk k) _ false h (fun l hl => ?_) x (by omega)).trans ?_
    · show b l + (scanCount (mV k) (wV tk k)).2 l + 0#32 = _
      rw [BitVec.add_zero, scanCount_snd _ _ _ hl, hb, ← hcur _ (wV_lt hT k l)]
      rfl
    · rw [hcur x hx, cnt_succ, ← BitVec.ofNat_add, Nat.add_assoc]
  · refine placed_step (F := F) mV (wV tk) (aV tk) (bs tk) k L _ _ (fun k l => wV_lt hT k l) hslot (fun x y hxy hy => ?_) hpl
    have h1 := base_next mV (wV tk) 1664 hxy
    have h2 := cnt_mono mV (wV tk) (show k + 1 ≤ 1664 by omega) x
    have h3 := le_r16 (cnt mV (wV tk) 1664 x)
    show base mV (wV tk) 1664 x + _ ≤ base mV (wV tk) 1664 y
    omega

theorem wp_placeTail (tk : Nat → Nat → BitVec 32) (hT : ∀ r c, (tk r c).toNat < 30522) (k : Nat) (hk : k < 1664)
    (m : IVec S16 1) (w A : IVec S16 32) (em : m = mV k) (ew : w = wV tk k) (eA : A = aV tk k) (R : sProp (MM F)) :
    iprop(R ∗ ∃ c L, ⌜Laid tk k c L⌝ ∗ p5 d i L ∗ p9 d i c)
      ⊢ wpT (F := F) d i (do
          let hw ← Prog.lift (TpuEff.assume (k0_chk105 w) (k0_chk105.dec w))
          let b : Vec F S16 .i32 ← SparseCore.vectorLoadIdx b9 ![w] (k0_idx105_inb w hw.down) (View.loads_vmem h_S80)
          let slot : IVec S16 32 := subi (addi b (scanCount m w).2) (broadcast S16 1#32)
          let hs ← Prog.lift (TpuEff.assume (k0_chk106 slot) (k0_chk106.dec slot))
          SparseCore.vectorStoreIdx b5 ![slot] A m false (k0_idx106_inb slot hs.down) (View.stores_vmem_bits_univ h_S27648 rfl)
          SparseCore.vectorStoreIdx b9 ![w] (addi (addi b (scanCount m w).2) (broadcast S16 0#32)) (scanCount m w).1 false
            (k0_idx107_inb w hw.down) (View.stores_vmem_bits_univ h_S80 rfl)) fun _ =>
        iprop(R ∗ ∃ c L, ⌜Laid tk (k + 1) c L⌝ ∗ p5 d i L ∗ p9 d i c) := by
  subst em ew eA
  have hw : k0_chk105 (wV tk k) := by
    have h : ∀ a x, ((![wV tk k] : Fin 1 → IVec S16 32) a x).toNat < S80.size a := by
      intro a x
      fin_cases a
      show (wV tk k x).toNat < 80
      have := wV_lt hT k x
      omega
    exact ⟨h, h⟩
  refine wpT_assume d i hw ?_
  iintro ⟨HR, %c, %L, %hc, H5, H9⟩
  obtain ⟨hcur, hpl⟩ := hc
  have hb : ∀ l, loadIdx (F := F) (e := .i32) c ![wV tk k] (k0_idx105_inb _ hw) l = BitVec.ofNat 32 (bs tk (wV tk k l).toNat + cnt mV (wV tk) k (wV tk k l).toNat) := by
    intro l
    rw [← hcur _ (wV_lt hT k l)]
    exact (at1_eq c (idxAt (s := S80) ![wV tk k] (k0_idx105_inb _ hw) l)).symm
  iapply (wp_gather9 d i c (R := iprop(R ∗ p5 d i L)) ?_)
  rotate_left
  · isplitl [H9]; · iexact H9
    isplitl [HR] <;> iassumption
  generalize loadIdx (F := F) (e := .i32) c ![wV tk k] (k0_idx105_inb _ hw) = b at hb
  have hslot : ∀ l, mV k l = 1 → (subi (addi b (scanCount (mV k) (wV tk k)).2) (broadcast S16 1#32) l).toNat
      = bs tk (wV tk k l).toNat + cnt mV (wV tk) k (wV tk k l).toNat + rank (mV k) (wV tk k) l - 1 := by
    intro l hl
    show (b l + (scanCount (mV k) (wV tk k)).2 l - 1#32).toNat = _
    rw [hb, scanCount_snd _ _ _ hl, ← BitVec.ofNat_add]
    have h1 := bs_cnt tk (show k + 1 ≤ 1664 by omega) (wV_lt hT k l)
    have h2 := rank_pos (mV k) (wV tk k) l hl
    have h3 := rank_le_hits (mV k) (wV tk k) l
    rw [cnt_succ, BitVec.ofNat_toNat, BitVec.setWidth_eq] at h1
    rw [BitVec.toNat_sub, BitVec.toNat_ofNat, BitVec.toNat_ofNat]
    omega
  have hs : k0_chk106 (subi (addi b (scanCount (mV k) (wV tk k)).2) (broadcast S16 1#32)) := by
    intro a l
    fin_cases a
    show (subi (addi b (scanCount (mV k) (wV tk k)).2) (broadcast S16 1#32) l).toNat < 27648
    have h1 := bs_cnt tk (show k + 1 ≤ 1664 by omega) (wV_lt hT k l)
    have h3 := rank_le_hits (mV k) (wV tk k) l
    rw [cnt_succ, BitVec.ofNat_toNat, BitVec.setWidth_eq] at h1
    by_cases hl : mV k l = 1
    · rw [hslot l hl]; omega
    · show (b l + (scanCount (mV k) (wV tk k)).2 l - 1#32).toNat < _
      rw [hb, scanCount_snd' _ _ _ hl, show ∀ z : BitVec 32, z + 1 - 1#32 = z from fun z => BitVec.add_sub_cancel z 1#32, BitVec.toNat_ofNat]
      omega
  refine wpT_assume d i hs ?_
  iintro ⟨H9, HR, H5⟩
  iapply (wpT_bindI d i)
  iapply (wp_mono _ _ _ (Q := fun _ => iprop(p5 d i (storeIdx (F := F) (e := .i32) L ![subi (addi b (scanCount (mV k) (wV tk k)).2) (broadcast S16 1#32)]
      (aV tk k) (mV k) false (k0_idx106_inb _ hs)) ∗ (R ∗ p9 d i c))))
  · intro _
    iintro ⟨H5, HR, H9⟩
    iapply (wp_mono _ _ _ (Q := fun _ => iprop(p9 d i (storeIdx (F := F) (e := .i32) c ![wV tk k]
      (addi (addi b (scanCount (mV k) (wV tk k)).2) (broadcast S16 0#32)) (scanCount (mV k) (wV tk k)).1 false
      (k0_idx107_inb _ hw)) ∗ (R ∗ p5 d i (storeIdx (F := F) (e := .i32) L ![subi (addi b (scanCount (mV k) (wV tk k)).2) (broadcast S16 1#32)]
      (aV tk k) (mV k) false (k0_idx106_inb _ hs))))))
    · intro _
      iintro ⟨H9, HR, H5⟩
      isplitl [HR]; · iexact HR
      iexists (storeIdx (F := F) (e := .i32) c ![wV tk k]
        (addi (addi b (scanCount (mV k) (wV tk k)).2) (broadcast S16 0#32)) (scanCount (mV k) (wV tk k)).1 false
        (k0_idx107_inb _ hw))
      iexists (storeIdx (F := F) (e := .i32) L ![subi (addi b (scanCount (mV k) (wV tk k)).2) (broadcast S16 1#32)]
        (aV tk k) (mV k) false (k0_idx106_inb _ hs))
      isplitr
      · ipureintro
        exact laid_step F tk hT k hk c L b _ _ hcur hpl hb hslot
      isplitl [H5] <;> iassumption
    iapply (wpT_frame d i _ (wp_scatter9 d i c))
    isplitl [H9]; · iexact H9
    isplitl [HR] <;> iassumption
  iapply (wpT_frame d i _ (wp_scatter5 d i L))
  isplitl [H5]; · iexact H5
  isplitl [HR] <;> iassumption

theorem wp_placeStep (tk : Nat → Nat → BitVec 32) (hT : ∀ r c, (tk r c).toNat < 30522) (g n : Nat) (hn : n < 104) (hg : g < 16) :
    iprop(p4 (F := F) d i (cleanK (blk tk g) 104) ∗ ∃ c L, ⌜Laid tk (104 * g + n) c L⌝ ∗ p5 d i L ∗ p9 d i c)
      ⊢ wpT (F := F) d i (placeStep i b4 b5 b9 lanesV (BitVec.ofNat 32 g) n) fun _ =>
        iprop(p4 (F := F) d i (cleanK (blk tk g) 104) ∗ ∃ c L, ⌜Laid tk (104 * g + n + 1) c L⌝ ∗ p5 d i L ∗ p9 d i c) := by
  unfold placeStep
  refine wp_load4 d i n _ fun v hv => ?_
  have hv' := hv.trans (grp_blk tk g n hn)
  refine wp_placeTail d i tk hT (104 * g + n) (by omega) _ _ _ (mV_mod g n).symm ?_ ?_ _
  · exact congrArg (fun u => shrui u (broadcast S16 9#32)) hv'
  · rw [hv']
    unfold aV
    rw [show (104 * g + n) / 104 = g by omega, show (104 * g + n) % 104 = n by omega]

theorem wp_place (tk : Nat → Nat → BitVec 32) (hT : ∀ r c, (tk r c).toNat < 30522) (g : Nat) (hg : g < 16) :
    iprop(p4 (F := F) d i (cleanK (blk tk g) 104) ∗ ∃ c L, ⌜Laid tk (104 * g) c L⌝ ∗ p5 d i L ∗ p9 d i c)
      ⊢ wpT (F := F) d i (seqL (placeStep i b4 b5 b9 lanesV (BitVec.ofNat 32 g)) (List.range 104)) fun _ =>
        iprop(p4 (F := F) d i (cleanK (blk tk g) 104) ∗ ∃ c L, ⌜Laid tk (104 * (g + 1)) c L⌝ ∗ p5 d i L ∗ p9 d i c) := by
  have h := seqL_wp (F := F) d i (f := placeStep i b4 b5 b9 lanesV (BitVec.ofNat 32 g))
    (fun n => iprop(p4 (F := F) d i (cleanK (blk tk g) 104) ∗ ∃ c L, ⌜Laid tk (104 * g + n) c L⌝ ∗ p5 d i L ∗ p9 d i c)) 104
    fun n hn => wp_placeStep d i tk hT g n hn hg
  rw [show 104 * (g + 1) = 104 * g + 104 by omega]
  exact h

end Cert.Proof.Bow
-- ==== Proof.Loops.lean ====
module

public import proofs.«01_k».proof.Proof.Stream

@[expose] public section

/-! # The three loops before the lists are drained

Zero the staging buffer; count the tokens of each window; place the tokens in the windows' lists. -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

theorem iv_eq (t : Nat) : Scf.iv 0#32 1#32 t = BitVec.ofNat 32 t := by
  show 0#32 + BitVec.ofNat 32 t * 1#32 = _
  rw [BitVec.mul_one, BitVec.zero_add]

/-! ## Zeroing the staging buffer -/

/-- The zero the buffer is filled with. -/
abbrev zf : F .f32 := Scalar.ofBits .f32 0x00000000#32

/-- The staging buffer is zero in its first `t` slabs and the first `n` groups of the next. -/
def Zeroed (t n : Nat) (f : S64x8x128.Idx → F .f32) : Prop :=
  ∀ x, ((x 0).val < t ∨ (x 0).val = t ∧ 8 * (x 1).val + (x 2).val / 16 < n) → f x = zf

theorem zeroed_step (t : Fin k0_t1_loop.trips) (n : Nat) (hn : n < 64) (f : S64x8x128.Idx → F .f32) (h : Zeroed t n f) :
    Zeroed t (n + 1) (updateSlice f (shapeCast S1x1x16 (k0_pay1675 (F := F)) shapeCasts_S16_S1x1x16) (zOff t n) ⟨rfl, zOff_inb t n⟩) := by
  intro x hx
  have ht : t.val < 64 := t.isLt
  have e0 : (Scalar.indexCast (Scf.iv 0#32 1#32 t.val)).toNat = t.val := by
    rw [iv_eq]; show ((BitVec.ofNat 32 t.val).toNat) = _; rw [BitVec.toNat_ofNat]; omega
  have h2 : (x 2).val < 128 := (x 2).isLt
  have h1 : (x 1).val < 8 := (x 1).isLt
  unfold updateSlice
  by_cases hin : (x 0).val = t.val ∧ 8 * (x 1).val + (x 2).val / 16 = n
  · rw [dif_pos]
    · rfl
    · intro a
      fin_cases a
      · show (Scalar.indexCast (Scf.iv 0#32 1#32 t.val)).toNat ≤ (x 0).val ∧ (x 0).val < (Scalar.indexCast (Scf.iv 0#32 1#32 t.val)).toNat + 1
        rw [e0]; omega
      · show n / 8 % 8 ≤ (x 1).val ∧ (x 1).val < n / 8 % 8 + 1; omega
      · show 16 * (n % 8) ≤ (x 2).val ∧ (x 2).val < 16 * (n % 8) + 16; omega
  · rw [dif_neg]
    · exact h x (by omega)
    · intro hx'
      have a0 : (Scalar.indexCast (Scf.iv 0#32 1#32 t.val)).toNat ≤ (x 0).val ∧ (x 0).val < (Scalar.indexCast (Scf.iv 0#32 1#32 t.val)).toNat + 1 := hx' 0
      have a1 : n / 8 % 8 ≤ (x 1).val ∧ (x 1).val < n / 8 % 8 + 1 := hx' 1
      have a2 : 16 * (n % 8) ≤ (x 2).val ∧ (x 2).val < 16 * (n % 8) + 16 := hx' 2
      rw [e0] at a0
      exact hin (by omega)

theorem wp_zeroStep (t : Fin k0_t1_loop.trips) (n : Nat) (hn : n < 64) :
    iprop(∃ f, ⌜Zeroed (F := F) t n f⌝ ∗ p6 d i f) ⊢ wpT d i (zeroStep i b6 (k0_pay1675 (F := F)) t n) fun _ =>
      iprop(∃ f, ⌜Zeroed (F := F) t (n + 1) f⌝ ∗ p6 d i f) := by
  unfold zeroStep
  simp only [Prog.lift, Prog.bind_op, Prog.bind_ret]
  iintro ⟨%f, %hf, H⟩
  iapply (wp_load (defs := defs₀ (F := F)) 𝒱₀ (thr d i) none Set.univ (S := Finset.univ) (Finset.subset_univ _)) $$ [H]
  · iexact H
  iintro H
  iapply (wp_store (defs := defs₀ (F := F)) 𝒱₀ (thr d i) none Set.univ (S := Finset.univ) (Finset.subset_univ _)) $$ [H]
  · iexact H
  rw [show (b6.access (Rect.unit (s := S64x8x128) (zOff t n) S1x1x16.size (zOff_inb t n))).write (Elt F) f (shapeCast S1x1x16 (k0_pay1675 (F := F)) shapeCasts_S16_S1x1x16 : Vec F S1x1x16 .f32) Finset.univ
      = updateSlice f (shapeCast S1x1x16 (k0_pay1675 (F := F)) shapeCasts_S16_S1x1x16) (zOff t n) ⟨rfl, zOff_inb t n⟩ from
    View.write_whole_slice_unit cc0_scratch2 _ _ _ _ _]
  iintro H
  rw [wp_ret]; imodintro
  iexists _; isplitr
  · ipureintro; exact zeroed_step t n hn f hf
  · iexact H

/-- The staging buffer holding zero everywhere. -/
abbrev zAll : S64x8x128.Idx → F .f32 := fun _ => zf

theorem wp_zero (f : S64x8x128.Idx → F .f32) (hok : k0_t1_loop.OK) :
    p6 d i f ⊢ wpT d i (k0_t1_loop.for hok ⟨⟩ fun t _ => seqL (zeroStep i b6 (k0_pay1675 (F := F)) t) (List.range 64)) fun _ =>
      p6 d i (zAll (F := F)) := by
  iintro H
  iapply (Scf.wp_for frame (wpE (defs₀ (F := F)) 𝒱₀ (thr d i) none) Set.univ _ _ _ _ _ _
    (fun t _ => iprop(∃ f, ⌜Zeroed (F := F) t 0 f⌝ ∗ p6 d i f)) ?_)
  rotate_left
  · isplitl [H]
    · iexists f; isplitr
      · ipureintro; intro x hx; omega
      · iexact H
    · iintro %acc ⟨%g, %hg, H⟩
      rw [show g = zAll (F := F) from funext fun x => hg x (.inl (x 0).isLt)]
      iexact H
  · intro t acc
    refine (seqL_wp (F := F) d i (fun n => iprop(∃ f, ⌜Zeroed (F := F) t n f⌝ ∗ p6 d i f)) 64 fun n hn => wp_zeroStep d i t n hn).trans (wp_mono _ _ _ fun _ => ?_)
    iintro ⟨%g, %hg, H⟩
    iexists g; isplitr
    · ipureintro
      intro x hx
      have h2 : (x 2).val < 128 := (x 2).isLt
      have h1 : (x 1).val < 8 := (x 1).isLt
      exact hg x (by omega)
    · iexact H

/-! ## A block of ids fetched -/

theorem fetched_blk (ids : S4096x256.Idx → BitVec 32) (f : S2x8x128.Idx → BitVec 32) (g : Nat) (hg : g < 16)
    (o0 o1 : Fin 2 → Nat) (h0 h1) (e0 : o0 = ![256 * (i 1).val + 128 * (i 0).val + 8 * g, 0])
    (e1 : o1 = ![256 * (i 1).val + 128 * (i 0).val + 8 * g, 128]) :
    fetched ids (fetched ids f o0 h0 0) o1 h1 1 = blk (tok i ids) g := by
  subst e0 e1
  funext x
  have hx0 : (x 0).val < 2 := (x 0).isLt
  have hx1 : (x 1).val < 8 := (x 1).isLt
  have hx2 : (x 2).val < 128 := (x 2).isLt
  have hi1 : (i 1).val < 16 := (i 1).isLt
  have hi0 : (i 0).val < 2 := (i 0).isLt
  unfold fetched blk tok idAt row0
  rw [dif_pos (by omega)]
  by_cases h : (x 0).val = 1
  · rw [if_pos h]
    congr 1; funext a; apply Fin.ext
    fin_cases a
    · show 256 * (i 1).val + 128 * (i 0).val + 8 * g + (x 1).val = 256 * (i 1).val + 128 * (i 0).val + (8 * g + (x 1).val); omega
    · show 128 + (x 2).val = 128 * (x 0).val + (x 2).val; omega
  · rw [if_neg h, if_pos (by omega)]
    congr 1; funext a; apply Fin.ext
    fin_cases a
    · show 256 * (i 1).val + 128 * (i 0).val + 8 * g + (x 1).val = 256 * (i 1).val + 128 * (i 0).val + (8 * g + (x 1).val); omega
    · show 0 + (x 2).val = 128 * (x 0).val + (x 2).val; omega

/-- Fetch a block, clean it, and go on with it. -/
theorem wp_block (q : PosShare TreeShare) (ids : S4096x256.Idx → BitVec 32)
    (O : CellTallies nD τ sig (HIx 1)) (W : Waits sig (HIx 1)) (s0 s1 : DmaSems sig S_) (g : Nat) (hg : g < 16)
    (o0 o1 : Fin 2 → Nat) (h0 h1) (e0 : o0 = ![256 * (i 1).val + 128 * (i 0).val + 8 * g, 0])
    (e1 : o1 = ![256 * (i 1).val + 128 * (i 0).val + 8 * g, 128]) (hh0 hh1) (k : TP F i PUnit) (P Q : sProp (MM F))
    (hk : iprop(p4 d i (cleanK (blk (tok i ids) g) 104) ∗ P) ⊢ wpT d i k fun _ => iprop(p4 d i (cleanK (blk (tok i ids) g) 104) ∗ Q)) :
    iprop((owing d i O W ∗ pIds d i q ids ∗ (∃ f, p4 d i f) ∗ semVal (thr d i, SemLoc.dma s0.sem) 0 ∗ semVal (thr d i, SemLoc.dma s1.sem) 0) ∗ P)
      ⊢ wp frame (wpE (defs₀ (F := F)) 𝒱₀ (thr d i) none) Set.univ (do
          fetch i bIds b4 s0 o0 h0 ![0, 0, 0] hh0
          fetch i bIds b4 s1 o1 h1 ![1, 0, 0] hh1
          seqL (cleanStep i b4) (List.range 104)
          k) fun _ =>
        iprop((owing d i O W ∗ pIds d i q ids ∗ (∃ f, p4 d i f) ∗ semVal (thr d i, SemLoc.dma s0.sem) 0 ∗ semVal (thr d i, SemLoc.dma s1.sem) 0) ∗ Q) := by
  iintro ⟨⟨Ho, Hi, ⟨%f, H4⟩, Hs0, Hs1⟩, HP⟩
  iapply (wpT_bind d i _ (wpT_frame d i iprop(semVal (thr d i, SemLoc.dma s1.sem) 0 ∗ P) (wp_fetch d i q ids f O W s0 o0 h0 0 hh0)) ?_)
  rotate_left
  · isplitr [Hs1 HP]
    · isplitl [Ho]; · iexact Ho
      isplitl [Hi]; · iexact Hi
      isplitl [H4] <;> iassumption
    · isplitl [Hs1] <;> iassumption
  intro _
  iintro ⟨⟨Ho, Hi, H4, Hs0⟩, Hs1, HP⟩
  iapply (wpT_bind d i _ (wpT_frame d i iprop(semVal (thr d i, SemLoc.dma s0.sem) 0 ∗ P) (wp_fetch d i q ids _ O W s1 o1 h1 1 hh1)) ?_)
  rotate_left
  · isplitr [Hs0 HP]
    · isplitl [Ho]; · iexact Ho
      isplitl [Hi]; · iexact Hi
      isplitl [H4] <;> iassumption
    · isplitl [Hs0] <;> iassumption
  intro _
  rw [fetched_blk i ids f g hg o0 o1 h0 h1 e0 e1]
  iintro ⟨⟨Ho, Hi, H4, Hs1⟩, Hs0, HP⟩
  iapply (wpT_bind d i _ (wpT_frame d i iprop((owing d i O W ∗ pIds d i q ids ∗ semVal (thr d i, SemLoc.dma s0.sem) 0 ∗ semVal (thr d i, SemLoc.dma s1.sem) 0) ∗ P) (wp_clean d i (blk (tok i ids) g))) ?_)
  rotate_left
  · isplitl [H4]; · iexact H4
    isplitr [HP]
    · isplitl [Ho]; · iexact Ho
      isplitl [Hi]; · iexact Hi
      isplitl [Hs0] <;> iassumption
    · iexact HP
  intro _
  iintro ⟨H4, HR, HP⟩
  iapply (wp_mono _ _ _ (Q := fun _ => iprop((p4 d i (cleanK (blk (tok i ids) g) 104) ∗ Q) ∗ (owing d i O W ∗ pIds d i q ids ∗ semVal (thr d i, SemLoc.dma s0.sem) 0 ∗ semVal (thr d i, SemLoc.dma s1.sem) 0))))
  · intro _
    iintro ⟨⟨H4, HQ⟩, Ho, Hi, Hs0, Hs1⟩
    isplitr [HQ]
    · isplitl [Ho]; · iexact Ho
      isplitl [Hi]; · iexact Hi
      isplitl [H4]
      · iexists _; iexact H4
      isplitl [Hs0] <;> iassumption
    · iexact HQ
  iapply (wpT_frame d i _ hk)
  isplitr [HR]
  · isplitl [H4] <;> iassumption
  · iexact HR

/-! ## Counting and placing every block -/

/-- What the two block loops leave as they found it. -/
abbrev fetching (q : PosShare TreeShare) (ids : S4096x256.Idx → BitVec 32)
    (O : CellTallies nD τ sig (HIx 1)) (W : Waits sig (HIx 1)) (s0 s1 : DmaSems sig S_) : sProp (MM F) :=
  iprop(owing d i O W ∗ pIds d i q ids ∗ (∃ f, p4 d i f) ∗ semVal (thr d i, SemLoc.dma s0.sem) 0 ∗ semVal (thr d i, SemLoc.dma s1.sem) 0)

theorem wp_counts (q : PosShare TreeShare) (ids : S4096x256.Idx → BitVec 32) (hT : ∀ r c, (tok i ids r c).toNat < 30522)
    (O : CellTallies nD τ sig (HIx 1)) (W : Waits sig (HIx 1)) (s0 s1 : DmaSems sig S_) (hok : k0_t2_loop.OK) :
    iprop(fetching d i q ids O W s0 s1 ∗ ∃ c, ⌜Counted (tok i ids) 0 c⌝ ∗ p7 d i c)
      ⊢ wpT (F := F) d i (k0_t2_loop.for hok ⟨⟩ fun t _ => (do
          fetch i bIds b4 s0 (k0_off65 i t) (k0_off65_inb i t) ![0, 0, 0] inb_S2x8x128_S1x8x128_0_0_0
          fetch i bIds b4 s1 (k0_off66 i t) (k0_off66_inb i t) ![1, 0, 0] inb_S2x8x128_S1x8x128_1_0_0
          seqL (cleanStep i b4) (List.range 104)
          seqL (histStep i b4 b7 lanesV) (List.range 104))) fun _ =>
        iprop(fetching d i q ids O W s0 s1 ∗ ∃ c, ⌜Counted (tok i ids) 1664 c⌝ ∗ p7 d i c) := by
  iintro H
  iapply (Scf.wp_for frame (wpE (defs₀ (F := F)) 𝒱₀ (thr d i) none) Set.univ _ _ _ _ _ _
    (fun g _ => iprop(fetching d i q ids O W s0 s1 ∗ ∃ c, ⌜Counted (tok i ids) (104 * g) c⌝ ∗ p7 d i c)) ?_)
  rotate_left
  · isplitl [H]
    · iexact H
    · iintro %acc H
      iexact H
  · intro t acc
    have ht : t.val < 16 := t.isLt
    have h := wp_hist (F := F) d i (tok i ids) hT t.val
    have h' := wp_block d i q ids O W s0 s1 t.val ht _ _ (k0_off65_inb i t) (k0_off66_inb i t) (k0_off65_eq i t) (k0_off66_eq i t)
      inb_S2x8x128_S1x8x128_0_0_0 inb_S2x8x128_S1x8x128_1_0_0 _ _ _ h
    convert h' using 4

theorem wp_places (q : PosShare TreeShare) (ids : S4096x256.Idx → BitVec 32) (hT : ∀ r c, (tok i ids r c).toNat < 30522)
    (O : CellTallies nD τ sig (HIx 1)) (W : Waits sig (HIx 1)) (s0 s1 : DmaSems sig S_) (hok : k0_t3_loop.OK) :
    iprop(fetching d i q ids O W s0 s1 ∗ ∃ c L, ⌜Laid (tok i ids) 0 c L⌝ ∗ p5 d i L ∗ p9 d i c)
      ⊢ wpT (F := F) d i (k0_t3_loop.for hok ⟨⟩ fun t _ => (do
          fetch i bIds b4 s0 (k0_off67 i t) (k0_off67_inb i t) ![0, 0, 0] inb_S2x8x128_S1x8x128_0_0_0
          fetch i bIds b4 s1 (k0_off68 i t) (k0_off68_inb i t) ![1, 0, 0] inb_S2x8x128_S1x8x128_1_0_0
          seqL (cleanStep i b4) (List.range 104)
          seqL (placeStep i b4 b5 b9 lanesV (Scf.iv 0#32 1#32 t)) (List.range 104))) fun _ =>
        iprop(fetching d i q ids O W s0 s1 ∗ ∃ c L, ⌜Laid (tok i ids) 1664 c L⌝ ∗ p5 d i L ∗ p9 d i c) := by
  iintro H
  iapply (Scf.wp_for frame (wpE (defs₀ (F := F)) 𝒱₀ (thr d i) none) Set.univ _ _ _ _ _ _
    (fun g _ => iprop(fetching d i q ids O W s0 s1 ∗ ∃ c L, ⌜Laid (tok i ids) (104 * g) c L⌝ ∗ p5 d i L ∗ p9 d i c)) ?_)
  rotate_left
  · isplitl [H]
    · iexact H
    · iintro %acc H
      iexact H
  · intro t acc
    rw [iv_eq]
    have ht : t.val < 16 := t.isLt
    have h := wp_place (F := F) d i (tok i ids) hT t.val ht
    have h' := wp_block d i q ids O W s0 s1 t.val ht _ _ (k0_off67_inb i t) (k0_off68_inb i t) (k0_off67_eq i t) (k0_off68_eq i t)
      inb_S2x8x128_S1x8x128_0_0_0 inb_S2x8x128_S1x8x128_1_0_0 _ _ _ h
    convert h' using 4

end Cert.Proof.Bow
-- ==== Proof.Prefix.lean ====
module

public import proofs.«01_k».proof.Proof.Loops

@[expose] public section

/-! # The beginnings of the lists

Each window's count is rounded up to whole groups of sixteen and the rounded counts are summed from
the left, sixteen windows at a time with a carry. -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-! ## Sixteen words of a buffer of 80 -/

/-- The sixteen words from `o` on. -/
def readW (c : S80.Idx → BitVec 32) (o : Nat) : IVec S16 32 := fun l => at1 c (o + (l 0).val)

/-- The sixteen words from `o` on rewritten. -/
def putW (c : S80.Idx → BitVec 32) (o : Nat) (v : IVec S16 32) : S80.Idx → BitVec 32 := fun x =>
  if o ≤ (x 0).val ∧ (x 0).val < o + 16 then v (ln ((x 0).val - o)) else c x

theorem ln_zero (k : Nat) : (ln k 0).val = k % 16 := rfl

theorem at1_of (c : S80.Idx → BitVec 32) {x : Nat} (hx : x < 80) : at1 c x = c (fun a => ⟨x, by fin_cases a; exact hx⟩) :=
  at1_eq c (fun a => ⟨x, by fin_cases a; exact hx⟩)

theorem at1_putW (c : S80.Idx → BitVec 32) (o : Nat) (v : IVec S16 32) {x : Nat} (hx : x < 80) :
    at1 (putW c o v) x = if o ≤ x ∧ x < o + 16 then v (ln (x - o)) else at1 c x := by
  rw [at1_of _ hx, at1_of _ hx]; rfl

theorem readAt_b7 (o : Nat) (ho : ∀ a, (![o] : Fin 1 → Nat) a + S16.size a ≤ S80.size a) (f : S80.Idx → BitVec 32) :
    (b7.view.readAt (Elt F) (Rect.unit (s := S80) ![o] S16.size ho).toLoadRect f : Vec F S16 .i32) = readW f o := by
  funext l
  rw [View.readAt_apply]
  refine (at1_eq f _).symm.trans ?_
  show at1 f (o + 1 * (l 0).val) = at1 f (o + (l 0).val)
  rw [one_mul]

theorem updW (o : Nat) (ho : ∀ a, (![o] : Fin 1 → Nat) a + S16.size a ≤ S80.size a) (f : S80.Idx → BitVec 32) (v : IVec S16 32) :
    updateSlice f v ![o] ⟨rfl, ho⟩ = putW f o v := by
  funext x
  unfold updateSlice putW
  by_cases h : o ≤ (x 0).val ∧ (x 0).val < o + 16
  · rw [if_pos h, dif_pos (fun a => by fin_cases a; exact h)]
    refine congrArg v (funext fun a => Fin.ext ?_)
    fin_cases a
    show (x 0).val - o = ((x 0).val - o) % 16
    omega
  · rw [if_neg h, dif_neg (fun hh => h (hh 0))]

theorem wp_load7 {α : Type} (o : Nat) (ho) {hl} (f : S80.Idx → BitVec 32) {k : Vec F S16 .i32 → TP F i α} {Q : α → sProp (MM F)} {R : sProp (MM F)}
    (hk : iprop(p7 d i f ∗ R) ⊢ wpT (F := F) d i (k (readW f o)) Q) :
    iprop(p7 d i f ∗ R) ⊢ wpT (F := F) d i
      (Prog.lift (.load b7 (Rect.unit (s := S80) ![o] S16.size ho).toLoadRect hl) >>= k) Q := by
  rw [← readAt_b7 (F := F) o ho f] at hk
  simp only [Prog.lift, Prog.bind_op, Prog.bind_ret]
  iintro ⟨H, HR⟩
  iapply (wp_load (defs := defs₀ (F := F)) 𝒱₀ (thr d i) none Set.univ (S := Finset.univ) (Finset.subset_univ _)) $$ [H]
  · iexact H
  iintro H
  iapply hk
  isplitl [H] <;> iassumption

theorem wp_store7 {α : Type} (o : Nat) (ho) {hs hm} (f : S80.Idx → BitVec 32) (v : IVec S16 32) {k : PUnit → TP F i α} {Q : α → sProp (MM F)} {R : sProp (MM F)}
    (hk : iprop(p7 d i (putW f o v) ∗ R) ⊢ wpT (F := F) d i (k ⟨⟩) Q) :
    iprop(p7 d i f ∗ R) ⊢ wpT (F := F) d i
      (Prog.lift (.store b7 (Rect.unit (s := S80) ![o] S16.size ho) (v : Vec F S16 .i32) Finset.univ hs hm) >>= k) Q := by
  simp only [Prog.lift, Prog.bind_op, Prog.bind_ret]
  iintro ⟨H, HR⟩
  iapply (wp_store (defs := defs₀ (F := F)) 𝒱₀ (thr d i) none Set.univ (S := Finset.univ) (Finset.subset_univ _)) $$ [H]
  · iexact H
  rw [show (b7.access (Rect.unit (s := S80) ![o] S16.size ho)).write (Elt F) f (v : Vec F S16 .i32) Finset.univ = putW f o v from
    (View.write_whole_slice_unit cc0_scratch3 _ _ _ _ _).trans (updW o ho f v)]
  iintro H
  iapply hk
  isplitl [H] <;> iassumption

theorem wp_load8 {α : Type} (o : Nat) (ho) {hl} (f : S80.Idx → BitVec 32) {k : Vec F S16 .i32 → TP F i α} {Q : α → sProp (MM F)} {R : sProp (MM F)}
    (hk : iprop(p8 d i f ∗ R) ⊢ wpT (F := F) d i (k (readW f o)) Q) :
    iprop(p8 d i f ∗ R) ⊢ wpT (F := F) d i
      (Prog.lift (.load b8 (Rect.unit (s := S80) ![o] S16.size ho).toLoadRect hl) >>= k) Q := by
  rw [← readAt_b7 (F := F) o ho f] at hk
  simp only [Prog.lift, Prog.bind_op, Prog.bind_ret]
  iintro ⟨H, HR⟩
  iapply (wp_load (defs := defs₀ (F := F)) 𝒱₀ (thr d i) none Set.univ (S := Finset.univ) (Finset.subset_univ _)) $$ [H]
  · iexact H
  iintro H
  iapply hk
  isplitl [H] <;> iassumption

theorem wp_store8 {α : Type} (o : Nat) (ho) {hs hm} (f : S80.Idx → BitVec 32) (v : IVec S16 32) {k : PUnit → TP F i α} {Q : α → sProp (MM F)} {R : sProp (MM F)}
    (hk : iprop(p8 d i (putW f o v) ∗ R) ⊢ wpT (F := F) d i (k ⟨⟩) Q) :
    iprop(p8 d i f ∗ R) ⊢ wpT (F := F) d i
      (Prog.lift (.store b8 (Rect.unit (s := S80) ![o] S16.size ho) (v : Vec F S16 .i32) Finset.univ hs hm) >>= k) Q := by
  simp only [Prog.lift, Prog.bind_op, Prog.bind_ret]
  iintro ⟨H, HR⟩
  iapply (wp_store (defs := defs₀ (F := F)) 𝒱₀ (thr d i) none Set.univ (S := Finset.univ) (Finset.subset_univ _)) $$ [H]
  · iexact H
  rw [show (b8.access (Rect.unit (s := S80) ![o] S16.size ho)).write (Elt F) f (v : Vec F S16 .i32) Finset.univ = putW f o v from
    (View.write_whole_slice_unit cc0_scratch4 _ _ _ _ _).trans (updW o ho f v)]
  iintro H
  iapply hk
  isplitl [H] <;> iassumption

theorem wp_load9 {α : Type} (o : Nat) (ho) {hl} (f : S80.Idx → BitVec 32) {k : Vec F S16 .i32 → TP F i α} {Q : α → sProp (MM F)} {R : sProp (MM F)}
    (hk : iprop(p9 d i f ∗ R) ⊢ wpT (F := F) d i (k (readW f o)) Q) :
    iprop(p9 d i f ∗ R) ⊢ wpT (F := F) d i
      (Prog.lift (.load b9 (Rect.unit (s := S80) ![o] S16.size ho).toLoadRect hl) >>= k) Q := by
  rw [← readAt_b7 (F := F) o ho f] at hk
  simp only [Prog.lift, Prog.bind_op, Prog.bind_ret]
  iintro ⟨H, HR⟩
  iapply (wp_load (defs := defs₀ (F := F)) 𝒱₀ (thr d i) none Set.univ (S := Finset.univ) (Finset.subset_univ _)) $$ [H]
  · iexact H
  iintro H
  iapply hk
  isplitl [H] <;> iassumption

theorem wp_store9 {α : Type} (o : Nat) (ho) {hs hm} (f : S80.Idx → BitVec 32) (v : IVec S16 32) {k : PUnit → TP F i α} {Q : α → sProp (MM F)} {R : sProp (MM F)}
    (hk : iprop(p9 d i (putW f o v) ∗ R) ⊢ wpT (F := F) d i (k ⟨⟩) Q) :
    iprop(p9 d i f ∗ R) ⊢ wpT (F := F) d i
      (Prog.lift (.store b9 (Rect.unit (s := S80) ![o] S16.size ho) (v : Vec F S16 .i32) Finset.univ hs hm) >>= k) Q := by
  simp only [Prog.lift, Prog.bind_op, Prog.bind_ret]
  iintro ⟨H, HR⟩
  iapply (wp_store (defs := defs₀ (F := F)) 𝒱₀ (thr d i) none Set.univ (S := Finset.univ) (Finset.subset_univ _)) $$ [H]
  · iexact H
  rw [show (b9.access (Rect.unit (s := S80) ![o] S16.size ho)).write (Elt F) f (v : Vec F S16 .i32) Finset.univ = putW f o v from
    (View.write_whole_slice_unit cc0_scratch5 _ _ _ _ _).trans (updW o ho f v)]
  iintro H
  iapply hk
  isplitl [H] <;> iassumption

/-! ## Rounded counts and their sums -/

theorem round_word (x : BitVec 32) : x &&& 4294967280#32 = (x >>> 4) <<< 4 := by
  apply BitVec.eq_of_getLsbD_eq
  intro j hj
  rw [BitVec.getLsbD_and, BitVec.getLsbD_shiftLeft, BitVec.getLsbD_ushiftRight]
  have h : ∀ j : Fin 32, (4294967280#32).getLsbD j.val = !decide (j.val < 4) := by decide
  rw [h ⟨j, hj⟩]
  by_cases h4 : j < 4
  · simp [h4]
  · simp [h4, hj, show 4 + (j - 4) = j by omega]

theorem round_ofNat (n : Nat) (h : n ≤ 1000000) : (BitVec.ofNat 32 n + 15#32) &&& 4294967280#32 = BitVec.ofNat 32 (r16 n) := by
  rw [round_word]
  apply BitVec.eq_of_toNat_eq
  rw [BitVec.toNat_shiftLeft, BitVec.toNat_ushiftRight, Nat.shiftRight_eq_div_pow, Nat.shiftLeft_eq, BitVec.toNat_add, BitVec.toNat_ofNat, BitVec.toNat_ofNat]
  unfold r16
  show (n % 4294967296 + 15) % 4294967296 / 16 * 16 % 4294967296 = (n + 15) / 16 * 16 % 4294967296
  omega

theorem foldl_add {α : Type} (n : α → Nat) (L : List α) (a : Nat) :
    L.foldl (fun r k => r + BitVec.ofNat 32 (n k)) (BitVec.ofNat 32 a) = BitVec.ofNat 32 (a + (L.map n).sum) := by
  induction L generalizing a with
  | nil => rfl
  | cons x L ih =>
    rw [List.foldl_cons, ← BitVec.ofNat_add, ih, List.map_cons, List.sum_cons, Nat.add_assoc]

theorem scan_ofNat (v : IVec S16 32) (n : Nat → Nat) (hv : ∀ l, v l = BitVec.ofNat 32 (n (l 0).val)) (l : S16.Idx) :
    scan .sum v l = BitVec.ofNat 32 ((Finset.range ((l 0).val + 1)).sum n) := by
  obtain ⟨j, hj⟩ : ∃ j : Fin 16, j = l 0 := ⟨l 0, rfl⟩
  have e : scan .sum v l = ((List.finRange 16).filter fun k => decide (0 < k.val ∧ k.val ≤ j.val)).foldl
      (fun r k => r + BitVec.ofNat 32 (n k.val)) (BitVec.ofNat 32 (n 0)) := by
    subst hj
    unfold scan
    simp only [hv]
    rfl
  rw [e, foldl_add (fun k : Fin 16 => n k.val), ← hj]
  congr 1
  clear hj e hv
  fin_cases j <;> simp [List.finRange, Finset.sum_range_succ, List.filter] <;> omega

/-- A chunk of sixteen beginnings. -/
theorem chunk_word (tk : Nat → Nat → BitVec 32) (c : S80.Idx → BitVec 32) (hc : Counted tk 1664 c) (j : Nat) (hj : j < 4)
    (V : IVec S16 32) (hV : V = andi (addi (readW c (16 * j)) (broadcast S16 15#32)) (broadcast S16 4294967280#32)) (l : S16.Idx) :
    V l = BitVec.ofNat 32 (r16 (cnt mV (wV tk) 1664 (16 * j + (l 0).val))) := by
  have hl : (l 0).val < 16 := (l 0).isLt
  subst hV
  show (at1 c (16 * j + (l 0).val) + 15#32) &&& 4294967280#32 = _
  rw [hc _ (by omega)]
  have h := bs_cnt tk (le_refl 1664) (show 16 * j + (l 0).val < 64 by omega)
  exact round_ofNat _ (by omega)

theorem bs_split (tk : Nat → Nat → BitVec 32) (o m : Nat) :
    bs tk (o + m) = bs tk o + (Finset.range m).sum fun y => r16 (cnt mV (wV tk) 1664 (o + y)) :=
  Finset.sum_range_add _ _ _

theorem chunk_bs (tk : Nat → Nat → BitVec 32) (j : Nat)
    (V : IVec S16 32) (hV : ∀ l, V l = BitVec.ofNat 32 (r16 (cnt mV (wV tk) 1664 (16 * j + (l 0).val)))) (l : S16.Idx) :
    subi (scan .sum V) V l + BitVec.ofNat 32 (bs tk (16 * j)) = BitVec.ofNat 32 (bs tk (16 * j + (l 0).val)) := by
  show scan .sum V l - V l + _ = _
  rw [scan_ofNat V (fun y => r16 (cnt mV (wV tk) 1664 (16 * j + y))) hV, hV, Finset.sum_range_succ, bs_split, Nat.add_comm (bs tk (16 * j)),
    BitVec.ofNat_add, BitVec.add_sub_cancel, BitVec.ofNat_add]

theorem chunk_carry (tk : Nat → Nat → BitVec 32) (j : Nat)
    (V : IVec S16 32) (hV : ∀ l, V l = BitVec.ofNat 32 (r16 (cnt mV (wV tk) 1664 (16 * j + (l 0).val)))) :
    BitVec.ofNat 32 (bs tk (16 * j)) + extractAt ![15] (scan .sum V) inpos_S16_p15 = BitVec.ofNat 32 (bs tk (16 * (j + 1))) := by
  have h := scan_ofNat V (fun y => r16 (cnt mV (wV tk) 1664 (16 * j + y))) hV (ln 15)
  have e : extractAt ![15] (scan .sum V) inpos_S16_p15 = scan .sum V (ln 15) := by
    unfold extractAt
    refine congrArg (scan .sum V) (funext fun a => Fin.ext ?_)
    fin_cases a; rfl
  rw [e, h, show 16 * (j + 1) = 16 * j + 16 by omega, bs_split, BitVec.ofNat_add]
  rfl

/-! ## The four chunks -/

/-- The table of beginnings is right for the windows below `n`. -/
def Based (tk : Nat → Nat → BitVec 32) (n : Nat) (b : S80.Idx → BitVec 32) : Prop :=
  ∀ x < n, at1 b x = BitVec.ofNat 32 (bs tk x)

theorem based_put (tk : Nat → Nat → BitVec 32) (j : Nat) (hj : j < 4) (b : S80.Idx → BitVec 32) (v : IVec S16 32)
    (h : Based tk (16 * j) b) (hv : ∀ l, v l = BitVec.ofNat 32 (bs tk (16 * j + (l 0).val))) :
    Based tk (16 * (j + 1)) (putW b (16 * j) v) := by
  intro x hx
  rw [at1_putW _ _ _ (by omega)]
  by_cases hh : 16 * j ≤ x ∧ x < 16 * j + 16
  · rw [if_pos hh, hv, ln_zero]
    rw [show 16 * j + (x - 16 * j) % 16 = x by omega]
  · rw [if_neg hh]; exact h x (by omega)

theorem bs_zero (tk : Nat → Nat → BitVec 32) : bs tk 0 = 0 := by unfold bs base; simp

variable (tk : Nat → Nat → BitVec 32) (c : S80.Idx → BitVec 32) (hc : Counted tk 1664 c)
include hc

theorem pay1683_bs (l : S16.Idx) : k0_pay1683 (F := F) (readW c 0) l = BitVec.ofNat 32 (bs tk (16 * 0 + (l 0).val)) := by
  rw [← chunk_bs tk 0 (k0_pay1682 (F := F) (readW c 0)) (chunk_word tk c hc 0 (by omega) _ rfl), bs_zero]
  rfl

theorem carry16 : Scalar.addi 0#32 (extractAt ![15] (k0_pay1684 (k0_pay1682 (F := F) (readW c 0))) inpos_S16_p15) = BitVec.ofNat 32 (bs tk (16 * 1)) := by
  rw [← chunk_carry tk 0 (k0_pay1682 (F := F) (readW c 0)) (chunk_word tk c hc 0 (by omega) _ rfl), bs_zero]
  rfl

theorem pay1686_bs (l : S16.Idx) : k0_pay1686 (F := F) (k0_pay1682 (F := F) (readW c 0)) (readW c 16) l = BitVec.ofNat 32 (bs tk (16 * 1 + (l 0).val)) := by
  rw [← chunk_bs tk 1 (k0_pay1685 (F := F) (readW c 16)) (chunk_word tk c hc 1 (by omega) _ rfl), ← carry16 (F := F) tk c hc]
  rfl

theorem carry32 : Scalar.addi (Scalar.addi 0#32 (extractAt ![15] (k0_pay1684 (k0_pay1682 (F := F) (readW c 0))) inpos_S16_p15))
    (extractAt ![15] (k0_pay1687 (F := F) (readW c 16)) inpos_S16_p15) = BitVec.ofNat 32 (bs tk (16 * 2)) := by
  rw [← chunk_carry tk 1 (k0_pay1685 (F := F) (readW c 16)) (chunk_word tk c hc 1 (by omega) _ rfl), ← carry16 (F := F) tk c hc]
  rfl

theorem pay1689_bs (l : S16.Idx) : k0_pay1689 (F := F) (k0_pay1682 (F := F) (readW c 0)) (readW c 16) (readW c 32) l = BitVec.ofNat 32 (bs tk (16 * 2 + (l 0).val)) := by
  rw [← chunk_bs tk 2 (k0_pay1688 (F := F) (readW c 32)) (chunk_word tk c hc 2 (by omega) _ rfl), ← carry32 (F := F) tk c hc]
  rfl

theorem carry48 : Scalar.addi (Scalar.addi (Scalar.addi 0#32 (extractAt ![15] (k0_pay1684 (k0_pay1682 (F := F) (readW c 0))) inpos_S16_p15))
    (extractAt ![15] (k0_pay1687 (F := F) (readW c 16)) inpos_S16_p15)) (extractAt ![15] (k0_pay1690 (F := F) (readW c 32)) inpos_S16_p15) = BitVec.ofNat 32 (bs tk (16 * 3)) := by
  rw [← chunk_carry tk 2 (k0_pay1688 (F := F) (readW c 32)) (chunk_word tk c hc 2 (by omega) _ rfl), ← carry32 (F := F) tk c hc]
  rfl

theorem pay1691_bs (v60 : BitVec 32) (h60 : v60 = BitVec.ofNat 32 (bs tk (16 * 3))) (l : S16.Idx) :
    k0_pay1691 (F := F) v60 (readW c 48) 15#32 l = BitVec.ofNat 32 (bs tk (16 * 3 + (l 0).val)) := by
  subst h60
  rw [← chunk_bs tk 3 (k0_pay1688 (F := F) (readW c 48)) (chunk_word tk c hc 3 (by omega) _ rfl)]
  rfl

end Cert.Proof.Bow
-- ==== Proof.Head.lean ====
module

public import proofs.«01_k».proof.Proof.Prefix

@[expose] public section

/-! # The kernel up to the table of beginnings -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-- One entailment after another, the assertion between them given. -/
theorem via {P R : sProp (MM F)} (Q : sProp (MM F)) (h : P ⊢ Q) (h' : Q ⊢ R) : P ⊢ R := h.trans h'

/-- A buffer held at some contents of which something is known. -/
theorem open_ex {α : Type} {φ : α → Prop} {P R G : sProp (MM F)} {Z : α → sProp (MM F)} (h : ∀ c, φ c → iprop(Z c ∗ P ∗ R) ⊢ G) :
    iprop((P ∗ ∃ c, ⌜φ c⌝ ∗ Z c) ∗ R) ⊢ G := by
  iintro ⟨⟨HP, %c, %hc, HZ⟩, HR⟩
  iapply (h c hc)
  isplitl [HZ]; · iexact HZ
  isplitl [HP] <;> iassumption

/-- A part's end. -/
theorem wpT_ret {α : Type} {P : sProp (MM F)} {Q : α → sProp (MM F)} (r : α) (h : P ⊢ Q r) : P ⊢ wpT d i (Prog.ret r) Q := by
  refine via _ h ?_
  show _ ⊢ wp frame _ _ (Prog.ret _) _
  rw [wp_ret]
  iintro H; imodintro; iexact H

/-- The kernel's first part at this tile's buffers. -/
abbrev part239 := k0_part239_skel (F := F) i bIds (Memref.isWhole_whole _) bOut (Memref.isWhole_whole _) b4 (Memref.isWhole_whole _) b5 (Memref.isWhole_whole _)
  b6 (Memref.isWhole_whole _) b7 (Memref.isWhole_whole _) b8 (Memref.isWhole_whole _) b9 (Memref.isWhole_whole _)
  cc0_scoped0 cc0_scoped1 cc0_scoped2 cc0_scoped3 cc0_scoped4 cc0_scoped5

/-- The kernel's second part at this tile's buffers. -/
abbrev part240 := k0_part240_skel (F := F) i bIds (Memref.isWhole_whole _) bOut (Memref.isWhole_whole _) b4 (Memref.isWhole_whole _) b5 (Memref.isWhole_whole _)
  b6 (Memref.isWhole_whole _) b7 (Memref.isWhole_whole _) b8 (Memref.isWhole_whole _) b9 (Memref.isWhole_whole _)
  cc0_scoped0 cc0_scoped1 cc0_scoped2 cc0_scoped3 cc0_scoped4 cc0_scoped5

/-- The first row of the tile, as the kernel computes it. -/
abbrev row0W : BitVec 32 :=
  Scalar.muli (Scalar.addi (Scalar.muli (BitVec.ofNat 32 (i 1).val) 2#32) (BitVec.ofNat 32 (i 0).val)) 128#32

theorem pay1677_zero (l : S16.Idx) : k0_pay1677 l = 0#32 := rfl

theorem counted_zero (tk : Nat → Nat → BitVec 32) (c : S80.Idx → BitVec 32) :
    Counted tk 0 (putW (putW (putW (putW c 0 k0_pay1677) 16 k0_pay1677) 32 k0_pay1677) 48 k0_pay1677) := by
  intro x hx
  rw [at1_putW _ _ _ (by omega), at1_putW _ _ _ (by omega), at1_putW _ _ _ (by omega), at1_putW _ _ _ (by omega), pay1677_zero, pay1677_zero, pay1677_zero, pay1677_zero]
  have e : cnt mV (wV tk) 0 x = 0 := by unfold cnt; simp
  rw [e]
  by_cases h3 : 48 ≤ x ∧ x < 48 + 16
  · rw [if_pos h3]
  rw [if_neg h3]
  by_cases h2 : 32 ≤ x ∧ x < 32 + 16
  · rw [if_pos h2]
  rw [if_neg h2]
  by_cases h1 : 16 ≤ x ∧ x < 16 + 16
  · rw [if_pos h1]
  rw [if_neg h1, if_pos (by omega)]

theorem wp_part239 (q : PosShare TreeShare) (ids : S4096x256.Idx → BitVec 32) (hT : ∀ r c, (tok i ids r c).toNat < 30522)
    (O : CellTallies nD τ sig (HIx 1)) (W : Waits sig (HIx 1)) :
    iprop(fetching d i q ids O W cc0_scoped0 cc0_scoped1 ∗ (∃ f, p6 d i f) ∗ (∃ f, p7 d i f) ∗ (∃ f, p8 d i f) ∗ (∃ f, p9 d i f))
      ⊢ wpT (F := F) d i (part239 i) fun r => iprop(∃ c b,
        ⌜Counted (tok i ids) 1664 c ∧ Based (tok i ids) 16 b ∧
          r = ⟨k0_pay1675, k0_pay1676, lanesV, row0W i, k0_pay1682 (F := F) (readW c 0), k0_pay1683 (F := F) (readW c 0)⟩⌝ ∗
        p7 d i c ∗ p8 d i b ∗ fetching d i q ids O W cc0_scoped0 cc0_scoped1 ∗ p6 d i zAll ∗ (∃ f, p9 d i f)) := by
  unfold part239 k0_part239_skel
  rw [t1_fold]
  iintro ⟨Hf, ⟨%f6, H6⟩, ⟨%f7, H7⟩, ⟨%f8, H8⟩, ⟨%f9, H9⟩⟩
  iapply (wpT_bind d i _ (wpT_frame d i iprop(fetching d i q ids O W cc0_scoped0 cc0_scoped1 ∗ p7 d i f7 ∗ p8 d i f8 ∗ p9 d i f9) (wp_zero d i f6 k0_t1_ok)) ?_)
  rotate_left
  · isplitl [H6]; · iexact H6
    isplitl [Hf]; · iexact Hf
    isplitl [H7]; · iexact H7
    isplitl [H8] <;> iassumption
  intro _
  refine via (iprop(p7 d i f7 ∗ (p6 d i zAll ∗ fetching d i q ids O W cc0_scoped0 cc0_scoped1 ∗ p8 d i f8 ∗ p9 d i f9))) ?_
    (wp_load7 d i 0 _ f7 <| wp_store7 d i 0 _ _ _ <| wp_load7 d i 16 _ _ <| wp_store7 d i 16 _ _ _ <|
      wp_load7 d i 32 _ _ <| wp_store7 d i 32 _ _ _ <| wp_load7 d i 48 _ _ <| wp_store7 d i 48 _ _ _ ?_)
  · iintro ⟨H6, Hf, H7, H8, H9⟩
    isplitl [H7]; · iexact H7
    isplitl [H6]; · iexact H6
    isplitl [Hf]; · iexact Hf
    isplitl [H8] <;> iassumption
  rw [show (iota .scVector S16 32 [0] iota_S16_d0_w32_scVector) = lanesV from rfl, t2_fold]
  refine wpT_bind d i _ (via (iprop((fetching d i q ids O W cc0_scoped0 cc0_scoped1 ∗ ∃ c, ⌜Counted (tok i ids) 0 c⌝ ∗ p7 d i c) ∗ (p6 d i zAll ∗ p8 d i f8 ∗ p9 d i f9)))
    ?_ (wpT_frame d i iprop(p6 d i zAll ∗ p8 d i f8 ∗ p9 d i f9) (wp_counts d i q ids hT O W cc0_scoped0 cc0_scoped1 k0_t2_ok))) fun _ => ?_
  · iintro ⟨H7, H6, Hf, H8, H9⟩
    isplitl [Hf H7]
    · isplitl [Hf]; · iexact Hf
      iexists _; isplitr
      rotate_left
      · iexact H7
      ipureintro; exact counted_zero _ f7
    isplitl [H6]; · iexact H6
    isplitl [H8] <;> iassumption
  refine open_ex fun c hc => ?_
  refine wp_load7 d i 0 _ _ ?_
  refine via iprop(p8 d i f8 ∗ (p7 d i c ∗ fetching d i q ids O W cc0_scoped0 cc0_scoped1 ∗ p6 d i zAll ∗ p9 d i f9)) ?_
    (wp_load8 d i 0 _ _ (wp_store8 d i 0 _ _ _ ?_))
  · iintro ⟨H7, Hf, H6, H8, H9⟩
    isplitl [H8]; · iexact H8
    isplitl [H7]; · iexact H7
    isplitl [Hf]; · iexact Hf
    isplitl [H6] <;> iassumption
  refine via iprop(p9 d i f9 ∗ (p8 d i (putW f8 0 (k0_pay1683 (F := F) (readW c 0))) ∗ p7 d i c ∗ fetching d i q ids O W cc0_scoped0 cc0_scoped1 ∗ p6 d i zAll)) ?_
    (wp_load9 d i 0 _ _ ?_)
  · iintro ⟨H8, H7, Hf, H6, H9⟩
    isplitl [H9]; · iexact H9
    isplitl [H8]; · iexact H8
    isplitl [H7]; · iexact H7
    isplitl [Hf] <;> iassumption
  refine wpT_ret d i _ ?_
  iintro ⟨H9, H8, H7, Hf, H6⟩
  iexists c; iexists (putW f8 0 (k0_pay1683 (F := F) (readW c 0)))
  isplitr
  · ipureintro
    exact ⟨hc, based_put _ 0 (by omega) f8 _ (fun x hx => absurd hx (Nat.not_lt_zero _)) (pay1683_bs _ c hc), rfl⟩
  isplitl [H7]; · iexact H7
  isplitl [H8]; · iexact H8
  isplitl [Hf]; · iexact Hf
  isplitl [H6]; · iexact H6
  iexists _; iexact H9

/-- What the second part returns. -/
abbrev ret240 (c : S80.Idx → BitVec 32) : Σ' (v60 : BitVec 32) (v61 : Vec F S16 .i32), BitVec 32 :=
  ⟨Scalar.addi (Scalar.addi (Scalar.addi 0#32 (extractAt ![15] (k0_pay1684 (k0_pay1682 (F := F) (readW c 0))) inpos_S16_p15))
    (extractAt ![15] (k0_pay1687 (F := F) (readW c 16)) inpos_S16_p15)) (extractAt ![15] (k0_pay1690 (F := F) (readW c 32)) inpos_S16_p15),
    readW c 48, 15#32⟩

theorem wp_part240 (tk : Nat → Nat → BitVec 32) (c b c9 : S80.Idx → BitVec 32) (hc : Counted tk 1664 c) (hb : Based tk 16 b) :
    iprop(p7 d i c ∗ p8 d i b ∗ p9 d i c9)
      ⊢ wpT (F := F) d i (part240 i (k0_pay1682 (F := F) (readW c 0)) (k0_pay1683 (F := F) (readW c 0))) fun r => iprop(∃ b' c',
        ⌜Based tk 48 b' ∧ Based tk 48 c' ∧ r = ret240 (F := F) c⌝ ∗ p7 d i c ∗ p8 d i b' ∗ p9 d i c') := by
  unfold part240 k0_part240_skel
  refine via iprop(p9 d i c9 ∗ (p7 d i c ∗ p8 d i b)) ?_ (wp_store9 d i 0 _ _ _ ?_)
  · iintro ⟨H7, H8, H9⟩
    isplitl [H9]; · iexact H9
    isplitl [H7] <;> iassumption
  have h9 := based_put tk 0 (by omega) c9 _ (fun x hx => absurd hx (Nat.not_lt_zero _)) (pay1683_bs (F := F) tk c hc)
  generalize e9 : putW c9 (16 * 0) (k0_pay1683 (F := F) (readW c 0)) = c9' at h9
  rw [show (0 : Nat) = 16 * 0 from rfl] at e9
  refine via iprop(p7 d i c ∗ (p8 d i b ∗ p9 d i c9')) ?_ (wp_load7 d i 16 _ _ ?_)
  · subst e9
    iintro ⟨H9, H7, H8⟩
    isplitl [H7]; · iexact H7
    isplitl [H8] <;> iassumption
  refine via iprop(p8 d i b ∗ (p9 d i c9' ∗ p7 d i c)) ?_ (wp_load8 d i 16 _ _ (wp_store8 d i 16 _ _ _ ?_))
  · iintro ⟨H7, H8, H9⟩
    isplitl [H8]; · iexact H8
    isplitl [H9] <;> iassumption
  refine via iprop(p9 d i c9' ∗ (p7 d i c ∗ p8 d i (putW b 16 (k0_pay1686 (F := F) (k0_pay1682 (F := F) (readW c 0)) (readW c 16))))) ?_
    (wp_load9 d i 16 _ _ (wp_store9 d i 16 _ _ _ ?_))
  · iintro ⟨H8, H9, H7⟩
    isplitl [H9]; · iexact H9
    isplitl [H7] <;> iassumption
  refine via iprop(p7 d i c ∗ (p8 d i (putW b 16 (k0_pay1686 (F := F) (k0_pay1682 (F := F) (readW c 0)) (readW c 16)))
    ∗ p9 d i (putW c9' 16 (k0_pay1686 (F := F) (k0_pay1682 (F := F) (readW c 0)) (readW c 16))))) ?_ (wp_load7 d i 32 _ _ ?_)
  · iintro ⟨H9, H7, H8⟩
    isplitl [H7]; · iexact H7
    isplitl [H8] <;> iassumption
  have hb1 := based_put tk 1 (by omega) b _ hb (pay1686_bs (F := F) tk c hc)
  have h91 := based_put tk 1 (by omega) c9' _ h9 (pay1686_bs (F := F) tk c hc)
  generalize putW b 16 (k0_pay1686 (F := F) (k0_pay1682 (F := F) (readW c 0)) (readW c 16)) = b1 at *
  generalize putW c9' 16 (k0_pay1686 (F := F) (k0_pay1682 (F := F) (readW c 0)) (readW c 16)) = c1 at *
  have hb2 := based_put tk 2 (by omega) b1 _ hb1 (pay1689_bs (F := F) tk c hc)
  have h92 := based_put tk 2 (by omega) c1 _ h91 (pay1689_bs (F := F) tk c hc)
  refine via iprop(p8 d i b1 ∗ (p9 d i c1 ∗ p7 d i c)) ?_ (wp_load8 d i 32 _ _ (wp_store8 d i 32 _ _ _ ?_))
  · iintro ⟨H7, H8, H9⟩
    isplitl [H8]; · iexact H8
    isplitl [H9] <;> iassumption
  refine via iprop(p9 d i c1 ∗ (p7 d i c ∗ p8 d i (putW b1 32 (k0_pay1689 (F := F) (k0_pay1682 (F := F) (readW c 0)) (readW c 16) (readW c 32))))) ?_
    (wp_load9 d i 32 _ _ (wp_store9 d i 32 _ _ _ ?_))
  · iintro ⟨H8, H9, H7⟩
    isplitl [H9]; · iexact H9
    isplitl [H7] <;> iassumption
  refine via iprop(p7 d i c ∗ (p8 d i (putW b1 32 (k0_pay1689 (F := F) (k0_pay1682 (F := F) (readW c 0)) (readW c 16) (readW c 32)))
    ∗ p9 d i (putW c1 32 (k0_pay1689 (F := F) (k0_pay1682 (F := F) (readW c 0)) (readW c 16) (readW c 32))))) ?_ (wp_load7 d i 48 _ _ ?_)
  · iintro ⟨H9, H7, H8⟩
    isplitl [H7]; · iexact H7
    isplitl [H8] <;> iassumption
  refine wpT_ret d i _ ?_
  iintro ⟨H7, H8, H9⟩
  iexists _; iexists _
  isplitr
  rotate_left
  · isplitl [H7]; · iexact H7
    isplitl [H8] <;> iassumption
  ipureintro
  exact ⟨hb2, h92, rfl⟩

end Cert.Proof.Bow
-- ==== Proof.Scatter.lean ====
module

public import proofs.«01_k».proof.Proof.Head

@[expose] public section

/-! # Scattering a window into the staging buffer

A window's list holds packed staging addresses; a loop over its groups of sixteen stores one value at
the addresses of the entries, masking the lanes past the list's end. -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-! ## The groups of a list -/

theorem toInt_small (n : Nat) (h : n ≤ 2000000) : (BitVec.ofNat 32 n).toInt = (n : Int) := by
  unfold BitVec.toInt
  rw [BitVec.toNat_ofNat, Nat.mod_eq_of_lt (by omega), if_pos (by omega)]

theorem msb_small (n : Nat) (h : n ≤ 2000000) : (BitVec.ofNat 32 n).msb = false := by
  rw [BitVec.msb_eq_decide, BitVec.toNat_ofNat, Nat.mod_eq_of_lt (by omega)]
  simp; omega

theorem sdiv_small (n k : Nat) (h : n ≤ 2000000) (hk : 0 < k) (hk' : k ≤ 2000000) : Scalar.divsi (BitVec.ofNat 32 n) (BitVec.ofNat 32 k) = BitVec.ofNat 32 (n / k) := by
  have hc : ¬ IntOp.SDivCorner (BitVec.ofNat 32 n) (BitVec.ofNat 32 k) := by
    unfold IntOp.SDivCorner
    rintro (h0 | ⟨h0, h1⟩)
    · have := congrArg BitVec.toNat h0
      rw [BitVec.toNat_ofNat, Nat.mod_eq_of_lt (by omega)] at this
      simp at this; omega
    · have := congrArg BitVec.msb h0
      rw [msb_small n h, show (BitVec.intMin 32).msb = true from by decide] at this
      exact absurd this (by decide)
  show (if IntOp.SDivCorner _ _ then _ else (BitVec.ofNat 32 n).sdiv (BitVec.ofNat 32 k)) = _
  rw [if_neg hc]
  unfold BitVec.sdiv
  rw [msb_small n h, msb_small k hk']
  show (BitVec.ofNat 32 n).udiv (BitVec.ofNat 32 k) = _
  apply BitVec.eq_of_toNat_eq
  show (BitVec.ofNat 32 n / BitVec.ofNat 32 k).toNat = _
  rw [BitVec.toNat_udiv, BitVec.toNat_ofNat, BitVec.toNat_ofNat, BitVec.toNat_ofNat, Nat.mod_eq_of_lt (by omega), Nat.mod_eq_of_lt (by omega),
    Nat.mod_eq_of_lt (lt_of_le_of_lt (Nat.div_le_self n k) (by omega))]

theorem groups_of (n : Nat) (hn : n ≤ 1000000) : k0_t5_loop (BitVec.ofNat 32 n) = ⟨0#32, BitVec.ofNat 32 ((n + 15) / 16), 1#32⟩
    ∧ k0_t6_loop (BitVec.ofNat 32 n) = ⟨BitVec.ofNat 32 ((n + 15) / 16), BitVec.ofNat 32 ((n + 15) / 16), 1#32⟩ := by
  have e1 : Scalar.subi (Scalar.addi (BitVec.ofNat 32 n) 16#32) 1#32 = BitVec.ofNat 32 (n + 15) := by
    apply BitVec.eq_of_toNat_eq
    show ((BitVec.ofNat 32 n + 16#32) - 1#32).toNat = _
    rw [BitVec.toNat_sub, BitVec.toNat_add, BitVec.toNat_ofNat, BitVec.toNat_ofNat]
    show (2 ^ 32 - 1 + (n % 2 ^ 32 + 16) % 2 ^ 32) % 2 ^ 32 = (n + 15) % 2 ^ 32
    omega
  have e2 : Scalar.cmpi .sgt (BitVec.ofNat 32 (n + 15)) 0#32 = 1#1 := by
    show BitVec.ofBool ((0#32).slt (BitVec.ofNat 32 (n + 15))) = 1#1
    rw [BitVec.slt, show (0#32 : BitVec 32).toInt = 0 from rfl, toInt_small (n + 15) (by omega), decide_eq_true (by omega)]; rfl
  have e3 : Scalar.cmpi .slt (BitVec.ofNat 32 (n + 15)) 0#32 = 0#1 := by
    show BitVec.ofBool ((BitVec.ofNat 32 (n + 15)).slt (0#32)) = 0#1
    rw [BitVec.slt, show (0#32 : BitVec 32).toInt = 0 from rfl, toInt_small (n + 15) (by omega), decide_eq_false (by omega)]; rfl
  have e4 : Scalar.divsi (BitVec.ofNat 32 (n + 15)) 16#32 = BitVec.ofNat 32 ((n + 15) / 16) := sdiv_small _ 16 (by omega) (by omega) (by omega)
  have e5 : Scalar.divsi (BitVec.ofNat 32 ((n + 15) / 16)) 1#32 = BitVec.ofNat 32 ((n + 15) / 16) := by
    rw [show (1#32 : BitVec 32) = BitVec.ofNat 32 1 from rfl, sdiv_small _ 1 (by omega) (by omega) (by omega), Nat.div_one]
  have e6 : ∀ x : BitVec 32, Scalar.addi 0#32 x = x := fun x => BitVec.zero_add x
  have e7 : ∀ x : BitVec 32, Scalar.subi x 0#32 = x := fun x => BitVec.sub_zero x
  have e8 : ∀ x : BitVec 32, Scalar.muli x 1#32 = x := fun x => BitVec.mul_one x
  have e9 : ∀ x : BitVec 1, Scalar.andi 0#1 x = 0#1 := fun x => BitVec.zero_and
  have e10 : Scalar.cmpi .ne (Scalar.subi (Scalar.extui 1#1) (Scalar.extui 0#1))
      (Scalar.subi (Scalar.extui (Scalar.cmpi .sgt 16#32 0#32)) (Scalar.extui (Scalar.cmpi .slt 16#32 0#32)) : BitVec 32) = 0#1 := by decide
  have e11 : ∀ x y : BitVec 32, Scalar.select 0#1 x y = y := fun _ _ => rfl
  unfold k0_t5_loop k0_t6_loop
  simp only [e1, e2, e3, e4, e10, e9, e11, e7, e5, e8, e6]
  exact ⟨trivial, trivial⟩

theorem trips_of (n T : Nat) (hT : T ≤ 1000000) : Scf.trips 0#32 (BitVec.ofNat 32 T) 1#32 = T := by
  unfold Scf.trips
  rw [toInt_small T (by omega)]
  show (((T : Int) - 0 + 1 - 1) / 1).toNat = T
  omega

/-- A lane is set when its entry lies before the list's end. -/
def EndsAt (m : IVec S16 1) (t n : Nat) : Prop := ∀ l, m l = 1 ↔ 16 * t + (l 0).val < n

theorem endsAt_of (t n : Nat) (w : BitVec 32) (hw : w = BitVec.ofNat 32 n) (h : 16 * t ≤ n) (hn : n ≤ 1000000) :
    EndsAt (cmpi .slt lanesV (broadcast S16 (Scalar.subi w (Scalar.muli (Scf.iv 0#32 1#32 t) 16#32)))) t n := by
  intro l
  have hl : (l 0).val < 16 := (l 0).isLt
  rw [iv_eq, hw]
  have e : Scalar.subi (BitVec.ofNat 32 n) (Scalar.muli (BitVec.ofNat 32 t) 16#32) = BitVec.ofNat 32 (n - 16 * t) := by
    apply BitVec.eq_of_toNat_eq
    show (BitVec.ofNat 32 n - BitVec.ofNat 32 t * 16#32).toNat = _
    rw [BitVec.toNat_sub, BitVec.toNat_mul, BitVec.toNat_ofNat, BitVec.toNat_ofNat, BitVec.toNat_ofNat]
    show (2 ^ 32 - t % 2 ^ 32 * 16 % 2 ^ 32 + n % 2 ^ 32) % 2 ^ 32 = (n - 16 * t) % 2 ^ 32
    omega
  rw [e]
  have e0 : lanesV l = BitVec.ofNat 32 (l 0).val := by
    obtain ⟨j, hj⟩ : ∃ j : Fin 16, j = l 0 := ⟨l 0, rfl⟩
    rw [show l = Shape.ofLane (d := ![16]) j by funext a; fin_cases a; exact hj.symm]
    exact (show ∀ j : Fin 16, lanesV (Shape.ofLane (d := ![16]) j) = BitVec.ofNat 32 j.val by decide) j
  show (BitVec.ofBool ((lanesV l).slt (BitVec.ofNat 32 (n - 16 * t))) = 1#1) ↔ _
  rw [e0, BitVec.slt, toInt_small _ (by omega), toInt_small _ (by omega)]
  by_cases h' : 16 * t + (l 0).val < n
  · rw [decide_eq_true (by omega)]; simp [h']
  · rw [decide_eq_false (by omega)]; simp [h']

/-! ## One group -/

/-- The staging place a packed address names. -/
def dec (w : BitVec 32) : S64x8x128.Idx := fun a => ⟨(![w.toNat / 1024 % 64, w.toNat / 128 % 8, w.toNat % 128] : Fin 3 → Nat) a, by
  fin_cases a
  · exact Nat.mod_lt _ (by decide)
  · exact Nat.mod_lt _ (by decide)
  · exact Nat.mod_lt _ (by decide)⟩

theorem places (v : Vec F S16 .i32) (l : S16.Idx) :
    (k0_pay1668 (F := F) v l).toNat = (v l).toNat / 1024 % 64 ∧ (k0_pay1669 (F := F) v l).toNat = (v l).toNat / 128 % 8
      ∧ (k0_pay1670 (F := F) v l).toNat = (v l).toNat % 128 := by
  have e63 : (63 : Nat) = 2 ^ 6 - 1 := rfl
  have e7 : (7 : Nat) = 2 ^ 3 - 1 := rfl
  have e127 : (127 : Nat) = 2 ^ 7 - 1 := rfl
  refine ⟨?_, ?_, ?_⟩
  · show ((v l >>> 10) &&& 63#32).toNat = _
    rw [BitVec.toNat_and, BitVec.toNat_ushiftRight, Nat.shiftRight_eq_div_pow]
    show _ &&& 63 = _
    rw [e63, Nat.and_two_pow_sub_one_eq_mod]
  · show ((v l >>> 7) &&& 7#32).toNat = _
    rw [BitVec.toNat_and, BitVec.toNat_ushiftRight, Nat.shiftRight_eq_div_pow]
    show _ &&& 7 = _
    rw [e7, Nat.and_two_pow_sub_one_eq_mod]; rfl
  · show (v l &&& 127#32).toNat = _
    rw [BitVec.toNat_and]
    show _ &&& 127 = _
    rw [e127, Nat.and_two_pow_sub_one_eq_mod]

/-- One group of a list scattered: the entries from `o` on read, and `v` stored at the addresses of the lanes set in `m`. -/
abbrev scatStep (v : FVec F S16 .f32) (o : Fin 1 → Nat) (ho : ∀ a, o a + S16.size a ≤ S27648.size a) (m : IVec S16 1) : TP F i Unit :=
  Prog.lift (.load b5 (Rect.unit (s := S27648) o S16.size ho).toLoadRect (View.loadsAt_vmem h_S16)) >>= fun (a : Vec F S16 .i32) =>
    Prog.lift (TpuEff.assume (k0_chk314 (k0_pay1668 (F := F) a) (k0_pay1669 (F := F) a) (k0_pay1670 (F := F) a)) (k0_chk314.dec _ _ _)) >>= fun h =>
      SparseCore.vectorStoreIdx b6 ![k0_pay1668 (F := F) a, k0_pay1669 (F := F) a, k0_pay1670 (F := F) a] v m false (k0_idx417_inb _ _ _ h.down) (View.stores_vmem_bits_univ h_S64x8x128 rfl) >>= fun _ =>
        pure ⟨⟩

/-- The staging buffer `f` with `c` at the places of the first `k` entries of the `n` at `B`. -/
def marked (L : S27648.Idx → BitVec 32) (B n : Nat) (c : F .f32) (f : S64x8x128.Idx → F .f32) (k : Nat) : S64x8x128.Idx → F .f32 :=
  fun a => open Classical in if ∃ e < k, e < n ∧ dec (at1 L (B + e)) = a then c else f a

theorem readAt_b5 (o : Fin 1 → Nat) (ho : ∀ a, o a + S16.size a ≤ S27648.size a) (f : S27648.Idx → BitVec 32) (l : S16.Idx) :
    (b5.view.readAt (Elt F) (Rect.unit (s := S27648) o S16.size ho).toLoadRect f : Vec F S16 .i32) l = at1 f (o 0 + (l 0).val) := by
  rw [View.readAt_apply]
  refine (at1_eq f _).symm.trans ?_
  show at1 f (o 0 + 1 * (l 0).val) = at1 f (o 0 + (l 0).val)
  rw [one_mul]

theorem marked_step (L : S27648.Idx → BitVec 32) (B n t : Nat) (c : F .f32) (f : S64x8x128.Idx → F .f32) (v : Vec F S16 .i32)
    (hv : ∀ l, v l = at1 L (B + 16 * t + (l 0).val)) (m : IVec S16 1) (hm : EndsAt m t n) (h) :
    storeIdx (F := F) (e := .f32) (marked L B n c f (16 * t)) ![k0_pay1668 (F := F) v, k0_pay1669 (F := F) v, k0_pay1670 (F := F) v] (fun _ => c) m false h
      = marked L B n c f (16 * (t + 1)) := by
  classical
  funext a
  rw [storeIdx_const]
  have hi : ∀ l, idxAt (s := S64x8x128) ![k0_pay1668 (F := F) v, k0_pay1669 (F := F) v, k0_pay1670 (F := F) v] h l = dec (v l) := by
    intro l; funext b; apply Fin.ext
    obtain ⟨h0, h1, h2⟩ := places (F := F) v l
    fin_cases b
    · exact h0
    · exact h1
    · exact h2
  unfold marked
  by_cases h1 : ∃ x, m x = 1 ∧ idxAt (s := S64x8x128) ![k0_pay1668 (F := F) v, k0_pay1669 (F := F) v, k0_pay1670 (F := F) v] h x = a
  · rw [if_pos h1, if_pos]
    obtain ⟨l, hl, hla⟩ := h1
    have hl16 : (l 0).val < 16 := (l 0).isLt
    rw [hi, hv, Nat.add_assoc] at hla
    exact ⟨16 * t + (l 0).val, by omega, (hm l).mp hl, hla⟩
  · rw [if_neg h1]
    by_cases h2 : ∃ e < 16 * t, e < n ∧ dec (at1 L (B + e)) = a
    · rw [if_pos h2, if_pos]
      obtain ⟨e, he, hen, hea⟩ := h2
      exact ⟨e, by omega, hen, hea⟩
    · rw [if_neg h2, if_neg]
      rintro ⟨e, he, hen, hea⟩
      refine (Nat.lt_or_ge e (16 * t)).elim (fun hlt => h2 ⟨e, hlt, hen, hea⟩) fun hge => h1 ?_
      have e16 : (ln (e - 16 * t) 0).val = e - 16 * t := by rw [ln_zero]; omega
      refine ⟨ln (e - 16 * t), (hm _).mpr (by rw [e16]; omega), ?_⟩
      rw [hi, hv, e16, show B + 16 * t + (e - 16 * t) = B + e by omega]
      exact hea

theorem wp_scat (L : S27648.Idx → BitVec 32) (B n t : Nat) (c : F .f32) (f : S64x8x128.Idx → F .f32) (o ho m) (ho' : o 0 = B + 16 * t) (hm : EndsAt m t n) :
    iprop(p5 d i L ∗ p6 d i (marked L B n c f (16 * t)))
      ⊢ wpT d i (scatStep i (fun _ => c) o ho m) fun _ => iprop(p5 d i L ∗ p6 d i (marked L B n c f (16 * (t + 1)))) := by
  unfold scatStep
  have hk : ∀ v : Vec F S16 .i32, (∀ l, v l = at1 L (B + 16 * t + (l 0).val)) → iprop(p5 d i L ∗ p6 d i (marked L B n c f (16 * t)))
      ⊢ wpT d i (Prog.lift (TpuEff.assume (k0_chk314 (k0_pay1668 (F := F) v) (k0_pay1669 (F := F) v) (k0_pay1670 (F := F) v)) (k0_chk314.dec _ _ _)) >>= fun h =>
      SparseCore.vectorStoreIdx b6 ![k0_pay1668 (F := F) v, k0_pay1669 (F := F) v, k0_pay1670 (F := F) v] (fun _ => c) m false (k0_idx417_inb _ _ _ h.down) (View.stores_vmem_bits_univ h_S64x8x128 rfl) >>= fun _ =>
        (pure ⟨⟩ : TP F i Unit)) fun _ => iprop(p5 d i L ∗ p6 d i (marked L B n c f (16 * (t + 1)))) := by
    intro v hv
    have hw : k0_chk314 (k0_pay1668 (F := F) v) (k0_pay1669 (F := F) v) (k0_pay1670 (F := F) v) := by
      intro a l
      obtain ⟨h0, h1, h2⟩ := places (F := F) v l
      fin_cases a
      · show (k0_pay1668 (F := F) v l).toNat < 64; rw [h0]; exact Nat.mod_lt _ (by decide)
      · show (k0_pay1669 (F := F) v l).toNat < 8; rw [h1]; exact Nat.mod_lt _ (by decide)
      · show (k0_pay1670 (F := F) v l).toNat < 128; rw [h2]; exact Nat.mod_lt _ (by decide)
    refine wpT_assume d i hw ?_
    refine via _ sep_comm.1 (wpT_bind d i (fun _ => iprop(p6 d i (marked L B n c f (16 * (t + 1))) ∗ p5 d i L)) ?_ fun _ => wpT_ret d i _ sep_comm.1)
    rw [← marked_step L B n t c f v hv m hm (k0_idx417_inb _ _ _ hw)]
    exact wpT_frame d i _ (wp_scatter6 d i _)
  simp only [Prog.lift, Prog.bind_op, Prog.bind_ret] at hk ⊢
  iintro ⟨H5, H6⟩
  iapply (wp_load (defs := defs₀ (F := F)) 𝒱₀ (thr d i) none Set.univ (S := Finset.univ) (Finset.subset_univ _)) $$ [H5]
  · iexact H5
  iintro H5
  iapply (hk _ fun l => by rw [readAt_b5, ho'])
  isplitl [H5] <;> iassumption

/-! ## The loops -/

theorem wp_noTrips {l : Scf.Loop 32} (hl : l.trips = 0) (hok : l.OK) (body : Fin l.trips → Unit → TP F i Unit) (P : sProp (MM F)) :
    P ⊢ wpT d i (l.for hok ⟨⟩ body) fun _ => P := by
  iintro H
  iapply (Scf.wp_for frame (wpE (defs₀ (F := F)) 𝒱₀ (thr d i) none) Set.univ _ _ _ _ _ _ (fun _ _ => P) ?_)
  rotate_left
  · isplitl [H]; · iexact H
    iintro %acc H; iexact H
  · intro t; exact absurd t.isLt (hl ▸ Nat.not_lt_zero _ : ¬ t.val < l.trips)

theorem wp_drain {l : Scf.Loop 32} (L : S27648.Idx → BitVec 32) (B n : Nat) (hl : l.trips = (n + 15) / 16) (hok : l.OK)
    (body : Fin l.trips → Unit → TP F i Unit) (c : F .f32) (f : S64x8x128.Idx → F .f32)
    (o : Fin l.trips → Fin 1 → Nat) (ho : ∀ t a, o t a + S16.size a ≤ S27648.size a) (m : Fin l.trips → IVec S16 1)
    (hb : ∀ t acc, body t acc = scatStep i (fun _ => c) (o t) (ho t) (m t)) (ho' : ∀ t, o t 0 = B + 16 * t) (hm : ∀ t, EndsAt (m t) t n) :
    iprop(p5 d i L ∗ p6 d i f) ⊢ wpT d i (l.for hok ⟨⟩ body) fun _ => iprop(p5 d i L ∗ p6 d i (marked L B n c f n)) := by
  have h0 : marked L B n c f (16 * 0) = f := by
    funext a; unfold marked; rw [if_neg]; rintro ⟨e, he, _⟩; omega
  have h1 : marked L B n c f (16 * l.trips) = marked L B n c f n := by
    funext a; unfold marked
    congr 1
    apply propext
    rw [hl]
    constructor <;> (rintro ⟨e, he, hen, hea⟩; exact ⟨e, by omega, hen, hea⟩)
  iintro H
  iapply (Scf.wp_for frame (wpE (defs₀ (F := F)) 𝒱₀ (thr d i) none) Set.univ _ _ _ _ _ _
    (fun t _ => iprop(p5 d i L ∗ p6 d i (marked L B n c f (16 * t)))) ?_)
  rotate_left
  · rw [h0]
    isplitl [H]; · iexact H
    iintro %acc H
    rw [← h1]; iexact H
  · intro t acc
    rw [hb]
    exact wp_scat d i L B n t c f _ _ _ (ho' t) (hm t)

end Cert.Proof.Bow
-- ==== Proof.Ship.lean ====
module

public import proofs.«01_k».proof.Proof.Scatter

@[expose] public section

/-! # Sending a window out

The staging buffer's first `m` slabs go to `m` consecutive slabs of the tile's own part of the result. -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-- The tile's number among the thirty-two. -/
def wid (i : grid0.Coords) : Nat := 2 * (i 1).val + (i 0).val

/-- The tile's own part of the result. -/
def slab (i : grid0.Coords) : Finset S3816x32x8x128.Idx := Finset.univ.filter fun x => (x 1).val = wid i

abbrev outP (f : S3816x32x8x128.Idx → F .f32) : sProp (MM F) := bOut.view.loc (thr d i) ↦[slab i]{fullShare} f

abbrev win (m : Nat) : Shape := ⟨3, ![m, 8, 128]⟩
abbrev rows (m : Nat) : Shape := ⟨4, ![m, 1, 8, 128]⟩

/-- Where the window goes. -/
abbrev dstM (m : Nat) (off : Fin 4 → Nat) (hoff : ∀ a, off a + (rows m).size a ≤ S3816x32x8x128.size a) (hs : (rows m).Squeezes (win m)) :
    Memref sig .scVector .hbm (win m) .f32 :=
  (bOut.slice (Rect.unit (s := S3816x32x8x128) off (rows m).size hoff) (fun _ => rfl)).squeeze (win m) hs

/-- Where the window comes from. -/
abbrev srcM (m : Nat) (hin : ∀ a, (![0, 0, 0] : Fin 3 → Nat) a + (win m).size a ≤ S64x8x128.size a) :
    Memref sig .scVector .vmem (win m) .f32 :=
  b6.slice (Rect.unit (s := S64x8x128) ![0, 0, 0] (win m).size hin) (fun _ => rfl)

/-- The result with `m` slabs of the tile's part, from slab `o` on, rewritten by the staging buffer. -/
def shipped (w o m : Nat) (g : S64x8x128.Idx → F .f32) (f : S3816x32x8x128.Idx → F .f32) : S3816x32x8x128.Idx → F .f32 := fun x =>
  if h : (x 1).val = w ∧ o ≤ (x 0).val ∧ (x 0).val < o + m ∧ (x 0).val - o < 64 then
    g (fun a => ⟨(![(x 0).val - o, (x 2).val, (x 3).val] : Fin 3 → Nat) a, by
      have h2 : (x 2).val < 8 := (x 2).isLt
      have h3 : (x 3).val < 128 := (x 3).isLt
      fin_cases a
      · exact h.2.2.2
      · exact h2
      · exact h3⟩)
  else f x

theorem dst_emb (m w o : Nat) (hoff hs) (y : (win m).Idx) (a : Fin 4) :
    ((dstM m ![o, w, 0, 0] hoff hs).view.emb y a).val = (![o + (y 0).val, w, (y 1).val, (y 2).val] : Fin 4 → Nat) a := by
  have hy0 : (y 0).val < m := (y 0).isLt
  have hy1 : (y 1).val < 8 := (y 1).isLt
  have hy2 : (y 2).val < 128 := (y 2).isLt
  have e : Shape.reshapeEquiv hs.numel_eq y
      = (fun a => ⟨(![(y 0).val, 0, (y 1).val, (y 2).val] : Fin 4 → Nat) a, by
          fin_cases a
          · exact hy0
          · exact Nat.one_pos
          · exact hy1
          · exact hy2⟩ : (rows m).Idx) :=
    Shape.reshapeEquiv_eq_of_rowMajor _ (by
      rw [Shape.rowMajor_val_three, Shape.rowMajor_val_four]
      show (((y 0).val * 1 + 0) * 8 + (y 1).val) * 128 + (y 2).val = ((y 0).val * 8 + (y 1).val) * 128 + (y 2).val
      omega)
  show ((Rect.unit (s := S3816x32x8x128) ![o, w, 0, 0] (rows m).size hoff).emb (Shape.reshapeEquiv hs.numel_eq y) a).val = _
  rw [e, Rect.emb_apply]
  fin_cases a
  · show o + 1 * (y 0).val = o + (y 0).val; omega
  · show w + 1 * 0 = w; omega
  · show 0 + 1 * (y 1).val = (y 1).val; omega
  · show 0 + 1 * (y 2).val = (y 2).val; omega

theorem src_emb (m : Nat) (hin) (y : (win m).Idx) (a : Fin 3) : ((srcM m hin).view.emb y a).val = (y a).val := by
  show ((Rect.unit (s := S64x8x128) ![0, 0, 0] (win m).size hin).emb y a).val = _
  rw [Rect.emb_apply]
  fin_cases a
  · show 0 + 1 * (y 0).val = (y 0).val; omega
  · show 0 + 1 * (y 1).val = (y 1).val; omega
  · show 0 + 1 * (y 2).val = (y 2).val; omega

theorem shipped_eq (m w o : Nat) (hm : m ≤ 64) (hoff hs hin) (g : S64x8x128.Idx → F .f32) (f : S3816x32x8x128.Idx → F .f32) (v : (win m).Idx → F .f32)
    (hv : ∀ y, v y = g ((srcM m hin).view.emb y)) :
    View.write (Elt F) (dstM m ![o, w, 0, 0] hoff hs).view f v Finset.univ = shipped w o m g f := by
  funext x
  have h2 : (x 2).val < 8 := (x 2).isLt
  have h3 : (x 3).val < 128 := (x 3).isLt
  by_cases h : (x 1).val = w ∧ o ≤ (x 0).val ∧ (x 0).val < o + m ∧ (x 0).val - o < 64
  · have hlt : (x 0).val - o < m := by omega
    obtain ⟨y, hy⟩ : ∃ y : (win m).Idx, ∀ a, (y a).val = (![(x 0).val - o, (x 2).val, (x 3).val] : Fin 3 → Nat) a :=
      ⟨fun a => ⟨(![(x 0).val - o, (x 2).val, (x 3).val] : Fin 3 → Nat) a, by
        fin_cases a
        · exact hlt
        · exact h2
        · exact h3⟩, fun a => rfl⟩
    have ex : (dstM m ![o, w, 0, 0] hoff hs).view.emb y = x := by
      funext a; apply Fin.ext; rw [dst_emb, hy, hy, hy]
      fin_cases a
      · show o + ((x 0).val - o) = (x 0).val; omega
      · exact h.1.symm
      · rfl
      · rfl
    have hw := View.write_emb_of_mem (Val := Elt F) (v := (dstM m ![o, w, 0, 0] hoff hs).view) f v (Finset.mem_univ y)
    rw [ex] at hw
    refine hw.trans ?_
    unfold shipped
    rw [dif_pos h]
    show v y = _
    rw [hv]
    congr 1; funext a; apply Fin.ext
    rw [src_emb, hy]
  · rw [View.write_of_not_mem]
    · unfold shipped; rw [dif_neg h]
    · intro hmem
      obtain ⟨y, -, rfl⟩ := Finset.mem_map.mp hmem
      have hy0 : (y 0).val < m := (y 0).isLt
      refine h ?_
      rw [dst_emb, dst_emb]
      show w = w ∧ o ≤ o + (y 0).val ∧ o + (y 0).val < o + m ∧ o + (y 0).val - o < 64
      omega

theorem dst_slab (m o : Nat) (hoff hs) : (dstM m ![o, wid i, 0, 0] hoff hs).view.set ⊆ slab i := by
  intro x hx
  obtain ⟨y, -, rfl⟩ := Finset.mem_map.mp hx
  exact Finset.mem_filter.mpr ⟨Finset.mem_univ _, dst_emb m (wid i) o hoff hs y 1⟩

/-- A window on its way: what its wait will bring, and the part of the staging buffer that stays. -/
abbrev flying (m : Nat) (off : Fin 4 → Nat) (hoff : ∀ a, off a + (rows m).size a ≤ S3816x32x8x128.size a) (hs : (rows m).Squeezes (win m))
    (hin : ∀ a, (![0, 0, 0] : Fin 3 → Nat) a + (win m).size a ≤ S64x8x128.size a) (s : DmaSems sig S_) (g : S64x8x128.Idx → F .f32) (f : S3816x32x8x128.Idx → F .f32) : sProp (MM F) :=
  iprop(Transfers.Flight countersEmb (thr d i) (SemLoc.dma s.sem) (none : HIx 1) ((dstM m off hoff hs).view.amount (SemLoc.dma s.sem))
      iprop(outP d i f ∗ ((srcM m hin).view.loc (thr d i) ↦[(srcM m hin).view.set]{fullShare} g))
    ∗ (b6.view.loc (thr d i) ↦[Finset.univ \ (srcM m hin).view.set]{fullShare} g))

theorem wp_send {α : Type} (m o : Nat) (hm : m ≤ 64) (hm0 : 0 < m) (off : Fin 4 → Nat) (eo : off = ![o, wid i, 0, 0]) (hoff hs hin) (s : DmaSems sig S_) {h1 h2 h3}
    (g : S64x8x128.Idx → F .f32) (f : S3816x32x8x128.Idx → F .f32) {k : PUnit → TP F i α} {Q : α → sProp (MM F)} {R : sProp (MM F)}
    (hk : iprop(flying d i m off hoff hs hin s g (shipped (wid i) o m g f) ∗ R) ⊢ wpT d i (k ⟨⟩) Q) :
    iprop((p6 d i g ∗ outP d i f ∗ semVal (thr d i, SemLoc.dma s.sem) 0) ∗ R)
      ⊢ wpT d i (Prog.lift (.enqueueDma (srcM m hin) (.here (dstM m off hoff hs)) (.dma s.sem) h1 h2 h3) >>= k) Q := by
  subst eo
  simp only [Prog.lift, Prog.bind_op, Prog.bind_ret]
  iintro ⟨⟨H6, Ho, Hs⟩, HR⟩
  ihave H := (pointsTo_split_subset (Finset.subset_univ (srcM m hin).view.set)).1 $$ H6
  icases H with ⟨H6, Hrest⟩
  iapply (Transfers.wp_dmaLocal (defs := defs₀ (F := F)) countersEmb 𝒱₀ (thr d i) none (none : HIx 1) ((dstM m ![o, wid i, 0, 0] hoff hs).view.amount (SemLoc.dma s.sem)) rfl
    (View.amount_pos _ _ (by
      show 0 < (win m).numel
      rw [show (win m).numel = m * 8 * 128 from Fin.prod_univ_three _]; omega)) (dst_slab i m o hoff hs)) $$ [H6 Ho Hs]
  · isplitl [H6]; · iexact H6
    isplitl [Ho] <;> iassumption
  iintro Hf
  iapply hk
  isplitr [HR]
  · isplitl [Hf]
    · rw [← shipped_eq (F := F) m (wid i) o hm hoff hs hin g f (ReadAs.same.apply (View.read (Elt F) (srcM m hin).view g)) fun y => rfl]
      iexact Hf
    · iexact Hrest
  · iexact HR

theorem wp_land {α : Type} (m : Nat) (off : Fin 4 → Nat) (hoff hs hin) (s : DmaSems sig S_) {h1 h2} (O : CellTallies nD τ sig (HIx 1)) (W : Waits sig (HIx 1))
    (g : S64x8x128.Idx → F .f32) (f : S3816x32x8x128.Idx → F .f32) {k : PUnit → TP F i α} {Q : α → sProp (MM F)} {R : sProp (MM F)}
    (hk : iprop((p6 d i g ∗ outP d i f ∗ semVal (thr d i, SemLoc.dma s.sem) 0) ∗ owing d i O W ∗ R) ⊢ wpT d i (k ⟨⟩) Q) :
    iprop(flying d i m off hoff hs hin s g f ∗ owing d i O W ∗ R)
      ⊢ wpT d i (Prog.lift (.waitDma2 s.sem (srcM m hin) (dstM m off hoff hs) h1 h2) >>= k) Q := by
  simp only [Prog.lift, Prog.bind_op, Prog.bind_ret]
  unfold owing at hk ⊢
  iintro ⟨⟨Hf, Hrest⟩, ⟨#Hmw, %W', %hW', HO⟩, HR⟩
  ihave #Hm := (Transfers.MayWaits.elim (c := thr d i) (ι := (none : HIx 1)) (O := O) (SemLoc.dma s.sem)) $$ Hmw
  iapply (Transfers.wp_waitLocalO (defs := defs₀ (F := F)) countersEmb 𝒱₀ (thr d i) none (none : HIx 1) rfl) $$ [Hf HO Hm]
  · isplitl [Hf]; · iexact Hf
    isplitl [HO] <;> iassumption
  iintro ⟨⟨Ho, H6⟩, Hs, HO⟩
  iapply hk
  isplitl [H6 Hrest Ho Hs]
  · isplitl [H6 Hrest]
    · iapply (pointsTo_split_subset (Finset.subset_univ (srcM m hin).view.set)).2
      isplitl [H6] <;> iassumption
    isplitl [Ho] <;> iassumption
  isplitl [HO]
  · isplitl []; · iexact Hmw
    iexists (insert (SemLoc.dma s.sem, (default : HIx 1)) W'); isplitr
    · ipureintro; intro p hp
      rcases Finset.mem_insert.mp hp with hp | hp
      · exact .inr (hp ▸ rfl)
      · exact hW' p hp
    · iexact HO
  · iexact HR

end Cert.Proof.Bow
-- ==== Proof.Window.lean ====
module

public import proofs.«01_k».proof.Proof.Ship

@[expose] public section

/-! # One window after another

A window's ones are scattered into the staging buffer, the buffer is sent out, and zeros are scattered
back over the ones. -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

theorem extract0 (v : Vec F S16 .i32) : extractAt ![0] (k0_pay1665 (F := F) v) inpos_S1_p0 = v (ln 0) := by
  refine congrArg v (funext fun a => Fin.ext ?_)
  fin_cases a
  rfl

theorem off_of (w : BitVec 32) (B t : Nat) (hw : w = BitVec.ofNat 32 B) (h : B + 16 * t ≤ 1000000) :
    (Scalar.indexCast (Scalar.addi w (Scalar.muli (Scf.iv 0#32 1#32 t) 16#32))).toNat = B + 16 * t := by
  rw [iv_eq, hw]
  show (BitVec.ofNat 32 B + BitVec.ofNat 32 t * 16#32).toNat = _
  rw [BitVec.toNat_add, BitVec.toNat_mul, BitVec.toNat_ofNat, BitVec.toNat_ofNat, BitVec.toNat_ofNat]
  show (B % 2 ^ 32 + t % 2 ^ 32 * 16 % 2 ^ 32) % 2 ^ 32 = _
  omega

theorem trips5 (v : BitVec 32) (n : Nat) (hv : v = BitVec.ofNat 32 n) (hn : n ≤ 1000000) : (k0_t5_loop v).trips = (n + 15) / 16 := by
  rw [hv, (groups_of n hn).1]
  exact trips_of n _ (by omega)

theorem trips_none (v : BitVec 32) : Scf.trips v v 1#32 = 0 := by
  unfold Scf.trips
  show ((v.toInt - v.toInt + 1 - 1 : Int) / 1).toNat = 0
  omega

theorem trips6 (v : BitVec 32) (n : Nat) (hv : v = BitVec.ofNat 32 n) (hn : n ≤ 1000000) : (k0_t6_loop v).trips = 0 := by
  rw [hv, (groups_of n hn).2]
  exact trips_none _

theorem ok_lit (T : Nat) (hT : T ≤ 1000000) : Scf.OK 0#32 (BitVec.ofNat 32 T) 1#32 := by
  refine ⟨by decide, ?_⟩
  rw [trips_of 0 T hT]
  show (0 : Int) + T * 1 < 2 ^ 31
  omega

theorem ok_lit' (T : Nat) (hT : T ≤ 1000000) : Scf.OK (BitVec.ofNat 32 T) (BitVec.ofNat 32 T) 1#32 := by
  refine ⟨by decide, ?_⟩
  rw [trips_none, toInt_small T (by omega)]
  show (T : Int) + 0 * 1 < 2 ^ 31
  omega

/-- The kernel's loops over a list are meant and stay inside the lists. -/
theorem chk_of {w v : BitVec 32} {B n : Nat} (hw : w = BitVec.ofNat 32 B) (hv : v = BitVec.ofNat 32 n) (h : B + r16 n ≤ 27584) : k0_chk313 w v := by
  have hr := le_r16 n
  have hT : 16 * ((n + 15) / 16) ≤ r16 n := by unfold r16; omega
  have t5 := trips5 v n hv (by omega)
  have t6 := trips6 v n hv (by omega)
  have o5 : (k0_t5_loop v).OK := by rw [hv, (groups_of n (by omega)).1]; exact ok_lit _ (by omega)
  have o6 : (k0_t6_loop v).OK := by rw [hv, (groups_of n (by omega)).2]; exact ok_lit' _ (by omega)
  have i5 : ∀ t : Fin (k0_t5_loop v).trips, ∀ a, (k0_off70 w v t) a + S16.size a ≤ S27648.size a := by
    intro t a
    have ht : t.val < (n + 15) / 16 := lt_of_lt_of_eq t.isLt t5
    fin_cases a
    show (Scalar.indexCast (Scalar.addi w (Scalar.muli (Scf.iv 0#32 1#32 t.val) 16#32))).toNat + 16 ≤ 27648
    rw [off_of w B t.val hw (by omega)]
    omega
  have i6 : ∀ t : Fin (k0_t6_loop v).trips, ∀ a, (k0_off71 w v t) a + S16.size a ≤ S27648.size a := by
    intro t
    have ht := t.isLt
    omega
  exact ⟨o5, i5, o6, i6, o5, i5, o6, i6⟩

/-! ## Ones in, out it goes, zeros back -/

/-- The number one. -/
abbrev onef : F .f32 := Scalar.ofBits .f32 0x3F800000#32

/-- Zeros over the ones bring back the zeros. -/
theorem marked_back (L : S27648.Idx → BitVec 32) (B n : Nat) :
    marked L B n (zf (F := F)) (marked L B n onef (zAll (F := F)) n) n = zAll (F := F) := by
  classical
  funext a
  unfold marked
  by_cases h : ∃ e < n, e < n ∧ dec (at1 L (B + e)) = a
  · rw [if_pos h]
  · rw [if_neg h, if_neg h]

/-- A window's list marked in the staging buffer, and its part of the kernel at this tile's buffers. -/
abbrev part237 (t : Fin k0_t4_loop.trips) := k0_part237_skel (F := F) i bIds (Memref.isWhole_whole _) bOut (Memref.isWhole_whole _) b4 (Memref.isWhole_whole _) b5 (Memref.isWhole_whole _)
  b6 (Memref.isWhole_whole _) b7 (Memref.isWhole_whole _) b8 (Memref.isWhole_whole _) b9 (Memref.isWhole_whole _)
  cc0_scoped0 cc0_scoped1 cc0_scoped2 cc0_scoped3 cc0_scoped4 cc0_scoped5
  (k0_pay1676 (F := F)) lanesV 0#32 1#32 t

/-- The sending of a window at this tile's buffers. -/
abbrev part238 (t : Fin k0_t4_loop.trips) (v : BitVec 32) := k0_part238_skel (F := F) i bIds (Memref.isWhole_whole _) bOut (Memref.isWhole_whole _) b4 (Memref.isWhole_whole _) b5 (Memref.isWhole_whole _)
  b6 (Memref.isWhole_whole _) b7 (Memref.isWhole_whole _) b8 (Memref.isWhole_whole _) b9 (Memref.isWhole_whole _)
  cc0_scoped0 cc0_scoped1 cc0_scoped2 cc0_scoped3 cc0_scoped4 cc0_scoped5 t v

theorem load8_at {α : Type} (o : Nat) (off : Fin 1 → Nat) (eo : off = ![o]) (ho) {hl} (f : S80.Idx → BitVec 32) {k : Vec F S16 .i32 → TP F i α} {Q : α → sProp (MM F)} {R : sProp (MM F)}
    (hk : iprop(p8 d i f ∗ R) ⊢ wpT (F := F) d i (k (readW f o)) Q) :
    iprop(p8 d i f ∗ R) ⊢ wpT (F := F) d i (Prog.lift (.load b8 (Rect.unit (s := S80) off S16.size ho).toLoadRect hl) >>= k) Q := by
  subst eo; exact wp_load8 d i o ho f hk

theorem load7_at {α : Type} (o : Nat) (off : Fin 1 → Nat) (eo : off = ![o]) (ho) {hl} (f : S80.Idx → BitVec 32) {k : Vec F S16 .i32 → TP F i α} {Q : α → sProp (MM F)} {R : sProp (MM F)}
    (hk : iprop(p7 d i f ∗ R) ⊢ wpT (F := F) d i (k (readW f o)) Q) :
    iprop(p7 d i f ∗ R) ⊢ wpT (F := F) d i (Prog.lift (.load b7 (Rect.unit (s := S80) off S16.size ho).toLoadRect hl) >>= k) Q := by
  subst eo; exact wp_load7 d i o ho f hk

theorem word_of (b : S80.Idx → BitVec 32) (x B : Nat) (h : at1 b x = BitVec.ofNat 32 B) :
    extractAt ![0] (k0_pay1665 (F := F) (readW b x)) inpos_S1_p0 = BitVec.ofNat 32 B :=
  (extract0 (F := F) (readW b x)).trans h

theorem below_trips {v : BitVec 32} {n : Nat} (hv : v = BitVec.ofNat 32 n) (hn : n ≤ 1000000) (t : Fin (k0_t5_loop v).trips) : 16 * t.val ≤ n := by
  have := lt_of_lt_of_eq t.isLt (trips5 v n hv hn)
  omega

theorem wp_part237 (t : Fin k0_t4_loop.trips) (L : S27648.Idx → BitVec 32) (c b : S80.Idx → BitVec 32) (B n : Nat)
    (hb : at1 b t.val = BitVec.ofNat 32 B) (hc : at1 c t.val = BitVec.ofNat 32 n) (h : B + r16 n ≤ 27584) :
    iprop(p8 d i b ∗ p7 d i c ∗ p5 d i L ∗ p6 d i (zAll (F := F)))
      ⊢ wpT (F := F) d i (part237 i t) fun r => iprop(⌜r.1 = BitVec.ofNat 32 B ∧ r.2.1 = BitVec.ofNat 32 n⌝ ∗
        (p5 d i L ∗ p6 d i (marked L B n onef (zAll (F := F)) n)) ∗ p7 d i c ∗ p8 d i b) := by
  have hr := le_r16 n
  have hw := word_of (F := F) b t.val B hb
  have hv := word_of (F := F) c t.val n hc
  have hk := chk_of hw hv h
  unfold part237 k0_part237_skel
  refine load8_at d i t.val _ (k0_off69_eq t) _ b ?_
  refine via iprop(p7 d i c ∗ (p8 d i b ∗ p5 d i L ∗ p6 d i (zAll (F := F)))) ?_ (load7_at d i t.val _ (k0_off69_eq t) _ c ?_)
  · iintro ⟨H8, H7, H⟩
    isplitl [H7]; · iexact H7
    isplitl [H8] <;> iassumption
  refine wpT_assume d i hk ?_
  refine via iprop((p5 d i L ∗ p6 d i (zAll (F := F))) ∗ (p7 d i c ∗ p8 d i b)) ?_ ?_
  · iintro ⟨H7, H8, H⟩
    isplitl [H]; · iexact H
    isplitl [H7] <;> iassumption
  refine wpT_bind d i _ (wpT_frame d i _ (wp_drain d i L B n (trips5 _ n hv (by omega)) _ _ onef _
    (fun t5 => k0_off70 _ _ t5) (fun t5 => k0_off70_inb _ _ hk t5) (fun t5 => k0_pay1667 (F := F) lanesV _ _ t5) (fun _ _ => rfl)
    (fun t5 => off_of _ B t5.val hw (by have := below_trips hv (by omega) t5; omega))
    (fun t5 => endsAt_of t5.val n _ hv (below_trips hv (by omega) t5) (by omega)))) fun _ => ?_
  refine wpT_bind d i _ (wp_noTrips d i (trips6 _ n hv (by omega)) _ _ _) fun _ => wpT_ret d i _ ?_
  iintro H
  isplitr
  · ipureintro; exact ⟨hw, hv⟩
  · iexact H

theorem wp_part238 (t : Fin k0_t4_loop.trips) (v : BitVec 32) (O : CellTallies nD τ sig (HIx 1)) (W : Waits sig (HIx 1))
    (g : S64x8x128.Idx → F .f32) (f : S3816x32x8x128.Idx → F .f32) (R : sProp (MM F)) :
    iprop((p6 d i g ∗ outP d i f ∗ semVal (thr d i, SemLoc.dma (cc0_scoped4 : DmaSems sig S_).sem) 0) ∗ owing d i O W ∗ R)
      ⊢ wpT (F := F) d i (part238 i t v) fun r => iprop(⌜r.1 = 0#32⌝ ∗
        (p6 d i g ∗ outP d i (shipped (wid i) (64 * t.val) 64 g f) ∗ semVal (thr d i, SemLoc.dma (cc0_scoped4 : DmaSems sig S_).sem) 0) ∗ owing d i O W ∗ R) := by
  unfold part238 k0_part238_skel
  refine wp_send d i 64 (64 * t.val) (by omega) (by omega) _ (k0_off72_eq i t) _ _ _ cc0_scoped4 g f ?_
  refine wp_land d i 64 _ _ _ _ cc0_scoped4 O W g _ ?_
  refine wpT_ret d i _ ?_
  iintro H
  isplitr
  · ipureintro; rfl
  · iexact H

end Cert.Proof.Bow
-- ==== Proof.Turns.lean ====
module

public import proofs.«01_k».proof.Proof.Window

@[expose] public section

/-! # The loop over the windows -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-- A pure fact on the left becomes a hypothesis. -/
theorem open_pure {φ : Prop} {P G : sProp (MM F)} (h : φ → P ⊢ G) : iprop(⌜φ⌝ ∗ P) ⊢ G := by
  iintro ⟨%hφ, HP⟩
  iapply (h hφ); iexact HP

/-- Contents of which something is known become named contents. -/
theorem open_some {α : Type} {φ : α → Prop} {G : sProp (MM F)} {Z : α → sProp (MM F)} (h : ∀ c, φ c → Z c ⊢ G) :
    iprop(∃ c, ⌜φ c⌝ ∗ Z c) ⊢ G := by
  iintro ⟨%c, %hc, HZ⟩
  iapply (h c hc); iexact HZ

/-- What stands in the result's tile at the end, by the lists. -/
def outVal (tk : Nat → Nat → BitVec 32) (L : S27648.Idx → BitVec 32) : S3816x32x8x128.Idx → F .f32 := fun a =>
  marked L (bs tk ((a 0).val / 64)) (cnt mV (wV tk) 1664 ((a 0).val / 64)) onef (zAll (F := F)) (cnt mV (wV tk) 1664 ((a 0).val / 64))
    (fun b => ⟨(![(a 0).val % 64, (a 2).val, (a 3).val] : Fin 3 → Nat) b, by
      have h2 : (a 2).val < 8 := (a 2).isLt
      have h3 : (a 3).val < 128 := (a 3).isLt
      fin_cases b
      · exact Nat.mod_lt _ (by decide)
      · exact h2
      · exact h3⟩)

/-- The tile's slabs below `k` are written. -/
def Done (tk : Nat → Nat → BitVec 32) (L : S27648.Idx → BitVec 32) (k : Nat) (f : S3816x32x8x128.Idx → F .f32) : Prop :=
  ∀ a, (a 1).val = wid i → (a 0).val < k → f a = outVal tk L a

theorem done_step (tk : Nat → Nat → BitVec 32) (L : S27648.Idx → BitVec 32) (t m : Nat) (hm : m ≤ 64) (f : S3816x32x8x128.Idx → F .f32)
    (h : Done i tk L (64 * t) f) :
    Done i tk L (64 * t + m) (shipped (wid i) (64 * t) m (marked L (bs tk t) (cnt mV (wV tk) 1664 t) onef (zAll (F := F)) (cnt mV (wV tk) 1664 t)) f) := by
  intro a hw hk
  unfold shipped
  by_cases h0 : 64 * t ≤ (a 0).val
  · rw [dif_pos ⟨hw, h0, hk, by omega⟩]
    have e : (a 0).val / 64 = t := by omega
    have e' : (a 0).val % 64 = (a 0).val - 64 * t := by omega
    unfold outVal
    rw [e]
    congr 1
    funext b
    apply Fin.ext
    fin_cases b
    · exact e'.symm
    · rfl
    · rfl
  · rw [dif_neg (fun hh => h0 hh.2.1)]
    exact h a hw (by omega)

abbrev sem (s : DmaSems sig S_) : sProp (MM F) := semVal (thr d i, SemLoc.dma s.sem) 0

/-- What a window's turn works on. -/
abbrev bench (tk : Nat → Nat → BitVec 32) (O : CellTallies nD τ sig (HIx 1)) (W : Waits sig (HIx 1)) (L : S27648.Idx → BitVec 32)
    (c b : S80.Idx → BitVec 32) (t : Nat) : sProp (MM F) :=
  iprop(∃ f, ⌜Done i tk L (64 * t) f⌝ ∗ (p8 d i b ∗ p7 d i c ∗ p5 d i L ∗ p6 d i (zAll (F := F))) ∗ outP d i f ∗ sem d i cc0_scoped4 ∗ owing d i O W)

/-- The kernel's loop over the windows at this tile's buffers. -/
abbrev t4body (v60 : BitVec 32) (v61 : Vec F S16 .i32) := k0_t4_body (F := F) i bIds (Memref.isWhole_whole _) bOut (Memref.isWhole_whole _) b4 (Memref.isWhole_whole _) b5 (Memref.isWhole_whole _)
  b6 (Memref.isWhole_whole _) b7 (Memref.isWhole_whole _) b8 (Memref.isWhole_whole _) b9 (Memref.isWhole_whole _)
  cc0_scoped0 cc0_scoped1 cc0_scoped2 cc0_scoped3 cc0_scoped4 cc0_scoped5
  (k0_pay1675 (F := F)) (k0_pay1676 (F := F)) lanesV (row0W i) v60 v61 15#32

theorem bound_at (tk : Nat → Nat → BitVec 32) {x : Nat} (hx : x < 64) : bs tk x + r16 (cnt mV (wV tk) 1664 x) ≤ 27584 := base_bound mV (wV tk) 1664 hx

theorem wp_window (tk : Nat → Nat → BitVec 32) (O : CellTallies nD τ sig (HIx 1)) (W : Waits sig (HIx 1)) (L : S27648.Idx → BitVec 32)
    (c b : S80.Idx → BitVec 32) (hc : Counted tk 1664 c) (hb : Based tk 64 b) (v60 : BitVec 32) (v61 : Vec F S16 .i32) (t : Fin k0_t4_loop.trips) (acc : Unit) :
    bench d i tk O W L c b t.val ⊢ wpT (F := F) d i (t4body i v60 v61 t acc) fun _ => bench d i tk O W L c b (t.val + 1) := by
  have ht : t.val < 59 := Nat.lt_of_lt_of_le t.isLt k0_t4_abs.2.1
  have hB := bound_at tk (show t.val < 64 by omega)
  have hr := le_r16 (cnt mV (wV tk) 1664 t.val)
  refine open_some fun f hf => ?_
  unfold t4body k0_t4_body
  rw [k0_part237_eq_skeleton, k0_part238_eq_skeleton]
  refine wpT_bind d i _ (wpT_frame d i _ (wp_part237 d i t L c b _ _ (hb _ (by omega)) (hc _ (by omega)) hB)) ?_
  rintro ⟨v136, v140, hw313⟩
  refine via iprop(⌜v136 = BitVec.ofNat 32 (bs tk t.val) ∧ v140 = BitVec.ofNat 32 (cnt mV (wV tk) 1664 t.val)⌝ ∗
    ((p6 d i (marked L (bs tk t.val) (cnt mV (wV tk) 1664 t.val) onef (zAll (F := F)) (cnt mV (wV tk) 1664 t.val)) ∗ outP d i f ∗ sem d i cc0_scoped4) ∗ owing d i O W
      ∗ (p5 d i L ∗ p7 d i c ∗ p8 d i b))) ?_ (open_pure fun ⟨hw, hv⟩ => ?_)
  · iintro ⟨⟨Hp, ⟨H5, H6⟩, H7, H8⟩, Ho, Hs, HO⟩
    isplitl [Hp]; · iexact Hp
    isplitl [H6 Ho Hs]
    · isplitl [H6]; · iexact H6
      isplitl [Ho] <;> iassumption
    isplitl [HO]; · iexact HO
    isplitl [H5]; · iexact H5
    isplitl [H7] <;> iassumption
  refine wpT_bind d i _ (wp_part238 d i t v140 O W _ f _) ?_
  rintro ⟨c0, c1, v187⟩
  refine via iprop(⌜c0 = 0#32⌝ ∗ ((p5 d i L ∗ p6 d i (marked L (bs tk t.val) (cnt mV (wV tk) 1664 t.val) onef (zAll (F := F)) (cnt mV (wV tk) 1664 t.val))) ∗
    (p7 d i c ∗ p8 d i b ∗ outP d i (shipped (wid i) (64 * t.val) 64 (marked L (bs tk t.val) (cnt mV (wV tk) 1664 t.val) onef (zAll (F := F)) (cnt mV (wV tk) 1664 t.val)) f)
      ∗ sem d i cc0_scoped4 ∗ owing d i O W))) ?_ (open_pure fun h0 => ?_)
  · iintro ⟨Hp, ⟨H6, Ho, Hs⟩, HO, H5, H7, H8⟩
    isplitl [Hp]; · iexact Hp
    isplitl [H5 H6]
    · isplitl [H5] <;> iassumption
    isplitl [H7]; · iexact H7
    isplitl [H8]; · iexact H8
    isplitl [Ho]; · iexact Ho
    isplitl [Hs] <;> iassumption
  subst h0
  refine wpT_bind d i _ (wpT_frame d i _ (wp_drain d i L (bs tk t.val) (cnt mV (wV tk) 1664 t.val) (trips5 _ _ hv (by omega)) _ _ zf _
    (fun t5 => k0_off70 v136 v140 t5) (fun t5 => k0_off70_inb _ _ hw313 t5) (fun t5 => k0_pay1700 lanesV v140 0#32 t5) (fun _ _ => rfl)
    (fun t5 => off_of _ (bs tk t.val) t5.val hw (by have := below_trips hv (by omega) t5; omega))
    (fun t5 => endsAt_of t5.val _ _ hv (below_trips hv (by omega) t5) (by omega)))) fun _ => ?_
  refine wpT_bind d i _ (wp_noTrips d i (trips6 _ _ hv (by omega)) _ _ _) fun _ => wpT_ret d i _ ?_
  rw [marked_back]
  iintro ⟨⟨H5, H6⟩, H7, H8, Ho, Hs, HO⟩
  iexists _
  isplitr
  rotate_left
  · isplitl [H5 H6 H7 H8]
    · isplitl [H8]; · iexact H8
      isplitl [H7]; · iexact H7
      isplitl [H5] <;> iassumption
    isplitl [Ho]; · iexact Ho
    isplitl [Hs] <;> iassumption
  ipureintro
  exact done_step i tk L t.val 64 (le_refl _) f hf

theorem wp_windows (tk : Nat → Nat → BitVec 32) (O : CellTallies nD τ sig (HIx 1)) (W : Waits sig (HIx 1)) (L : S27648.Idx → BitVec 32)
    (c b : S80.Idx → BitVec 32) (hc : Counted tk 1664 c) (hb : Based tk 64 b) (v60 : BitVec 32) (v61 : Vec F S16 .i32) :
    bench d i tk O W L c b 0 ⊢ wpT (F := F) d i (k0_t4_loop.for k0_t4_ok ⟨⟩ (t4body i v60 v61)) fun _ => bench d i tk O W L c b 59 := by
  iintro H
  iapply (Scf.wp_for frame (wpE (defs₀ (F := F)) 𝒱₀ (thr d i) none) Set.univ _ _ _ _ _ _ (fun t _ => bench d i tk O W L c b t) ?_)
  rotate_left
  · isplitl [H]; · iexact H
    iintro %acc H; iexact H
  · intro t acc
    exact wp_window d i tk O W L c b hc hb v60 v61 t acc

end Cert.Proof.Bow
-- ==== Proof.Tile.lean ====
module

public import proofs.«01_k».proof.Proof.Turns

@[expose] public section

/-! # The kernel on one tile -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-- The kernel's third part at this tile's buffers. -/
abbrev part241 (v60 : BitVec 32) (v61 : Vec F S16 .i32) := k0_part241_skel (F := F) i bIds (Memref.isWhole_whole _) bOut (Memref.isWhole_whole _) b4 (Memref.isWhole_whole _) b5 (Memref.isWhole_whole _)
  b6 (Memref.isWhole_whole _) b7 (Memref.isWhole_whole _) b8 (Memref.isWhole_whole _) b9 (Memref.isWhole_whole _)
  cc0_scoped0 cc0_scoped1 cc0_scoped2 cc0_scoped3 cc0_scoped4 cc0_scoped5
  (k0_pay1675 (F := F)) (k0_pay1676 (F := F)) lanesV (row0W i) v60 v61 15#32

/-- What the windows' turns leave alone. -/
abbrev aside (q : PosShare TreeShare) (ids : S4096x256.Idx → BitVec 32) : sProp (MM F) :=
  iprop(pIds d i q ids ∗ (∃ f, p4 d i f) ∗ sem d i cc0_scoped2 ∗ sem d i cc0_scoped3 ∗ (∃ f, p9 d i f))

/-- What the last window begins with. -/
abbrev bare (O : CellTallies nD τ sig (HIx 1)) (W : Waits sig (HIx 1)) (L : S27648.Idx → BitVec 32) (f : S3816x32x8x128.Idx → F .f32) : sProp (MM F) :=
  iprop(p5 d i L ∗ p6 d i (zAll (F := F)) ∗ outP d i f ∗ sem d i cc0_scoped4 ∗ owing d i O W)

theorem cnt_none (tk : Nat → Nat → BitVec 32) (x : Nat) : cnt mV (wV tk) 0 x = 0 := by unfold cnt; simp

theorem wp_part241 (q : PosShare TreeShare) (ids : S4096x256.Idx → BitVec 32) (hT : ∀ r c, (tok i ids r c).toNat < 30522)
    (O : CellTallies nD τ sig (HIx 1)) (W : Waits sig (HIx 1)) (c b c9 : S80.Idx → BitVec 32) (hc : Counted (tok i ids) 1664 c)
    (hb : Based (tok i ids) 48 b) (h9 : Based (tok i ids) 48 c9) (v60 : BitVec 32) (h60 : v60 = BitVec.ofNat 32 (bs (tok i ids) 48))
    (f0 : S3816x32x8x128.Idx → F .f32) :
    iprop(p8 d i b ∗ p7 d i c ∗ p9 d i c9 ∗ fetching d i q ids O W cc0_scoped2 cc0_scoped3 ∗ p6 d i (zAll (F := F)) ∗ (∃ f, p5 d i f)
        ∗ outP d i f0 ∗ sem d i cc0_scoped4)
      ⊢ wpT (F := F) d i (part241 i v60 (readW c 48)) fun r => iprop(
        ⌜r.1 = BitVec.ofNat 32 (bs (tok i ids) 59) ∧ r.2.1 = BitVec.ofNat 32 (cnt mV (wV (tok i ids)) 1664 59)⌝ ∗
        ∃ x : (S27648.Idx → BitVec 32) × (S3816x32x8x128.Idx → F .f32),
          ⌜Placed mV (wV (tok i ids)) (aV (tok i ids)) (bs (tok i ids)) 1664 x.1 ∧ Done i (tok i ids) x.1 3776 x.2⌝ ∗
          bare d i O W x.1 x.2 ∗ aside d i q ids ∗ p7 d i c ∗ (∃ f, p8 d i f)) := by
  have hv := fun l => pay1691_bs (F := F) (tok i ids) c hc v60 h60 l
  have hb4 := based_put (tok i ids) 3 (by omega) b _ hb hv
  have h94 := based_put (tok i ids) 3 (by omega) c9 _ h9 hv
  unfold part241 k0_part241_skel
  refine wp_load8 d i 48 _ _ (wp_store8 d i 48 _ _ _ ?_)
  generalize putW b 48 (k0_pay1691 (F := F) v60 (readW c 48) 15#32) = b1 at *
  refine via iprop(p9 d i c9 ∗ (p8 d i b1 ∗ p7 d i c ∗ fetching d i q ids O W cc0_scoped2 cc0_scoped3 ∗ p6 d i (zAll (F := F)) ∗ (∃ f, p5 d i f)
        ∗ outP d i f0 ∗ sem d i cc0_scoped4)) ?_ (wp_load9 d i 48 _ _ (wp_store9 d i 48 _ _ _ ?_))
  · iintro ⟨H8, H7, H9, H⟩
    isplitl [H9]; · iexact H9
    isplitl [H8]; · iexact H8
    isplitl [H7] <;> iassumption
  generalize putW c9 48 (k0_pay1691 (F := F) v60 (readW c 48) 15#32) = c1 at *
  rw [t3_fold]
  refine wpT_bind d i _ (via iprop((fetching d i q ids O W cc0_scoped2 cc0_scoped3 ∗ ∃ c L, ⌜Laid (tok i ids) 0 c L⌝ ∗ p5 d i L ∗ p9 d i c) ∗
    (p8 d i b1 ∗ p7 d i c ∗ p6 d i (zAll (F := F)) ∗ outP d i f0 ∗ sem d i cc0_scoped4)) ?_
      (wpT_frame d i _ (wp_places d i q ids hT O W cc0_scoped2 cc0_scoped3 k0_t3_ok))) fun _ => ?_
  · iintro ⟨H9, H8, H7, Hf, H6, ⟨%L0, H5⟩, Ho, Hs⟩
    isplitl [Hf H5 H9]
    · isplitl [Hf]; · iexact Hf
      iexists c1; iexists L0; isplitr
      · ipureintro
        exact ⟨fun x hx => by rw [cnt_none]; exact h94 x hx, placed_zero mV (wV (tok i ids)) (aV (tok i ids)) (bs (tok i ids)) L0⟩
      · isplitl [H5] <;> iassumption
    isplitl [H8]; · iexact H8
    isplitl [H7]; · iexact H7
    isplitl [H6]; · iexact H6
    isplitl [Ho] <;> iassumption
  refine via iprop(∃ L, ⌜Placed mV (wV (tok i ids)) (aV (tok i ids)) (bs (tok i ids)) 1664 L⌝ ∗ (bench d i (tok i ids) O W L c b1 0 ∗ aside d i q ids)) ?_
    (open_some fun L hL => ?_)
  · iintro ⟨⟨⟨HO, Hi, H4, Hs2, Hs3⟩, %c2, %L, %hL, H5, H9⟩, H8, H7, H6, Ho, Hs⟩
    iexists L; isplitr
    · ipureintro; exact hL.2
    isplitl [H5 H8 H7 H6 Ho Hs HO]
    · iexists f0; isplitr
      · ipureintro; intro a _ hk; exact absurd hk (Nat.not_lt_zero _)
      isplitl [H8 H7 H5 H6]
      · isplitl [H8]; · iexact H8
        isplitl [H7]; · iexact H7
        isplitl [H5] <;> iassumption
      isplitl [Ho]; · iexact Ho
      isplitl [Hs] <;> iassumption
    isplitl [Hi]; · iexact Hi
    isplitl [H4]; · iexact H4
    isplitl [Hs2]; · iexact Hs2
    isplitl [Hs3]; · iexact Hs3
    iexists c2; iexact H9
  refine wpT_bind d i _ (wpT_frame d i _ (wp_windows d i (tok i ids) O W L c b1 hc hb4 v60 _)) fun _ => ?_
  refine via iprop(∃ f, ⌜Done i (tok i ids) L (64 * 59) f⌝ ∗ (p8 d i b1 ∗ (p7 d i c ∗ bare d i O W L f ∗ aside d i q ids))) ?_ (open_some fun f hf => ?_)
  · iintro ⟨⟨%f, %hf, ⟨H8, H7, H5, H6⟩, Ho, Hs, HO⟩, Ha⟩
    iexists f; isplitr
    · ipureintro; exact hf
    isplitl [H8]; · iexact H8
    isplitl [H7]; · iexact H7
    isplitr [Ha]
    · isplitl [H5]; · iexact H5
      isplitl [H6]; · iexact H6
      isplitl [Ho]; · iexact Ho
      isplitl [Hs] <;> iassumption
    · iexact Ha
  have hB := bound_at (tok i ids) (show 59 < 64 by omega)
  have hw := word_of (F := F) b1 59 _ (hb4 59 (by omega))
  have hn := word_of (F := F) c 59 _ (hc 59 (by omega))
  refine wp_load8 d i 59 _ _ ?_
  refine via iprop(p7 d i c ∗ (p8 d i b1 ∗ bare d i O W L f ∗ aside d i q ids)) ?_ (wp_load7 d i 59 _ _ ?_)
  · iintro ⟨H8, H7, H⟩
    isplitl [H7]; · iexact H7
    isplitl [H8] <;> iassumption
  refine wpT_assume d i (chk_of hw hn hB) (wpT_ret d i _ ?_)
  iintro ⟨H7, H8, Hb, Ha⟩
  isplitr
  · ipureintro; exact ⟨hw, hn⟩
  iexists (L, f)
  isplitr
  · ipureintro; exact ⟨hL, hf⟩
  isplitl [Hb]; · iexact Hb
  isplitl [Ha]; · iexact Ha
  isplitl [H7]; · iexact H7
  iexists b1; iexact H8

/-- The kernel's last part at this tile's buffers. -/
abbrev part242 (v81 v84 : BitVec 32) (hk : k0_chk318 v81 v84) (v86 c16 v87 v92 : BitVec 32) (v93 : BitVec 1) := k0_part242_skel (F := F) i bIds (Memref.isWhole_whole _) bOut (Memref.isWhole_whole _) b4 (Memref.isWhole_whole _) b5 (Memref.isWhole_whole _)
  b6 (Memref.isWhole_whole _) b7 (Memref.isWhole_whole _) b8 (Memref.isWhole_whole _) b9 (Memref.isWhole_whole _)
  cc0_scoped0 cc0_scoped1 cc0_scoped2 cc0_scoped3 cc0_scoped4 cc0_scoped5
  (k0_pay1676 (F := F)) lanesV v81 v84 hk v86 c16 v87 v92 v93

/-- The last window's forty slabs on their way out. -/
abbrev lastFlight (g : S64x8x128.Idx → F .f32) (f : S3816x32x8x128.Idx → F .f32) : sProp (MM F) :=
  flying d i 40 (k0_off77 i) (k0_off77_inb i) squeezes_S40x1x8x128_S40x8x128 inb_S64x8x128_S40x8x128_0_0_0 cc0_scoped5 g f

theorem wp_part242 (tk : Nat → Nat → BitVec 32) (L : S27648.Idx → BitVec 32) (f : S3816x32x8x128.Idx → F .f32)
    (v81 v84 : BitVec 32) (hk : k0_chk318 v81 v84) (v86 c16 v87 v92 : BitVec 32) (v93 : BitVec 1)
    (hw : v81 = BitVec.ofNat 32 (bs tk 59)) (hv : v84 = BitVec.ofNat 32 (cnt mV (wV tk) 1664 59)) (R : sProp (MM F)) :
    iprop((p5 d i L ∗ p6 d i (zAll (F := F))) ∗ outP d i f ∗ sem d i cc0_scoped5 ∗ R)
      ⊢ wpT (F := F) d i (part242 i v81 v84 hk v86 c16 v87 v92 v93) fun _ =>
        iprop(lastFlight d i (marked L (bs tk 59) (cnt mV (wV tk) 1664 59) onef (zAll (F := F)) (cnt mV (wV tk) 1664 59))
          (shipped (wid i) 3776 40 (marked L (bs tk 59) (cnt mV (wV tk) 1664 59) onef (zAll (F := F)) (cnt mV (wV tk) 1664 59)) f) ∗ p5 d i L ∗ R) := by
  have hB := bound_at tk (show 59 < 64 by omega)
  have hr := le_r16 (cnt mV (wV tk) 1664 59)
  unfold part242 k0_part242_skel
  refine wpT_bind d i _ (wpT_frame d i _ (wp_drain d i L (bs tk 59) (cnt mV (wV tk) 1664 59) (trips5 _ _ hv (by omega)) _ _ onef _
    (fun t5 => k0_off70 v81 v84 t5) (fun t5 => k0_off70_inb _ _ hk t5) (fun t5 => k0_pay1710 lanesV v84 t5) (fun _ _ => rfl)
    (fun t5 => off_of _ (bs tk 59) t5.val hw (by have := below_trips hv (by omega) t5; omega))
    (fun t5 => endsAt_of t5.val _ _ hv (below_trips hv (by omega) t5) (by omega)))) fun _ => ?_
  refine wpT_bind d i _ (wp_noTrips d i (trips6 _ _ hv (by omega)) _ _ _) fun _ => ?_
  refine via iprop((p6 d i (marked L (bs tk 59) (cnt mV (wV tk) 1664 59) onef (zAll (F := F)) (cnt mV (wV tk) 1664 59)) ∗ outP d i f ∗ sem d i cc0_scoped5) ∗ (p5 d i L ∗ R)) ?_
    (wp_send d i 40 3776 (by omega) (by omega) _ (k0_off77_eq i) _ _ _ cc0_scoped5 _ f ?_)
  · iintro ⟨⟨H5, H6⟩, Ho, Hs, HR⟩
    isplitl [H6 Ho Hs]
    · isplitl [H6]; · iexact H6
      isplitl [Ho] <;> iassumption
    isplitl [H5] <;> iassumption
  exact wpT_ret d i _ .rfl

/-- The kernel at this tile's buffers. -/
abbrev whole := cc0_bow_kernel_skel (F := F) i bIds (Memref.isWhole_whole _) bOut (Memref.isWhole_whole _) b4 (Memref.isWhole_whole _) b5 (Memref.isWhole_whole _)
  b6 (Memref.isWhole_whole _) b7 (Memref.isWhole_whole _) b8 (Memref.isWhole_whole _) b9 (Memref.isWhole_whole _)
  cc0_scoped0 cc0_scoped1 cc0_scoped2 cc0_scoped3 cc0_scoped4 cc0_scoped5

/-- A tile's working buffers, at any contents. -/
abbrev scratch : sProp (MM F) :=
  iprop((∃ f, p4 d i f) ∗ (∃ f, p5 d i f) ∗ (∃ f, p6 d i f) ∗ (∃ f, p7 d i f) ∗ (∃ f, p8 d i f) ∗ (∃ f, p9 d i f))

/-- A tile's semaphores, all at zero. -/
abbrev quiet : sProp (MM F) :=
  iprop(sem d i cc0_scoped0 ∗ sem d i cc0_scoped1 ∗ sem d i cc0_scoped2 ∗ sem d i cc0_scoped3 ∗ sem d i cc0_scoped4 ∗ sem d i cc0_scoped5)

theorem wp_whole (q : PosShare TreeShare) (ids : S4096x256.Idx → BitVec 32) (hT : ∀ r c, (tok i ids r c).toNat < 30522)
    (O : CellTallies nD τ sig (HIx 1)) (W : Waits sig (HIx 1)) (f0 : S3816x32x8x128.Idx → F .f32) :
    iprop(owing d i O W ∗ pIds d i q ids ∗ outP d i f0 ∗ scratch (F := F) d i ∗ quiet (F := F) d i)
      ⊢ wpT (F := F) d i (whole i) fun _ => iprop(∃ f, ⌜∃ L, Placed mV (wV (tok i ids)) (aV (tok i ids)) (bs (tok i ids)) 1664 L ∧ Done i (tok i ids) L 3816 f⌝ ∗
        owing d i O W ∗ pIds d i q ids ∗ outP d i f ∗ scratch (F := F) d i ∗ quiet (F := F) d i) := by
  unfold whole cc0_bow_kernel_skel
  rw [k0_part239_eq_skeleton, k0_part240_eq_skeleton, k0_part241_eq_skeleton, k0_part242_eq_skeleton]
  refine wpT_bind d i _ (via iprop((fetching d i q ids O W cc0_scoped0 cc0_scoped1 ∗ (∃ f, p6 d i f) ∗ (∃ f, p7 d i f) ∗ (∃ f, p8 d i f) ∗ (∃ f, p9 d i f)) ∗
      (outP d i f0 ∗ (∃ f, p5 d i f) ∗ sem d i cc0_scoped2 ∗ sem d i cc0_scoped3 ∗ sem d i cc0_scoped4 ∗ sem d i cc0_scoped5)) ?_
    (wpT_frame d i _ (wp_part239 d i q ids hT O W))) ?_
  · iintro ⟨HO, Hi, Ho, ⟨H4, H5, H6, H7, H8, H9⟩, Hs0, Hs1, Hs2, Hs3, Hs4, Hs5⟩
    isplitl [HO Hi H4 Hs0 Hs1 H6 H7 H8 H9]
    · isplitl [HO Hi H4 Hs0 Hs1]
      · isplitl [HO]; · iexact HO
        isplitl [Hi]; · iexact Hi
        isplitl [H4]; · iexact H4
        isplitl [Hs0] <;> iassumption
      isplitl [H6]; · iexact H6
      isplitl [H7]; · iexact H7
      isplitl [H8] <;> iassumption
    isplitl [Ho]; · iexact Ho
    isplitl [H5]; · iexact H5
    isplitl [Hs2]; · iexact Hs2
    isplitl [Hs3]; · iexact Hs3
    isplitl [Hs4] <;> iassumption
  rintro ⟨v2, v3, v5, v6, v17, v22⟩
  refine via iprop(∃ x : (S80.Idx → BitVec 32) × (S80.Idx → BitVec 32), ⌜Counted (tok i ids) 1664 x.1 ∧ Based (tok i ids) 16 x.2 ∧
      (⟨v2, v3, v5, v6, v17, v22⟩ : Σ' (v2 : FVec F S16 .f32) (v3 : FVec F S16 .f32) (v5 : IVec S16 32) (v6 : BitVec 32) (v17 : IVec S16 32), IVec S16 32)
        = ⟨k0_pay1675, k0_pay1676, lanesV, row0W i, k0_pay1682 (F := F) (readW x.1 0), k0_pay1683 (F := F) (readW x.1 0)⟩⌝ ∗
      (∃ f9 : S80.Idx → BitVec 32, ⌜True⌝ ∗ ((p7 d i x.1 ∗ p8 d i x.2 ∗ p9 d i f9) ∗ (fetching d i q ids O W cc0_scoped2 cc0_scoped3 ∗ p6 d i (zAll (F := F)) ∗ (∃ f, p5 d i f)
        ∗ outP d i f0 ∗ sem d i cc0_scoped4) ∗ (sem d i cc0_scoped0 ∗ sem d i cc0_scoped1 ∗ sem d i cc0_scoped5)))) ?_
    (open_some fun ⟨c, b⟩ ⟨hc, hb, hr⟩ => open_some fun f9 _ => ?_)
  · iintro ⟨⟨%c, %b, %hh, H7, H8, ⟨HO, Hi, H4, Hs0, Hs1⟩, H6, %f9, H9⟩, Ho, H5, Hs2, Hs3, Hs4, Hs5⟩
    iexists (c, b); isplitr
    · ipureintro; exact hh
    iexists f9; isplitr
    · ipureintro; trivial
    isplitl [H7 H8 H9]
    · isplitl [H7]; · iexact H7
      isplitl [H8] <;> iassumption
    isplitr [Hs0 Hs1 Hs5]
    · isplitl [HO Hi H4 Hs2 Hs3]
      · isplitl [HO]; · iexact HO
        isplitl [Hi]; · iexact Hi
        isplitl [H4]; · iexact H4
        isplitl [Hs2] <;> iassumption
      isplitl [H6]; · iexact H6
      isplitl [H5]; · iexact H5
      isplitl [Ho] <;> iassumption
    · isplitl [Hs0]; · iexact Hs0
      isplitl [Hs1] <;> iassumption
  injection hr with e2 hr; injection hr with e3 hr; injection hr with e5 hr; injection hr with e6 hr; injection hr with e17 e22
  subst e2 e3 e5 e6 e17 e22
  refine wpT_bind d i _ (wpT_frame d i _ (wp_part240 d i (tok i ids) c b f9 hc hb)) ?_
  rintro ⟨v60, v61, c15⟩
  refine via iprop(∃ x : (S80.Idx → BitVec 32) × (S80.Idx → BitVec 32), ⌜Based (tok i ids) 48 x.1 ∧ Based (tok i ids) 48 x.2 ∧
      (⟨v60, v61, c15⟩ : Σ' (v60 : BitVec 32) (v61 : Vec F S16 .i32), BitVec 32) = ret240 (F := F) c⌝ ∗
      ((p8 d i x.1 ∗ p7 d i c ∗ p9 d i x.2 ∗ fetching d i q ids O W cc0_scoped2 cc0_scoped3 ∗ p6 d i (zAll (F := F)) ∗ (∃ f, p5 d i f)
        ∗ outP d i f0 ∗ sem d i cc0_scoped4) ∗ (sem d i cc0_scoped0 ∗ sem d i cc0_scoped1 ∗ sem d i cc0_scoped5))) ?_
    (open_some fun ⟨b', c'⟩ ⟨hb', hc', hr⟩ => ?_)
  · iintro ⟨⟨%b', %c', %hh, H7, H8, H9⟩, Hm, Hs⟩
    iexists (b', c'); isplitr
    · ipureintro; exact hh
    isplitr [Hs]
    · isplitl [H8]; · iexact H8
      isplitl [H7]; · iexact H7
      isplitl [H9] <;> iassumption
    · iexact Hs
  injection hr with e60 hr; injection hr with e61 e15
  subst e61 e15
  refine wpT_bind d i _ (wpT_frame d i _ (wp_part241 d i q ids hT O W c b' c' hc hb' hc' v60 (e60.trans (carry48 (F := F) (tok i ids) c hc)) f0)) ?_
  rintro ⟨v81, v84, hk, v86, c16, v87, v92, v93⟩
  refine via iprop(⌜v81 = BitVec.ofNat 32 (bs (tok i ids) 59) ∧ v84 = BitVec.ofNat 32 (cnt mV (wV (tok i ids)) 1664 59)⌝ ∗
        ∃ x : (S27648.Idx → BitVec 32) × (S3816x32x8x128.Idx → F .f32),
          ⌜Placed mV (wV (tok i ids)) (aV (tok i ids)) (bs (tok i ids)) 1664 x.1 ∧ Done i (tok i ids) x.1 3776 x.2⌝ ∗
          ((p5 d i x.1 ∗ p6 d i (zAll (F := F))) ∗ outP d i x.2 ∗ sem d i cc0_scoped5 ∗ (owing d i O W ∗
            (sem d i cc0_scoped4 ∗ aside d i q ids ∗ (∃ f, p7 d i f) ∗ (∃ f, p8 d i f) ∗ sem d i cc0_scoped0 ∗ sem d i cc0_scoped1)))) ?_
    (open_pure fun ⟨hw, hv⟩ => open_some fun ⟨L, f⟩ ⟨hL, hf⟩ => ?_)
  · iintro ⟨⟨%hh, %x, %hx, ⟨H5, H6, Ho, Hs4, HO⟩, Ha, H7, H8⟩, Hs0, Hs1, Hs5⟩
    isplitr
    · ipureintro; exact hh
    iexists x; isplitr
    · ipureintro; exact hx
    isplitl [H5 H6]
    · isplitl [H5] <;> iassumption
    isplitl [Ho]; · iexact Ho
    isplitl [Hs5]; · iexact Hs5
    isplitl [HO]; · iexact HO
    isplitl [Hs4]; · iexact Hs4
    isplitl [Ha]; · iexact Ha
    isplitl [H7]; · iexists c; iexact H7
    isplitl [H8]; · iexact H8
    isplitl [Hs0] <;> iassumption
  have hB := bound_at (tok i ids) (show 59 < 64 by omega)
  have hr := le_r16 (cnt mV (wV (tok i ids)) 1664 59)
  refine wpT_bind d i _ (wp_part242 d i (tok i ids) L f v81 v84 hk v86 c16 v87 v92 v93 hw hv _) fun _ => ?_
  have hD : Done i (tok i ids) L 3816 _ := done_step i (tok i ids) L 59 40 (by omega) f hf
  refine via iprop(lastFlight d i (marked L (bs (tok i ids) 59) (cnt mV (wV (tok i ids)) 1664 59) onef (zAll (F := F)) (cnt mV (wV (tok i ids)) 1664 59))
          (shipped (wid i) (64 * 59) 40 (marked L (bs (tok i ids) 59) (cnt mV (wV (tok i ids)) 1664 59) onef (zAll (F := F)) (cnt mV (wV (tok i ids)) 1664 59)) f) ∗
      owing d i O W ∗ (p5 d i L ∗ (sem d i cc0_scoped4 ∗ aside d i q ids ∗ (∃ f, p7 d i f) ∗ (∃ f, p8 d i f) ∗ sem d i cc0_scoped0 ∗ sem d i cc0_scoped1))) ?_
    (wp_land d i 40 _ _ _ _ cc0_scoped5 O W _ _ ?_)
  · iintro ⟨Hf, H5, HO, H⟩
    isplitl [Hf]; · iexact Hf
    isplitl [HO]; · iexact HO
    isplitl [H5] <;> iassumption
  generalize shipped (wid i) (64 * 59) 40 (marked L (bs (tok i ids) 59) (cnt mV (wV (tok i ids)) 1664 59) onef (zAll (F := F)) (cnt mV (wV (tok i ids)) 1664 59)) f = f1 at *
  refine via iprop((p5 d i L ∗ p6 d i (marked L (bs (tok i ids) 59) (cnt mV (wV (tok i ids)) 1664 59) onef (zAll (F := F)) (cnt mV (wV (tok i ids)) 1664 59))) ∗
      (outP d i f1 ∗ sem d i cc0_scoped5 ∗ owing d i O W ∗
        (sem d i cc0_scoped4 ∗ aside d i q ids ∗ (∃ f, p7 d i f) ∗ (∃ f, p8 d i f) ∗ sem d i cc0_scoped0 ∗ sem d i cc0_scoped1))) ?_ ?_
  · iintro ⟨⟨H6, Ho, Hs5⟩, HO, H5, H⟩
    isplitl [H5 H6]
    · isplitl [H5] <;> iassumption
    isplitl [Ho]; · iexact Ho
    isplitl [Hs5]; · iexact Hs5
    isplitl [HO] <;> iassumption
  refine wpT_bind d i _ (wpT_frame d i _ (wp_drain d i L (bs (tok i ids) 59) (cnt mV (wV (tok i ids)) 1664 59) (trips5 _ _ hv (by omega)) _ _ zf _
    (fun t5 => k0_off70 v81 v84 t5) (fun t5 => k0_off70_inb _ _ hk t5) (fun t5 => k0_pay1 lanesV v84 t5) (fun _ _ => rfl)
    (fun t5 => off_of _ (bs (tok i ids) 59) t5.val hw (by have := below_trips hv (by omega) t5; omega))
    (fun t5 => endsAt_of t5.val _ _ hv (below_trips hv (by omega) t5) (by omega)))) fun _ => ?_
  refine wpT_bind d i _ (wp_noTrips d i (trips6 _ _ hv (by omega)) _ _ _) fun _ => wpT_ret d i _ ?_
  iintro ⟨⟨H5, H6⟩, Ho, Hs5, HO, Hs4, ⟨Hi, H4, Hs2, Hs3, H9⟩, H7, H8, Hs0, Hs1⟩
  iexists f1; isplitr
  · ipureintro; exact ⟨L, hL, hD⟩
  isplitl [HO]; · iexact HO
  isplitl [Hi]; · iexact Hi
  isplitl [Ho]; · iexact Ho
  isplitl [H4 H5 H6 H7 H8 H9]
  · isplitl [H4]; · iexact H4
    isplitl [H5]; · iexists L; iexact H5
    isplitl [H6]; · iexists _; iexact H6
    isplitl [H7]; · iexact H7
    isplitl [H8] <;> iassumption
  isplitl [Hs0]; · iexact Hs0
  isplitl [Hs1]; · iexact Hs1
  isplitl [Hs2]; · iexact Hs2
  isplitl [Hs3]; · iexact Hs3
  isplitl [Hs4] <;> iassumption

end Cert.Proof.Bow
-- ==== Proof.Value.lean ====
module

public import proofs.«01_k».proof.Proof.Tile
@[expose] public section

/-! # What the tile leaves, by the ids alone -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-- The result in the tiles' layout: a one where a token of the row, a special one excepted, names the entry. -/
def outV (ids : S4096x256.Idx → BitVec 32) : S3816x32x8x128.Idx → F .f32 := fun a =>
  open Classical in if ∃ c < 200, (cleanW (idAt ids (128 * (a 1).val + (a 3).val) c)).toNat = 8 * (a 0).val + (a 2).val then onef else zf

theorem ite_same {α : Type} {p q : Prop} {hp : Decidable p} {hq : Decidable q} {x y : α} (h : p ↔ q) : (if p then x else y) = if q then x else y := by
  by_cases hq' : q
  · rw [if_pos hq', if_pos (h.mpr hq')]
  · rw [if_neg hq', if_neg fun hp' => hq' (h.mp hp')]

theorem mV_iff (k : Nat) (l : S16.Idx) : mV k l = 1 ↔ 16 * (k % 13) + (l 0).val < 200 := by
  have hl : (l 0).val < 16 := (l 0).isLt
  unfold mV maskV
  by_cases h : k % 13 = 12
  · rw [h]
    obtain ⟨j, hj⟩ : ∃ j : Fin 16, j = l 0 := ⟨l 0, rfl⟩
    rw [show l = Shape.ofLane (d := ![16]) j by funext a; fin_cases a; exact hj.symm]
    refine ((show ∀ j : Fin 16, IntOp.cmpi .slt (lanesV (Shape.ofLane (d := ![16]) j)) 8#32 = 1 ↔ j.val < 8 by decide) j).trans ?_
    show _ ↔ 16 * 12 + j.val < 200
    omega
  · rw [show Nat.beq (k % 13) 12 = false from Bool.eq_false_iff.mpr fun e => h (Nat.eq_of_beq_eq_true e)]
    show (1#1 = 1) ↔ _
    exact ⟨fun _ => by omega, fun _ => rfl⟩

theorem wV_val (tk : Nat → Nat → BitVec 32) (k : Nat) (l : S16.Idx) : (wV tk k l).toNat = (idV tk k l).toNat / 512 := by
  show (idV tk k l >>> 9).toNat = _
  rw [BitVec.toNat_ushiftRight, Nat.shiftRight_eq_div_pow]

theorem aV_val (tk : Nat → Nat → BitVec 32) (k : Nat) (hk : k < 1664) (l : S16.Idx) :
    (aV tk k l).toNat = (idV tk k l).toNat / 8 % 64 * 1024 + (idV tk k l).toNat % 8 * 128 + k / 13 := by
  have e63 : (63 : Nat) = 2 ^ 6 - 1 := rfl
  have e7 : (7 : Nat) = 2 ^ 3 - 1 := rfl
  generalize hw : idV tk k l = w
  have h1 : (w >>> 3 &&& 63#32).toNat = w.toNat / 8 % 64 := by
    rw [BitVec.toNat_and, BitVec.toNat_ushiftRight, Nat.shiftRight_eq_div_pow]
    show _ &&& 63 = _
    rw [e63, Nat.and_two_pow_sub_one_eq_mod]
  have h2 : (w &&& 7#32).toNat = w.toNat % 8 := by
    rw [BitVec.toNat_and]
    show _ &&& 7 = _
    rw [e7, Nat.and_two_pow_sub_one_eq_mod]
  have e : aV tk k l = ((w >>> 3 &&& 63#32) * 1024#32 + (w &&& 7#32) * 128#32)
      + (0#32 + (BitVec.ofNat 32 (k / 104) * 8#32 + BitVec.ofNat 32 (k % 104 / 13))) := by rw [← hw]; rfl
  rw [e]
  simp only [BitVec.toNat_add, BitVec.toNat_mul, BitVec.toNat_ofNat, h1, h2]
  omega

theorem outVal_eq (ids : S4096x256.Idx → BitVec 32) (L : S27648.Idx → BitVec 32)
    (hL : Placed mV (wV (tok i ids)) (aV (tok i ids)) (bs (tok i ids)) 1664 L) (a : S3816x32x8x128.Idx) (ha : (a 1).val = wid i) :
    outVal (F := F) (tok i ids) L a = outV ids a := by
  have h0 : (a 0).val < 3816 := (a 0).isLt
  have h2 : (a 2).val < 8 := (a 2).isLt
  have h3 : (a 3).val < 128 := (a 3).isLt
  have hrow : ∀ r c, tok i ids r c = idAt ids (128 * (a 1).val + r) c := fun r c => by
    unfold tok row0
    rw [ha]; unfold wid
    congr 1; omega
  unfold outVal marked outV
  refine ite_same ⟨?_, ?_⟩
  · rintro ⟨e, he, -, hd⟩
    obtain ⟨k, hk, l, hm, hw, hA⟩ := hL.2 ((a 0).val / 64) (by omega) e he
    rw [hA] at hd
    have d0 : (aV (tok i ids) k l).toNat / 1024 % 64 = (a 0).val % 64 := congrArg (fun x : S64x8x128.Idx => (x 0).val) hd
    have d1 : (aV (tok i ids) k l).toNat / 128 % 8 = (a 2).val := congrArg (fun x : S64x8x128.Idx => (x 1).val) hd
    have d2 : (aV (tok i ids) k l).toNat % 128 = (a 3).val := congrArg (fun x : S64x8x128.Idx => (x 2).val) hd
    rw [aV_val _ k hk] at d0 d1 d2
    rw [wV_val] at hw
    rw [mV_iff] at hm
    refine ⟨16 * (k % 13) + (l 0).val, hm, ?_⟩
    have e3 : k / 13 = (a 3).val := by omega
    rw [← e3, ← hrow]
    show (idV (tok i ids) k l).toNat = _
    omega
  · rintro ⟨c, hc, hv⟩
    rw [← hrow] at hv
    have hk : 13 * (a 3).val + c / 16 < 1664 := by omega
    have hl : c % 16 < 16 := Nat.mod_lt _ (by decide)
    have hid : idV (tok i ids) (13 * (a 3).val + c / 16) (Shape.ofLane ⟨c % 16, hl⟩) = cleanW (tok i ids (a 3).val c) := by
      show cleanW (tok i ids ((13 * (a 3).val + c / 16) / 13) (16 * ((13 * (a 3).val + c / 16) % 13) + c % 16)) = _
      congr 2 <;> omega
    obtain ⟨e, he, hA⟩ := hL.1 (13 * (a 3).val + c / 16) hk (Shape.ofLane ⟨c % 16, hl⟩)
      ((mV_iff _ _).mpr (show 16 * ((13 * (a 3).val + c / 16) % 13) + c % 16 < 200 by omega))
    have hw : (wV (tok i ids) (13 * (a 3).val + c / 16) (Shape.ofLane ⟨c % 16, hl⟩)).toNat = (a 0).val / 64 := by
      rw [wV_val, hid, hv]; omega
    rw [hw] at he hA
    refine ⟨e, he, he, ?_⟩
    rw [hA]
    have hv' := aV_val (tok i ids) _ hk (Shape.ofLane ⟨c % 16, hl⟩)
    rw [hid, hv] at hv'
    funext b
    apply Fin.ext
    fin_cases b
    · show _ / 1024 % 64 = (a 0).val % 64
      rw [hv']; omega
    · show _ / 128 % 8 = (a 2).val
      rw [hv']; omega
    · show _ % 128 = (a 3).val
      rw [hv']; omega

end Cert.Proof.Bow
-- ==== Proof.Launch.lean ====
module

public import proofs.«01_k».proof.Proof.Value
@[expose] public section

/-! # The tiles side by side

What the launch hands each tile and takes back: a share of the ids, and the tile's own part of the result. -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (d : Dev nD) (i : grid0.Coords)

/-! ## One tile's run, from what a tile owns -/

/-- Some members of a separating conjunction, one after the other, and what is left. -/
theorem peel {I : Type} [DecidableEq I] (Φ : I → sProp (MM F)) :
    ∀ (l : List I) (s : Finset I), l.Nodup → (∀ a ∈ l, a ∈ s) → ∃ R, bigSep s Φ = l.foldr (fun a Z => iprop(Φ a ∗ Z)) R
  | [], s, _, _ => ⟨_, rfl⟩
  | a :: l, s, hn, hs => by
    obtain ⟨R, hR⟩ := peel Φ l (s.erase a) (List.nodup_cons.mp hn).2 fun b hb =>
      Finset.mem_erase.mpr ⟨fun e => (List.nodup_cons.mp hn).1 (e ▸ hb), hs b (List.mem_cons_of_mem _ hb)⟩
    exact ⟨R, by rw [SparseCore.bigSep_erase' (hs a List.mem_cons_self), hR]; rfl⟩

/-- The kernel's semaphores. -/
abbrev semList : List (SemLoc sig) :=
  [.dma cc0_scoped0.sem, .dma cc0_scoped1.sem, .dma cc0_scoped2.sem, .dma cc0_scoped3.sem, .dma cc0_scoped4.sem, .dma cc0_scoped5.sem]

/-- The kernel's working buffers. -/
abbrev refList : List (Ref sig .scVector) := [cc0_scratch0, cc0_scratch1, cc0_scratch2, cc0_scratch3, cc0_scratch4, cc0_scratch5]

theorem sems_own : ∃ R : sProp (MM F), (scopedSems0 (thr d i) : sProp (MM F)) = iprop(sem d i cc0_scoped0 ∗ sem d i cc0_scoped1 ∗ sem d i cc0_scoped2 ∗ sem d i cc0_scoped3
    ∗ sem d i cc0_scoped4 ∗ sem d i cc0_scoped5 ∗ R) := by
  obtain ⟨R, hR⟩ := peel (F := F) (fun g : GSem nD τ sig => (semVal g 0 : sProp (MM F))) (semList.map fun sm => ((thr d i, sm) : GSem nD τ sig)) (SparseCore.Cfg.ownCells (thr d i))
    (List.Nodup.map (fun a b e => (Prod.mk.inj e).2) (by decide))
    (fun g hg => by
      obtain ⟨sm, hs, rfl⟩ := List.mem_map.mp hg
      exact SparseCore.Cfg.mem_ownCells.mpr ⟨rfl, (show ∀ sm ∈ semList, sm.isScoped .scVector = true by decide) sm hs⟩)
  exact ⟨R, (SparseCore.Cfg.scopedSems0_V (Val := Elt F) d _ _).trans hR⟩

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem bufs_own : ∃ R : sProp (MM F), (scopedBufs (thr d i) : sProp (MM F)) = iprop((∃ f, p4 d i f) ∗ (∃ f, p5 d i f) ∗ (∃ f, p6 d i f) ∗ (∃ f, p7 d i f)
    ∗ (∃ f, p8 d i f) ∗ (∃ f, p9 d i f) ∗ R) := by
  obtain ⟨R, hR⟩ := peel (F := F) (fun b => iprop(∃ f, ((d, b) : Loc nD τ sig) ↦{fullShare} f)) (refList.map (thr d i).2.devRef) (SparseCore.Cfg.ownRefs (thr d i).2)
    (List.Nodup.map (Proc.devRef_injective _) (show (refList : List (Ref sig .scVector)).Nodup by decide))
    (fun b hb => by
      obtain ⟨r, hr, rfl⟩ := List.mem_map.mp hb
      refine SparseCore.Cfg.mem_ownRefs_of_owner ?_
      simp only [refList, List.mem_cons, List.not_mem_nil, _root_.or_false] at hr
      rcases hr with rfl | rfl | rfl | rfl | rfl | rfl <;> rfl)
  exact ⟨R, ((K (F := F)).scopedBufs_V facts d _ _).trans hR⟩

theorem tile_body (q : PosShare TreeShare) (ids : S4096x256.Idx → BitVec 32) (hT : ∀ r c, (tok i ids r c).toNat < 30522) (f0 : S3816x32x8x128.Idx → F .f32)
    (O : CellTallies nD τ sig (HIx 1)) (W : Waits sig (HIx 1)) (hO : ∀ g, O g none = 0) :
    iprop(levAts (K (F := F)).L (K (F := F)).lev ∗ emp ∗ (pIds d i q ids ∗ outP d i f0) ∗ scopedBufs (thr d i) ∗ scopedSems0 (thr d i) ∗ owes (thr d i) O W)
      ⊢ wpT (F := F) d i (cc0_bow_kernel i bIds (Memref.isWhole_whole _) bOut (Memref.isWhole_whole _) b4 (Memref.isWhole_whole _) b5 (Memref.isWhole_whole _)
          b6 (Memref.isWhole_whole _) b7 (Memref.isWhole_whole _) b8 (Memref.isWhole_whole _) b9 (Memref.isWhole_whole _)
          cc0_scoped0 cc0_scoped1 cc0_scoped2 cc0_scoped3 cc0_scoped4 cc0_scoped5)
        fun _ => iprop((pIds d i q ids ∗ outP d i (outV ids)) ∗ scopedBufs (thr d i) ∗ scopedSems0 (thr d i)
          ∗ ∃ W', ⌜∀ p ∈ W', p ∈ W ∨ p.2 = none⌝ ∗ owes (thr d i) O W') := by
  rw [cc0_bow_kernel_eq_skeleton]
  obtain ⟨RB, hB⟩ := bufs_own (F := F) d i
  obtain ⟨RS, hS⟩ := sems_own (F := F) d i
  rw [hB, hS]
  refine via iprop((owing d i O W ∗ pIds d i q ids ∗ outP d i f0 ∗ scratch (F := F) d i ∗ quiet (F := F) d i) ∗ (RB ∗ RS)) ?_
    ((wpT_frame d i _ (wp_whole d i q ids hT O W f0)).trans (wp_mono _ _ _ fun _ => ?_))
  · iintro ⟨#Hlv, -, ⟨Hi, Ho⟩, ⟨H4, H5, H6, H7, H8, H9, HB⟩, ⟨Hs0, Hs1, Hs2, Hs3, Hs4, Hs5, HS⟩, HO⟩
    ihave Hmw := ((K (F := F)).mayWaits_none (thr := thr d i) hO) $$ Hlv
    isplitr [HB HS]
    · isplitl [Hmw HO]
      · unfold owing
        isplitl [Hmw]; · iexact Hmw
        iexists W; isplitr
        · ipureintro; exact fun p hp => .inl hp
        · iexact HO
      isplitl [Hi]; · iexact Hi
      isplitl [Ho]; · iexact Ho
      isplitl [H4 H5 H6 H7 H8 H9]
      · isplitl [H4]; · iexact H4
        isplitl [H5]; · iexact H5
        isplitl [H6]; · iexact H6
        isplitl [H7]; · iexact H7
        isplitl [H8] <;> iassumption
      isplitl [Hs0]; · iexact Hs0
      isplitl [Hs1]; · iexact Hs1
      isplitl [Hs2]; · iexact Hs2
      isplitl [Hs3]; · iexact Hs3
      isplitl [Hs4] <;> iassumption
    · isplitl [HB] <;> iassumption
  · iintro ⟨⟨%f, %hf, HO, Hi, Ho, ⟨H4, H5, H6, H7, H8, H9⟩, Hs0, Hs1, Hs2, Hs3, Hs4, Hs5⟩, HB, HS⟩
    obtain ⟨L, hL, hD⟩ := hf
    have e : (outP d i f : sProp (MM F)) = outP d i (outV ids) := pointsTo_congr fun a ha => by
      have ha' := (Finset.mem_filter.mp ha).2
      exact (hD a ha' (a 0).isLt).trans (outVal_eq i ids L hL a ha')
    isplitl [Hi Ho]
    · isplitl [Hi]; · iexact Hi
      iapply (Entails.of_eq e); iexact Ho
    isplitl [H4 H5 H6 H7 H8 H9 HB]
    · isplitl [H4]; · iexact H4
      isplitl [H5]; · iexact H5
      isplitl [H6]; · iexact H6
      isplitl [H7]; · iexact H7
      isplitl [H8]; · iexact H8
      isplitl [H9] <;> iassumption
    isplitl [Hs0 Hs1 Hs2 Hs3 Hs4 Hs5 HS]
    · isplitl [Hs0]; · iexact Hs0
      isplitl [Hs1]; · iexact Hs1
      isplitl [Hs2]; · iexact Hs2
      isplitl [Hs3]; · iexact Hs3
      isplitl [Hs4]; · iexact Hs4
      isplitl [Hs5] <;> iassumption
    unfold owing
    icases HO with ⟨-, HO⟩
    iexact HO

end Cert.Proof.Bow
-- ==== Proof.Deal.lean ====
module

public import proofs.«01_k».proof.Proof.Launch
@[expose] public section

/-! # The launch: what is handed out and how it comes together again -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

abbrev aLoc (d : Dev nD) : Loc nD τ sig := (SparseCore.T d).loc main_arg0
abbrev vLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v4

/-- The ids with the padding columns, as the kernel reads them. -/
def padded (a : S4096x200.Idx → BitVec 32) : S4096x256.Idx → BitVec 32 :=
  pad S4096x256 ![0, 0] ![0, 56] ![0, 0] a (constantI S_ 32 0#32) pads_S4096x200_S4096x256_000_0560 h_S_

abbrev ids (d : Dev nD) : S4096x256.Idx → BitVec 32 := padded (m (aLoc d))

/-! ## Shares of the ids, and parts of the result -/

/-- SparseCore `c`'s share of the ids, -/
def shareC (c : Nat) : PosShare TreeShare := Transfers.dealShare fullShare 2 c
/-- and that of its subcore `s`. -/
def shareT (c s : Nat) : PosShare TreeShare := Transfers.dealShare (shareC c) 16 s

/-- SparseCore `c`'s part of the result, -/
def half (c : Nat) : Finset S3816x32x8x128.Idx := Finset.univ.filter fun x => (x 1).val % 2 = c
/-- and that of its subcore `s`. -/
def piece (c s : Nat) : Finset S3816x32x8x128.Idx := Finset.univ.filter fun x => (x 1).val = 2 * s + c

/-- What the tile on subcore `s` of SparseCore `c` is handed (`f` its part of the result before the call) and gives back. -/
def forTile (d : Dev nD) (c s : Nat) (f : S3816x32x8x128.Idx → F .f32) : sProp (MM F) :=
  iprop((vLoc d ↦{shareT c s} ids m d) ∗ oLoc d ↦[piece c s]{fullShare} f)
/-- The same of a whole SparseCore. -/
def forCore (d : Dev nD) (c : Nat) (f : S3816x32x8x128.Idx → F .f32) : sProp (MM F) :=
  iprop((vLoc d ↦{shareC c} ids m d) ∗ oLoc d ↦[half c]{fullShare} f)

instance forTile_storable (d : Dev nD) (c s : Nat) (f) : BI.Storable (upEmb : UEmb _ (MM F)) (forTile m d c s f) := by unfold forTile; infer_instance
instance forCore_storable (d : Dev nD) (c : Nat) (f) : BI.Storable (upEmb : UEmb _ (MM F)) (forCore m d c f) := by unfold forCore; infer_instance

/-- What passes between the TensorCore, the SparseCores and the tiles. -/
def P : (K (F := F)).Pay (nD := nD) (Val := Elt F) (Name := ℕ) (U := UU) where
  st := fun _ d c => forCore m d c.val (m (oLoc d))
  dn := fun _ d c => forCore m d c.val (outV (ids m d))
  go := fun _ d c s => forTile m d c.val s.val (m (oLoc d))
  td := fun _ d c s => forTile m d c.val s.val (outV (ids m d))
  x := fun _ _ => iprop(emp)

instance P_storable : (P (F := F) m).IsStorable where
  st _ d c := by unfold P; infer_instance
  dn _ d c := by unfold P; infer_instance
  go _ d c s := by unfold P; infer_instance
  td _ d c s := by unfold P; infer_instance

theorem deal (ℓ : Loc nD τ sig) (f : Buf (Elt F) ℓ) (q : PosShare TreeShare) (n : Nat) (hn : 0 < n) :
    (ℓ ↦{q} f : sProp (MM F)) = bigSep Finset.univ fun k : Fin n => ℓ ↦{Transfers.dealShare q n k.val} f := by
  haveI : NeZero n := ⟨by omega⟩
  rw [Transfers.pointsTo_deal (Finset.univ : Finset (Fin n)) ⟨0, Finset.mem_univ _⟩ q]
  refine bigSep_congr fun k _ => ?_
  unfold Transfers.dealOf
  rw [Finset.card_univ, Fintype.card_fin, show (Finset.univ.filter (· < k)) = Finset.Iio k by ext j; rw [Finset.mem_filter, Finset.mem_Iio]; exact ⟨And.right, fun h => ⟨Finset.mem_univ _, h⟩⟩,
    Fin.card_Iio]

theorem emps {I : Type} (s : Finset I) : (bigSep s fun _ => iprop(emp)) = (iprop(emp) : sProp (MM F)) := bigSep_emp_const s

/-- A SparseCore's part is its subcores' parts, -/
theorem half_eq (c : Nat) (hc : c < 2) : half c = Finset.univ.biUnion fun s : Fin 16 => piece c s.val := by
  ext x
  have hx : (x 1).val < 32 := (x 1).isLt
  simp only [half, piece, Finset.mem_filter, Finset.mem_univ, _root_.true_and, Finset.mem_biUnion]
  constructor
  · intro h
    exact ⟨⟨(x 1).val / 2, by omega⟩, by show _ = 2 * ((x 1).val / 2) + c; omega⟩
  · rintro ⟨s, hs⟩
    omega

/-- and the two SparseCores' parts are everything. -/
theorem univ_eq : (Finset.univ : Finset S3816x32x8x128.Idx) = Finset.univ.biUnion fun c : Fin 2 => half c.val := by
  ext x
  simp only [half, Finset.mem_filter, Finset.mem_univ, _root_.true_and, Finset.mem_biUnion, _root_.true_iff]
  exact ⟨⟨(x 1).val % 2, Nat.mod_lt _ (by decide)⟩, rfl⟩

theorem oPts_core (d : Dev nD) (c : Nat) (hc : c < 2) (f : S3816x32x8x128.Idx → F .f32) :
    (oLoc d ↦[half c]{fullShare} f : sProp (MM F)) = bigSep Finset.univ fun s : Fin 16 => oLoc d ↦[piece c s.val]{fullShare} f := by
  rw [half_eq c hc]
  exact pointsTo_biUnion Finset.univ (ℓ := oLoc d) (fun s : Fin 16 => piece c s.val) (fun s _ t _ h => Finset.disjoint_left.mpr fun x hs ht =>
    h (Fin.ext (by have := (Finset.mem_filter.mp hs).2; have := (Finset.mem_filter.mp ht).2; omega)))

theorem oPts_all (d : Dev nD) (f : S3816x32x8x128.Idx → F .f32) :
    (oLoc d ↦{fullShare} f : sProp (MM F)) = bigSep Finset.univ fun c : Fin 2 => oLoc d ↦[half c.val]{fullShare} f := by
  refine (congrArg (fun A => (oLoc d ↦[A]{fullShare} f : sProp (MM F))) univ_eq).trans ?_
  exact pointsTo_biUnion Finset.univ (ℓ := oLoc d) (fun c : Fin 2 => half c.val) (fun s _ t _ h => Finset.disjoint_left.mpr fun x hs ht =>
    h (Fin.ext ((Finset.mem_filter.mp hs).2.symm.trans (Finset.mem_filter.mp ht).2)))

theorem forCore_tiles (d : Dev nD) (c : Nat) (hc : c < 2) (f : S3816x32x8x128.Idx → F .f32) :
    forCore m d c f = bigSep Finset.univ fun s : Fin 16 => forTile m d c s.val f := by
  unfold forCore forTile
  rw [bigSep_sep', oPts_core d c hc, deal (vLoc d) _ (shareC c) 16 (by omega)]
  rfl

theorem cores (d : Dev nD) (f : S3816x32x8x128.Idx → F .f32) :
    (bigSep Finset.univ fun c : Fin 2 => forCore m d c.val f) = iprop((vLoc d ↦{fullShare} ids m d) ∗ oLoc d ↦{fullShare} f) := by
  unfold forCore
  rw [bigSep_sep', oPts_all d f, deal (vLoc d) _ fullShare 2 (by omega)]
  rfl

theorem vecSplit : (K (F := F)).VecSplit' (P m) 0 := by
  intro d c
  show forCore m d c.val (m (oLoc d)) ⊢ |={Set.univ}=> iprop((bigSep (Finset.univ : Finset (Fin 16)) fun s => forTile m d c.val s.val (m (oLoc d)))
    ∗ ((bigSep (Finset.univ : Finset (Fin 16)) fun s => forTile m d c.val s.val (outV (ids m d))) -∗ forCore m d c.val (outV (ids m d))))
  have hc : c.val < 2 := c.isLt
  rw [forCore_tiles m d c.val hc, forCore_tiles m d c.val hc]
  iintro H; imodintro
  isplitl [H]; · iexact H
  iintro H; iexact H

/-! ## The tiles' obligation -/

/-- Every id of the batch names an entry of the vocabulary. -/
def InVocab : Prop := ∀ d x, (m (aLoc d) x : BitVec 32).toNat < 30522

theorem padded_lt (a : S4096x200.Idx → BitVec 32) (h : ∀ x, (a x).toNat < 30522) (x) : (padded a x).toNat < 30522 := by
  unfold padded pad
  split
  · exact h _
  · decide

theorem tok_lt (h : InVocab m) (d : Dev nD) (i : grid0.Coords) (r c : Nat) : (tok i (ids m d) r c).toNat < 30522 := by
  unfold tok idAt
  split
  · exact padded_lt _ (h d) _
  · decide

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_bow_kernel (coordsV c s) bIds (Memref.isWhole_whole _) bOut (Memref.isWhole_whole _) b4 (Memref.isWhole_whole _) b5 (Memref.isWhole_whole _)
          b6 (Memref.isWhole_whole _) b7 (Memref.isWhole_whole _) b8 (Memref.isWhole_whole _) b9 (Memref.isWhole_whole _)
          cc0_scoped0 cc0_scoped1 cc0_scoped2 cc0_scoped3 cc0_scoped4 cc0_scoped5) ⟨⟩ c s := rfl

theorem forTile_eq (d : Dev nD) (c : Fin (grid0.bound 0)) (s : Fin (grid0.bound 1)) (f : S3816x32x8x128.Idx → F .f32) :
    forTile m d c.val s.val f = iprop(pIds d (coordsV c s) (shareT c.val s.val) (ids m d) ∗ outP d (coordsV c s) f) := rfl

theorem obl_post {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (h : InVocab m) : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body d (coordsV ⟨_, hc.1⟩ ⟨_, hc.2⟩) (shareT c.val s.val) (ids m d) (tok_lt m h d _) (m (oLoc d)) O W hO).trans
    (wp_mono frame _ _ fun _ => obl_post)

/-! ## The launch's own state -/

def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp (MM F))) = iprop(emp) from by
    rw [bigSep_congr fun _ _ => emps _, emps]]
  iempintro

end Cert.Proof.Bow
-- ==== Proof.Run.lean ====
module

public import proofs.«01_k».proof.Proof.Deal
@[expose] public section

/-! # The run of the whole program -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

variable (m : (ℓ : Loc nD τ sig) → Buf (Elt F) ℓ) (ρ : Dev nD → PrngReg)

/-! ## The host's arrays and operations -/

abbrev dr (b : Ref sig .tc) : DevRef τ sig := Proc.devRef .tc b

abbrev S8 : Finset (DevRef τ sig) := {dr main_arg0, dr main_c, dr main_call0_v0, dr main_v0, dr main_v1, dr main_v2, dr main_v3, dr main_v4}

abbrev opC : HloOp τ sig (Elt F) := StableHlo.nullary main_c (constantI S_ 32 0#32)
abbrev opI : HloOp τ sig (Elt F) := StableHlo.TRef.unary (.of main_c : StableHlo.TRef sig ⟨S_, .i32⟩) main_call0.v0 id
abbrev opP : HloOp τ sig (Elt F) := StableHlo.TRef.binary (.of main_arg0 : StableHlo.TRef sig ⟨S4096x200, .i32⟩) main_call0.v0 main_call0.v1
  (fun x v => pad S4096x256 ![0, 0] ![0, 56] ![0, 0] x v pads_S4096x200_S4096x256_000_0560 h_S_)
abbrev opT : HloOp τ sig (Elt F) := StableHlo.unary main_v1 main_v2 ((transpose S32x128x3816x8 [1, 3, 0, 2] · transposes_S3816x32x8x128_S32x128x3816x8_1_3_0_2) : (⟨S3816x32x8x128, .f32⟩ : BufTy).Contents (Elt F) → (⟨S32x128x3816x8, .f32⟩ : BufTy).Contents (Elt F))
abbrev opR : HloOp τ sig (Elt F) := StableHlo.reshape main_v2 main_v3 (rfl : (.f32 : EltTy) = .f32) shapeCasts_S32x128x3816x8_S4096x30528
abbrev opS : HloOp τ sig (Elt F) := StableHlo.unary main_v3 main_v4 ((extractStridedSlice S4096x30522 ![0, 0] · slices_S4096x30528_S4096x30522_0_0) : (⟨S4096x30528, .f32⟩ : BufTy).Contents (Elt F) → (⟨S4096x30522, .f32⟩ : BufTy).Contents (Elt F))

/-- What the host makes of the kernel's result. -/
def hostOut (o : S3816x32x8x128.Idx → F .f32) : S4096x30522.Idx → F .f32 :=
  extractStridedSlice S4096x30522 ![0, 0]
    (shapeCast S4096x30528 (transpose S32x128x3816x8 [1, 3, 0, 2] o transposes_S3816x32x8x128_S32x128x3816x8_1_3_0_2)
      shapeCasts_S32x128x3816x8_S4096x30528) slices_S4096x30528_S4096x30522_0_0

def V0 (d : Dev nD) : Valuation τ sig (Elt F) := fun b => m (d, b)
def V3 (d : Dev nD) : Valuation τ sig (Elt F) := StableHlo.after [opC, opI, opP] (V0 m d)
def V4 (d : Dev nD) : Valuation τ sig (Elt F) := Function.update (V3 m d) (dr main_v1) (outV (ids m d))
def V7 (d : Dev nD) : Valuation τ sig (Elt F) := StableHlo.after [opT, opR, opS] (V4 m d)

theorem V3_v0 (d : Dev nD) : V3 m d (dr main_v0) = ids m d := by
  unfold V3
  after_results_simp
  rfl
theorem V3_v1 (d : Dev nD) : V3 m d (dr main_v1) = m (oLoc d) := by
  unfold V3
  after_results_simp
  rfl
theorem V3_a (d : Dev nD) : V3 m d (dr main_arg0) = m (aLoc d) := by
  unfold V3
  after_results_simp
  rfl
theorem V4_v1 (d : Dev nD) : V4 m d (dr main_v1) = outV (ids m d) := Function.update_self _ _ _
theorem V4_ne (d : Dev nD) {b : DevRef τ sig} (h : b ≠ dr main_v1) : V4 m d b = V3 m d b := Function.update_of_ne h _ _
theorem V7_v4 (d : Dev nD) : V7 m d (dr main_v4) = hostOut (outV (ids m d)) := by
  unfold V7
  after_results_simp
  rw [V4_v1]
  rfl
theorem V7_a (d : Dev nD) : V7 m d (dr main_arg0) = m (aLoc d) := by
  unfold V7
  after_results_simp
  rw [V4_ne m d (by decide), V3_a]

theorem held_S8 (d : Dev nD) (W : Valuation τ sig (Elt F)) :
    (held (SparseCore.T d) S8 W : sProp (MM F)) = iprop((aLoc d ↦{fullShare} W (dr main_arg0)) ∗ ((SparseCore.T d).loc main_c ↦{fullShare} W (dr main_c))
      ∗ ((SparseCore.T d).loc main_call0_v0 ↦{fullShare} W (dr main_call0_v0)) ∗ (vLoc d ↦{fullShare} W (dr main_v0)) ∗ (oLoc d ↦{fullShare} W (dr main_v1))
      ∗ ((SparseCore.T d).loc main_v2 ↦{fullShare} W (dr main_v2)) ∗ ((SparseCore.T d).loc main_v3 ↦{fullShare} W (dr main_v3)) ∗ rLoc d ↦{fullShare} W (dr main_v4)) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp (MM F)) = held (SparseCore.T d) S8 (V0 m d) := by
  unfold unscopedBufs
  rw [held_S8, show (Finset.univ.filter fun b : Ref sig .tc => ¬ b.isScoped) = {main_arg0, main_c, main_call0_v0, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem st0_eq (d : Dev nD) : (bigSep Finset.univ fun c : Fin ((K (F := F)).nCore 0) => (P m).st 0 d c)
    = iprop((vLoc d ↦{fullShare} ids m d) ∗ oLoc d ↦{fullShare} m (oLoc d)) := cores m d _
theorem dn0_eq (d : Dev nD) : (bigSep Finset.univ fun c : Fin ((K (F := F)).nCore 0) => (P m).dn 0 d c)
    = iprop((vLoc d ↦{fullShare} ids m d) ∗ oLoc d ↦{fullShare} outV (ids m d)) := cores m d _

theorem subC : (opC (F := F)).bufs ⊆ S8 := show ({dr main_c} : Finset (DevRef τ sig)) ⊆ S8 by decide
theorem subI : (opI (F := F)).bufs ⊆ S8 := show ({dr main_c, dr main_call0_v0} : Finset (DevRef τ sig)) ⊆ S8 by decide
theorem subP : (opP (F := F)).bufs ⊆ S8 := show ({dr main_arg0, dr main_call0_v0, dr main_v0} : Finset (DevRef τ sig)) ⊆ S8 by decide
theorem subT : (opT (F := F)).bufs ⊆ S8 := show ({dr main_v1, dr main_v2} : Finset (DevRef τ sig)) ⊆ S8 by decide
theorem subR : (opR (F := F)).bufs ⊆ S8 := show ({dr main_v2, dr main_v3} : Finset (DevRef τ sig)) ⊆ S8 by decide
theorem subS : (opS (F := F)).bufs ⊆ S8 := show ({dr main_v3, dr main_v4} : Finset (DevRef τ sig)) ⊆ S8 by decide

/-- What the host leaves: the batch as it was, and the result. -/
abbrev FIN (d : Dev nD) : sProp (MM F) := iprop((aLoc d ↦{fullShare} m (aLoc d)) ∗ rLoc d ↦{fullShare} hostOut (outV (ids m d)))

theorem held_call (d : Dev nD) : (held (SparseCore.T d) S8 (V3 m d) : sProp (MM F))
    ⊢ iprop(((vLoc d ↦{fullShare} ids m d) ∗ oLoc d ↦{fullShare} m (oLoc d))
      ∗ (((vLoc d ↦{fullShare} ids m d) ∗ oLoc d ↦{fullShare} outV (ids m d)) -∗ held (SparseCore.T d) S8 (V4 m d))) := by
  rw [held_S8, held_S8, V4_v1, V4_ne m d (b := dr main_arg0) (by decide), V4_ne m d (b := dr main_c) (by decide), V4_ne m d (b := dr main_call0_v0) (by decide),
    V4_ne m d (b := dr main_v0) (by decide), V4_ne m d (b := dr main_v2) (by decide), V4_ne m d (b := dr main_v3) (by decide), V4_ne m d (b := dr main_v4) (by decide), V3_v0, V3_v1]
  iintro ⟨Ha, Hc, Hi, Hv, Ho, H2, H3, H4⟩
  isplitl [Hv Ho]
  · isplitl [Hv]; · iexact Hv
    iexact Ho
  iintro ⟨Hv, Ho⟩
  isplitl [Ha]; · iexact Ha
  isplitl [Hc]; · iexact Hc
  isplitl [Hi]; · iexact Hi
  isplitl [Hv]; · iexact Hv
  isplitl [Ho]; · iexact Ho
  isplitl [H2]; · iexact H2
  isplitl [H3]; · iexact H3
  iexact H4

theorem held_end (d : Dev nD) : (held (SparseCore.T d) S8 (V7 m d) : sProp (MM F)) ⊢ FIN m d := by
  rw [held_S8, V7_v4, V7_a]
  iintro ⟨Ha, -, -, -, -, -, -, H4⟩
  isplitl [Ha]; · iexact Ha
  iexact H4

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hh, Hts, -⟩, -⟩
  iapply (wp_hlo_within 𝒱 (SparseCore.T d) none Set.univ (op := opC) (S := S8) subC (V := V0 m d)) $$ [Hb Hh]
  · isplitl [Hb] <;> iassumption
  iintro ⟨Hb, Hh⟩
  rw [wp_ret]; imodintro
  iapply (wp_hlo_within 𝒱 (SparseCore.T d) none Set.univ (op := opI) (S := S8) subI (V := (opC (F := F)).result (V0 m d))) $$ [Hb Hh]
  · isplitl [Hb] <;> iassumption
  iintro ⟨Hb, Hh⟩
  rw [wp_ret]; imodintro
  iapply (wp_hlo_within 𝒱 (SparseCore.T d) none Set.univ (op := opP) (S := S8) subP (V := (opI (F := F)).result ((opC (F := F)).result (V0 m d)))) $$ [Hb Hh]
  · isplitl [Hb] <;> iassumption
  iintro ⟨Hb, Hh⟩
  rw [wp_ret]; imodintro
  ihave Hh' := (Entails.of_eq (show held (SparseCore.T d) S8 ((opP (F := F)).result ((opI (F := F)).result ((opC (F := F)).result (V0 m d)))) = held (SparseCore.T d) S8 (V3 m d) from rfl)) $$ Hh
  ihave Hh' := (held_call m d) $$ Hh'
  icases Hh' with ⟨Hcall, Hback⟩
  iapply ((K (F := F)).wp_run (D (F := F)) 𝒱 (EH := EH) (P := P m) κ d 0) $$ [Hst Hcall Hb Hts Hback]
  isplitr; · iexact Hctx
  isplitl [Hst]; · iexact Hst
  isplitl [Hcall]
  · rw [st0_eq]; iexact Hcall
  iintro ⟨Hst, Hdn⟩
  ihave Hdn' := (Entails.of_eq (dn0_eq m d)) $$ Hdn
  ihave Hh := Hback $$ Hdn'
  iapply (wp_hlo_within 𝒱 (SparseCore.T d) none Set.univ (op := opT) (S := S8) subT (V := V4 m d)) $$ [Hb Hh]
  · isplitl [Hb] <;> iassumption
  iintro ⟨Hb, Hh⟩
  rw [wp_ret]; imodintro
  iapply (wp_hlo_within 𝒱 (SparseCore.T d) none Set.univ (op := opR) (S := S8) subR (V := (opT (F := F)).result (V4 m d))) $$ [Hb Hh]
  · isplitl [Hb] <;> iassumption
  iintro ⟨Hb, Hh⟩
  rw [wp_ret]; imodintro
  iapply (wp_hlo_within 𝒱 (SparseCore.T d) none Set.univ (op := opS) (S := S8) subS (V := (opR (F := F)).result ((opT (F := F)).result (V4 m d)))) $$ [Hb Hh]
  · isplitl [Hb] <;> iassumption
  iintro ⟨Hb, Hh⟩
  rw [wp_ret]; imodintro; imodintro
  ihave Hh' := (Entails.of_eq (show held (SparseCore.T d) S8 ((opS (F := F)).result ((opR (F := F)).result ((opT (F := F)).result (V4 m d)))) = held (SparseCore.T d) S8 (V7 m d) from rfl)) $$ Hh
  ihave Hf := (held_end m d) $$ Hh'
  isplitl [Hst]; · iexact Hst
  isplitl [Hf]; · iexact Hf
  isplitl [Hb] <;> iassumption

def fq (d : Dev nD) (s' : Phys nD τ sig (Elt F)) : Prop := s'.mem.mem (aLoc d) = m (aLoc d) ∧ s'.mem.mem (rLoc d) = hostOut (outV (ids m d))

theorem hfin (d : Dev nD) (s' : Phys nD τ sig (Elt F)) : iprop(FIN m d ∗ SI s') ⊢ (⌜fq m d s'⌝ : sProp (MM F)) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := hostOut (outV (ids m d)))) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => (∀ c : Dev nD, r.2.mem (aLoc c) = m (aLoc c) ∧ r.2.mem (rLoc c) = hostOut (outV (ids m c))) ∧ r.2.sem = fun _ => 0

/-- The program, run from a batch of ids of the vocabulary: it ends, the batch is as it was, the result is the kernel's
    value as the host lays it out, and every counter is zero. -/
theorem run_main [∀ e, Nonempty (Elt F e)] (h : InVocab m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Bow
-- ==== Proof.Spec.lean ====
module

public import proofs.«01_k».proof.Proof.Run
public import Idealize.ShloMosaic.Lib.Routing.OpsPair
public import Idealize.ShloMosaic.Lib.Routing.OpsSet
public import Idealize.ShloMosaic.Lib.KernelVsHost
@[expose] public section

/-! # The result as a bag of words -/

noncomputable section

namespace Cert.Proof.Bow

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx (ix2 ix3 eq_ix2)

/-- The bag of words of a batch of ids: row `r` has a one at column `v` when `v` is one of the row's 200 ids and none of the
    four special ones, and a zero elsewhere. -/
def bow (a : S4096x200.Idx → BitVec 32) : S4096x30522.Idx → F .f32 := fun x => open Classical in
  if (∃ c : Fin 200, (a (ix2 (x 0) c)).toNat = (x 1).val) ∧ ¬ ((x 1).val = 0 ∨ (x 1).val = 101 ∨ (x 1).val = 102 ∨ (x 1).val = 103) then onef else zf

/-- Where the kernel's result keeps row `r`, column `v`. -/
def placeOf (r v : Nat) (hr : r < 4096) (hv : v < 30522) : S3816x32x8x128.Idx := fun q =>
  ⟨(![v / 8, r / 128, v % 8, r % 128] : Fin 4 → Nat) q, by
    fin_cases q
    · show v / 8 < 3816; omega
    · show r / 128 < 32; omega
    · show v % 8 < 8; omega
    · show r % 128 < 128; omega⟩

/-- The host's operations after the kernel only move elements. -/
theorem hostOut_apply (o : S3816x32x8x128.Idx → F .f32) (x : S4096x30522.Idx) :
    hostOut o x = o (placeOf (x 0).val (x 1).val (x 0).isLt (x 1).isLt) := by
  have h0 : (x 0).val < 4096 := (x 0).isLt
  have h1 : (x 1).val < 30522 := (x 1).isLt
  unfold hostOut
  refine (extractStridedSlice_apply _ _ _ x (ix2 (⟨(x 0).val, h0⟩ : Fin 4096) (⟨(x 1).val, by omega⟩ : Fin 30528)) (fun a => match a with
    | ⟨0, _⟩ => (Nat.zero_add _).symm
    | ⟨1, _⟩ => (Nat.zero_add _).symm)).trans ?_
  let k : S32x128x3816x8.Idx := fun q => ⟨(![(x 0).val / 128, (x 0).val % 128, (x 1).val / 8, (x 1).val % 8] : Fin 4 → Nat) q, by
    fin_cases q
    · show (x 0).val / 128 < 32; omega
    · show (x 0).val % 128 < 128; omega
    · show (x 1).val / 8 < 3816; omega
    · show (x 1).val % 8 < 8; omega⟩
  refine (shapeCast_apply _ _ _ k (by
    rw [Shape.rowMajor_val_two, Shape.rowMajor_val_four]
    show (((x 0).val / 128 * 128 + (x 0).val % 128) * 3816 + (x 1).val / 8) * 8 + (x 1).val % 8 = (x 0).val * 30528 + (x 1).val
    omega)).trans ?_
  exact transpose_apply _ _ _ k _ (fun b => match b with
    | ⟨0, _⟩ => rfl
    | ⟨1, _⟩ => rfl
    | ⟨2, _⟩ => rfl
    | ⟨3, _⟩ => rfl)

theorem idAt_padded (a : S4096x200.Idx → BitVec 32) (r c : Nat) (hr : r < 4096) (hc : c < 200) :
    idAt (padded a) r c = a (ix2 (⟨r, hr⟩ : Fin 4096) (⟨c, hc⟩ : Fin 200)) := by
  unfold idAt
  rw [dif_pos ⟨hr, by omega⟩]
  exact pad_apply_of_inside _ _ _ a _ _ _ _ _ (fun q => match q with
    | ⟨0, _⟩ => by show r = 0 + r * 1; omega
    | ⟨1, _⟩ => by show c = 0 + c * 1; omega)

/-- A cleaned id is a column of the result just when the id was it and is not special. -/
theorem cleanW_eq (w : BitVec 32) (v : Nat) (hv : v < 30522) :
    (cleanW w).toNat = v ↔ w.toNat = v ∧ ¬ (v = 0 ∨ v = 101 ∨ v = 102 ∨ v = 103) := by
  have e : ∀ n : Nat, n < 2 ^ 32 → (w = BitVec.ofNat 32 n ↔ w.toNat = n) := fun n hn => by
    rw [← BitVec.toNat_inj, BitVec.toNat_ofNat, Nat.mod_eq_of_lt hn]
  unfold cleanW
  have e0 := e 0 (by decide)
  have e1 := e 101 (by decide)
  have e2 := e 102 (by decide)
  have e3 := e 103 (by decide)
  split
  · next h =>
    rw [e0, e1, e2, e3] at h
    show 32256 = v ↔ _
    omega
  · next h =>
    rw [e0, e1, e2, e3] at h
    omega

/-- The kernel's value, as the host lays it out, is the bag of words. -/
theorem kernel_bow (a : S4096x200.Idx → BitVec 32) : hostOut (outV (F := F) (padded a)) = bow a := by
  funext x
  have h0 : (x 0).val < 4096 := (x 0).isLt
  have h1 : (x 1).val < 30522 := (x 1).isLt
  rw [hostOut_apply]
  unfold outV bow
  refine ite_same ?_
  show (∃ c < 200, (cleanW (idAt (padded a) (128 * ((x 0).val / 128) + (x 0).val % 128) c)).toNat = 8 * ((x 1).val / 8) + (x 1).val % 8) ↔ _
  rw [Nat.div_add_mod, Nat.div_add_mod]
  constructor
  · rintro ⟨c, hc, h⟩
    rw [idAt_padded a _ c h0 hc, cleanW_eq _ _ h1] at h
    exact ⟨⟨⟨c, hc⟩, h.1⟩, h.2⟩
  · rintro ⟨⟨c, h⟩, hs⟩
    refine ⟨c.val, c.isLt, ?_⟩
    rw [idAt_padded a _ c.val h0 c.isLt, cleanW_eq _ _ h1]
    exact ⟨h, hs⟩

end Cert.Proof.Bow
-- ==== Proof.Ref.lean ====
module

public import proofs.«01_k».proof.Proof.Spec
public import proofs.«01_k».proof.Proof.Gen.ReferenceIdeal
public import proofs.«01_k».proof.Proof.Gen.ReferenceIdeal.Run
@[expose] public section

/-! # The reference's value is the bag of words -/

noncomputable section

namespace Cert.Proof.Bow

open Cert.ReferenceIdeal Cert.ReferenceIdeal.Gen
open Idealize.ShloMosaic Idealize.ShloMosaic.Routing Idealize.ShloMosaic.TcCoe Idealize.SL.Sem
open Idealize.ShloMosaic.ValueIdx (ix1 ix2 ix3 eq_ix1 eq_ix2)

variable {F : FTy → Type} [FloatOps F]

/-- Update `(r', k)` of the second scatter lands at `(r, c)` just when `r' = r` and index word `k` is the column `c`. -/
theorem lands_special (idx : IVec S4x1 32) (r' r : Fin 4096) (k : Fin 4) (c : Fin 30522) :
    scatter_S4096x30522_S4x1_S4096x4_0_1_1_1.resultIdx? (ix2 r' k) idx = some (ix2 r c) ↔ r'.val = r.val ∧ (idx (ix2 k (0 : Fin 1))).toInt = c.val := by
  have hwin0 : scatter_S4096x30522_S4x1_S4096x4_0_1_1_1.window (ix2 r' k) 0 = r'.val := rfl
  have hwin1 : scatter_S4096x30522_S4x1_S4096x4_0_1_1_1.window (ix2 r' k) 1 = 0 := rfl
  have hst0 : scatter_S4096x30522_S4x1_S4096x4_0_1_1_1.start (ix2 r' k) idx 0 = 0 := rfl
  have hst1 : scatter_S4096x30522_S4x1_S4096x4_0_1_1_1.start (ix2 r' k) idx 1 = (idx (ix2 k (0 : Fin 1))).toInt := by
    unfold ScatterDims.start
    rw [dif_pos (by decide)]
    refine congrArg (fun t => (idx t).toInt) (funext fun b => Fin.ext ?_)
    match b with
    | ⟨0, _⟩ => rfl
    | ⟨1, _⟩ => rfl
  rw [resultIdx?_ix2, hst0, hst1, hwin0, hwin1]
  omega

/-- Ones at the ids, then zeros down the four special columns: the bag of words, at any index words that name them. -/
theorem scatters_bow (a : S4096x200.Idx → BitVec 32) (z : S4096x30522.Idx → F .f32) (idx1 : IVec S4096x200x2 32) (one : S4096x200.Idx → F .f32)
    (idx2 : IVec S4x1 32) (zs : S4096x4.Idx → F .f32) (hz : ∀ x, z x = zf) (ho : ∀ x, one x = onef) (hzs : ∀ x, zs x = zf)
    (h0 : ∀ (r : Fin 4096) (c : Fin 200), (idx1 (ix3 r c (0 : Fin 2))).toInt = r.val)
    (h1 : ∀ (r : Fin 4096) (c : Fin 200), (idx1 (ix3 r c (1 : Fin 2))).toInt = (a (ix2 r c)).toNat)
    (h2 : ∀ k : Fin 4, (idx2 (ix2 k (0 : Fin 1))).toInt = ((![0, 101, 102, 103] : Fin 4 → Nat) k : Int)) :
    Host.scatter scatter_S4096x30522_S4x1_S4096x4_0_1_1_1 (fun _ b => b)
      (Host.scatter scatter_S4096x30522_S4096x200x2_S4096x200_n_01_01_2 (fun _ b => b) z idx1 one) idx2 zs = bow a := by
  funext x
  obtain ⟨r, v, rfl⟩ : ∃ (r : Fin 4096) (v : Fin 30522), x = ix2 r v := ⟨x 0, x 1, eq_ix2 x⟩
  have l1 : ∀ (p : Fin 4096) (q : Fin 200), scatter_S4096x30522_S4096x200x2_S4096x200_n_01_01_2.resultIdx? (ix2 p q) idx1 = some (ix2 r v)
      ↔ p.val = r.val ∧ (a (ix2 p q)).toNat = v.val := fun p q => by
    refine (scatter_lands2 scatter_S4096x30522_S4096x200x2_S4096x200_n_01_01_2 rfl rfl rfl idx1 p q r v).trans ?_
    have e0 := h0 p q
    have e1 := h1 p q
    constructor
    · intro ⟨l, l'⟩
      exact ⟨Int.ofNat_inj.1 (e0.symm.trans l), Int.ofNat_inj.1 (e1.symm.trans l')⟩
    · intro ⟨l, l'⟩
      exact ⟨e0.trans (congrArg _ l), e1.trans (congrArg _ l')⟩
  have l2 : ∀ (p : Fin 4096) (q : Fin 4), scatter_S4096x30522_S4x1_S4096x4_0_1_1_1.resultIdx? (ix2 p q) idx2 = some (ix2 r v)
      ↔ p.val = r.val ∧ (![0, 101, 102, 103] : Fin 4 → Nat) q = v.val := fun p q => by
    refine (lands_special idx2 p r q v).trans ?_
    rw [h2 q, Int.ofNat_inj]
  unfold bow
  show _ = ite ((∃ c : Fin 200, (a (ix2 r c)).toNat = v.val) ∧ ¬ (v.val = 0 ∨ v.val = 101 ∨ v.val = 102 ∨ v.val = 103)) _ _
  by_cases hs : v.val = 0 ∨ v.val = 101 ∨ v.val = 102 ∨ v.val = 103
  · rw [if_neg fun h => h.2 hs]
    obtain ⟨k, hk⟩ : ∃ k : Fin 4, (![0, 101, 102, 103] : Fin 4 → Nat) k = v.val := by
      rcases hs with h | h | h | h
      · exact ⟨0, h.symm⟩
      · exact ⟨1, h.symm⟩
      · exact ⟨2, h.symm⟩
      · exact ⟨3, h.symm⟩
    exact scatter_set_hit _ _ _ _ _ _ (fun _ _ => hzs _) (ix2 r k) ((l2 _ _).2 ⟨rfl, hk⟩)
  · rw [scatter_set_miss _ _ _ _ _ fun k hk => hs (by
      obtain ⟨p, j, rfl⟩ : ∃ (p : Fin 4096) (j : Fin 4), k = ix2 p j := ⟨k 0, k 1, eq_ix2 k⟩
      have q := ((l2 p j).1 hk).2
      fin_cases j
      · exact Or.inl q.symm
      · exact Or.inr (Or.inl q.symm)
      · exact Or.inr (Or.inr (Or.inl q.symm))
      · exact Or.inr (Or.inr (Or.inr q.symm)))]
    by_cases he : ∃ c : Fin 200, (a (ix2 r c)).toNat = v.val
    · rw [if_pos ⟨he, hs⟩]
      obtain ⟨c, hc⟩ := he
      exact scatter_set_hit _ _ _ _ _ _ (fun _ _ => ho _) (ix2 r c) ((l1 _ _).2 ⟨rfl, hc⟩)
    · rw [if_neg fun h => he h.1, scatter_set_miss _ _ _ _ _ fun k hk => he (by
        obtain ⟨p, j, rfl⟩ : ∃ (p : Fin 4096) (j : Fin 200), k = ix2 p j := ⟨k 0, k 1, eq_ix2 k⟩
        have q := (l1 p j).1 hk
        exact ⟨j, by rw [← Fin.ext q.1]; exact q.2⟩)]
      exact hz _

/-- The row words of the first scatter's index pairs. -/
theorem row_word (r : Fin 4096) : Scalar.select (IntOp.cmpi .slt (BitVec.ofNat 32 r.val) 0#32) (BitVec.ofNat 32 r.val + 4096#32) (BitVec.ofNat 32 r.val) = BitVec.ofNat 32 r.val :=
  wrap_of_lt _ _ (by have := r.isLt; rw [BitVec.toNat_ofNat]; omega)

theorem int_of_small (w : BitVec 32) (h : w.toNat < 2 ^ 31) : w.toInt = w.toNat := by
  rw [BitVec.toInt_eq_toNat_cond]; omega

theorem row_int (r : Fin 4096) : (BitVec.ofNat 32 r.val).toInt = r.val := by
  have e : (BitVec.ofNat 32 r.val).toNat = r.val := by have := r.isLt; rw [BitVec.toNat_ofNat, Nat.mod_eq_of_lt (by omega)]
  rw [int_of_small _ (by have := r.isLt; omega), e]

/-- Index words paired up along a last axis. -/
theorem pair_fst (x y : S4096x200x1.Idx → BitVec 32) (r : Fin 4096) (c : Fin 200) :
    concatenate S4096x200x2 2 [⟨S4096x200x1, x⟩, ⟨S4096x200x1, y⟩] concatenates_S4096x200x1_S4096x200x1_S4096x200x2_d2 (ix3 r c (0 : Fin 2)) = x (ix3 r c (0 : Fin 1)) :=
  concatenate_apply_piece _ _ _ (ix3 r c (0 : Fin 2)) 0 (by exact Nat.two_pos) S4096x200x1 x rfl rfl 0 rfl (ix3 r c (0 : Fin 1)) (fun b hb => match b with
      | ⟨0, _⟩ => rfl
      | ⟨1, _⟩ => rfl
      | ⟨2, _⟩ => absurd rfl hb) rfl
theorem pair_snd (x y : S4096x200x1.Idx → BitVec 32) (r : Fin 4096) (c : Fin 200) :
    concatenate S4096x200x2 2 [⟨S4096x200x1, x⟩, ⟨S4096x200x1, y⟩] concatenates_S4096x200x1_S4096x200x1_S4096x200x2_d2 (ix3 r c (1 : Fin 2)) = y (ix3 r c (0 : Fin 1)) :=
  concatenate_apply_piece _ _ _ (ix3 r c (1 : Fin 2)) 1 (by exact Nat.one_lt_two) S4096x200x1 y rfl rfl 1 rfl (ix3 r c (0 : Fin 1)) (fun b hb => match b with
      | ⟨0, _⟩ => rfl
      | ⟨1, _⟩ => rfl
      | ⟨2, _⟩ => absurd rfl hb) rfl

/-- The id words of the first scatter's index pairs. -/
theorem id_word (a : S4096x200.Idx → BitVec 32) (i : Fin 4096) (k : Fin 200) (h : (a (ix2 i k)).toNat < 30522) :
    broadcastInDim S4096x200x1 ![0, 1] bcast_S4096x200_S4096x200x1_0_1
      (select (cmpi .slt a (broadcastInDim S4096x200 ![] bcast_S_S4096x200 (constantI S_ 32 0#32)))
        (addi a (broadcastInDim S4096x200 ![] bcast_S_S4096x200 (constantI S_ 32 30522#32))) a) (ix3 i k (0 : Fin 1)) = a (ix2 i k) := by
  refine (broadcastInDim_apply _ _ _ (ix3 i k (0 : Fin 1)) (ix2 i k) (fun b => match b with
    | ⟨0, _⟩ => rfl
    | ⟨1, _⟩ => rfl)).trans ?_
  exact wrap_of_lt (a (ix2 i k)) (a (ix2 i k) + 30522#32) (by omega)

/-- The run of the reference from a batch of ids of the vocabulary: the result is the bag of words, the batch is as it was. -/
theorem run_reference (m : (ℓ : Loc nD τ sig) → Buf (Elt F) ℓ) (ρ : Dev nD → PrngReg)
    (h : ∀ (c : Dev nD) x, (m ((c.tc : Thread nD τ).loc main_arg0) x : BitVec 32).toNat < 30522) :
    θ_run defs (onTc (τ := τ) (main (F := F))) ⟨m, fun _ => 0, ρ⟩ fun r => (∀ c : Dev nD,
      r.2.mem ((c.tc : Thread nD τ).loc main_v26) = bow (m ((c.tc : Thread nD τ).loc main_arg0))
      ∧ r.2.mem ((c.tc : Thread nD τ).loc main_arg0) = m ((c.tc : Thread nD τ).loc main_arg0)) := by
  refine (θ_run defs _ _).mono (fun r hr c => ⟨(hr c).1.trans ?_, (hr c).2⟩) (Cert.ReferenceIdeal.Value.run m ρ)
  refine scatters_bow (m ((c.tc : Thread nD τ).loc main_arg0)) _ _ _ _ _ (fun _ => rfl) (fun _ => rfl) (fun _ => rfl) (fun i k => ?_) (fun i k => ?_) (fun k => ?_)
  · exact (congrArg BitVec.toInt ((pair_fst _ _ i k).trans (row_word i))).trans (row_int i)
  · have hw := h c (ix2 i k)
    exact (congrArg BitVec.toInt ((pair_snd _ _ i k).trans (id_word _ i k hw))).trans
      (int_of_small _ (by omega))
  · fin_cases k <;> rfl

end Cert.Proof.Bow
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Pre_in_vocabulary
public import proofs.«01_k».proof.Proof.Ref
public import Idealize.ShloMosaic.Adequacy
public import Idealize.ShloMosaic.Init

@[expose] public section

noncomputable section

namespace Cert.Proof

open Idealize.ShloMosaic Idealize.SL.Sem

/-- The precondition, `(0 ≤ id) & (id < 30522)` elementwise, at one word: the word's own value is below 30522. -/
theorem word_lt (v : BitVec 32) (e : IntOp.andi (IntOp.cmpi .sge v 0#32) (IntOp.cmpi .slt v 30522#32) = 1#1) : v.toNat < 30522 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition on a whole batch: every id names an entry of the vocabulary. -/
theorem ids_lt (a : Cert.KernelIdeal.S4096x200.Idx → BitVec 32) (h : Cert.Pre_in_vocabulary.fn (F := Bits) a = fun _ => 1#1) (x) : (a x).toNat < 30522 := by
  have e := congrFun h x
  simp only [Pre_in_vocabulary.fn, andi, cmpi, broadcastInDim, constantI] at e
  exact word_lt _ e

section
variable {F : FTy → Type} [FloatOps F] [∀ e, Nonempty (Elt F e)]
open Cert.KernelIdeal Idealize.ShloMosaic.TcCoe

/-- The kernel's run from a batch of ids of the vocabulary: the result is the bag of words, the batch is as it was, and every counter is zero. -/
theorem run_kernel (m : (ℓ : Loc nD τ sig) → Buf (Elt F) ℓ) (ρ : Dev nD → PrngReg)
    (h : ∀ c : Dev nD, Cert.Pre_in_vocabulary.fn (F := Bits) (m ((c.tc : Thread nD τ).loc main_arg0)) = fun _ => 1#1) :
    θ_run (defs (F := F)) (threads (F := F)) ⟨m, fun _ => 0, ρ⟩ fun r =>
      (∀ c : Dev nD, r.2.mem ((c.tc : Thread nD τ).loc main_v4) = Bow.bow (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun _ q => ⟨fun c => ⟨((q.1 c).2).trans (Bow.kernel_bow _), (q.1 c).1⟩, q.2⟩)
    (Bow.run_main m ρ fun d x => ids_lt _ (h d) x)
end

/-- The kernel at bit floats: it runs to the end, leaves its argument as it was and every counter at zero. -/
theorem frame_kernel : Cert.quiescent_Kernel := fun m ρ h =>
  (θ_run Cert.KernelIdeal.defs _ _).mono (fun _ q => ⟨fun c => (q.1 c).2, q.2⟩) (run_kernel (F := Bits) m ρ h)

/-- The same of the kernel at ideal floats. -/
theorem frame_kernel_ideal : Cert.quiescent_KernelIdeal := fun m ρ h =>
  (θ_run Cert.KernelIdeal.defs _ _).mono (fun _ q => ⟨fun c => (q.1 c).2, q.2⟩) (run_kernel (F := Ideal) m ρ h)

/-- The reference at ideal floats: it runs to the end and leaves its argument as it was. -/
theorem frame_reference_ideal : Cert.quiescent_ReferenceIdeal := fun m ρ h =>
  (θ_run Cert.ReferenceIdeal.defs _ _).mono (fun r q => ⟨fun c => (q c).2, sem_eq_zero_of_no_sems (by decide) r.2⟩)
    (Bow.run_reference (F := Ideal) m ρ fun c x => ids_lt _ (h c) x)

/-- The same of the reference at bit floats. -/
theorem frame_reference : Cert.quiescent_Reference := fun m ρ h =>
  (θ_run Cert.Reference.defs _ _).mono (fun r q => ⟨fun c => (q c).2, sem_eq_zero_of_no_sems (by decide) r.2⟩)
    (Bow.run_reference (F := Bits) m ρ fun c x => ids_lt _ (h c) x)

/-- Kernel and reference at the ideal floats: the shared value is the bag of words. -/
theorem algebraic : Cert.algebraic_KernelIdeal_ReferenceIdeal := fun m ρ m' ρ' h e =>
  ⟨fun c => Bow.bow (F := Ideal) (m ((c.tc : Thread Cert.KernelIdeal.nD Cert.KernelIdeal.τ).loc Cert.KernelIdeal.main_arg0)),
    (θ_run Cert.KernelIdeal.defs _ _).mono (fun _ q => q.1) (run_kernel (F := Ideal) m ρ h),
    (θ_run Cert.ReferenceIdeal.defs _ _).mono (fun _ q c => ⟨(q c).1.trans (congrArg (Bow.bow (F := Ideal)) (e c)), (q c).2⟩)
      (Bow.run_reference (F := Ideal) m' ρ' fun c x => (congrArg (fun a : Cert.KernelIdeal.S4096x200.Idx → BitVec 32 => (a x).toNat < 30522) (e c)).mpr (ids_lt _ (h c) x))⟩

/-- Kernel and reference bit for bit: the same value. -/
theorem bitexact : Cert.bitexact_Kernel_Reference := fun m ρ m' ρ' h e =>
  ⟨fun c => Bow.bow (F := Bits) (m ((c.tc : Thread Cert.Kernel.nD Cert.Kernel.τ).loc Cert.Kernel.main_arg0)),
    (θ_run Cert.KernelIdeal.defs _ _).mono (fun _ q => q.1) (run_kernel (F := Bits) m ρ h),
    (θ_run Cert.Reference.defs _ _).mono (fun _ q c => ⟨(q c).1.trans (congrArg (Bow.bow (F := Bits)) (e c)), (q c).2⟩)
      (Bow.run_reference (F := Bits) m' ρ' fun c x => (congrArg (fun a : Cert.KernelIdeal.S4096x200.Idx → BitVec 32 => (a x).toNat < 30522) (e c)).mpr (ids_lt _ (h c) x))⟩

/-- All the claims together. -/
theorem claim : Cert.Claim := ⟨Cert.Kernel.Gen.facts, Cert.KernelIdeal.Gen.facts, Cert.ReferenceIdeal.Gen.facts, Cert.Reference.Gen.facts, Cert.Pre_in_vocabulary.Gen.facts,
  frame_kernel, frame_kernel_ideal, frame_reference_ideal, frame_reference, trivial, algebraic, bitexact⟩

end Cert.Proof

end
